-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresReferenceIdeal (m : (ℓ : Loc Cert.ScoresReferenceIdeal.nD Cert.ScoresReferenceIdeal.τ Cert.ScoresReferenceIdeal.sig) → Buf (Elt Ideal) ℓ) : Prop :=
  True

def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_LogitsReferenceIdeal (m : (ℓ : Loc Cert.LogitsReferenceIdeal.nD Cert.LogitsReferenceIdeal.τ Cert.LogitsReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3)
      ∧ r.2.mem ((c.tc : Thread Cert.Hidden.nD Cert.Hidden.τ).loc Cert.Hidden.main_arg4) = m ((c.tc : Thread Cert.Hidden.nD Cert.Hidden.τ).loc Cert.Hidden.main_arg4)
      ∧ r.2.mem ((c.tc : Thread Cert.Hidden.nD Cert.Hidden.τ).loc Cert.Hidden.main_arg5) = m ((c.tc : Thread Cert.Hidden.nD Cert.Hidden.τ).loc Cert.Hidden.main_arg5)
      ∧ r.2.mem ((c.tc : Thread Cert.Hidden.nD Cert.Hidden.τ).loc Cert.Hidden.main_arg6) = m ((c.tc : Thread Cert.Hidden.nD Cert.Hidden.τ).loc Cert.Hidden.main_arg6)
      ∧ r.2.mem ((c.tc : Thread Cert.Hidden.nD Cert.Hidden.τ).loc Cert.Hidden.main_arg7) = m ((c.tc : Thread Cert.Hidden.nD Cert.Hidden.τ).loc Cert.Hidden.main_arg7)
      ∧ r.2.mem ((c.tc : Thread Cert.Hidden.nD Cert.Hidden.τ).loc Cert.Hidden.main_arg8) = m ((c.tc : Thread Cert.Hidden.nD Cert.Hidden.τ).loc Cert.Hidden.main_arg8))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
      ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5)
      ∧ r.2.mem ((c.tc : Thread Cert.HiddenIdeal.nD Cert.HiddenIdeal.τ).loc Cert.HiddenIdeal.main_arg6) = m ((c.tc : Thread Cert.HiddenIdeal.nD Cert.HiddenIdeal.τ).loc Cert.HiddenIdeal.main_arg6)
      ∧ r.2.mem ((c.tc : Thread Cert.HiddenIdeal.nD Cert.HiddenIdeal.τ).loc Cert.HiddenIdeal.main_arg7) = m ((c.tc : Thread Cert.HiddenIdeal.nD Cert.HiddenIdeal.τ).loc Cert.HiddenIdeal.main_arg7)
      ∧ r.2.mem ((c.tc : Thread Cert.HiddenIdeal.nD Cert.HiddenIdeal.τ).loc Cert.HiddenIdeal.main_arg8) = m ((c.tc : Thread Cert.HiddenIdeal.nD Cert.HiddenIdeal.τ).loc Cert.HiddenIdeal.main_arg8))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3)
      ∧ r.2.mem ((c.tc : Thread Cert.HiddenReferenceIdeal.nD Cert.HiddenReferenceIdeal.τ).loc Cert.HiddenReferenceIdeal.main_arg4) = m ((c.tc : Thread Cert.HiddenReferenceIdeal.nD Cert.HiddenReferenceIdeal.τ).loc Cert.HiddenReferenceIdeal.main_arg4)
      ∧ r.2.mem ((c.tc : Thread Cert.HiddenReferenceIdeal.nD Cert.HiddenReferenceIdeal.τ).loc Cert.HiddenReferenceIdeal.main_arg5) = m ((c.tc : Thread Cert.HiddenReferenceIdeal.nD Cert.HiddenReferenceIdeal.τ).loc Cert.HiddenReferenceIdeal.main_arg5)
      ∧ r.2.mem ((c.tc : Thread Cert.HiddenReferenceIdeal.nD Cert.HiddenReferenceIdeal.τ).loc Cert.HiddenReferenceIdeal.main_arg6) = m ((c.tc : Thread Cert.HiddenReferenceIdeal.nD Cert.HiddenReferenceIdeal.τ).loc Cert.HiddenReferenceIdeal.main_arg6)
      ∧ r.2.mem ((c.tc : Thread Cert.HiddenReferenceIdeal.nD Cert.HiddenReferenceIdeal.τ).loc Cert.HiddenReferenceIdeal.main_arg7) = m ((c.tc : Thread Cert.HiddenReferenceIdeal.nD Cert.HiddenReferenceIdeal.τ).loc Cert.HiddenReferenceIdeal.main_arg7)
      ∧ r.2.mem ((c.tc : Thread Cert.HiddenReferenceIdeal.nD Cert.HiddenReferenceIdeal.τ).loc Cert.HiddenReferenceIdeal.main_arg8) = m ((c.tc : Thread Cert.HiddenReferenceIdeal.nD Cert.HiddenReferenceIdeal.τ).loc Cert.HiddenReferenceIdeal.main_arg8))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1))
      ∧ r.2.sem = fun _ => 0)

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2))
      ∧ r.2.sem = fun _ => 0)

def quiescent_LogitsReferenceIdeal [hLogitsReferenceIdeal : Cert.LogitsReferenceIdeal.Facts] : Prop :=
  ∀ (m : (ℓ : Loc Cert.LogitsReferenceIdeal.nD Cert.LogitsReferenceIdeal.τ Cert.LogitsReferenceIdeal.sig) → Buf (Elt Ideal) ℓ) (g : Dev Cert.LogitsReferenceIdeal.nD → PrngReg), Pre_LogitsReferenceIdeal m →
    θ_run (Cert.LogitsReferenceIdeal.defs (F := Ideal)) (onTc (τ := Cert.LogitsReferenceIdeal.τ) (Cert.LogitsReferenceIdeal.main (F := Ideal))) ⟨m, fun _ => 0, g⟩ (fun r => (∀ c : Dev Cert.LogitsReferenceIdeal.nD,
      r.2.mem ((c.tc : Thread Cert.LogitsReferenceIdeal.nD Cert.LogitsReferenceIdeal.τ).loc Cert.LogitsReferenceIdeal.main_arg0) = m ((c.tc : Thread Cert.LogitsReferenceIdeal.nD Cert.LogitsReferenceIdeal.τ).loc Cert.LogitsReferenceIdeal.main_arg0)
      ∧ r.2.mem ((c.tc : Thread Cert.LogitsReferenceIdeal.nD Cert.LogitsReferenceIdeal.τ).loc Cert.LogitsReferenceIdeal.main_arg1) = m ((c.tc : Thread Cert.LogitsReferenceIdeal.nD Cert.LogitsReferenceIdeal.τ).loc Cert.LogitsReferenceIdeal.main_arg1)
      ∧ r.2.mem ((c.tc : Thread Cert.LogitsReferenceIdeal.nD Cert.LogitsReferenceIdeal.τ).loc Cert.LogitsReferenceIdeal.main_arg2) = m ((c.tc : Thread Cert.LogitsReferenceIdeal.nD Cert.LogitsReferenceIdeal.τ).loc Cert.LogitsReferenceIdeal.main_arg2))
      ∧ r.2.sem = fun _ => 0)

def preserves_Kernel_KernelIdeal : Prop :=
  IdealRules.named_const.Statement Cert.KernelIdeal.κ "log_sel" .f32 0xBA8322E2#32 ((Real.log (99900001 / 100000000) : ℝ) : EReal)
  ∧ IdealRules.named_const.Statement Cert.KernelIdeal.κ "log_eps" .f32 0xC1935D8E#32 ((Real.log (1 / 100000000) : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Hidden_HiddenIdeal : Prop :=
  True

def algebraic_HiddenIdeal_HiddenReferenceIdeal [hHiddenIdeal : Cert.HiddenIdeal.Facts] [hHiddenReferenceIdeal : Cert.HiddenReferenceIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)
      ∧ m' ((c.tc : Thread Cert.HiddenReferenceIdeal.nD Cert.HiddenReferenceIdeal.τ).loc Cert.HiddenReferenceIdeal.main_arg3) = m ((c.tc : Thread Cert.HiddenIdeal.nD Cert.HiddenIdeal.τ).loc Cert.HiddenIdeal.main_arg3)
      ∧ m' ((c.tc : Thread Cert.HiddenReferenceIdeal.nD Cert.HiddenReferenceIdeal.τ).loc Cert.HiddenReferenceIdeal.main_arg4) = m ((c.tc : Thread Cert.HiddenIdeal.nD Cert.HiddenIdeal.τ).loc Cert.HiddenIdeal.main_arg4)
      ∧ m' ((c.tc : Thread Cert.HiddenReferenceIdeal.nD Cert.HiddenReferenceIdeal.τ).loc Cert.HiddenReferenceIdeal.main_arg5) = m ((c.tc : Thread Cert.HiddenIdeal.nD Cert.HiddenIdeal.τ).loc Cert.HiddenIdeal.main_arg5)
      ∧ m' ((c.tc : Thread Cert.HiddenReferenceIdeal.nD Cert.HiddenReferenceIdeal.τ).loc Cert.HiddenReferenceIdeal.main_arg6) = m ((c.tc : Thread Cert.HiddenIdeal.nD Cert.HiddenIdeal.τ).loc Cert.HiddenIdeal.main_arg6)
      ∧ m' ((c.tc : Thread Cert.HiddenReferenceIdeal.nD Cert.HiddenReferenceIdeal.τ).loc Cert.HiddenReferenceIdeal.main_arg7) = m ((c.tc : Thread Cert.HiddenIdeal.nD Cert.HiddenIdeal.τ).loc Cert.HiddenIdeal.main_arg7)
      ∧ m' ((c.tc : Thread Cert.HiddenReferenceIdeal.nD Cert.HiddenReferenceIdeal.τ).loc Cert.HiddenReferenceIdeal.main_arg8) = m ((c.tc : Thread Cert.HiddenIdeal.nD Cert.HiddenIdeal.τ).loc Cert.HiddenIdeal.main_arg8)) →
    ∃ (v0 : (c : Dev Cert.HiddenIdeal.nD) → Buf (Elt Ideal) ((c.tc : Thread Cert.HiddenIdeal.nD Cert.HiddenIdeal.τ).loc Cert.HiddenIdeal.main_v4)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v4) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
          ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4)
          ∧ r.2.mem ((c.tc : Thread Cert.HiddenIdeal.nD Cert.HiddenIdeal.τ).loc Cert.HiddenIdeal.main_arg5) = m ((c.tc : Thread Cert.HiddenIdeal.nD Cert.HiddenIdeal.τ).loc Cert.HiddenIdeal.main_arg5)
          ∧ r.2.mem ((c.tc : Thread Cert.HiddenIdeal.nD Cert.HiddenIdeal.τ).loc Cert.HiddenIdeal.main_arg6) = m ((c.tc : Thread Cert.HiddenIdeal.nD Cert.HiddenIdeal.τ).loc Cert.HiddenIdeal.main_arg6)
          ∧ r.2.mem ((c.tc : Thread Cert.HiddenIdeal.nD Cert.HiddenIdeal.τ).loc Cert.HiddenIdeal.main_arg7) = m ((c.tc : Thread Cert.HiddenIdeal.nD Cert.HiddenIdeal.τ).loc Cert.HiddenIdeal.main_arg7)
          ∧ r.2.mem ((c.tc : Thread Cert.HiddenIdeal.nD Cert.HiddenIdeal.τ).loc Cert.HiddenIdeal.main_arg8) = m ((c.tc : Thread Cert.HiddenIdeal.nD Cert.HiddenIdeal.τ).loc Cert.HiddenIdeal.main_arg8))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v4) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3)
          ∧ r.2.mem ((c.tc : Thread Cert.HiddenReferenceIdeal.nD Cert.HiddenReferenceIdeal.τ).loc Cert.HiddenReferenceIdeal.main_arg4) = m' ((c.tc : Thread Cert.HiddenReferenceIdeal.nD Cert.HiddenReferenceIdeal.τ).loc Cert.HiddenReferenceIdeal.main_arg4)
          ∧ r.2.mem ((c.tc : Thread Cert.HiddenReferenceIdeal.nD Cert.HiddenReferenceIdeal.τ).loc Cert.HiddenReferenceIdeal.main_arg5) = m' ((c.tc : Thread Cert.HiddenReferenceIdeal.nD Cert.HiddenReferenceIdeal.τ).loc Cert.HiddenReferenceIdeal.main_arg5)
          ∧ r.2.mem ((c.tc : Thread Cert.HiddenReferenceIdeal.nD Cert.HiddenReferenceIdeal.τ).loc Cert.HiddenReferenceIdeal.main_arg6) = m' ((c.tc : Thread Cert.HiddenReferenceIdeal.nD Cert.HiddenReferenceIdeal.τ).loc Cert.HiddenReferenceIdeal.main_arg6)
          ∧ r.2.mem ((c.tc : Thread Cert.HiddenReferenceIdeal.nD Cert.HiddenReferenceIdeal.τ).loc Cert.HiddenReferenceIdeal.main_arg7) = m' ((c.tc : Thread Cert.HiddenReferenceIdeal.nD Cert.HiddenReferenceIdeal.τ).loc Cert.HiddenReferenceIdeal.main_arg7)
          ∧ r.2.mem ((c.tc : Thread Cert.HiddenReferenceIdeal.nD Cert.HiddenReferenceIdeal.τ).loc Cert.HiddenReferenceIdeal.main_arg8) = m' ((c.tc : Thread Cert.HiddenReferenceIdeal.nD Cert.HiddenReferenceIdeal.τ).loc Cert.HiddenReferenceIdeal.main_arg8))

def preserves_Scores_ScoresIdeal : Prop :=
  True

def algebraic_ScoresIdeal_ScoresReferenceIdeal [hScoresIdeal : Cert.ScoresIdeal.Facts] [hScoresReferenceIdeal : Cert.ScoresReferenceIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)) →
    ∃ (v0 : (c : Dev Cert.ScoresIdeal.nD) → Buf (Elt Ideal) ((c.tc : Thread Cert.ScoresIdeal.nD Cert.ScoresIdeal.τ).loc Cert.ScoresIdeal.main_v0)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v0) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v3) = v0 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1))

def preserves_Logits_LogitsIdeal : Prop :=
  True

def algebraic_LogitsIdeal_LogitsReferenceIdeal [hLogitsIdeal : Cert.LogitsIdeal.Facts] [hLogitsReferenceIdeal : Cert.LogitsReferenceIdeal.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.LogitsReferenceIdeal.nD Cert.LogitsReferenceIdeal.τ Cert.LogitsReferenceIdeal.sig) → Buf (Elt Ideal) ℓ) (g' : Dev Cert.LogitsReferenceIdeal.nD → PrngReg), Pre_LogitsIdeal m →
    (∀ c : Dev Cert.LogitsIdeal.nD,
      m' ((c.tc : Thread Cert.LogitsReferenceIdeal.nD Cert.LogitsReferenceIdeal.τ).loc Cert.LogitsReferenceIdeal.main_arg0) = m ((c.tc : Thread Cert.LogitsIdeal.nD Cert.LogitsIdeal.τ).loc Cert.LogitsIdeal.main_arg0)
      ∧ m' ((c.tc : Thread Cert.LogitsReferenceIdeal.nD Cert.LogitsReferenceIdeal.τ).loc Cert.LogitsReferenceIdeal.main_arg1) = m ((c.tc : Thread Cert.LogitsIdeal.nD Cert.LogitsIdeal.τ).loc Cert.LogitsIdeal.main_arg1)
      ∧ m' ((c.tc : Thread Cert.LogitsReferenceIdeal.nD Cert.LogitsReferenceIdeal.τ).loc Cert.LogitsReferenceIdeal.main_arg2) = m ((c.tc : Thread Cert.LogitsIdeal.nD Cert.LogitsIdeal.τ).loc Cert.LogitsIdeal.main_arg2)) →
    ∃ (v0 : (c : Dev Cert.LogitsIdeal.nD) → Buf (Elt Ideal) ((c.tc : Thread Cert.LogitsIdeal.nD Cert.LogitsIdeal.τ).loc Cert.LogitsIdeal.main_v1_0)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v1_0) = v0 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2))
      ∧ θ_run (Cert.LogitsReferenceIdeal.defs (F := Ideal)) (onTc (τ := Cert.LogitsReferenceIdeal.τ) (Cert.LogitsReferenceIdeal.main (F := Ideal))) ⟨m', fun _ => 0, g'⟩ (fun r => ∀ c : Dev Cert.LogitsReferenceIdeal.nD,
          r.2.mem ((c.tc : Thread Cert.LogitsReferenceIdeal.nD Cert.LogitsReferenceIdeal.τ).loc Cert.LogitsReferenceIdeal.main_v5) = v0 c
          ∧ r.2.mem ((c.tc : Thread Cert.LogitsReferenceIdeal.nD Cert.LogitsReferenceIdeal.τ).loc Cert.LogitsReferenceIdeal.main_arg0) = m' ((c.tc : Thread Cert.LogitsReferenceIdeal.nD Cert.LogitsReferenceIdeal.τ).loc Cert.LogitsReferenceIdeal.main_arg0)
          ∧ r.2.mem ((c.tc : Thread Cert.LogitsReferenceIdeal.nD Cert.LogitsReferenceIdeal.τ).loc Cert.LogitsReferenceIdeal.main_arg1) = m' ((c.tc : Thread Cert.LogitsReferenceIdeal.nD Cert.LogitsReferenceIdeal.τ).loc Cert.LogitsReferenceIdeal.main_arg1)
          ∧ r.2.mem ((c.tc : Thread Cert.LogitsReferenceIdeal.nD Cert.LogitsReferenceIdeal.τ).loc Cert.LogitsReferenceIdeal.main_arg2) = m' ((c.tc : Thread Cert.LogitsReferenceIdeal.nD Cert.LogitsReferenceIdeal.τ).loc Cert.LogitsReferenceIdeal.main_arg2))

def Claim : Prop :=
  ∃ (hKernel : Cert.Kernel.Facts) (hKernelIdeal : Cert.KernelIdeal.Facts) (hReferenceIdeal : Cert.ReferenceIdeal.Facts) (hHidden : Cert.Hidden.Facts) (hHiddenIdeal : Cert.HiddenIdeal.Facts) (hHiddenReferenceIdeal : Cert.HiddenReferenceIdeal.Facts) (hScores : Cert.Scores.Facts) (hScoresIdeal : Cert.ScoresIdeal.Facts) (hScoresReferenceIdeal : Cert.ScoresReferenceIdeal.Facts) (hLogits : Cert.Logits.Facts) (hLogitsIdeal : Cert.LogitsIdeal.Facts) (hLogitsReferenceIdeal : Cert.LogitsReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Hidden (hHidden := hHidden)
    ∧ quiescent_HiddenIdeal (hHiddenIdeal := hHiddenIdeal)
    ∧ quiescent_HiddenReferenceIdeal (hHiddenReferenceIdeal := hHiddenReferenceIdeal)
    ∧ quiescent_Scores (hScores := hScores)
    ∧ quiescent_ScoresIdeal (hScoresIdeal := hScoresIdeal)
    ∧ quiescent_ScoresReferenceIdeal (hScoresReferenceIdeal := hScoresReferenceIdeal)
    ∧ quiescent_Logits (hLogits := hLogits)
    ∧ quiescent_LogitsIdeal (hLogitsIdeal := hLogitsIdeal)
    ∧ quiescent_LogitsReferenceIdeal (hLogitsReferenceIdeal := hLogitsReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Hidden_HiddenIdeal
    ∧ algebraic_HiddenIdeal_HiddenReferenceIdeal (hHiddenIdeal := hHiddenIdeal) (hHiddenReferenceIdeal := hHiddenReferenceIdeal)
    ∧ preserves_Scores_ScoresIdeal
    ∧ algebraic_ScoresIdeal_ScoresReferenceIdeal (hScoresIdeal := hScoresIdeal) (hScoresReferenceIdeal := hScoresReferenceIdeal)
    ∧ preserves_Logits_LogitsIdeal
    ∧ algebraic_LogitsIdeal_LogitsReferenceIdeal (hLogitsIdeal := hLogitsIdeal) (hLogitsReferenceIdeal := hLogitsReferenceIdeal)
-- ==== Pre_in_range.lean ====
abbrev S16x20 : Shape := ⟨2, ![16, 20]⟩
abbrev S100000x128 : Shape := ⟨2, ![100000, 128]⟩
abbrev S100000x32 : Shape := ⟨2, ![100000, 32]⟩
abbrev S320x16 : Shape := ⟨2, ![320, 16]⟩
abbrev S_ : Shape := ⟨0, ![]⟩
abbrev S320x10 : Shape := ⟨2, ![320, 10]⟩

class Facts : Prop where
  bcast_S_S16x20 : S_.BroadcastsInDim S16x20 (![] : Fin 0 → Fin S16x20.rank)
  reducesTo_S16x20_S_d0_1 : S16x20.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  slices_S320x16_S320x10_0_0 : S320x16.Slices ![0, 0] S320x10
  bcast_S_S320x10 : S_.BroadcastsInDim S320x10 (![] : Fin 0 → Fin S320x10.rank)
  reducesTo_S320x10_S_d0_1 : S320x10.ReducesTo [0, 1] S_

variable [Facts]

def fn_part1 {F : FTy → Type} [FloatOps F] (main_v12 : IVec S_ 1) (main_v15 : IVec S320x10 1) (main_v16 : IVec S320x10 32) : IVec S_ 1 :=
  let main_c_6 : IVec S_ 32 := constantI S_ 32 100000#32
  let main_v17 : IVec S320x10 32 := broadcastInDim S320x10 ![] bcast_S_S320x10 main_c_6
  let main_v18 : IVec S320x10 1 := cmpi .slt main_v16 main_v17
  let main_v19 : IVec S320x10 1 := andi main_v15 main_v18
  let main_c_7 : IVec S_ 1 := constantI S_ 1 1#1
  let main_v20 : IVec S_ 1 := (fun x v => Host.reduce IntOp.andi x v reducesTo_S320x10_S_d0_1 h_S_) main_v19 main_c_7
  let main_v21 : IVec S_ 1 := andi main_v12 main_v20
  main_v21

def fn {F : FTy → Type} [FloatOps F] (main_arg0 : IVec S16x20 32) (main_arg1 : FVec F S100000x128 .f32) (main_arg2 : FVec F S100000x128 .f32) (main_arg3 : IVec S100000x32 32) (main_arg4 : IVec S320x16 32) : IVec S_ 1 :=
  let main_c : IVec S_ 32 := constantI S_ 32 0#32
  let main_v0 : IVec S16x20 32 := broadcastInDim S16x20 ![] bcast_S_S16x20 main_c
  let main_v1 : IVec S16x20 1 := cmpi .sge main_arg0 main_v0
  let main_c_0 : IVec S_ 32 := constantI S_ 32 100000#32
  let main_v2 : IVec S16x20 32 := broadcastInDim S16x20 ![] bcast_S_S16x20 main_c_0
  let main_v3 : IVec S16x20 1 := cmpi .slt main_arg0 main_v2
  let main_v4 : IVec S16x20 1 := andi main_v1 main_v3
  let main_c_1 : IVec S_ 1 := constantI S_ 1 1#1
  let main_v5 : IVec S_ 1 := (fun x v => Host.reduce IntOp.andi x v reducesTo_S16x20_S_d0_1 h_S_) main_v4 main_c_1
  let main_c_2 : IVec S_ 32 := constantI S_ 32 0#32
  let main_v6 : IVec S100000x32 32 := broadcastInDim S100000x32 ![] bcast_S_S100000x32 main_c_2
  let main_v7 : IVec S100000x32 1 := cmpi .sge main_arg3 main_v6
  let main_c_3 : IVec S_ 32 := constantI S_ 32 100000#32
  let main_v8 : IVec S100000x32 32 := broadcastInDim S100000x32 ![] bcast_S_S100000x32 main_c_3
  let main_v9 : IVec S100000x32 1 := cmpi .slt main_arg3 main_v8
  let main_v10 : IVec S100000x32 1 := andi main_v7 main_v9
  let main_c_4 : IVec S_ 1 := constantI S_ 1 1#1
  let main_v11 : IVec S_ 1 := (fun x v => Host.reduce IntOp.andi x v reducesTo_S100000x32_S_d0_1 h_S_) main_v10 main_c_4
  let main_v12 : IVec S_ 1 := andi main_v5 main_v11
  let main_v13 : IVec S320x10 32 := (extractStridedSlice S320x10 ![0, 0] · slices_S320x16_S320x10_0_0) main_arg4
  let main_c_5 : IVec S_ 32 := constantI S_ 32 0#32
  let main_v14 : IVec S320x10 32 := broadcastInDim S320x10 ![] bcast_S_S320x10 main_c_5
  let main_v15 : IVec S320x10 1 := cmpi .sge main_v13 main_v14
  let main_v16 : IVec S320x10 32 := (extractStridedSlice S320x10 ![0, 0] · slices_S320x16_S320x10_0_0) main_arg4
  fn_part1 (F := F) main_v12 main_v15 main_v16
-- ==== Kernel.lean ====
abbrev S16x20 : Shape := ⟨2, ![16, 20]⟩
abbrev S100000x128 : Shape := ⟨2, ![100000, 128]⟩
abbrev S100000x32 : Shape := ⟨2, ![100000, 32]⟩
abbrev S320x16 : Shape := ⟨2, ![320, 16]⟩
abbrev S20x16 : Shape := ⟨2, ![20, 16]⟩
abbrev S320 : Shape := ⟨1, ![320]⟩
abbrev S_ : Shape := ⟨0, ![]⟩
abbrev S192 : Shape := ⟨1, ![192]⟩
abbrev S512 : Shape := ⟨1, ![512]⟩
abbrev S512x128 : Shape := ⟨2, ![512, 128]⟩
abbrev S16 : Shape := ⟨1, ![16]⟩
abbrev S16x128 : Shape := ⟨2, ![16, 128]⟩
abbrev S320x128 : Shape := ⟨2, ![320, 128]⟩
abbrev S1x16 : Shape := ⟨2, ![1, 16]⟩
abbrev S320x1 : Shape := ⟨2, ![320, 1]⟩
abbrev S25000x128 : Shape := ⟨2, ![25000, 128]⟩
abbrev S320x10 : Shape := ⟨2, ![320, 10]⟩
abbrev S320x10x1 : Shape := ⟨3, ![320, 10, 1]⟩
abbrev S32 : Shape := ⟨1, ![32]⟩
abbrev S1x1x32 : Shape := ⟨3, ![1, 1, 32]⟩
abbrev S320x10x32 : Shape := ⟨3, ![320, 10, 32]⟩
abbrev S320x320 : Shape := ⟨2, ![320, 320]⟩
abbrev S320x320x128 : Shape := ⟨3, ![320, 320, 128]⟩
abbrev S1x320 : Shape := ⟨2, ![1, 320]⟩
abbrev S1x320x128 : Shape := ⟨3, ![1, 320, 128]⟩
abbrev S20x16x128 : Shape := ⟨3, ![20, 16, 128]⟩
abbrev S16x20x128 : Shape := ⟨3, ![16, 20, 128]⟩
abbrev S320x1x128 : Shape := ⟨3, ![320, 1, 128]⟩
abbrev S320x1x320 : Shape := ⟨3, ![320, 1, 320]⟩
abbrev S8x1x128 : Shape := ⟨3, ![8, 1, 128]⟩
abbrev S8x320x128 : Shape := ⟨3, ![8, 320, 128]⟩
abbrev S8x1x320 : Shape := ⟨3, ![8, 1, 320]⟩
abbrev S8x128 : Shape := ⟨2, ![8, 128]⟩
abbrev S8x320 : Shape := ⟨2, ![8, 320]⟩
abbrev S8x1 : Shape := ⟨2, ![8, 1]⟩
abbrev S8 : Shape := ⟨1, ![8]⟩
abbrev S320x100000 : Shape := ⟨2, ![320, 100000]⟩
abbrev S320x2048 : Shape := ⟨2, ![320, 2048]⟩

abbrev nBuf : Table → Nat
  | .hbm => 54
  | .local .tc .vmem => 11
  | .local .scVector .vmem => 7
  | _ => 0

abbrev bufTy : (tb : Table) → Fin (nBuf tb) → BufTy
  | .hbm, ⟨0, _⟩ => ⟨S16x20, .i32⟩
  | .hbm, ⟨1, _⟩ => ⟨S100000x128, .f32⟩
  | .hbm, ⟨2, _⟩ => ⟨S100000x128, .f32⟩
  | .hbm, ⟨3, _⟩ => ⟨S100000x32, .i32⟩
  | .hbm, ⟨4, _⟩ => ⟨S320x16, .i32⟩
  | .hbm, ⟨5, _⟩ => ⟨S20x16, .i32⟩
  | .hbm, ⟨6, _⟩ => ⟨S320, .i32⟩
  | .hbm, ⟨7, _⟩ => ⟨S_, .i32⟩
  | .hbm, ⟨8, _⟩ => ⟨S192, .i32⟩
  | .hbm, ⟨9, _⟩ => ⟨S512, .i32⟩
  | .hbm, ⟨10, _⟩ => ⟨S512x128, .f32⟩
  | .hbm, ⟨11, _⟩ => ⟨S320x128, .f32⟩
  | .hbm, ⟨12, _⟩ => ⟨S16, .i32⟩
  | .hbm, ⟨13, _⟩ => ⟨S1x16, .i32⟩
  | .hbm, ⟨14, _⟩ => ⟨S_, .i32⟩
  | .hbm, ⟨15, _⟩ => ⟨S1x16, .i32⟩
  | .hbm, ⟨16, _⟩ => ⟨S1x16, .i1⟩
  | .hbm, ⟨17, _⟩ => ⟨S320x1, .i32⟩
  | .hbm, ⟨18, _⟩ => ⟨S320x16, .i1⟩
  | .hbm, ⟨19, _⟩ => ⟨S320x16, .i32⟩
  | .hbm, ⟨20, _⟩ => ⟨S320x16, .i32⟩
  | .hbm, ⟨21, _⟩ => ⟨S25000x128, .i32⟩
  | .hbm, ⟨22, _⟩ => ⟨S_, .i32⟩
  | .hbm, ⟨23, _⟩ => ⟨S320x16, .i32⟩
  | .hbm, ⟨24, _⟩ => ⟨S320x16, .i32⟩
  | .hbm, ⟨25, _⟩ => ⟨S320x10, .i32⟩
  | .hbm, ⟨26, _⟩ => ⟨S_, .i32⟩
  | .hbm, ⟨27, _⟩ => ⟨S320x10, .i32⟩
  | .hbm, ⟨28, _⟩ => ⟨S320x10, .i32⟩
  | .hbm, ⟨29, _⟩ => ⟨S_, .i32⟩
  | .hbm, ⟨30, _⟩ => ⟨S320x10, .i32⟩
  | .hbm, ⟨31, _⟩ => ⟨S320x10, .i32⟩
  | .hbm, ⟨32, _⟩ => ⟨S320x10x1, .i32⟩
  | .hbm, ⟨33, _⟩ => ⟨S32, .i32⟩
  | .hbm, ⟨34, _⟩ => ⟨S1x1x32, .i32⟩
  | .hbm, ⟨35, _⟩ => ⟨S320x10x32, .i32⟩
  | .hbm, ⟨36, _⟩ => ⟨S320x10x32, .i32⟩
  | .hbm, ⟨37, _⟩ => ⟨S320x10x32, .i32⟩
  | .hbm, ⟨38, _⟩ => ⟨S320x320, .i32⟩
  | .hbm, ⟨39, _⟩ => ⟨S320x320, .i32⟩
  | .hbm, ⟨40, _⟩ => ⟨S320x320x128, .f32⟩
  | .hbm, ⟨41, _⟩ => ⟨S20x16x128, .f32⟩
  | .hbm, ⟨42, _⟩ => ⟨S16x20x128, .f32⟩
  | .hbm, ⟨43, _⟩ => ⟨S320x128, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S320x128, .f32⟩
  | .hbm, ⟨48, _⟩ => ⟨S320x128, .f32⟩
  | .hbm, ⟨49, _⟩ => ⟨S320x1x128, .f32⟩
  | .hbm, ⟨50, _⟩ => ⟨S320x1x320, .i32⟩
  | .hbm, ⟨51, _⟩ => ⟨S320x128, .i32⟩
  | .hbm, ⟨52, _⟩ => ⟨S320x1, .i32⟩
  | .hbm, ⟨53, _⟩ => ⟨S320x100000, .f32⟩
  | .local .tc .vmem, ⟨0, _⟩ => ⟨S8x1x128, .f32⟩
  | .local .tc .vmem, ⟨1, _⟩ => ⟨S8x1x128, .f32⟩
  | .local .tc .vmem, ⟨2, _⟩ => ⟨S8x320x128, .f32⟩
  | .local .tc .vmem, ⟨3, _⟩ => ⟨S8x320x128, .f32⟩
  | .local .tc .vmem, ⟨4, _⟩ => ⟨S8x1x320, .i32⟩
  | .local .tc .vmem, ⟨5, _⟩ => ⟨S8x1x320, .i32⟩
  | .local .tc .vmem, ⟨6, _⟩ => ⟨S8x128, .i32⟩
  | .local .tc .vmem, ⟨7, _⟩ => ⟨S8x128, .i32⟩
  | .local .tc .vmem, ⟨8, _⟩ => ⟨S320x1, .i32⟩
  | .local .tc .vmem, ⟨9, _⟩ => ⟨S320x2048, .f32⟩
  | .local .tc .vmem, ⟨10, _⟩ => ⟨S320x2048, .f32⟩
  | .local .scVector .vmem, ⟨0, _⟩ => ⟨S16, .i32⟩
  | .local .scVector .vmem, ⟨1, _⟩ => ⟨S16x128, .f32⟩
  | .local .scVector .vmem, ⟨2, _⟩ => ⟨S16, .i32⟩
  | .local .scVector .vmem, ⟨3, _⟩ => ⟨S320, .i32⟩
  | .local .scVector .vmem, ⟨4, _⟩ => ⟨S16x128, .i32⟩
  | .local .scVector .vmem, ⟨5, _⟩ => ⟨S320, .i32⟩
  | .local .scVector .vmem, ⟨6, _⟩ => ⟨S320x128, .f32⟩
  | _, _ => ⟨S16x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_arg1_scv : Ref sig .scVector := ⟨.hbm, 1, rfl⟩
abbrev main_v3_scv : Ref sig .scVector := ⟨.hbm, 9, rfl⟩
abbrev main_v4_scv : Ref sig .scVector := ⟨.hbm, 10, rfl⟩
abbrev main_v14_scv : Ref sig .scVector := ⟨.hbm, 24, rfl⟩
abbrev main_v26_scv : Ref sig .scVector := ⟨.hbm, 38, rfl⟩
abbrev main_v12_scv : Ref sig .scVector := ⟨.hbm, 21, rfl⟩
abbrev main_arg2_scv : Ref sig .scVector := ⟨.hbm, 2, rfl⟩
abbrev main_v27_0_scv : Ref sig .scVector := ⟨.hbm, 39, rfl⟩
abbrev main_v27_1_scv : Ref sig .scVector := ⟨.hbm, 40, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg3_1 : Ref sig .tc := ⟨.vmem, 7, rfl⟩
abbrev cc3_stg0_0 : Ref sig .tc := ⟨.vmem, 8, rfl⟩
abbrev cc3_stg1_0 : Ref sig .tc := ⟨.vmem, 9, rfl⟩
abbrev cc3_stg1_1 : Ref sig .tc := ⟨.vmem, 10, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev cc1_scratch3 : Ref sig .scVector := ⟨.vmem, 5, rfl⟩
abbrev cc1_scratch4 : Ref sig .scVector := ⟨.vmem, 6, rfl⟩
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem1_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_3_r1 : BitVec 32 := 0#32
  ![v2.toNat, 0]
abbrev grid1 : Pipeline.Grid := ⟨2, ![2, 16], ![false, false]⟩

@[reducible] def k1_t1_loop : Scf.Loop 32 :=
  let c0_i32_0 : BitVec 32 := 0#32
  let c10_i32_1 : BitVec 32 := 10#32
  let v4 : BitVec 32 := Scalar.addi c0_i32_0 c10_i32_1
  let c1_i32 : BitVec 32 := 1#32
  ⟨c0_i32_0, v4, c1_i32⟩
def k1_off1 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c0_i32_0 : BitVec 32 := 0#32
  let c1_i32 : BitVec 32 := 1#32
  let arg15 : BitVec 32 := Scf.iv c0_i32_0 c1_i32 k1_t1
  let v5 : BitVec 32 := Scalar.addi v2 arg15
  let c0_i32_261_r0 : BitVec 32 := 0#32
  ![v5.toNat, 0]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c0_i32_0 : BitVec 32 := 0#32
  let c1_i32 : BitVec 32 := 1#32
  let arg15 : BitVec 32 := Scf.iv c0_i32_0 c1_i32 k1_t1
  let v5 : BitVec 32 := Scalar.addi v2 arg15
  let c0_i32_261_r1 : BitVec 32 := 0#32
  ![v5.toNat, 0]
def k1_off3 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c0_i32_0 : BitVec 32 := 0#32
  let c1_i32 : BitVec 32 := 1#32
  let arg15 : BitVec 32 := Scf.iv c0_i32_0 c1_i32 k1_t1
  let v5 : BitVec 32 := Scalar.addi v2 arg15
  let c0_i32_261_r3 : BitVec 32 := 0#32
  let c0_i32_262_r3 : BitVec 32 := 0#32
  ![v5.toNat, 0, 0]
abbrev grid2 : Pipeline.Grid := ⟨1, ![40], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x1x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x320x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x1x320 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x128 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S320x1 .i32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S320x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== KernelIdeal.lean ====
variable {F : FTy → Type} [FloatOps F] [Named F]
def κ : String → Option EReal := fun
  | "log_eps" => some ((Real.log (1 / 100000000) : ℝ) : EReal)
  | "log_sel" => some ((Real.log (99900001 / 100000000) : ℝ) : EReal)
  | _ => none
-- ==== ReferenceIdeal.lean ====
abbrev S16x20 : Shape := ⟨2, ![16, 20]⟩
abbrev S100000x128 : Shape := ⟨2, ![100000, 128]⟩
abbrev S100000x32 : Shape := ⟨2, ![100000, 32]⟩
abbrev S320x16 : Shape := ⟨2, ![320, 16]⟩
abbrev S16x20x1 : Shape := ⟨3, ![16, 20, 1]⟩
abbrev S16x20x128 : Shape := ⟨3, ![16, 20, 128]⟩
abbrev S320x10 : Shape := ⟨2, ![320, 10]⟩
abbrev S320x10x1 : Shape := ⟨3, ![320, 10, 1]⟩
abbrev S320x10x32 : Shape := ⟨3, ![320, 10, 32]⟩
abbrev S320x320 : Shape := ⟨2, ![320, 320]⟩
abbrev S320x320x1 : Shape := ⟨3, ![320, 320, 1]⟩
abbrev S320x320x128 : Shape := ⟨3, ![320, 320, 128]⟩
abbrev S320x128 : Shape := ⟨2, ![320, 128]⟩
abbrev S_ : Shape := ⟨0, ![]⟩
abbrev S320x1x128 : Shape := ⟨3, ![320, 1, 128]⟩
abbrev S320 : Shape := ⟨1, ![320]⟩
abbrev S320x1 : Shape := ⟨2, ![320, 1]⟩
abbrev S320x1x1 : Shape := ⟨3, ![320, 1, 1]⟩
abbrev S320x100000 : Shape := ⟨2, ![320, 100000]⟩
abbrev S320x2 : Shape := ⟨2, ![320, 2]⟩

abbrev nBuf : Space → Nat
  | .hbm => 82
  | .vmem => 0
  | .smem => 0
  | _ => 0

abbrev bufTy : (tb : Table) → Fin (tcTables nBuf tb) → BufTy
  | .hbm, ⟨0, _⟩ => ⟨S16x20, .i32⟩
  | .hbm, ⟨1, _⟩ => ⟨S100000x128, .f32⟩
  | .hbm, ⟨2, _⟩ => ⟨S100000x128, .f32⟩
  | .hbm, ⟨3, _⟩ => ⟨S100000x32, .i32⟩
  | .hbm, ⟨4, _⟩ => ⟨S320x16, .i32⟩
  | .hbm, ⟨5, _⟩ => ⟨S16x20x1, .i32⟩
  | .hbm, ⟨6, _⟩ => ⟨S16x20x128, .f32⟩
  | .hbm, ⟨7, _⟩ => ⟨S320x10, .i32⟩
  | .hbm, ⟨8, _⟩ => ⟨S320x10x1, .i32⟩
  | .hbm, ⟨9, _⟩ => ⟨S320x10x32, .i32⟩
  | .hbm, ⟨10, _⟩ => ⟨S320x320, .i32⟩
  | .hbm, ⟨11, _⟩ => ⟨S320x320x1, .i32⟩
  | .hbm, ⟨12, _⟩ => ⟨S320x320x128, .f32⟩
  | .hbm, ⟨13, _⟩ => ⟨S320x128, .f32⟩
  | .hbm, ⟨14, _⟩ => ⟨S_, .f32⟩
  | .hbm, ⟨15, _⟩ => ⟨S320x128, .f32⟩
  | .hbm, ⟨16, _⟩ => ⟨S320x128, .f32⟩
  | .hbm, ⟨17, _⟩ => ⟨S320x1x128, .f32⟩
  | .hbm, ⟨18, _⟩ => ⟨S320x320x128, .f32⟩
  | .hbm, ⟨19, _⟩ => ⟨S320x320x128, .f32⟩
  | .hbm, ⟨20, _⟩ => ⟨S_, .f32⟩
  | .hbm, ⟨21, _⟩ => ⟨S320x320, .f32⟩
  | .hbm, ⟨22, _⟩ => ⟨S320x128, .f32⟩
  | .hbm, ⟨23, _⟩ => ⟨S_, .f32⟩
  | .hbm, ⟨24, _⟩ => ⟨S320, .f32⟩
  | .hbm, ⟨25, _⟩ => ⟨S320, .f32⟩
  | .hbm, ⟨26, _⟩ => ⟨S320x1, .f32⟩
  | .hbm, ⟨27, _⟩ => ⟨S320x320x128, .f32⟩
  | .hbm, ⟨28, _⟩ => ⟨S_, .f32⟩
  | .hbm, ⟨29, _⟩ => ⟨S320x320, .f32⟩
  | .hbm, ⟨30, _⟩ => ⟨S320x320, .f32⟩
  | .hbm, ⟨31, _⟩ => ⟨S320x320, .f32⟩
  | .hbm, ⟨32, _⟩ => ⟨S320x320, .f32⟩
  | .hbm, ⟨33, _⟩ => ⟨S_, .f32⟩
  | .hbm, ⟨34, _⟩ => ⟨S320x320, .f32⟩
  | .hbm, ⟨35, _⟩ => ⟨S320x320, .f32⟩
  | .hbm, ⟨36, _⟩ => ⟨S320x320, .f32⟩
  | .hbm, ⟨37, _⟩ => ⟨S320x320, .i32⟩
  | .hbm, ⟨38, _⟩ => ⟨S_, .f32⟩
  | .hbm, ⟨39, _⟩ => ⟨S_, .i32⟩
  | .hbm, ⟨40, _⟩ => ⟨S320, .f32⟩
  | .hbm, ⟨41, _⟩ => ⟨S320, .i32⟩
  | .hbm, ⟨42, _⟩ => ⟨S320x1, .i32⟩
  | .hbm, ⟨43, _⟩ => ⟨S_, .i32⟩
  | .hbm, ⟨44, _⟩ => ⟨S320x1, .i32⟩
  | .hbm, ⟨45, _⟩ => ⟨S320x1, .i1⟩
  | .hbm, ⟨46, _⟩ => ⟨S_, .i32⟩
  | .hbm, ⟨47, _⟩ => ⟨S320x1, .i32⟩
  | .hbm, ⟨48, _⟩ => ⟨S320x1, .i32⟩
  | .hbm, ⟨49, _⟩ => ⟨S320x1, .i32⟩
  | .hbm, ⟨50, _⟩ => ⟨S320x1x1, .i32⟩
  | .hbm, ⟨51, _⟩ => ⟨S320x1, .i32⟩
  | .hbm, ⟨52, _⟩ => ⟨S320, .i32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S320x100000, .f32⟩
  | .hbm, ⟨61, _⟩ => ⟨S320, .i32⟩
  | .hbm, ⟨62, _⟩ => ⟨S_, .i32⟩
  | .hbm, ⟨63, _⟩ => ⟨S320, .i32⟩
  | .hbm, ⟨64, _⟩ => ⟨S320, .i1⟩
  | .hbm, ⟨65, _⟩ => ⟨S_, .i32⟩
  | .hbm, ⟨66, _⟩ => ⟨S320, .i32⟩
  | .hbm, ⟨67, _⟩ => ⟨S320, .i32⟩
  | .hbm, ⟨68, _⟩ => ⟨S320, .i32⟩
  | .hbm, ⟨69, _⟩ => ⟨S_, .i32⟩
  | .hbm, ⟨70, _⟩ => ⟨S320, .i32⟩
  | .hbm, ⟨71, _⟩ => ⟨S320, .i1⟩
  | .hbm, ⟨72, _⟩ => ⟨S_, .i32⟩
  | .hbm, ⟨73, _⟩ => ⟨S320, .i32⟩
  | .hbm, ⟨74, _⟩ => ⟨S320, .i32⟩
  | .hbm, ⟨75, _⟩ => ⟨S320, .i32⟩
  | .hbm, ⟨76, _⟩ => ⟨S320x1, .i32⟩
  | .hbm, ⟨77, _⟩ => ⟨S320x1, .i32⟩
  | .hbm, ⟨78, _⟩ => ⟨S320x2, .i32⟩
  | .hbm, ⟨79, _⟩ => ⟨S320, .f32⟩
  | .hbm, ⟨80, _⟩ => ⟨S320x100000, .f32⟩
  | .hbm, ⟨81, _⟩ => ⟨S320x100000, .f32⟩
  | _, _ => ⟨S16x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_call2_v0 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_call3_v0 : Ref sig .tc := ⟨.hbm, 22, rfl⟩
abbrev main_call3_cst : Ref sig .tc := ⟨.hbm, 23, rfl⟩
abbrev main_call3_v1 : Ref sig .tc := ⟨.hbm, 24, rfl⟩
abbrev main_v12 : Ref sig .tc := ⟨.hbm, 25, rfl⟩
abbrev main_v13 : Ref sig .tc := ⟨.hbm, 26, rfl⟩
abbrev main_call4_v0 : Ref sig .tc := ⟨.hbm, 27, rfl⟩
abbrev main_call4_cst : Ref sig .tc := ⟨.hbm, 28, rfl⟩
abbrev main_call4_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call5_v0 : Ref sig .tc := ⟨.hbm, 37, rfl⟩
abbrev main_call5_cst : Ref sig .tc := ⟨.hbm, 38, rfl⟩
abbrev main_call5_c : Ref sig .tc := ⟨.hbm, 39, rfl⟩
abbrev main_call5_v1_0 : Ref sig .tc := ⟨.hbm, 40, rfl⟩
abbrev main_v20 : Ref sig .tc := ⟨.hbm, 41, rfl⟩
abbrev main_v21 : Ref sig .tc := ⟨.hbm, 42, rfl⟩
abbrev main_call6_c : Ref sig .tc := ⟨.hbm, 43, rfl⟩
abbrev main_call6_v0 : Ref sig .tc := ⟨.hbm, 44, rfl⟩
abbrev main_call6_v1 : Ref sig .tc := ⟨.hbm, 45, rfl⟩
abbrev main_call6_c_0 : Ref sig .tc := ⟨.hbm, 46, rfl⟩
abbrev main_call6_v2 : Ref sig .tc := ⟨.hbm, 47, rfl⟩
abbrev main_call6_v3 : Ref sig .tc := ⟨.hbm, 48, rfl⟩
abbrev main_call6_v4 : Ref sig .tc := ⟨.hbm, 49, rfl⟩
abbrev main_call6_v5 : Ref sig .tc := ⟨.hbm, 50, rfl⟩
abbrev main_v22 : Ref sig .tc := ⟨.hbm, 51, rfl⟩
abbrev main_v23 : Ref sig .tc := ⟨.hbm, 52, rfl⟩
abbrev main_cst_2 : Ref sig .tc := ⟨.hbm, 53, rfl⟩
abbrev main_cst_3 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c : Ref sig .tc := ⟨.hbm, 62, rfl⟩
abbrev main_v29 : Ref sig .tc := ⟨.hbm, 63, rfl⟩
abbrev main_v30 : Ref sig .tc := ⟨.hbm, 64, rfl⟩
abbrev main_c_6 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_7 : Ref sig .tc := ⟨.hbm, 69, rfl⟩
abbrev main_v34 : Ref sig .tc := ⟨.hbm, 70, rfl⟩
abbrev main_v35 : Ref sig .tc := ⟨.hbm, 71, rfl⟩
abbrev main_c_8 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩

abbrev nD : Nat := 1
abbrev τ : Topo := Topo.v7x

variable {F : FTy → Type} [FloatOps F]
-- ==== Hidden.lean ====
abbrev S320x128 : Shape := ⟨2, ![320, 128]⟩
abbrev S1536x128 : Shape := ⟨2, ![1536, 128]⟩
abbrev S1536x512 : Shape := ⟨2, ![1536, 512]⟩
abbrev S1536 : Shape := ⟨1, ![1536]⟩
abbrev S1x1536 : Shape := ⟨2, ![1, 1536]⟩
abbrev S320x512 : Shape := ⟨2, ![320, 512]⟩
abbrev S320x1536 : Shape := ⟨2, ![320, 1536]⟩
abbrev S16x512 : Shape := ⟨2, ![16, 512]⟩
abbrev S16x1536 : Shape := ⟨2, ![16, 1536]⟩

abbrev nBuf : Space → Nat
  | .hbm => 14
  | .vmem => 14
  | .smem => 0
  | _ => 0

abbrev bufTy : (tb : Table) → Fin (tcTables nBuf tb) → BufTy
  | .hbm, ⟨0, _⟩ => ⟨S320x128, .f32⟩
  | .hbm, ⟨1, _⟩ => ⟨S1536x128, .f32⟩
  | .hbm, ⟨2, _⟩ => ⟨S1536x512, .f32⟩
  | .hbm, ⟨3, _⟩ => ⟨S1536, .f32⟩
  | .hbm, ⟨4, _⟩ => ⟨S1536, .f32⟩
  | .hbm, ⟨5, _⟩ => ⟨S1536x512, .f32⟩
  | .hbm, ⟨6, _⟩ => ⟨S1536x512, .f32⟩
  | .hbm, ⟨7, _⟩ => ⟨S1536, .f32⟩
  | .hbm, ⟨8, _⟩ => ⟨S1536, .f32⟩
  | .hbm, ⟨9, _⟩ => ⟨S1x1536, .f32⟩
  | .hbm, ⟨10, _⟩ => ⟨S1x1536, .f32⟩
  | .hbm, ⟨11, _⟩ => ⟨S1x1536, .f32⟩
  | .hbm, ⟨12, _⟩ => ⟨S1x1536, .f32⟩
  | .hbm, ⟨13, _⟩ => ⟨S320x512, .f32⟩
  | .local _ .vmem, ⟨0, _⟩ => ⟨S320x128, .f32⟩
  | .local _ .vmem, ⟨1, _⟩ => ⟨S1536x128, .f32⟩
  | .local _ .vmem, ⟨2, _⟩ => ⟨S1536x512, .f32⟩
  | .local _ .vmem, ⟨3, _⟩ => ⟨S1x1536, .f32⟩
  | .local _ .vmem, ⟨4, _⟩ => ⟨S1x1536, .f32⟩
  | .local _ .vmem, ⟨5, _⟩ => ⟨S1536x512, .f32⟩
  | .local _ .vmem, ⟨6, _⟩ => ⟨S1536x512, .f32⟩
  | .local _ .vmem, ⟨7, _⟩ => ⟨S1x1536, .f32⟩
  | .local _ .vmem, ⟨8, _⟩ => ⟨S1x1536, .f32⟩
  | .local _ .vmem, ⟨9, _⟩ => ⟨S320x512, .f32⟩
  | .local _ .vmem, ⟨10, _⟩ => ⟨S320x1536, .f32⟩
  | .local _ .vmem, ⟨11, _⟩ => ⟨S320x512, .f32⟩
  | .local _ .vmem, ⟨12, _⟩ => ⟨S1536x512, .bf16⟩
  | .local _ .vmem, ⟨13, _⟩ => ⟨S1536x512, .bf16⟩
  | _, _ => ⟨S320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c20_i32 : BitVec 32 := 20#32
  let v23 : BitVec 32 := Scalar.addi c0_i32 c20_i32
  let c1_i32 : BitVec 32 := 1#32
  ⟨c0_i32, v23, c1_i32⟩
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v39 : BitVec 32 := Scalar.muli arg14 c16_i32
  let v40 : Index := Scalar.indexCast v39
  let c0_30 : Index := 0#32
  ![v40.toNat, 0]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32_37 : BitVec 32 := 16#32
  let v67 : BitVec 32 := Scalar.muli arg14 c16_i32_37
  let v68 : Index := Scalar.indexCast v67
  let c0_38 : Index := 0#32
  ![v68.toNat, 0]
@[reducible] def k0_t2_loop : Scf.Loop 32 :=
  let c0_i32_26 : BitVec 32 := 0#32
  let c20_i32_27 : BitVec 32 := 20#32
  let v37 : BitVec 32 := Scalar.addi c0_i32_26 c20_i32_27
  let c1_i32_28 : BitVec 32 := 1#32
  ⟨c0_i32_26, v37, c1_i32_28⟩
def k0_off3 (k0_t2 : Fin k0_t2_loop.trips) : Fin 2 → Nat :=
  let c0_i32_26 : BitVec 32 := 0#32
  let c1_i32_28 : BitVec 32 := 1#32
  let arg14 : BitVec 32 := Scf.iv c0_i32_26 c1_i32_28 k0_t2
  let c16_i32 : BitVec 32 := 16#32
  let v39 : BitVec 32 := Scalar.muli arg14 c16_i32
  let v40 : Index := Scalar.indexCast v39
  let c0_30 : Index := 0#32
  ![v40.toNat, 0]
def k0_off4 (k0_t2 : Fin k0_t2_loop.trips) : Fin 2 → Nat :=
  let c0_i32_26 : BitVec 32 := 0#32
  let c1_i32_28 : BitVec 32 := 1#32
  let arg14 : BitVec 32 := Scf.iv c0_i32_26 c1_i32_28 k0_t2
  let c16_i32_37 : BitVec 32 := 16#32
  let v67 : BitVec 32 := Scalar.muli arg14 c16_i32_37
  let v68 : Index := Scalar.indexCast v67
  let c0_38 : Index := 0#32
  ![v68.toNat, 0]
abbrev stage0_0 : Fin 1 → Memref sig .tc .vmem S320x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S320x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== HiddenReferenceIdeal.lean ====
abbrev S320x128 : Shape := ⟨2, ![320, 128]⟩
abbrev S1536x128 : Shape := ⟨2, ![1536, 128]⟩
abbrev S1536x512 : Shape := ⟨2, ![1536, 512]⟩
abbrev S1536 : Shape := ⟨1, ![1536]⟩
abbrev S_ : Shape := ⟨0, ![]⟩
abbrev S16x512 : Shape := ⟨2, ![16, 512]⟩
abbrev S20x16x128 : Shape := ⟨3, ![20, 16, 128]⟩
abbrev S20x16x512 : Shape := ⟨3, ![20, 16, 512]⟩
abbrev S1x16x128 : Shape := ⟨3, ![1, 16, 128]⟩
abbrev S16x128 : Shape := ⟨2, ![16, 128]⟩
abbrev S128x1536 : Shape := ⟨2, ![128, 1536]⟩
abbrev S16x1536 : Shape := ⟨2, ![16, 1536]⟩
abbrev S1x1536 : Shape := ⟨2, ![1, 1536]⟩
abbrev S512x1536 : Shape := ⟨2, ![512, 1536]⟩
abbrev S1x16x512 : Shape := ⟨3, ![1, 16, 512]⟩
abbrev S320x512 : Shape := ⟨2, ![320, 512]⟩

abbrev nBuf : Space → Nat
  | .hbm => 127
  | .vmem => 0
  | .smem => 0
  | _ => 0

abbrev bufTy : (tb : Table) → Fin (tcTables nBuf tb) → BufTy
  | .hbm, ⟨0, _⟩ => ⟨S320x128, .f32⟩
  | .hbm, ⟨1, _⟩ => ⟨S1536x128, .f32⟩
  | .hbm, ⟨2, _⟩ => ⟨S1536x512, .f32⟩
  | .hbm, ⟨3, _⟩ => ⟨S1536, .f32⟩
  | .hbm, ⟨4, _⟩ => ⟨S1536, .f32⟩
  | .hbm, ⟨5, _⟩ => ⟨S1536x512, .f32⟩
  | .hbm, ⟨6, _⟩ => ⟨S1536x512, .f32⟩
  | .hbm, ⟨7, _⟩ => ⟨S1536, .f32⟩
  | .hbm, ⟨8, _⟩ => ⟨S1536, .f32⟩
  | .hbm, ⟨9, _⟩ => ⟨S_, .f32⟩
  | .hbm, ⟨10, _⟩ => ⟨S16x512, .f32⟩
  | .hbm, ⟨11, _⟩ => ⟨S20x16x128, .f32⟩
  | .hbm, ⟨12, _⟩ => ⟨S_, .f32⟩
  | .hbm, ⟨13, _⟩ => ⟨S20x16x512, .f32⟩
  | .hbm, ⟨14, _⟩ => ⟨S_, .i32⟩
  | .hbm, ⟨15, _⟩ => ⟨S20x16x128, .f32⟩
  | .hbm, ⟨16, _⟩ => ⟨S1536x128, .f32⟩
  | .hbm, ⟨17, _⟩ => ⟨S1536, .f32⟩
  | .hbm, ⟨18, _⟩ => ⟨S1536x512, .f32⟩
  | .hbm, ⟨19, _⟩ => ⟨S1536, .f32⟩
  | .hbm, ⟨20, _⟩ => ⟨S1536x512, .f32⟩
  | .hbm, ⟨21, _⟩ => ⟨S1536, .f32⟩
  | .hbm, ⟨22, _⟩ => ⟨S1536x512, .f32⟩
  | .hbm, ⟨23, _⟩ => ⟨S1536, .f32⟩
  | .hbm, ⟨24, _⟩ => ⟨S_, .i32⟩
  | .hbm, ⟨25, _⟩ => ⟨S16x512, .f32⟩
  | .hbm, ⟨26, _⟩ => ⟨S16x512, .f32⟩
  | .hbm, ⟨27, _⟩ => ⟨S20x16x512, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S1x16x128, .f32⟩
  | .hbm, ⟨33, _⟩ => ⟨S16x128, .f32⟩
  | .hbm, ⟨34, _⟩ => ⟨S128x1536, .f32⟩
  | .hbm, ⟨35, _⟩ => ⟨S16x1536, .f32⟩
  | .hbm, ⟨36, _⟩ => ⟨S1x1536, .f32⟩
  | .hbm, ⟨37, _⟩ => ⟨S16x1536, .f32⟩
  | .hbm, ⟨38, _⟩ => ⟨S16x1536, .f32⟩
  | .hbm, ⟨39, _⟩ => ⟨S512x1536, .f32⟩
  | .hbm, ⟨40, _⟩ => ⟨S16x1536, .f32⟩
  | .hbm, ⟨41, _⟩ => ⟨S1x1536, .f32⟩
  | .hbm, ⟨42, _⟩ => ⟨S16x1536, .f32⟩
  | .hbm, ⟨43, _⟩ => ⟨S16x1536, .f32⟩
  | .hbm, ⟨44, _⟩ => ⟨S16x512, .f32⟩
  | .hbm, ⟨45, _⟩ => ⟨S16x512, .f32⟩
  | .hbm, ⟨46, _⟩ => ⟨S16x512, .f32⟩
  | .hbm, ⟨47, _⟩ => ⟨S16x512, .f32⟩
  | .hbm, ⟨48, _⟩ => ⟨S16x512, .f32⟩
  | .hbm, ⟨49, _⟩ => ⟨S_, .f32⟩
  | .hbm, ⟨50, _⟩ => ⟨S16x512, .f32⟩
  | .hbm, ⟨51, _⟩ => ⟨S16x512, .f32⟩
  | .hbm, ⟨52, _⟩ => ⟨S_, .f32⟩
  | .hbm, ⟨53, _⟩ => ⟨S16x512, .f32⟩
  | .hbm, ⟨54, _⟩ => ⟨S16x512, .f32⟩
  | .hbm, ⟨55, _⟩ => ⟨S16x512, .f32⟩
  | .hbm, ⟨56, _⟩ => ⟨S16x512, .f32⟩
  | .hbm, ⟨57, _⟩ => ⟨S16x512, .f32⟩
  | .hbm, ⟨58, _⟩ => ⟨S16x512, .f32⟩
  | .hbm, ⟨59, _⟩ => ⟨S16x512, .f32⟩
  | .hbm, ⟨60, _⟩ => ⟨S_, .f32⟩
  | .hbm, ⟨61, _⟩ => ⟨S16x512, .f32⟩
  | .hbm, ⟨62, _⟩ => ⟨S16x512, .f32⟩
  | .hbm, ⟨63, _⟩ => ⟨S_, .f32⟩
  | .hbm, ⟨64, _⟩ => ⟨S16x512, .f32⟩
  | .hbm, ⟨65, _⟩ => ⟨S16x512, .f32⟩
  | .hbm, ⟨66, _⟩ => ⟨S16x512, .f32⟩
  | .hbm, ⟨67, _⟩ => ⟨S16x512, .f32⟩
  | .hbm, ⟨68, _⟩ => ⟨S16x512, .f32⟩
  | .hbm, ⟨69, _⟩ => ⟨S16x512, .f32⟩
  | .hbm, ⟨70, _⟩ => ⟨S16x512, .f32⟩
  | .hbm, ⟨71, _⟩ => ⟨S_, .f32⟩
  | .hbm, ⟨72, _⟩ => ⟨S16x512, .f32⟩
  | .hbm, ⟨73, _⟩ => ⟨S16x512, .f32⟩
  | .hbm, ⟨74, _⟩ => ⟨S16x512, .f32⟩
  | .hbm, ⟨75, _⟩ => ⟨S16x512, .f32⟩
  | .hbm, ⟨76, _⟩ => ⟨S16x512, .f32⟩
  | .hbm, ⟨77, _⟩ => ⟨S512x1536, .f32⟩
  | .hbm, ⟨78, _⟩ => ⟨S16x1536, .f32⟩
  | .hbm, ⟨79, _⟩ => ⟨S1x1536, .f32⟩
  | .hbm, ⟨80, _⟩ => ⟨S16x1536, .f32⟩
  | .hbm, ⟨81, _⟩ => ⟨S16x1536, .f32⟩
  | .hbm, ⟨82, _⟩ => ⟨S512x1536, .f32⟩
  | .hbm, ⟨83, _⟩ => ⟨S16x1536, .f32⟩
  | .hbm, ⟨84, _⟩ => ⟨S1x1536, .f32⟩
  | .hbm, ⟨85, _⟩ => ⟨S16x1536, .f32⟩
  | .hbm, ⟨86, _⟩ => ⟨S16x1536, .f32⟩
  | .hbm, ⟨87, _⟩ => ⟨S16x512, .f32⟩
  | .hbm, ⟨88, _⟩ => ⟨S16x512, .f32⟩
  | .hbm, ⟨89, _⟩ => ⟨S16x512, .f32⟩
  | .hbm, ⟨90, _⟩ => ⟨S16x512, .f32⟩
  | .hbm, ⟨91, _⟩ => ⟨S16x512, .f32⟩
  | .hbm, ⟨92, _⟩ => ⟨S_, .f32⟩
  | .hbm, ⟨93, _⟩ => ⟨S16x512, .f32⟩
  | .hbm, ⟨94, _⟩ => ⟨S16x512, .f32⟩
  | .hbm, ⟨95, _⟩ => ⟨S_, .f32⟩
  | .hbm, ⟨96, _⟩ => ⟨S16x512, .f32⟩
  | .hbm, ⟨97, _⟩ => ⟨S16x512, .f32⟩
  | .hbm, ⟨98, _⟩ => ⟨S16x512, .f32⟩
  | .hbm, ⟨99, _⟩ => ⟨S16x512, .f32⟩
  | .hbm, ⟨100, _⟩ => ⟨S16x512, .f32⟩
  | .hbm, ⟨101, _⟩ => ⟨S16x512, .f32⟩
  | .hbm, ⟨102, _⟩ => ⟨S16x512, .f32⟩
  | .hbm, ⟨103, _⟩ => ⟨S_, .f32⟩
  | .hbm, ⟨104, _⟩ => ⟨S16x512, .f32⟩
  | .hbm, ⟨105, _⟩ => ⟨S16x512, .f32⟩
  | .hbm, ⟨106, _⟩ => ⟨S_, .f32⟩
  | .hbm, ⟨107, _⟩ => ⟨S16x512, .f32⟩
  | .hbm, ⟨108, _⟩ => ⟨S16x512, .f32⟩
  | .hbm, ⟨109, _⟩ => ⟨S16x512, .f32⟩
  | .hbm, ⟨110, _⟩ => ⟨S16x512, .f32⟩
  | .hbm, ⟨111, _⟩ => ⟨S16x512, .f32⟩
  | .hbm, ⟨112, _⟩ => ⟨S16x512, .f32⟩
  | .hbm, ⟨113, _⟩ => ⟨S16x512, .f32⟩
  | .hbm, ⟨114, _⟩ => ⟨S_, .f32⟩
  | .hbm, ⟨115, _⟩ => ⟨S16x512, .f32⟩
  | .hbm, ⟨116, _⟩ => ⟨S16x512, .f32⟩
  | .hbm, ⟨117, _⟩ => ⟨S16x512, .f32⟩
  | .hbm, ⟨118, _⟩ => ⟨S16x512, .f32⟩
  | .hbm, ⟨119, _⟩ => ⟨S16x512, .f32⟩
  | .hbm, ⟨120, _⟩ => ⟨S1x16x512, .f32⟩
  | .hbm, ⟨121, _⟩ => ⟨S_, .i32⟩
  | .hbm, ⟨122, _⟩ => ⟨S_, .i32⟩
  | .hbm, ⟨123, _⟩ => ⟨S20x16x512, .f32⟩
  | .hbm, ⟨124, _⟩ => ⟨S_, .i32⟩
  | .hbm, ⟨125, _⟩ => ⟨S_, .i32⟩
  | .hbm, ⟨126, _⟩ => ⟨S320x512, .f32⟩
  | _, _ => ⟨S320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_c : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v3_8 : Ref sig .tc := ⟨.hbm, 23, rfl⟩
abbrev main_v3_9 : Ref sig .tc := ⟨.hbm, 24, rfl⟩
abbrev main_v3_10 : Ref sig .tc := ⟨.hbm, 25, rfl⟩
abbrev main_v3_11 : Ref sig .tc := ⟨.hbm, 26, rfl⟩
abbrev main_v3_12 : Ref sig .tc := ⟨.hbm, 27, rfl⟩
abbrev main_while0c_c_13 : Ref sig .tc := ⟨.hbm, 28, rfl⟩
abbrev main_while0c_v5 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_v0 : Ref sig .tc := ⟨.hbm, 32, rfl⟩
abbrev main_while0b_v5 : Ref sig .tc := ⟨.hbm, 33, rfl⟩
abbrev main_while0b_v6 : Ref sig .tc := ⟨.hbm, 34, rfl⟩
abbrev main_while0b_v7 : Ref sig .tc := ⟨.hbm, 35, rfl⟩
abbrev main_while0b_v8 : Ref sig .tc := ⟨.hbm, 36, rfl⟩
abbrev main_while0b_v9 : Ref sig .tc := ⟨.hbm, 37, rfl⟩
abbrev main_while0b_v10 : Ref sig .tc := ⟨.hbm, 38, rfl⟩
abbrev main_while0b_v11 : Ref sig .tc := ⟨.hbm, 39, rfl⟩
abbrev main_while0b_v12 : Ref sig .tc := ⟨.hbm, 40, rfl⟩
abbrev main_while0b_v13 : Ref sig .tc := ⟨.hbm, 41, rfl⟩
abbrev main_while0b_v14 : Ref sig .tc := ⟨.hbm, 42, rfl⟩
abbrev main_while0b_v15 : Ref sig .tc := ⟨.hbm, 43, rfl⟩
abbrev main_while0b_v16 : Ref sig .tc := ⟨.hbm, 44, rfl⟩
abbrev main_while0b_v17 : Ref sig .tc := ⟨.hbm, 45, rfl⟩
abbrev main_while0b_v18 : Ref sig .tc := ⟨.hbm, 46, rfl⟩
abbrev main_while0b_v19 : Ref sig .tc := ⟨.hbm, 47, rfl⟩
abbrev main_while0b_v20 : Ref sig .tc := ⟨.hbm, 48, rfl⟩
abbrev main_while0b_cst_13 : Ref sig .tc := ⟨.hbm, 49, rfl⟩
abbrev main_while0b_v21 : Ref sig .tc := ⟨.hbm, 50, rfl⟩
abbrev main_while0b_v22 : Ref sig .tc := ⟨.hbm, 51, rfl⟩
abbrev main_while0b_cst_14 : Ref sig .tc := ⟨.hbm, 52, rfl⟩
abbrev main_while0b_v23 : Ref sig .tc := ⟨.hbm, 53, rfl⟩
abbrev main_while0b_v24 : Ref sig .tc := ⟨.hbm, 54, rfl⟩
abbrev main_while0b_v25 : Ref sig .tc := ⟨.hbm, 55, rfl⟩
abbrev main_while0b_v26 : Ref sig .tc := ⟨.hbm, 56, rfl⟩
abbrev main_while0b_v27 : Ref sig .tc := ⟨.hbm, 57, rfl⟩
abbrev main_while0b_v28 : Ref sig .tc := ⟨.hbm, 58, rfl⟩
abbrev main_while0b_v29 : Ref sig .tc := ⟨.hbm, 59, rfl⟩
abbrev main_while0b_cst_15 : Ref sig .tc := ⟨.hbm, 60, rfl⟩
abbrev main_while0b_v30 : Ref sig .tc := ⟨.hbm, 61, rfl⟩
abbrev main_while0b_v31 : Ref sig .tc := ⟨.hbm, 62, rfl⟩
abbrev main_while0b_cst_16 : Ref sig .tc := ⟨.hbm, 63, rfl⟩
abbrev main_while0b_v32 : Ref sig .tc := ⟨.hbm, 64, rfl⟩
abbrev main_while0b_v33 : Ref sig .tc := ⟨.hbm, 65, rfl⟩
abbrev main_while0b_v34 : Ref sig .tc := ⟨.hbm, 66, rfl⟩
abbrev main_while0b_v35 : Ref sig .tc := ⟨.hbm, 67, rfl⟩
abbrev main_while0b_v36 : Ref sig .tc := ⟨.hbm, 68, rfl⟩
abbrev main_while0b_v37 : Ref sig .tc := ⟨.hbm, 69, rfl⟩
abbrev main_while0b_v38 : Ref sig .tc := ⟨.hbm, 70, rfl⟩
abbrev main_while0b_cst_17 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_v42 : Ref sig .tc := ⟨.hbm, 75, rfl⟩
abbrev main_while0b_v43 : Ref sig .tc := ⟨.hbm, 76, rfl⟩
abbrev main_while0b_v44 : Ref sig .tc := ⟨.hbm, 77, rfl⟩
abbrev main_while0b_v45 : Ref sig .tc := ⟨.hbm, 78, rfl⟩
abbrev main_while0b_v46 : Ref sig .tc := ⟨.hbm, 79, rfl⟩
abbrev main_while0b_v47 : Ref sig .tc := ⟨.hbm, 80, rfl⟩
abbrev main_while0b_v48 : Ref sig .tc := ⟨.hbm, 81, rfl⟩
abbrev main_while0b_v49 : Ref sig .tc := ⟨.hbm, 82, rfl⟩
abbrev main_while0b_v50 : Ref sig .tc := ⟨.hbm, 83, rfl⟩
abbrev main_while0b_v51 : Ref sig .tc := ⟨.hbm, 84, rfl⟩
abbrev main_while0b_v52 : Ref sig .tc := ⟨.hbm, 85, rfl⟩
abbrev main_while0b_v53 : Ref sig .tc := ⟨.hbm, 86, rfl⟩
abbrev main_while0b_v54 : Ref sig .tc := ⟨.hbm, 87, rfl⟩
abbrev main_while0b_v55 : Ref sig .tc := ⟨.hbm, 88, rfl⟩
abbrev main_while0b_v56 : Ref sig .tc := ⟨.hbm, 89, rfl⟩
abbrev main_while0b_v57 : Ref sig .tc := ⟨.hbm, 90, rfl⟩
abbrev main_while0b_v58 : Ref sig .tc := ⟨.hbm, 91, rfl⟩
abbrev main_while0b_cst_18 : Ref sig .tc := ⟨.hbm, 92, rfl⟩
abbrev main_while0b_v59 : Ref sig .tc := ⟨.hbm, 93, rfl⟩
abbrev main_while0b_v60 : Ref sig .tc := ⟨.hbm, 94, rfl⟩
abbrev main_while0b_cst_19 : Ref sig .tc := ⟨.hbm, 95, rfl⟩
abbrev main_while0b_v61 : Ref sig .tc := ⟨.hbm, 96, rfl⟩
abbrev main_while0b_v62 : Ref sig .tc := ⟨.hbm, 97, rfl⟩
abbrev main_while0b_v63 : Ref sig .tc := ⟨.hbm, 98, rfl⟩
abbrev main_while0b_v64 : Ref sig .tc := ⟨.hbm, 99, rfl⟩
abbrev main_while0b_v65 : Ref sig .tc := ⟨.hbm, 100, rfl⟩
abbrev main_while0b_v66 : Ref sig .tc := ⟨.hbm, 101, rfl⟩
abbrev main_while0b_v67 : Ref sig .tc := ⟨.hbm, 102, rfl⟩
abbrev main_while0b_cst_20 : Ref sig .tc := ⟨.hbm, 103, rfl⟩
abbrev main_while0b_v68 : Ref sig .tc := ⟨.hbm, 104, rfl⟩
abbrev main_while0b_v69 : Ref sig .tc := ⟨.hbm, 105, rfl⟩
abbrev main_while0b_cst_21 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_v75 : Ref sig .tc := ⟨.hbm, 112, rfl⟩
abbrev main_while0b_v76 : Ref sig .tc := ⟨.hbm, 113, rfl⟩
abbrev main_while0b_cst_22 : Ref sig .tc := ⟨.hbm, 114, rfl⟩
abbrev main_while0b_v77 : Ref sig .tc := ⟨.hbm, 115, rfl⟩
abbrev main_while0b_v78 : Ref sig .tc := ⟨.hbm, 116, rfl⟩
abbrev main_while0b_v79 : Ref sig .tc := ⟨.hbm, 117, rfl⟩
abbrev main_while0b_v80 : Ref sig .tc := ⟨.hbm, 118, rfl⟩
abbrev main_while0b_v81 : Ref sig .tc := ⟨.hbm, 119, rfl⟩
abbrev main_while0b_call1_v0 : Ref sig .tc := ⟨.hbm, 120, rfl⟩
abbrev main_while0b_call1_c : Ref sig .tc := ⟨.hbm, 121, rfl⟩
abbrev main_while0b_call1_c_0 : Ref sig .tc := ⟨.hbm, 122, rfl⟩
abbrev main_while0b_v82 : Ref sig .tc := ⟨.hbm, 123, rfl⟩
abbrev main_while0b_c_23 : Ref sig .tc := ⟨.hbm, 124, rfl⟩
abbrev main_while0b_v83 : Ref sig .tc := ⟨.hbm, 125, rfl⟩
abbrev main_v4 : Ref sig .tc := ⟨.hbm, 126, rfl⟩

abbrev nD : Nat := 1
abbrev τ : Topo := Topo.v7x

variable {F : FTy → Type} [FloatOps F]

abbrev main_while0_count : Scf.Loop 32 := ⟨0#32, 20#32, 1#32⟩
-- ==== Scores.lean ====
abbrev S320x100000 : Shape := ⟨2, ![320, 100000]⟩
abbrev S320x128 : Shape := ⟨2, ![320, 128]⟩
abbrev S320x2048 : Shape := ⟨2, ![320, 2048]⟩
abbrev S320x1 : Shape := ⟨2, ![320, 1]⟩

abbrev nBuf : Space → Nat
  | .hbm => 3
  | .vmem => 5
  | .smem => 0
  | _ => 0

abbrev bufTy : (tb : Table) → Fin (tcTables nBuf tb) → BufTy
  | .hbm, ⟨0, _⟩ => ⟨S320x100000, .bf16⟩
  | .hbm, ⟨1, _⟩ => ⟨S320x128, .f32⟩
  | .hbm, ⟨2, _⟩ => ⟨S320x100000, .f32⟩
  | .local _ .vmem, ⟨0, _⟩ => ⟨S320x2048, .bf16⟩
  | .local _ .vmem, ⟨1, _⟩ => ⟨S320x2048, .bf16⟩
  | .local _ .vmem, ⟨2, _⟩ => ⟨S320x128, .f32⟩
  | .local _ .vmem, ⟨3, _⟩ => ⟨S320x2048, .f32⟩
  | .local _ .vmem, ⟨4, _⟩ => ⟨S320x2048, .f32⟩
  | _, _ => ⟨S320x100000, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S320x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ScoresReferenceIdeal.lean ====
abbrev S320x100000 : Shape := ⟨2, ![320, 100000]⟩
abbrev S320x128 : Shape := ⟨2, ![320, 128]⟩
abbrev S320x1 : Shape := ⟨2, ![320, 1]⟩

abbrev nBuf : Space → Nat
  | .hbm => 6
  | .vmem => 0
  | .smem => 0
  | _ => 0

abbrev bufTy : (tb : Table) → Fin (tcTables nBuf tb) → BufTy
  | .hbm, ⟨0, _⟩ => ⟨S320x100000, .bf16⟩
  | .hbm, ⟨1, _⟩ => ⟨S320x128, .f32⟩
  | .hbm, ⟨2, _⟩ => ⟨S320x100000, .f32⟩
  | .hbm, ⟨3, _⟩ => ⟨S320x1, .f32⟩
  | .hbm, ⟨4, _⟩ => ⟨S320x100000, .f32⟩
  | .hbm, ⟨5, _⟩ => ⟨S320x100000, .f32⟩
  | _, _ => ⟨S320x100000, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Logits.lean ====
abbrev S320x512 : Shape := ⟨2, ![320, 512]⟩
abbrev S100000x512 : Shape := ⟨2, ![100000, 512]⟩
abbrev S100000 : Shape := ⟨1, ![100000]⟩
abbrev S1x100000 : Shape := ⟨2, ![1, 100000]⟩
abbrev S320x100000 : Shape := ⟨2, ![320, 100000]⟩
abbrev S320x128 : Shape := ⟨2, ![320, 128]⟩
abbrev S49x320x16 : Shape := ⟨3, ![49, 320, 16]⟩
abbrev S2048x512 : Shape := ⟨2, ![2048, 512]⟩
abbrev S1x2048 : Shape := ⟨2, ![1, 2048]⟩
abbrev S320x2048 : Shape := ⟨2, ![320, 2048]⟩
abbrev S1x320x16 : Shape := ⟨3, ![1, 320, 16]⟩
abbrev S320 : Shape := ⟨1, ![320]⟩
abbrev S320x1 : Shape := ⟨2, ![320, 1]⟩
abbrev S320x1024 : Shape := ⟨2, ![320, 1024]⟩
abbrev S320x256 : Shape := ⟨2, ![320, 256]⟩
abbrev S320x6 : Shape := ⟨2, ![320, 6]⟩
abbrev S320x16 : Shape := ⟨2, ![320, 16]⟩

abbrev nBuf : Space → Nat
  | .hbm => 8
  | .vmem => 11
  | .smem => 0
  | _ => 0

abbrev bufTy : (tb : Table) → Fin (tcTables nBuf tb) → BufTy
  | .hbm, ⟨0, _⟩ => ⟨S320x512, .f32⟩
  | .hbm, ⟨1, _⟩ => ⟨S100000x512, .f32⟩
  | .hbm, ⟨2, _⟩ => ⟨S100000, .f32⟩
  | .hbm, ⟨3, _⟩ => ⟨S1x100000, .f32⟩
  | .hbm, ⟨4, _⟩ => ⟨S320x100000, .bf16⟩
  | .hbm, ⟨5, _⟩ => ⟨S320x128, .f32⟩
  | .hbm, ⟨6, _⟩ => ⟨S320x128, .f32⟩
  | .hbm, ⟨7, _⟩ => ⟨S49x320x16, .f32⟩
  | .local _ .vmem, ⟨0, _⟩ => ⟨S320x512, .f32⟩
  | .local _ .vmem, ⟨1, _⟩ => ⟨S2048x512, .f32⟩
  | .local _ .vmem, ⟨2, _⟩ => ⟨S2048x512, .f32⟩
  | .local _ .vmem, ⟨3, _⟩ => ⟨S1x2048, .f32⟩
  | .local _ .vmem, ⟨4, _⟩ => ⟨S1x2048, .f32⟩
  | .local _ .vmem, ⟨5, _⟩ => ⟨S320x2048, .bf16⟩
  | .local _ .vmem, ⟨6, _⟩ => ⟨S320x2048, .bf16⟩
  | .local _ .vmem, ⟨7, _⟩ => ⟨S320x128, .f32⟩
  | .local _ .vmem, ⟨8, _⟩ => ⟨S320x128, .f32⟩
  | .local _ .vmem, ⟨9, _⟩ => ⟨S1x320x16, .f32⟩
  | .local _ .vmem, ⟨10, _⟩ => ⟨S1x320x16, .f32⟩
  | _, _ => ⟨S320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S320x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S320x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x320x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LogitsReferenceIdeal.lean ====
abbrev S320x512 : Shape := ⟨2, ![320, 512]⟩
abbrev S100000x512 : Shape := ⟨2, ![100000, 512]⟩
abbrev S100000 : Shape := ⟨1, ![100000]⟩
abbrev S512x100000 : Shape := ⟨2, ![512, 100000]⟩
abbrev S320x100000 : Shape := ⟨2, ![320, 100000]⟩
abbrev S1x100000 : Shape := ⟨2, ![1, 100000]⟩

abbrev nBuf : Space → Nat
  | .hbm => 9
  | .vmem => 0
  | .smem => 0
  | _ => 0

abbrev bufTy : (tb : Table) → Fin (tcTables nBuf tb) → BufTy
  | .hbm, ⟨0, _⟩ => ⟨S320x512, .f32⟩
  | .hbm, ⟨1, _⟩ => ⟨S100000x512, .f32⟩
  | .hbm, ⟨2, _⟩ => ⟨S100000, .f32⟩
  | .hbm, ⟨3, _⟩ => ⟨S512x100000, .f32⟩
  | .hbm, ⟨4, _⟩ => ⟨S320x100000, .f32⟩
  | .hbm, ⟨5, _⟩ => ⟨S1x100000, .f32⟩
  | .hbm, ⟨6, _⟩ => ⟨S320x100000, .f32⟩
  | .hbm, ⟨7, _⟩ => ⟨S320x100000, .f32⟩
  | .hbm, ⟨8, _⟩ => ⟨S320x100000, .bf16⟩
  | _, _ => ⟨S320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Setup.lean ====
/-
  What the run of the kernel's program is stated over: its two SparseCore calls as the launch theorem reads them, the
  resource algebra (the calls' handshakes, the two pipelines' cells, the counters of the transfers), the values the two
  calls leave, and what each call hands to a tile and takes back.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds; the pipelines'; both and the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
abbrev EP : Emb UP (MT nD τ sig (HIx 2) (Elt F) ℕ UU ℕ) := (Emb.inl : Emb UP (UP × Counters)).trans embR

instance EP_landsIn : (EP : Emb UP 𝕄).LandsIn (upEmb : UEmb _ 𝕄) := by unfold EP; infer_instance

/-! ## The values the calls leave -/

/-- The index of a two-axis shape at a row and a column; of a three-axis one. -/
def ix2 {a b : ℕ} (i : Fin a) (j : Fin b) : (⟨2, ![a, b]⟩ : Shape).Idx := fun | 0 => i | 1 => j
def ix3 {a b c : ℕ} (i : Fin a) (j : Fin b) (k : Fin c) : (⟨3, ![a, b, c]⟩ : Shape).Idx := fun | 0 => i | 1 => j | 2 => k
def ix1 {a : ℕ} (i : Fin a) : (⟨1, ![a]⟩ : Shape).Idx := fun | 0 => i

/-- The row of a table of `n + 1` rows a word names, the last one for a word past them. -/
def rowAt (n : ℕ) (w : BitVec 32) : Fin (n + 1) := ⟨min w.toNat n, Nat.lt_succ_of_le (Nat.min_le_right _ _)⟩

theorem rowAt_val {n : ℕ} {w : BitVec 32} (h : w.toNat < n + 1) : (rowAt n w).val = w.toNat :=
  Nat.min_eq_left (Nat.le_of_lt_succ h)

/-- The first call's result: row `p` is the table's row at the `p`-th listed number. -/
def takeRows (E : Vec F S100000x128 .f32) (tok : Vec F S512 .i32) : Vec F S512x128 .f32 :=
  fun p => E (ix2 (rowAt 99999 (tok (ix1 (p 0)))) (p 1))

/-- The second call's list of neighbours. Four rows of the neighbour table lie side by side in a row of `nbr4`: `krow`
    names that row, and `lane` less the position within a group of 32 names which of the four. -/
def nbVal (krow : Vec F S320x16 .i32) (lane : Vec F S320x320 .i32) (nbr4 : Vec F S25000x128 .i32) : Vec F S320x320 .i32 :=
  fun p =>
    let w : Fin 4 → BitVec 32 := fun o => nbr4 (ix2 (rowAt 24999 (krow (ix2 (p 0) (⟨(p 1).val / 32, by have := (p 1).isLt; change _ < 320 at this; omega⟩ : Fin 16))))
      (⟨32 * o.val + (p 1).val % 32, by omega⟩ : Fin 128))
    let off : BitVec 32 := lane p - BitVec.ofNat 32 ((p 1).val % 32)
    if off = 0#32 then w 0 else if off = 32#32 then w 1 else if off = 64#32 then w 2 else w 3

/-- The second call's gathered rows: the table's row of each listed neighbour. -/
def xgVal (nb : Vec F S320x320 .i32) (X : Vec F S100000x128 .f32) : Vec F S320x320x128 .f32 :=
  fun p => X (ix2 (rowAt 99999 (nb (ix2 (p 0) (p 1)))) (p 2))

/-! ## The tiles' parts of the buffers -/

/-- A buffer of device `d`, as its TensorCore names it. -/
abbrev bLoc (d : Dev nD) (b : Ref sig .tc) : Loc nD τ sig := (SparseCore.T d).loc b

/-- The number of the tile at core `c`, subcore `i`: the subcores are numbered over both cores in turn. -/
def wid (c : Fin 2) (i : Fin 16) : Fin 32 := ⟨i.val * 2 + c.val, by omega⟩

/-- Core and subcore against the tile's number. -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_) <;> simp only [wid] <;> omega
  right_inv w := Fin.ext (by simp only [wid]; omega)

theorem div512 : 32 ∣ S512.size 0 := ⟨16, rfl⟩
theorem div512x128 : 32 ∣ S512x128.size 0 := ⟨16, rfl⟩
theorem div320x16 : 32 ∣ S320x16.size 0 := ⟨10, rfl⟩
theorem div320x320 : 32 ∣ S320x320.size 0 := ⟨10, rfl⟩
theorem div320x320x128 : 32 ∣ S320x320x128.size 0 := ⟨10, rfl⟩
abbrev tokSet (w : Fin 32) : Finset S512.Idx := (Rect.part (s := S512) (a₀ := 0) div512 w).set
abbrev embSet (w : Fin 32) : Finset S512x128.Idx := (Rect.part (s := S512x128) (a₀ := 0) div512x128 w).set
abbrev krSet (w : Fin 32) : Finset S320x16.Idx := (Rect.part (s := S320x16) (a₀ := 0) div320x16 w).set
abbrev nbSet (w : Fin 32) : Finset S320x320.Idx := (Rect.part (s := S320x320) (a₀ := 0) div320x320 w).set
abbrev xgSet (w : Fin 32) : Finset S320x320x128.Idx := (Rect.part (s := S320x320x128) (a₀ := 0) div320x320x128 w).set

/-- Tile `w`'s read share of a table every tile reads. -/
abbrev sh (w : Fin 32) : PosShare TreeShare := pieceOf fullShare 32 (by decide) w

/-! ## What the calls' handshakes carry -/

/-- Contents of every buffer of every device. -/
abbrev Conts (F : FTy → Type) : Type := (d : Dev nD) → (b : Ref sig .tc) → Buf (Elt F) (bLoc d b)

variable (A B : Conts F)

/-- The first call, to a tile: its share of the table, its list, its rows of the result. -/
abbrev go0 (d : Dev nD) (w : Fin 32) : sProp 𝕄 :=
  iprop((bLoc d main_arg1 ↦{sh w} A d main_arg1) ∗ (bLoc d main_v3 ↦[tokSet w]{fullShare} A d main_v3)
    ∗ bLoc d main_v4 ↦[embSet w]{fullShare} A d main_v4)
/-- and back. -/
abbrev td0 (d : Dev nD) (w : Fin 32) : sProp 𝕄 :=
  iprop((bLoc d main_arg1 ↦{sh w} A d main_arg1) ∗ (bLoc d main_v3 ↦[tokSet w]{fullShare} A d main_v3)
    ∗ bLoc d main_v4 ↦[embSet w]{fullShare} takeRows (F := F) (A d main_arg1) (A d main_v3))

/-- The neighbour lists and the gathered rows the second call leaves on device `d`. -/
abbrev nbOut (d : Dev nD) : Vec F S320x320 .i32 := nbVal (F := F) (B d main_v14) (B d main_v26) (B d main_v12)
abbrev xgOut (d : Dev nD) : Vec F S320x320x128 .f32 := xgVal (F := F) (nbOut B d) (B d main_arg2)

/-- The second call, to a tile: its shares of the two tables, its rows of the two lists and of the two results. -/
abbrev go1 (d : Dev nD) (w : Fin 32) : sProp 𝕄 :=
  iprop((bLoc d main_v12 ↦{sh w} B d main_v12) ∗ (bLoc d main_arg2 ↦{sh w} B d main_arg2)
    ∗ (bLoc d main_v14 ↦[krSet w]{fullShare} B d main_v14) ∗ (bLoc d main_v26 ↦[nbSet w]{fullShare} B d main_v26)
    ∗ (bLoc d main_v27_0 ↦[nbSet w]{fullShare} B d main_v27_0) ∗ bLoc d main_v27_1 ↦[xgSet w]{fullShare} B d main_v27_1)
/-- and back. -/
abbrev td1 (d : Dev nD) (w : Fin 32) : sProp 𝕄 :=
  iprop((bLoc d main_v12 ↦{sh w} B d main_v12) ∗ (bLoc d main_arg2 ↦{sh w} B d main_arg2)
    ∗ (bLoc d main_v14 ↦[krSet w]{fullShare} B d main_v14) ∗ (bLoc d main_v26 ↦[nbSet w]{fullShare} B d main_v26)
    ∗ (bLoc d main_v27_0 ↦[nbSet w]{fullShare} nbOut B d) ∗ bLoc d main_v27_1 ↦[xgSet w]{fullShare} xgOut B d)

theorem nCore_eq (q : Fin 2) : (K (F := F)).nCore q = 2 := by fin_cases q <;> rfl
theorem nSub_eq (q : Fin 2) : (K (F := F)).nSub q = 16 := by fin_cases q <;> rfl

/-- The tile's number at a call. -/
abbrev widK (q : Fin 2) (c : Fin ((K (F := F)).nCore q)) (i : Fin ((K (F := F)).nSub q)) : Fin 32 :=
  wid (Fin.cast (nCore_eq (F := F) q) c) (Fin.cast (nSub_eq (F := F) q) i)

/-- To a tile, and back, at either call. -/
def goAt (q : Fin 2) (d : Dev nD) (w : Fin 32) : sProp 𝕄 := match q with | 0 => go0 A d w | 1 => go1 B d w
def tdAt (q : Fin 2) (d : Dev nD) (w : Fin 32) : sProp 𝕄 := match q with | 0 => td0 A d w | 1 => td1 B d w

instance goAt_storable (q : Fin 2) (d : Dev nD) (w : Fin 32) : BI.Storable (upEmb : UEmb _ 𝕄) (goAt A B q d w) :=
  match q with
  | 0 => (inferInstance : BI.Storable (upEmb : UEmb _ 𝕄) (go0 A d w))
  | 1 => (inferInstance : BI.Storable (upEmb : UEmb _ 𝕄) (go1 B d w))
instance tdAt_storable (q : Fin 2) (d : Dev nD) (w : Fin 32) : BI.Storable (upEmb : UEmb _ 𝕄) (tdAt A B q d w) :=
  match q with
  | 0 => (inferInstance : BI.Storable (upEmb : UEmb _ 𝕄) (td0 A d w))
  | 1 => (inferInstance : BI.Storable (upEmb : UEmb _ 𝕄) (td1 B d w))

/-- Each call takes, per core, what its tiles are handed, and brings back what they bring back. -/
def P : (K (F := F)).Pay (nD := nD) (Val := Elt F) (Name := ℕ) (U := UU) where
  st := fun q d c => bigSep Finset.univ fun i => goAt A B q d (widK (F := F) q c i)
  dn := fun q d c => bigSep Finset.univ fun i => tdAt A B q d (widK (F := F) q c i)
  go := fun q d c i => goAt A B q d (widK (F := F) q c i)
  td := fun q d c i => tdAt A B q d (widK (F := F) q c i)
  x := fun _ _ => iprop(emp)

instance P_storable : (P (F := F) A B).IsStorable where
  st q d c := (inferInstance : BI.Storable (upEmb : UEmb _ 𝕄) (bigSep Finset.univ fun i => goAt A B q d (widK (F := F) q c i)))
  dn q d c := (inferInstance : BI.Storable (upEmb : UEmb _ 𝕄) (bigSep Finset.univ fun i => tdAt A B q d (widK (F := F) q c i)))
  go q d c i := goAt_storable A B q d _
  td q d c i := tdAt_storable A B q d _

/-- What the first call asks of its list: every number a row of the table. -/
def TokOK : Prop := ∀ (d : Dev nD) (x : S512.Idx), (show BitVec 32 from A d main_v3 x).toNat < 100000
/-- What the second call asks of its lists: every group's row is in the regrouped table, every neighbour in the table. -/
def RowOK : Prop := ∀ (d : Dev nD) (x : S320x16.Idx), (show BitVec 32 from B d main_v14 x).toNat < 25000
def NbOK : Prop := ∀ (d : Dev nD) (x : S25000x128.Idx), (show BitVec 32 from B d main_v12 x).toNat < 100000

/-- A device's buffer split over the tiles and joined again: by rows, and by shares. -/
theorem bigSep_tiles (q : Fin 2) (Φ : Fin 32 → sProp 𝕄) :
    (bigSep Finset.univ fun c : Fin ((K (F := F)).nCore q) => bigSep Finset.univ fun i : Fin ((K (F := F)).nSub q) => Φ (widK (F := F) q c i))
      = bigSep Finset.univ Φ := by
  rw [bigSep_univ_equiv widEquiv Φ, bigSep_univ_prod]
  match q with
  | 0 => rfl
  | 1 => rfl

theorem vecSplit (q : Fin 2) : (K (F := F)).VecSplit' (P A B) q := by
  intro d c
  show (bigSep Finset.univ fun i => goAt A B q d (widK (F := F) q c i)) ⊢ |={Set.univ}=> iprop(
      (bigSep Finset.univ fun i => goAt A B q d (widK (F := F) q c i))
      ∗ ((bigSep Finset.univ fun i => tdAt A B q d (widK (F := F) q c i)) -∗ bigSep Finset.univ fun i => tdAt A B q d (widK (F := F) q c i)))
  iintro H; imodintro
  isplitl [H]; · iexact H
  iintro H; iexact H

theorem shares_eq (ℓ : Loc nD τ sig) (f : Buf (Elt F) ℓ) :
    (ℓ ↦{fullShare} f : sProp 𝕄) = bigSep Finset.univ fun w : Fin 32 => ℓ ↦{sh w} f :=
  pointsTo_piecesOf Finset.univ f (by decide) fullShare

theorem rows_eq (ℓ : Loc nD τ sig) (R : Fin 32 → Finset (Idx ℓ)) (hd : ∀ i j, i ≠ j → Disjoint (R i) (R j)) (hc : Finset.univ.biUnion R = Finset.univ)
    (f : Buf (Elt F) ℓ) : (ℓ ↦{fullShare} f : sProp 𝕄) = bigSep Finset.univ fun w : Fin 32 => ℓ ↦[R w]{fullShare} f := by
  rw [← pointsTo_biUnion Finset.univ (ℓ := ℓ) R (fun i _ j _ h => hd i j h), hc]

end Cert.Proof.Sense

end
-- ==== Proof.Tile0.lean ====
/-
  The first SparseCore call: each of the thirty-two tiles fetches its sixteen token numbers, gathers the table's rows at
  them by one indexed copy, and writes those out as its sixteen rows of the result.
-/
module

public import proofs.«01_k».proof.Proof.Setup

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (A B : Conts F)

/-- A subcore's own semaphores at zero are those of a set of its cells and the others. -/
theorem ownSems0_part (thr : Thread nD τ) (C : Finset (GSem nD τ sig)) (hC : C ⊆ ownCells thr) :
    (ownSems0 thr : sProp 𝕄) = iprop((bigSep C fun g => semVal g 0) ∗ bigSep (ownCells thr \ C) fun g => semVal g 0) := by
  unfold SparseCore.Cfg.ownSems0
  refine Eq.trans ?_ (bigSep_union Finset.disjoint_sdiff)
  rw [Finset.union_sdiff_of_subset hC]

/-- A subcore's own buffers, each at some contents, are those of a set of them and the others. -/
theorem ownBufs_part (thr : Thread nD τ) (C : Finset (DevRef τ sig)) (hC : C ⊆ ownRefs (τ := τ) thr.2) :
    (ownBufs thr : sProp 𝕄) = iprop((bigSep C fun b => iprop(∃ f, ((thr.1, b) : Loc nD τ sig) ↦{fullShare} f))
      ∗ bigSep (ownRefs (τ := τ) thr.2 \ C) fun b => iprop(∃ f, ((thr.1, b) : Loc nD τ sig) ↦{fullShare} f)) := by
  unfold SparseCore.Cfg.ownBufs
  refine Eq.trans ?_ (bigSep_union Finset.disjoint_sdiff)
  rw [Finset.union_sdiff_of_subset hC]

section Tile

variable (d : Dev nD) (L : grid0.Coords)

abbrev cV0 (L : grid0.Coords) : Fin τ.nSC := (L 0).castLE hcore0
abbrev jV0 (L : grid0.Coords) : Fin τ.nSub := (L 1).castLE hsub0
/-- The tile, and its number. -/
abbrev thr0 (d : Dev nD) (L : grid0.Coords) : Thread nD τ := V d (cV0 L) (jV0 L)
abbrev w0 (L : grid0.Coords) : Fin 32 := wid (Fin.cast (rfl : grid0.bound 0 = 2) (L 0)) (Fin.cast (rfl : grid0.bound 1 = 16) (L 1))

local notation "eV" => (Memref.whole Cert.KernelIdeal.main_arg1_scv : Memref Cert.KernelIdeal.sig Kind.scVector Space.hbm Cert.KernelIdeal.S100000x128 EltTy.f32)
local notation "tV" => (Memref.whole Cert.KernelIdeal.main_v3_scv : Memref Cert.KernelIdeal.sig Kind.scVector Space.hbm Cert.KernelIdeal.S512 EltTy.i32)
local notation "oV" => (Memref.whole Cert.KernelIdeal.main_v4_scv : Memref Cert.KernelIdeal.sig Kind.scVector Space.hbm Cert.KernelIdeal.S512x128 EltTy.f32)
local notation "sV" => (Memref.whole Cert.KernelIdeal.cc0_scratch0 : Memref Cert.KernelIdeal.sig Kind.scVector Space.vmem Cert.KernelIdeal.S16 EltTy.i32)
local notation "rV" => (Memref.whole Cert.KernelIdeal.cc0_scratch1 : Memref Cert.KernelIdeal.sig Kind.scVector Space.vmem Cert.KernelIdeal.S16x128 EltTy.f32)

/-- The tile's list, its rows of the result, and the table, as the tile addresses them. -/
abbrev tK (L : grid0.Coords) : Memref sig .scVector .hbm S16 .i32 := (tV).slice (Rect.unit (s := S512) (k0_off1 L) S16.size (k0_off1_inb L)) (fun _ => rfl)
abbrev oK (L : grid0.Coords) : Memref sig .scVector .hbm S16x128 .f32 := (oV).slice (Rect.unit (s := S512x128) (k0_off2 L) S16x128.size (k0_off2_inb L)) (fun _ => rfl)
abbrev eK : Memref sig .scVector .hbm S100000x128 .f32 := (eV).slice (Rect.unit (s := S100000x128) ![0, 0] S100000x128.size inb_S100000x128_S100000x128_0_0) (fun _ => rfl)

theorem set_tK : (tK L).view.set = tokSet (w0 L) := by
  show ((tV).view.slice _).set = _
  rw [View.set_slice]
  refine Finset.map_refl.trans (congrArg (fun r : Rect S512 => r.set) ?_)
  unfold Rect.part Rect.block
  congr 1 <;> funext a
  · rw [k0_off1_eq]
    match a with
    | 0 => simp [Shape.partIx, Shape.partSize, wid]; show 32 * (L 1).val + 16 * (L 0).val = ((L 1).val * 2 + (L 0).val) * 16; omega
  · match a with
    | 0 => simp [Shape.partSize]

theorem set_oK : (oK L).view.set = embSet (w0 L) := by
  show ((oV).view.slice _).set = _
  rw [View.set_slice]
  refine Finset.map_refl.trans (congrArg (fun r : Rect S512x128 => r.set) ?_)
  unfold Rect.part Rect.block
  congr 1 <;> funext a
  · rw [k0_off2_eq]
    match a with
    | 0 => simp [Shape.partIx, Shape.partSize, wid]; show 32 * (L 1).val + 16 * (L 0).val = ((L 1).val * 2 + (L 0).val) * 16; omega
    | 1 => simp [Shape.partIx, Shape.partSize]
  · match a with
    | 0 => simp [Shape.partSize]
    | 1 => simp [Shape.partSize]

theorem pts_tK (f : Buf (Elt F) (bLoc d main_v3)) :
    ((tK L).view.loc (thr0 d L) ↦[(tK L).view.set]{fullShare} f : sProp 𝕄) = bLoc d main_v3 ↦[tokSet (w0 L)]{fullShare} f := by
  rw [set_tK]
theorem pts_oK (f : Buf (Elt F) (bLoc d main_v4)) :
    ((oK L).view.loc (thr0 d L) ↦[(oK L).view.set]{fullShare} f : sProp 𝕄) = bLoc d main_v4 ↦[embSet (w0 L)]{fullShare} f := by
  rw [set_oK]

abbrev cells0 (d : Dev nD) (L : grid0.Coords) : Finset (GSem nD τ sig) :=
  {(thr0 d L, .dma cc0_scoped0.sem), (thr0 d L, .dma cc0_scratch2.sem), (thr0 d L, .dma cc0_scoped1.sem)}

theorem cells0_sub : cells0 d L ⊆ ownCells (thr0 d L) := by
  intro g hg
  simp only [cells0, Finset.mem_insert, Finset.mem_singleton] at hg
  rcases hg with rfl | rfl | rfl
  · exact mem_ownCells.mpr ⟨rfl, show (SemLoc.dma cc0_scoped0.sem : SemLoc sig).isScoped .scVector = true by decide⟩
  · exact mem_ownCells.mpr ⟨rfl, show (SemLoc.dma cc0_scratch2.sem : SemLoc sig).isScoped .scVector = true by decide⟩
  · exact mem_ownCells.mpr ⟨rfl, show (SemLoc.dma cc0_scoped1.sem : SemLoc sig).isScoped .scVector = true by decide⟩

theorem cells0_eq : (bigSep (cells0 d L) fun g => semVal g 0 : sProp 𝕄)
    = iprop(semVal (thr0 d L, .dma cc0_scoped0.sem) 0 ∗ semVal (thr0 d L, .dma cc0_scratch2.sem) 0 ∗ semVal (thr0 d L, .dma cc0_scoped1.sem) 0) := by
  have h1 : (SemLoc.dma cc0_scoped0.sem : SemLoc sig) ≠ .dma cc0_scratch2.sem := by decide
  have h2 : (SemLoc.dma cc0_scoped0.sem : SemLoc sig) ≠ .dma cc0_scoped1.sem := by decide
  have h3 : (SemLoc.dma cc0_scratch2.sem : SemLoc sig) ≠ .dma cc0_scoped1.sem := by decide
  rw [SparseCore.bigSep_insert' (by simp only [Finset.mem_insert, Finset.mem_singleton, Prod.mk.injEq, true_and]; exact fun h => h.elim h1 h2),
    SparseCore.bigSep_insert' (by simp only [Finset.mem_singleton, Prod.mk.injEq, true_and]; exact h3), bigSep_singleton]

abbrev bufs0 (L : grid0.Coords) : Finset (DevRef τ sig) :=
  {(Proc.scVector (cV0 L) (jV0 L)).devRef cc0_scratch0, (Proc.scVector (cV0 L) (jV0 L)).devRef cc0_scratch1}

theorem bufs0_sub : bufs0 L ⊆ ownRefs (τ := τ) (thr0 d L).2 := by
  intro b hb
  simp only [bufs0, Finset.mem_insert, Finset.mem_singleton] at hb
  rcases hb with rfl | rfl <;> exact SparseCore.Cfg.mem_ownRefs_of_owner (p := Proc.scVector (cV0 L) (jV0 L)) rfl

theorem bufs0_eq : (bigSep (bufs0 L) fun b => iprop(∃ f, (((thr0 d L).1, b) : Loc nD τ sig) ↦{fullShare} f) : sProp 𝕄)
    = iprop((∃ f, (thr0 d L).loc cc0_scratch0 ↦{fullShare} f) ∗ ∃ f, (thr0 d L).loc cc0_scratch1 ↦{fullShare} f) := by
  rw [SparseCore.bigSep_insert' (by
    simp only [Finset.mem_singleton]
    exact fun e => absurd (Proc.devRef_injective _ e) (show (cc0_scratch0 : Ref sig .scVector) ≠ cc0_scratch1 by decide)), bigSep_singleton]

variable [FloatOps F] [Named F]

/-- The list the tile fetched is in range. -/
theorem inb0 (hA : TokOK A) (fs : Buf (Elt F) ((thr0 d L).loc cc0_scratch0)) (pay : S16.Idx → Elt F .i32)
    (hpay : pay = (tK L).view.read (Elt F) (A d main_v3)) :
    ∀ x, ((sV).view.read (Elt F) (View.write (Elt F) (sV).view fs pay Finset.univ) x).toNat < S100000x128.size gathers_S100000x128_S16x128.axis := by
  subst hpay; intro x
  rw [View.write_whole_univ]
  simp only [Memref.view_whole, View.read_whole]
  rw [show ∀ j, (tK L).view.read (Elt F) (A d main_v3) j = A d main_v3 ((tK L).view.emb j) from fun j => (View.read_apply _ _).trans (cast_eq _ _)]
  exact hA d _

theorem eK_read (f : Buf (Elt F) (bLoc d main_arg1)) : (eK).view.read (Elt F) f = f := by
  funext x
  refine (View.read_apply _ _).trans ((cast_eq _ _).trans (congrArg f ?_))
  funext a; apply Fin.ext
  match a with
  | 0 => show 0 + 1 * (x 0).val = _; omega
  | 1 => show 0 + 1 * (x 1).val = _; omega

/-- The rows the tile writes out are its rows of `takeRows`. -/
theorem out0 (hA : TokOK A) (fs : Buf (Elt F) ((thr0 d L).loc cc0_scratch0)) (pay : S16.Idx → Elt F .i32)
    (hpay : pay = (tK L).view.read (Elt F) (A d main_v3)) (fr : Buf (Elt F) ((thr0 d L).loc cc0_scratch1)) (f : Buf (Elt F) (bLoc d main_v4))
    (hin : ∀ x, ((sV).view.read (Elt F) (View.write (Elt F) (sV).view fs pay Finset.univ) x).toNat < S100000x128.size gathers_S100000x128_S16x128.axis)
    (out : S16x128.Idx → Elt F .f32)
    (hout : out = (rV).view.read (Elt F) ((rV).view.write (Elt F) fr (SparseCore.gatherPayload gathers_S100000x128_S16x128
      ((eK).view.read (Elt F) (A d main_arg1)) (SparseCore.rows ((sV).view.read (Elt F) (View.write (Elt F) (sV).view fs pay Finset.univ)) rfl hin)) Finset.univ)) :
    ∀ i ∈ embSet (w0 L), (oK L).view.writes (Elt F) f [⟨Rect.whole S16x128, out⟩] i = takeRows (F := F) (A d main_arg1) (A d main_v3) i := by
  intro i hi
  rw [← set_oK] at hi
  obtain ⟨x, -, rfl⟩ := Finset.mem_map.mp hi
  refine (View.read_writes_cons_hit_of_coords (oK L).view f (Rect.whole S16x128) out [] x x (fun a => ?_)).trans ?_
  · show (x a).val = 0 + 1 * (x a).val
    omega
  subst hout
  rw [View.read_write_univ]
  unfold SparseCore.gatherPayload takeRows
  rw [eK_read]
  congr 1
  funext a
  match a with
  | 0 =>
    apply Fin.ext
    refine (congrArg Fin.val (Shape.Gathers.idx_axis gathers_S100000x128_S16x128 _ x)).trans ?_
    show _ = (rowAt 99999 _).val
    rw [rowAt_val (hA d _)]
    show ((sV).view.read (Elt F) (View.write (Elt F) (sV).view fs pay Finset.univ) _).toNat = _
    subst hpay
    rw [View.read_write_univ, show ∀ j, (tK L).view.read (Elt F) (A d main_v3) j = A d main_v3 ((tK L).view.emb j) from fun j => (View.read_apply _ _).trans (cast_eq _ _)]
    congr 2
    funext b
    match b with
    | 0 =>
      apply Fin.ext
      have e1 : k0_off1 L 0 = k0_off2 L 0 := by rw [k0_off1_eq, k0_off2_eq]; rfl
      have e2 : ((S16.rowMajor.symm ((x 0).cast (rfl : S16x128.size 0 = S16.numel))) 0).val = (x 0).val := by
        rw [← Shape.rowMajor_val_one, Equiv.apply_symm_apply]; rfl
      show k0_off1 L 0 + 1 * ((S16.rowMajor.symm ((x 0).cast rfl)) 0).val = k0_off2 L 0 + 1 * (x 0).val
      rw [e1]; erw [e2]
  | 1 =>
    apply Fin.ext
    refine (Shape.Gathers.idx_of_ne gathers_S100000x128_S16x128 _ x 1 (by decide)).trans ?_
    have e2 : k0_off2 L 1 = 0 := by rw [k0_off2_eq]; rfl
    show (x 1).val = k0_off2 L 1 + 1 * (x 1).val
    rw [e2]; omega

set_option maxHeartbeats 1000000 in
/-- The task. -/
theorem tile_body0 (hF : (K (F := F)).Facts) (hA : TokOK A) (O : CellTallies nD τ sig (HIx 2)) (W : Waits sig (HIx 2)) (hO : ∀ g, O g none = 0) :
    iprop(levAts (K (F := F)).L (K (F := F)).lev ∗ emp ∗ go0 A d (w0 L) ∗ scopedBufs (thr0 d L) ∗ scopedSems0 (thr0 d L) ∗ owes (thr0 d L) O W)
      ⊢ wp frame (wpE (defs₀ (F := F)) 𝒱₀ (thr0 d L) none) Set.univ
          (cc0_k L eV (Memref.isWhole_whole _) tV (Memref.isWhole_whole _) oV (Memref.isWhole_whole _)
            sV (Memref.isWhole_whole _) rV (Memref.isWhole_whole _) cc0_scratch2 cc0_scoped0 cc0_scoped1)
          fun _ => iprop(td0 A d (w0 L) ∗ scopedBufs (thr0 d L) ∗ scopedSems0 (thr0 d L)
            ∗ ∃ W', ⌜∀ p ∈ W', p ∈ W ∨ p.2 = none⌝ ∗ owes (thr0 d L) O W') := by
  simp only [cc0_k_eq_skeleton]; unfold cc0_k_skel
  rw [(K (F := F)).scopedBufs_V hF d (cV0 L) (jV0 L), SparseCore.Cfg.scopedSems0_V (Val := Elt F) d (cV0 L) (jV0 L),
    ownSems0_part _ _ (cells0_sub d L), ownBufs_part _ _ (bufs0_sub d L), cells0_eq, bufs0_eq]
  iintro ⟨#Hlv, -, ⟨He, Ht, Ho⟩, ⟨⟨⟨%fs, Hs⟩, ⟨%fr, Hr⟩⟩, Hbufs⟩, ⟨⟨HsemA, HsemB, HsemC⟩, Hsems⟩, HO⟩
  ihave Hmw := (show levAts (K (F := F)).L (K (F := F)).lev ⊢ Transfers.MayWaits (thr0 d L) (default : HIx 2) O from
    (K (F := F)).mayWaits_none (thr := thr0 d L) hO) $$ Hlv
  ihave Ht' := (Entails.of_eq (pts_tK (F := F) d L _).symm) $$ Ht
  ihave Ho' := (Entails.of_eq (pts_oK (F := F) d L _).symm) $$ Ho
  ihave He' := (Entails.of_eq (show (bLoc d main_arg1 ↦{sh (w0 L)} A d main_arg1 : sProp 𝕄) = (eV).view.loc (thr0 d L) ↦{sh (w0 L)} A d main_arg1 from rfl)) $$ He
  ihave Hs' := (Entails.of_eq (show ((thr0 d L).loc cc0_scratch0 ↦{fullShare} fs : sProp 𝕄) = (sV).view.loc (thr0 d L) ↦{fullShare} fs from rfl)) $$ Hs
  ihave Hr' := (Entails.of_eq (show ((thr0 d L).loc cc0_scratch1 ↦{fullShare} fr : sProp 𝕄) = (rV).view.loc (thr0 d L) ↦{fullShare} fr from rfl)) $$ Hr
  sl_exec
  ihave Hes := (pointsTo_split_subset (q := sh (w0 L)) (f := A d main_arg1) (S := Finset.univ) (Finset.subset_univ (eK).view.set)).1 $$ He'
  icases Hes with ⟨Hes, Her⟩
  have hrs : (rV).view.set = Finset.univ := View.set_whole _
  have hss : (sV).view.set = Finset.univ := View.set_whole _
  ihave Hr'' := (Entails.of_eq (show ((rV).view.loc (thr0 d L) ↦{fullShare} fr : sProp 𝕄)
      = (rV).view.loc (thr0 d L) ↦[(rV).view.set]{fullShare} fr by rw [hrs])) $$ Hr'
  ihave Hs'' := (Entails.of_eq (show ((sV).view.loc (thr0 d L) ↦{fullShare} View.write (Elt F) (sV).view fs (tile_body0.sl.dma0 A d L) Finset.univ : sProp 𝕄)
      = (sV).view.loc (thr0 d L) ↦[(sV).view.set]{fullShare} View.write (Elt F) (sV).view fs (tile_body0.sl.dma0 A d L) Finset.univ
      by rw [hss])) $$ Hs'
  have hN : ∀ h : S100000x128.Gathers 0 S16x128, ∑ j, ((rV).slice (S16x128.rowRect h.axis' j) (S16x128.stride_rowRect h.axis' j)).view.dmaCredit
      = (rV).view.dmaCredit := by decide
  iapply (SparseCore.wp_indirectGatherLocal countersEmb 𝒱₀ (thr0 d L) none (hg := gathers_S100000x128_S16x128) (default : HIx 2)
      (rV).view.dmaCredit (hN _) (by decide) (inb0 A d L hA fs _ rfl)) $$ [Hes Hr'' Hs'' HsemB]
  · isplitl [Hes]; · iexact Hes
    isplitl [Hr'']; · iexact Hr''
    isplitl [Hs'']; · iexact Hs''
    iexact HsemB
  iintro Hfl
  sl_exec
  iapply (Transfers.wp_waitLocalO countersEmb 𝒱₀ (thr0 d L) none (default : HIx 2) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hes, Hs'⟩, HsemB, HO⟩
  ihave He' := (pointsTo_split_subset (q := sh (w0 L)) (f := A d main_arg1) (S := Finset.univ) (Finset.subset_univ (eK).view.set)).2 $$ [Hes Her]; · isplitl [Hes] <;> iassumption
  ihave Hr3 := (Entails.of_eq (show ((rV).view.loc (thr0 d L) ↦[(rV).view.set]{fullShare} _ : sProp 𝕄)
      = (rV).view.loc (thr0 d L) ↦{fullShare} _ by rw [hrs])) $$ Hr'
  ihave Hs3 := (Entails.of_eq (show ((sV).view.loc (thr0 d L) ↦[(sV).view.set]{fullShare} _ : sProp 𝕄)
      = (sV).view.loc (thr0 d L) ↦{fullShare} _ by rw [hss])) $$ Hs'
  sl_exec
  sl_step
  isplitl [Ht' Ho' He']
  · isplitl [He']; · iexact He'
    isplitl [Ht']; · iapply (Entails.of_eq (pts_tK (F := F) d L _)); iexact Ht'
    ihave Ho'' := (Entails.of_eq (pts_oK (F := F) d L _)) $$ Ho'
    iapply (Entails.of_eq (pointsTo_congr (out0 A d L hA fs _ rfl fr (A d main_v4) (inb0 A d L hA fs _ rfl) (tile_body0.sl.dma0_1 A d L hA fs fr) rfl))) $$ Ho''
  isplitl [Hs3 Hr3 Hbufs]
  · isplitl [Hs3 Hr3]
    · isplitl [Hs3]; · iexists _; iexact Hs3
      iexists _; iexact Hr3
    iexact Hbufs
  isplitl [HsemA HsemB HsemC Hsems]
  · isplitl [HsemA HsemB HsemC]
    · isplitl [HsemA]; · iexact HsemA
      isplitl [HsemB]; · iexact HsemB
      iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Sense

end
-- ==== Proof.Tile1.lean ====
module

public import proofs.«01_k».proof.Proof.Tile0
public import Idealize.ShloMosaic.Lib.Writes
public import Idealize.ShloMosaic.Lib.Pipeline.Value

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "kW" => (Memref.whole Cert.KernelIdeal.main_v14_scv : Memref Cert.KernelIdeal.sig Kind.scVector Space.hbm Cert.KernelIdeal.S320x16 EltTy.i32)
local notation "cW" => (Memref.whole Cert.KernelIdeal.main_v26_scv : Memref Cert.KernelIdeal.sig Kind.scVector Space.hbm Cert.KernelIdeal.S320x320 EltTy.i32)
local notation "nW" => (Memref.whole Cert.KernelIdeal.main_v12_scv : Memref Cert.KernelIdeal.sig Kind.scVector Space.hbm Cert.KernelIdeal.S25000x128 EltTy.i32)
local notation "xW" => (Memref.whole Cert.KernelIdeal.main_arg2_scv : Memref Cert.KernelIdeal.sig Kind.scVector Space.hbm Cert.KernelIdeal.S100000x128 EltTy.f32)
local notation "oW" => (Memref.whole Cert.KernelIdeal.main_v27_0_scv : Memref Cert.KernelIdeal.sig Kind.scVector Space.hbm Cert.KernelIdeal.S320x320 EltTy.i32)
local notation "gW" => (Memref.whole Cert.KernelIdeal.main_v27_1_scv : Memref Cert.KernelIdeal.sig Kind.scVector Space.hbm Cert.KernelIdeal.S320x320x128 EltTy.f32)
local notation "s0" => (Memref.whole Cert.KernelIdeal.cc1_scratch0 : Memref Cert.KernelIdeal.sig Kind.scVector Space.vmem Cert.KernelIdeal.S16 EltTy.i32)
local notation "s1" => (Memref.whole Cert.KernelIdeal.cc1_scratch1 : Memref Cert.KernelIdeal.sig Kind.scVector Space.vmem Cert.KernelIdeal.S320 EltTy.i32)
local notation "s2" => (Memref.whole Cert.KernelIdeal.cc1_scratch2 : Memref Cert.KernelIdeal.sig Kind.scVector Space.vmem Cert.KernelIdeal.S16x128 EltTy.i32)
local notation "s3" => (Memref.whole Cert.KernelIdeal.cc1_scratch3 : Memref Cert.KernelIdeal.sig Kind.scVector Space.vmem Cert.KernelIdeal.S320 EltTy.i32)
local notation "s4" => (Memref.whole Cert.KernelIdeal.cc1_scratch4 : Memref Cert.KernelIdeal.sig Kind.scVector Space.vmem Cert.KernelIdeal.S320x128 EltTy.f32)

variable (A B : Conts F)

section Tile

variable (d : Dev nD) (L : grid1.Coords)

abbrev cV1 (L : grid1.Coords) : Fin τ.nSC := (L 0).castLE hcore1
abbrev jV1 (L : grid1.Coords) : Fin τ.nSub := (L 1).castLE hsub1
/-- The tile, and its number. -/
abbrev thr1 (d : Dev nD) (L : grid1.Coords) : Thread nD τ := V d (cV1 L) (jV1 L)
abbrev w1 (L : grid1.Coords) : Fin 32 := wid (Fin.cast (rfl : grid1.bound 0 = 2) (L 0)) (Fin.cast (rfl : grid1.bound 1 = 16) (L 1))

variable (k : Fin k1_t1_loop.trips)

/-- The trip's row of each list, and of each result, as the tile addresses them; and the two tables. -/
abbrev kR : Memref sig .scVector .hbm S16 .i32 := ((kW).slice (Rect.unit (s := S320x16) (k1_off1 L k) S1x16.size (k1_off1_inb L k)) (fun _ => rfl)).squeeze S16 squeezes_S1x16_S16
abbrev cR : Memref sig .scVector .hbm S320 .i32 := ((cW).slice (Rect.unit (s := S320x320) (k1_off2 L k) S1x320.size (k1_off2_inb L k)) (fun _ => rfl)).squeeze S320 squeezes_S1x320_S320
abbrev oR : Memref sig .scVector .hbm S320 .i32 := ((oW).slice (Rect.unit (s := S320x320) (k1_off2 L k) S1x320.size (k1_off2_inb L k)) (fun _ => rfl)).squeeze S320 squeezes_S1x320_S320
abbrev gR : Memref sig .scVector .hbm S320x128 .f32 := ((gW).slice (Rect.unit (s := S320x320x128) (k1_off3 L k) S1x320x128.size (k1_off3_inb L k)) (fun _ => rfl)).squeeze S320x128 squeezes_S1x320x128_S320x128
abbrev nAll : Memref sig .scVector .hbm S25000x128 .i32 := (nW).slice (Rect.unit (s := S25000x128) ![0, 0] S25000x128.size inb_S25000x128_S25000x128_0_0) (fun _ => rfl)
abbrev xAll : Memref sig .scVector .hbm S100000x128 .f32 := (xW).slice (Rect.unit (s := S100000x128) ![0, 0] S100000x128.size inb_S100000x128_S100000x128_0_0) (fun _ => rfl)

/-- The trip's row number. -/
def rowK : Fin 320 := ⟨20 * (L 1).val + 10 * (L 0).val + k.val, by
  have h1 : (L 1).val < 16 := (L 1).isLt
  have h0 : (L 0).val < 2 := (L 0).isLt
  have hk : k.val < 10 := k.isLt
  omega⟩

variable [FloatOps F] [Named F]

/-- The sixteen lanes' numbers. -/
abbrev lanes : IVec S16 32 := iota .scVector S16 32 [0] iota_S16_d0_w32_scVector

/-- One trip of the call's loop. -/
abbrev tripProg (v2 : BitVec 32) : Prog (TpuEff nD τ sig (Elt F) Λ₀ (.scVector (cV1 L) (jV1 L))) Unit :=
  k1_t1_body (F := F) L kW (Memref.isWhole_whole _) cW (Memref.isWhole_whole _) nW (Memref.isWhole_whole _) xW (Memref.isWhole_whole _)
          oW (Memref.isWhole_whole _) gW (Memref.isWhole_whole _) s0 (Memref.isWhole_whole _) s1 (Memref.isWhole_whole _) s2 (Memref.isWhole_whole _)
          s3 (Memref.isWhole_whole _) s4 (Memref.isWhole_whole _) cc1_scratch5 cc1_scratch6 cc1_scoped0 cc1_scoped1 cc1_scoped2 cc1_scoped3
          v2 lanes k ⟨⟩

theorem kR_read (f : Buf (Elt F) (bLoc d main_v14)) (j : S16.Idx) : (kR L k).view.read (Elt F) f j = f ((kR L k).view.emb j) :=
  (View.read_apply _ _).trans (cast_eq _ _)

/-- The groups' rows the trip fetched are in range. -/
theorem inbK (hB : RowOK B) (fs : Buf (Elt F) ((thr1 d L).loc cc1_scratch0)) (pay : S16.Idx → Elt F .i32)
    (hpay : pay = (kR L k).view.read (Elt F) (B d main_v14)) :
    ∀ x, ((s0).view.read (Elt F) (View.write (Elt F) (s0).view fs pay Finset.univ) x).toNat < S25000x128.size gathers_S25000x128_S16x128.axis := by
  subst hpay; intro x
  rw [View.read_write_univ, kR_read]
  exact hB d _

/-- What a trip lists for position `y` of its row, from its row of positions and the groups' rows it fetched. -/
def pick (col : S320.Idx → BitVec 32) (w : S16x128.Idx → BitVec 32) (y : Fin 320) : BitVec 32 :=
  let v : Fin 4 → BitVec 32 := fun o => w (ix2 (⟨y.val / 32, by omega⟩ : Fin 16) (⟨32 * o.val + y.val % 32, by omega⟩ : Fin 128))
  let off : BitVec 32 := col (ix1 y) - BitVec.ofNat 32 (y.val % 32)
  if off = 0#32 then v 0 else if off = 32#32 then v 1 else if off = 64#32 then v 2 else v 3

theorem ld1 (fc : Buf (Elt F) ((thr1 d L).loc cc1_scratch1)) (pay : S320.Idx → Elt F .i32) (o : ℕ) (h : ∀ a, (![o] : Fin 1 → ℕ) a + S16.size a ≤ S320.size a) (x : Fin 16)
    (ho : o + x.val < 320) :
    View.readAt (Elt F) (s1).view (Rect.unit (s := S320) ![o] S16.size h).toLoadRect (View.write (Elt F) (s1).view fc pay Finset.univ) (ix1 x) = pay (ix1 ⟨o + x.val, ho⟩) := by
  rw [View.readAt_apply, View.read_write_univ]
  congr 1
  funext a
  match a with
  | 0 => apply Fin.ext; show o + 1 * x.val = o + x.val; omega

theorem ld2 (fw : Buf (Elt F) ((thr1 d L).loc cc1_scratch2)) (pay : S16x128.Idx → Elt F .i32) (j o : ℕ) (h : ∀ a, (![j, o] : Fin 2 → ℕ) a + S1x16.size a ≤ S16x128.size a) (x : Fin 16)
    (hj : j < 16) (ho : o + x.val < 128) :
    View.readAt (Elt F) (s2).view (Rect.unit (s := S16x128) ![j, o] S1x16.size h).toLoadRect (View.write (Elt F) (s2).view fw pay Finset.univ) (ix2 0 x)
      = pay (ix2 ⟨j, hj⟩ ⟨o + x.val, ho⟩) := by
  rw [View.readAt_apply, View.read_write_univ]
  congr 1
  funext a
  match a with
  | 0 => apply Fin.ext; show j + 1 * 0 = j; omega
  | 1 => apply Fin.ext; show o + 1 * x.val = o + x.val; omega

/-- A one-row block of sixteen read as a vector of sixteen. -/
theorem row_cast {α : Type} (a : S1x16.Idx → α) (x : Fin 16) : shapeCast S16 a shapeCasts_S1x16_S16 (ix1 x) = a (ix2 0 x) :=
  shapeCast_apply a _ _ _ (by
    rw [Shape.rowMajor_val_two, Shape.rowMajor_val_one]
    show 0 * 16 + x.val = x.val
    omega)

theorem select_eq {α : Type} (a b : BitVec 32) (u v : α) : Scalar.select (IntOp.cmpi .eq a b) u v = if a = b then u else v := by
  unfold Scalar.select IntOp.cmpi
  by_cases h : a = b
  · subst h; simp
  · have e : (a == b) = false := by simpa using h
    rw [e, if_neg h]; rfl

theorem pick_chunk (col : S320.Idx → BitVec 32) (w : S16x128.Idx → BitVec 32) (o j half : ℕ) (hj : o = 32 * j + half) (hlt : o + 16 ≤ 320)
    (hh : half = 0 ∨ half = 16) (cv : IVec S16 32) (a0 a1 a2 a3 : S1x16.Idx → BitVec 32)
    (hcv : ∀ x : Fin 16, cv (ix1 x) = col (ix1 ⟨o + x.val, by omega⟩))
    (h0 : ∀ x : Fin 16, a0 (ix2 0 x) = w (ix2 ⟨j, by omega⟩ ⟨half + x.val, by omega⟩))
    (h1 : ∀ x : Fin 16, a1 (ix2 0 x) = w (ix2 ⟨j, by omega⟩ ⟨32 + half + x.val, by omega⟩))
    (h2 : ∀ x : Fin 16, a2 (ix2 0 x) = w (ix2 ⟨j, by omega⟩ ⟨64 + half + x.val, by omega⟩))
    (h3 : ∀ x : Fin 16, a3 (ix2 0 x) = w (ix2 ⟨j, by omega⟩ ⟨96 + half + x.val, by omega⟩))
    (inb : ∀ a, (![o] : Fin 1 → ℕ) a + S16.size a ≤ S320.size a) (x : S16.Idx) :
    shapeCast S16
      (select (cmpi .eq (subi (subi (shapeCast S16 cv shapeCasts_S16_S16) (broadcast S16 (BitVec.ofNat 32 half))) lanes) (broadcast S16 0#32)) (shapeCast S16 a0 shapeCasts_S1x16_S16)
        (select (cmpi .eq (subi (subi (shapeCast S16 cv shapeCasts_S16_S16) (broadcast S16 (BitVec.ofNat 32 half))) lanes) (broadcast S16 32#32)) (shapeCast S16 a1 shapeCasts_S1x16_S16)
          (select (cmpi .eq (subi (subi (shapeCast S16 cv shapeCasts_S16_S16) (broadcast S16 (BitVec.ofNat 32 half))) lanes) (broadcast S16 64#32)) (shapeCast S16 a2 shapeCasts_S1x16_S16)
            (shapeCast S16 a3 shapeCasts_S1x16_S16)))) shapeCasts_S16_S16 x
      = pick col w ((Rect.unit (s := S320) ![o] S16.size inb).emb x 0) := by
  have hx : x = ix1 (x 0) := by funext a; match a with | 0 => rfl
  generalize hx0 : (show Fin 16 from x 0) = x0 at hx
  have hx' : x = ix1 x0 := by rw [← hx0]; exact hx ▸ (by funext a; match a with | 0 => rfl)
  subst hx'
  have e : (Rect.unit (s := S320) ![o] S16.size inb).emb (ix1 x0) 0 = (⟨o + x0.val, by omega⟩ : Fin 320) := Fin.ext (by show o + 1 * x0.val = o + x0.val; omega)
  rw [e]
  have hm : (o + x0.val) % 32 = half + x0.val := by omega
  have hd : (o + x0.val) / 32 = j := by omega
  have hb : ∀ c : BitVec 32, c - BitVec.ofNat 32 half - BitVec.ofNat 32 x0.val = c - BitVec.ofNat 32 (half + x0.val) := fun c => by
    rw [BitVec.ofNat_add, BitVec.sub_sub]
  rw [shapeCast_self, shapeCast_self]
  have hl : lanes (ix1 x0) = BitVec.ofNat 32 x0.val := by show BitVec.ofNat 32 (0 * 16 + x0.val) = _; rw [Nat.zero_mul, Nat.zero_add]
  have c0 := (row_cast a0 x0).trans (h0 x0)
  have c1 := (row_cast a1 x0).trans (h1 x0)
  have c2 := (row_cast a2 x0).trans (h2 x0)
  have c3 := (row_cast a3 x0).trans (h3 x0)
  show Scalar.select (IntOp.cmpi .eq (cv (ix1 x0) - BitVec.ofNat 32 half - lanes (ix1 x0)) 0#32) (shapeCast S16 a0 shapeCasts_S1x16_S16 (ix1 x0))
    (Scalar.select (IntOp.cmpi .eq (cv (ix1 x0) - BitVec.ofNat 32 half - lanes (ix1 x0)) 32#32) (shapeCast S16 a1 shapeCasts_S1x16_S16 (ix1 x0))
      (Scalar.select (IntOp.cmpi .eq (cv (ix1 x0) - BitVec.ofNat 32 half - lanes (ix1 x0)) 64#32) (shapeCast S16 a2 shapeCasts_S1x16_S16 (ix1 x0))
        (shapeCast S16 a3 shapeCasts_S1x16_S16 (ix1 x0)))) = _
  rw [select_eq, select_eq, select_eq, c0, c1, c2, c3, hl, hcv, hb]
  unfold pick
  have g : ∀ (o' : Fin 4) (n : ℕ) (hn : n < 128), n = 32 * o'.val + half + x0.val →
      w (ix2 ⟨j, by omega⟩ ⟨n, hn⟩) = w (ix2 (⟨(o + x0.val) / 32, by omega⟩ : Fin 16) (⟨32 * o'.val + (o + x0.val) % 32, by omega⟩ : Fin 128)) := by
    intro o' n hn e
    congr 2
    · exact Fin.ext hd.symm
    · exact Fin.ext (by show n = 32 * o'.val + (o + x0.val) % 32; omega)
  rw [g 0 _ _ (by simp), g 1 _ _ (by simp), g 2 _ _ (by simp), g 3 _ _ (by simp), ← hm]

/-- The groups' rows a trip fetches. -/
def grpRow (hR : RowOK B) (fk : Buf (Elt F) ((thr1 d L).loc cc1_scratch0)) : S16x128.Idx → Elt F .i32 :=
  SparseCore.gatherPayload gathers_S25000x128_S16x128 ((nAll).view.read (Elt F) (B d main_v12))
    (SparseCore.rows ((s0).view.read (Elt F) (View.write (Elt F) (s0).view fk ((kR L k).view.read (Elt F) (B d main_v14)) Finset.univ)) rfl (inbK B d L k hR fk _ rfl))

theorem cR_read (f : Buf (Elt F) (bLoc d main_v26)) (j : S320.Idx) : (cR L k).view.read (Elt F) f j = f ((cR L k).view.emb j) :=
  (View.read_apply _ _).trans (cast_eq _ _)

theorem nAll_read (f : Buf (Elt F) (bLoc d main_v12)) : (nAll).view.read (Elt F) f = f := by
  funext x
  refine (View.read_apply _ _).trans ((cast_eq _ _).trans (congrArg f ?_))
  funext a; apply Fin.ext
  match a with
  | 0 => show 0 + 1 * (x 0).val = _; omega
  | 1 => show 0 + 1 * (x 1).val = _; omega

theorem xAll_read (f : Buf (Elt F) (bLoc d main_arg2)) : (xAll).view.read (Elt F) f = f := by
  funext x
  refine (View.read_apply _ _).trans ((cast_eq _ _).trans (congrArg f ?_))
  funext a; apply Fin.ext
  match a with
  | 0 => show 0 + 1 * (x 0).val = _; omega
  | 1 => show 0 + 1 * (x 1).val = _; omega

/-- A squeezed row's places. -/
theorem sq16 (h) (y : S16.Idx) : Shape.reshapeEquiv (s := S1x16) (s' := S16) h y = ix2 (0 : Fin 1) (y 0) :=
  shapeCast_apply (α := S1x16.Idx) id h y (ix2 (0 : Fin 1) (y 0)) (by
    rw [Shape.rowMajor_val_two, Shape.rowMajor_val_one]
    show 0 * 16 + (y 0).val = (y 0).val
    omega)
theorem sq320 (h) (y : S320.Idx) : Shape.reshapeEquiv (s := S1x320) (s' := S320) h y = ix2 (0 : Fin 1) (y 0) :=
  shapeCast_apply (α := S1x320.Idx) id h y (ix2 (0 : Fin 1) (y 0)) (by
    rw [Shape.rowMajor_val_two, Shape.rowMajor_val_one]
    show 0 * 320 + (y 0).val = (y 0).val
    omega)
theorem sq320x128 (h) (y : S320x128.Idx) : Shape.reshapeEquiv (s := S1x320x128) (s' := S320x128) h y = ix3 (0 : Fin 1) (y 0) (y 1) :=
  shapeCast_apply (α := S1x320x128.Idx) id h y (ix3 (0 : Fin 1) (y 0) (y 1)) (by
    rw [Shape.rowMajor_val_three, Shape.rowMajor_val_two]
    show (0 * 320 + (y 0).val) * 128 + (y 1).val = (y 0).val * 128 + (y 1).val
    omega)

/-- The places of the trip's rows. -/
theorem kR_emb (y : S16.Idx) : (kR L k).view.emb y = (ix2 (rowK L k) (y 0) : S320x16.Idx) := by
  show (Rect.unit (s := S320x16) (k1_off1 L k) S1x16.size (k1_off1_inb L k)).emb (Shape.reshapeEquiv _ y) = _
  rw [sq16]
  funext a
  match a with
  | 0 => apply Fin.ext; show k1_off1 L k 0 + 1 * 0 = 20 * (L 1).val + 10 * (L 0).val + k.val; rw [k1_off1_eq]; rfl
  | 1 => apply Fin.ext; show k1_off1 L k 1 + 1 * (y 0).val = (y 0).val; rw [k1_off1_eq]; show 0 + 1 * (y 0).val = (y 0).val; omega
theorem cR_emb (y : S320.Idx) : (cR L k).view.emb y = (ix2 (rowK L k) (y 0) : S320x320.Idx) := by
  show (Rect.unit (s := S320x320) (k1_off2 L k) S1x320.size (k1_off2_inb L k)).emb (Shape.reshapeEquiv _ y) = _
  rw [sq320]
  funext a
  match a with
  | 0 => apply Fin.ext; show k1_off2 L k 0 + 1 * 0 = 20 * (L 1).val + 10 * (L 0).val + k.val; rw [k1_off2_eq]; rfl
  | 1 => apply Fin.ext; show k1_off2 L k 1 + 1 * (y 0).val = (y 0).val; rw [k1_off2_eq]; show 0 + 1 * (y 0).val = (y 0).val; omega
theorem oR_emb (y : S320.Idx) : (oR L k).view.emb y = (ix2 (rowK L k) (y 0) : S320x320.Idx) := cR_emb L k y
theorem gR_emb (y : S320x128.Idx) : (gR L k).view.emb y = (ix3 (rowK L k) (y 0) (y 1) : S320x320x128.Idx) := by
  show (Rect.unit (s := S320x320x128) (k1_off3 L k) S1x320x128.size (k1_off3_inb L k)).emb (Shape.reshapeEquiv _ y) = _
  rw [sq320x128]
  funext a
  match a with
  | 0 => apply Fin.ext; show k1_off3 L k 0 + 1 * 0 = 20 * (L 1).val + 10 * (L 0).val + k.val; rw [k1_off3_eq]; rfl
  | 1 => apply Fin.ext; show k1_off3 L k 1 + 1 * (y 0).val = (y 0).val; rw [k1_off3_eq]; show 0 + 1 * (y 0).val = (y 0).val; omega
  | 2 => apply Fin.ext; show k1_off3 L k 2 + 1 * (y 1).val = (y 1).val; rw [k1_off3_eq]; show 0 + 1 * (y 1).val = (y 1).val; omega

theorem grpRow_apply (hR : RowOK B) (fk : Buf (Elt F) ((thr1 d L).loc cc1_scratch0)) (j : Fin 16) (l : Fin 128) :
    grpRow B d L k hR fk (ix2 j l) = B d main_v12 (ix2 (rowAt 24999 (B d main_v14 (ix2 (rowK L k) j))) l) := by
  unfold grpRow SparseCore.gatherPayload
  rw [nAll_read]
  congr 1
  funext a
  match a with
  | 0 =>
    apply Fin.ext
    refine (congrArg Fin.val (Shape.Gathers.idx_axis gathers_S25000x128_S16x128 _ (ix2 j l))).trans ?_
    show ((s0).view.read (Elt F) (View.write (Elt F) (s0).view fk ((kR L k).view.read (Elt F) (B d main_v14)) Finset.univ) _).toNat = (rowAt 24999 _).val
    rw [rowAt_val (hR d _), View.read_write_univ, kR_read, kR_emb]
    congr 3
    have e2 : ((S16.rowMajor.symm (((ix2 j l : S16x128.Idx) 0).cast (rfl : S16x128.size 0 = S16.numel))) 0).val = j.val := by
      rw [← Shape.rowMajor_val_one, Equiv.apply_symm_apply]; rfl
    exact Fin.ext e2
  | 1 =>
    apply Fin.ext
    exact Shape.Gathers.idx_of_ne gathers_S25000x128_S16x128 _ (ix2 j l) 1 (by decide)

theorem nb_row (hR : RowOK B) (fk : Buf (Elt F) ((thr1 d L).loc cc1_scratch0)) (y : S320.Idx) :
    pick ((cR L k).view.read (Elt F) (B d main_v26)) (grpRow B d L k hR fk) (y 0) = nbOut B d ((oR L k).view.emb y) := by
  rw [oR_emb]
  have hc : (cR L k).view.read (Elt F) (B d main_v26) (ix1 (y 0)) = B d main_v26 (ix2 (rowK L k) (y 0)) :=
    (cR_read d L k _ _).trans (congrArg _ (cR_emb L k _))
  unfold pick nbOut nbVal
  dsimp only
  rw [hc]
  simp only [grpRow_apply]
  rfl

theorem nbOut_lt (hN : NbOK B) (p : S320x320.Idx) : (show BitVec 32 from nbOut B d p).toNat < 100000 := by
  unfold nbOut nbVal
  dsimp only
  split_ifs <;> exact hN d _

theorem out_nb (fl : Buf (Elt F) ((thr1 d L).loc cc1_scratch3)) (h : ∀ y, (s3).view.read (Elt F) fl y = nbOut B d ((oR L k).view.emb y))
    (f : Buf (Elt F) (bLoc d main_v27_0)) (out : S320.Idx → Elt F .i32) (hout : out = (s3).view.read (Elt F) fl) :
    ∀ i ∈ (oR L k).view.set, (oR L k).view.writes (Elt F) f [⟨Rect.whole S320, out⟩] i = nbOut B d i := by
  intro i hi
  obtain ⟨x, -, rfl⟩ := Finset.mem_map.mp hi
  refine (View.read_writes_cons_hit_of_coords (oR L k).view f (Rect.whole S320) out [] x x (fun a => ?_)).trans ?_
  · show (x a).val = 0 + 1 * (x a).val
    omega
  rw [hout, h]

theorem out_xg (fl : Buf (Elt F) ((thr1 d L).loc cc1_scratch3)) (h : ∀ y, (s3).view.read (Elt F) fl y = nbOut B d ((oR L k).view.emb y)) (hN : NbOK B)
    (fx : Buf (Elt F) ((thr1 d L).loc cc1_scratch4))
    (hin : ∀ x, ((s3).view.read (Elt F) fl x).toNat < S100000x128.size gathers_S100000x128_S320x128.axis)
    (f : Buf (Elt F) (bLoc d main_v27_1)) (out : S320x128.Idx → Elt F .f32)
    (hout : out = (s4).view.read (Elt F) ((s4).view.write (Elt F) fx (SparseCore.gatherPayload gathers_S100000x128_S320x128
      ((xAll).view.read (Elt F) (B d main_arg2)) (SparseCore.rows ((s3).view.read (Elt F) fl) rfl hin)) Finset.univ)) :
    ∀ i ∈ (gR L k).view.set, (gR L k).view.writes (Elt F) f [⟨Rect.whole S320x128, out⟩] i = xgOut B d i := by
  intro i hi
  obtain ⟨x, -, rfl⟩ := Finset.mem_map.mp hi
  refine (View.read_writes_cons_hit_of_coords (gR L k).view f (Rect.whole S320x128) out [] x x (fun a => ?_)).trans ?_
  · show (x a).val = 0 + 1 * (x a).val
    omega
  subst hout
  rw [View.read_write_univ]
  unfold SparseCore.gatherPayload xgOut xgVal
  rw [xAll_read, gR_emb]
  congr 1
  funext a
  match a with
  | 0 =>
    apply Fin.ext
    refine (congrArg Fin.val (Shape.Gathers.idx_axis gathers_S100000x128_S320x128 _ x)).trans ?_
    show ((s3).view.read (Elt F) fl _).toNat = (rowAt 99999 _).val
    rw [rowAt_val (nbOut_lt B d hN _), h, oR_emb]
    congr 3
    have e2 : ((S320.rowMajor.symm ((x 0).cast (rfl : S320x128.size 0 = S320.numel))) 0).val = (x 0).val := by
      rw [← Shape.rowMajor_val_one, Equiv.apply_symm_apply]; rfl
    exact Fin.ext e2
  | 1 =>
    apply Fin.ext
    exact Shape.Gathers.idx_of_ne gathers_S100000x128_S320x128 _ x 1 (by decide)

/-- What a trip works on: the two tables' shares, its rows of the lists and of the results, the scratches, the semaphores. -/
def tripIn (O : CellTallies nD τ sig (HIx 2)) (W : Waits sig (HIx 2)) (q : PosShare TreeShare)
    (fk : Buf (Elt F) ((thr1 d L).loc cc1_scratch0)) (fc : Buf (Elt F) ((thr1 d L).loc cc1_scratch1))
    (fw : Buf (Elt F) ((thr1 d L).loc cc1_scratch2)) (fl : Buf (Elt F) ((thr1 d L).loc cc1_scratch3))
    (fx : Buf (Elt F) ((thr1 d L).loc cc1_scratch4)) : sProp 𝕄 :=
  iprop(□ Transfers.MayWaits (thr1 d L) (default : HIx 2) O
      ∗ ((nW).view.loc (thr1 d L) ↦{q} B d main_v12) ∗ ((xW).view.loc (thr1 d L) ↦{q} B d main_arg2)
      ∗ ((kR L k).view.loc (thr1 d L) ↦[(kR L k).view.set]{fullShare} B d main_v14)
      ∗ ((cR L k).view.loc (thr1 d L) ↦[(cR L k).view.set]{fullShare} B d main_v26)
      ∗ ((oR L k).view.loc (thr1 d L) ↦[(oR L k).view.set]{fullShare} B d main_v27_0)
      ∗ ((gR L k).view.loc (thr1 d L) ↦[(gR L k).view.set]{fullShare} B d main_v27_1)
      ∗ ((s0).view.loc (thr1 d L) ↦{fullShare} fk) ∗ ((s1).view.loc (thr1 d L) ↦{fullShare} fc)
      ∗ ((s2).view.loc (thr1 d L) ↦{fullShare} fw) ∗ ((s3).view.loc (thr1 d L) ↦{fullShare} fl)
      ∗ ((s4).view.loc (thr1 d L) ↦{fullShare} fx)
      ∗ semVal (thr1 d L, .dma cc1_scratch5.sem) 0 ∗ semVal (thr1 d L, .dma cc1_scratch6.sem) 0
      ∗ semVal (thr1 d L, .dma cc1_scoped0.sem) 0 ∗ semVal (thr1 d L, .dma cc1_scoped1.sem) 0
      ∗ semVal (thr1 d L, .dma cc1_scoped2.sem) 0 ∗ semVal (thr1 d L, .dma cc1_scoped3.sem) 0
      ∗ owes (thr1 d L) O W)

/-- The same after it: the rows of the results written. -/
def tripOut (O : CellTallies nD τ sig (HIx 2)) (W : Waits sig (HIx 2)) (q : PosShare TreeShare) : sProp 𝕄 :=
  iprop(
          ((nW).view.loc (thr1 d L) ↦{q} B d main_v12) ∗ ((xW).view.loc (thr1 d L) ↦{q} B d main_arg2)
          ∗ ((kR L k).view.loc (thr1 d L) ↦[(kR L k).view.set]{fullShare} B d main_v14)
          ∗ ((cR L k).view.loc (thr1 d L) ↦[(cR L k).view.set]{fullShare} B d main_v26)
          ∗ ((oR L k).view.loc (thr1 d L) ↦[(oR L k).view.set]{fullShare} nbOut B d)
          ∗ ((gR L k).view.loc (thr1 d L) ↦[(gR L k).view.set]{fullShare} xgOut B d)
          ∗ (∃ f, (s0).view.loc (thr1 d L) ↦{fullShare} f) ∗ (∃ f, (s1).view.loc (thr1 d L) ↦{fullShare} f)
          ∗ (∃ f, (s2).view.loc (thr1 d L) ↦{fullShare} f) ∗ (∃ f, (s3).view.loc (thr1 d L) ↦{fullShare} f)
          ∗ (∃ f, (s4).view.loc (thr1 d L) ↦{fullShare} f)
          ∗ semVal (thr1 d L, .dma cc1_scratch5.sem) 0 ∗ semVal (thr1 d L, .dma cc1_scratch6.sem) 0
          ∗ semVal (thr1 d L, .dma cc1_scoped0.sem) 0 ∗ semVal (thr1 d L, .dma cc1_scoped1.sem) 0
          ∗ semVal (thr1 d L, .dma cc1_scoped2.sem) 0 ∗ semVal (thr1 d L, .dma cc1_scoped3.sem) 0
          ∗ ∃ W', ⌜∀ p ∈ W', p ∈ W ∨ p.2 = none⌝ ∗ owes (thr1 d L) O W')

set_option maxHeartbeats 2000000 in
theorem trip (hR : RowOK B) (hN : NbOK B) (O : CellTallies nD τ sig (HIx 2)) (W : Waits sig (HIx 2)) (q : PosShare TreeShare)
    (fk : Buf (Elt F) ((thr1 d L).loc cc1_scratch0)) (fc : Buf (Elt F) ((thr1 d L).loc cc1_scratch1))
    (fw : Buf (Elt F) ((thr1 d L).loc cc1_scratch2)) (fl : Buf (Elt F) ((thr1 d L).loc cc1_scratch3))
    (fx : Buf (Elt F) ((thr1 d L).loc cc1_scratch4)) (v2 : BitVec 32) :
    tripIn B d L k O W q fk fc fw fl fx
    ⊢ wp frame (wpE (defs₀ (F := F)) 𝒱₀ (thr1 d L) none) Set.univ (tripProg (F := F) L k v2) fun _ => tripOut B d L k O W q := by
  unfold tripProg k1_t1_body
  simp only [k1_part16_eq_skeleton]; unfold k1_part16_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [k1_part8_eq_skeleton]; unfold k1_part8_skel
  simp only [k1_part9_eq_skeleton]; unfold k1_part9_skel
  simp only [k1_part10_eq_skeleton]; unfold k1_part10_skel
  simp only [k1_part11_eq_skeleton]; unfold k1_part11_skel
  simp only [k1_part12_eq_skeleton]; unfold k1_part12_skel
  simp only [k1_part13_eq_skeleton]; unfold k1_part13_skel
  simp only [k1_part14_eq_skeleton]; unfold k1_part14_skel
  simp only [k1_part15_eq_skeleton]; unfold k1_part15_skel
  simp only [Prog.lift, Prog.bind_op, Prog.bind_ret, Prog.pure_eq_ret, Prog.bind_assoc]
  unfold tripIn tripOut
  iintro ⟨#Hmw, Hn, Hx, Hk, Hc, Ho, Hg, H0, H1, H2, H3, H4, Ha, Hb, Hs0, Hs1, Hs2, Hs3, HO⟩
  sl_exec
  ihave Hns := (pointsTo_split_subset (q := q) (f := B d main_v12) (S := Finset.univ) (Finset.subset_univ (nAll).view.set)).1 $$ Hn
  icases Hns with ⟨Hns, Hnr⟩
  have hk : (s0).view.set = Finset.univ := View.set_whole _
  have hw : (s2).view.set = Finset.univ := View.set_whole _
  ihave H2' := (Entails.of_eq (show ((s2).view.loc (thr1 d L) ↦{fullShare} fw : sProp 𝕄)
      = (s2).view.loc (thr1 d L) ↦[(s2).view.set]{fullShare} fw by rw [hw])) $$ H2
  ihave H0' := (Entails.of_eq (show ((s0).view.loc (thr1 d L) ↦{fullShare} _ : sProp 𝕄)
      = (s0).view.loc (thr1 d L) ↦[(s0).view.set]{fullShare} _ by rw [hk])) $$ H0
  have hcr : ∀ h : S25000x128.Gathers 0 S16x128, ∑ j, ((s2).slice (S16x128.rowRect h.axis' j) (S16x128.stride_rowRect h.axis' j)).view.dmaCredit
      = (s2).view.dmaCredit := by decide
  iapply (SparseCore.wp_indirectGatherLocal countersEmb 𝒱₀ (thr1 d L) none (hg := gathers_S25000x128_S16x128) (default : HIx 2)
      (s2).view.dmaCredit (hcr _) (by decide) (inbK B d L k hR fk _ rfl)) $$ [Hns H2' H0' Ha]
  · isplitl [Hns]; · iexact Hns
    isplitl [H2']; · iexact H2'
    isplitl [H0']; · iexact H0'
    iexact Ha
  iintro Hfl
  sl_exec
  iapply (Transfers.wp_waitLocalO countersEmb 𝒱₀ (thr1 d L) none (default : HIx 2) (rfl : (s2).view.dmaCredit = _)) $$ [Hfl HO]
  · isplitl [Hfl]; · iexact Hfl
    isplitl [HO]; · iexact HO
    iapply (Transfers.MayWaits.elim (SemLoc.dma cc1_scratch5.sem)) $$ Hmw
  iintro ⟨⟨H2', Hns, H0'⟩, Ha, HO⟩
  ihave Hn := (pointsTo_split_subset (q := q) (f := B d main_v12) (S := Finset.univ) (Finset.subset_univ (nAll).view.set)).2 $$ [Hns Hnr]; · isplitl [Hns] <;> iassumption
  ihave H2 := (Entails.of_eq (show ((s2).view.loc (thr1 d L) ↦[(s2).view.set]{fullShare} _ : sProp 𝕄)
      = (s2).view.loc (thr1 d L) ↦{fullShare} _ by rw [hw])) $$ H2'
  ihave H0 := (Entails.of_eq (show ((s0).view.loc (thr1 d L) ↦[(s0).view.set]{fullShare} _ : sProp 𝕄)
      = (s0).view.loc (thr1 d L) ↦{fullShare} _ by rw [hk])) $$ H0'
  sl_exec
  have hG : ∀ p ∈ trip.sl.H3_20 B d L k hR fk fc fw, ∀ x, p.2 x = pick ((cR L k).view.read (Elt F) (B d main_v26)) (grpRow B d L k hR fk) (p.1.emb x 0) := by
    unfold trip.sl.H3_20
    simp only [List.forall_mem_cons]
    refine ⟨fun x => pick_chunk _ _ 304 9 16 rfl (by decide) (by decide) (trip.sl.x_95 B d L k fc) (trip.sl.x_96 B d L k hR fk fw) (trip.sl.x_97 B d L k hR fk fw) (trip.sl.x_98 B d L k hR fk fw) (trip.sl.x_99 B d L k hR fk fw)
        (fun x => ld1 d L fc _ 304 _ x _) (fun x => ld2 d L fw _ 9 16 _ x _ _) (fun x => ld2 d L fw _ 9 48 _ x _ _) (fun x => ld2 d L fw _ 9 80 _ x _ _) (fun x => ld2 d L fw _ 9 112 _ x _ _) _ x,
      fun x => pick_chunk _ _ 288 9 0 rfl (by decide) (by decide) (trip.sl.x_90 B d L k fc) (trip.sl.x_91 B d L k hR fk fw) (trip.sl.x_92 B d L k hR fk fw) (trip.sl.x_93 B d L k hR fk fw) (trip.sl.x_94 B d L k hR fk fw)
        (fun x => ld1 d L fc _ 288 _ x _) (fun x => ld2 d L fw _ 9 0 _ x _ _) (fun x => ld2 d L fw _ 9 32 _ x _ _) (fun x => ld2 d L fw _ 9 64 _ x _ _) (fun x => ld2 d L fw _ 9 96 _ x _ _) _ x,
      fun x => pick_chunk _ _ 272 8 16 rfl (by decide) (by decide) (trip.sl.x_85 B d L k fc) (trip.sl.x_86 B d L k hR fk fw) (trip.sl.x_87 B d L k hR fk fw) (trip.sl.x_88 B d L k hR fk fw) (trip.sl.x_89 B d L k hR fk fw)
        (fun x => ld1 d L fc _ 272 _ x _) (fun x => ld2 d L fw _ 8 16 _ x _ _) (fun x => ld2 d L fw _ 8 48 _ x _ _) (fun x => ld2 d L fw _ 8 80 _ x _ _) (fun x => ld2 d L fw _ 8 112 _ x _ _) _ x,
      fun x => pick_chunk _ _ 256 8 0 rfl (by decide) (by decide) (trip.sl.x_80 B d L k fc) (trip.sl.x_81 B d L k hR fk fw) (trip.sl.x_82 B d L k hR fk fw) (trip.sl.x_83 B d L k hR fk fw) (trip.sl.x_84 B d L k hR fk fw)
        (fun x => ld1 d L fc _ 256 _ x _) (fun x => ld2 d L fw _ 8 0 _ x _ _) (fun x => ld2 d L fw _ 8 32 _ x _ _) (fun x => ld2 d L fw _ 8 64 _ x _ _) (fun x => ld2 d L fw _ 8 96 _ x _ _) _ x,
      fun x => pick_chunk _ _ 240 7 16 rfl (by decide) (by decide) (trip.sl.x_75 B d L k fc) (trip.sl.x_76 B d L k hR fk fw) (trip.sl.x_77 B d L k hR fk fw) (trip.sl.x_78 B d L k hR fk fw) (trip.sl.x_79 B d L k hR fk fw)
        (fun x => ld1 d L fc _ 240 _ x _) (fun x => ld2 d L fw _ 7 16 _ x _ _) (fun x => ld2 d L fw _ 7 48 _ x _ _) (fun x => ld2 d L fw _ 7 80 _ x _ _) (fun x => ld2 d L fw _ 7 112 _ x _ _) _ x,
      fun x => pick_chunk _ _ 224 7 0 rfl (by decide) (by decide) (trip.sl.x_70 B d L k fc) (trip.sl.x_71 B d L k hR fk fw) (trip.sl.x_72 B d L k hR fk fw) (trip.sl.x_73 B d L k hR fk fw) (trip.sl.x_74 B d L k hR fk fw)
        (fun x => ld1 d L fc _ 224 _ x _) (fun x => ld2 d L fw _ 7 0 _ x _ _) (fun x => ld2 d L fw _ 7 32 _ x _ _) (fun x => ld2 d L fw _ 7 64 _ x _ _) (fun x => ld2 d L fw _ 7 96 _ x _ _) _ x,
      fun x => pick_chunk _ _ 208 6 16 rfl (by decide) (by decide) (trip.sl.x_65 B d L k fc) (trip.sl.x_66 B d L k hR fk fw) (trip.sl.x_67 B d L k hR fk fw) (trip.sl.x_68 B d L k hR fk fw) (trip.sl.x_69 B d L k hR fk fw)
        (fun x => ld1 d L fc _ 208 _ x _) (fun x => ld2 d L fw _ 6 16 _ x _ _) (fun x => ld2 d L fw _ 6 48 _ x _ _) (fun x => ld2 d L fw _ 6 80 _ x _ _) (fun x => ld2 d L fw _ 6 112 _ x _ _) _ x,
      fun x => pick_chunk _ _ 192 6 0 rfl (by decide) (by decide) (trip.sl.x_60 B d L k fc) (trip.sl.x_61 B d L k hR fk fw) (trip.sl.x_62 B d L k hR fk fw) (trip.sl.x_63 B d L k hR fk fw) (trip.sl.x_64 B d L k hR fk fw)
        (fun x => ld1 d L fc _ 192 _ x _) (fun x => ld2 d L fw _ 6 0 _ x _ _) (fun x => ld2 d L fw _ 6 32 _ x _ _) (fun x => ld2 d L fw _ 6 64 _ x _ _) (fun x => ld2 d L fw _ 6 96 _ x _ _) _ x,
      fun x => pick_chunk _ _ 176 5 16 rfl (by decide) (by decide) (trip.sl.x_55 B d L k fc) (trip.sl.x_56 B d L k hR fk fw) (trip.sl.x_57 B d L k hR fk fw) (trip.sl.x_58 B d L k hR fk fw) (trip.sl.x_59 B d L k hR fk fw)
        (fun x => ld1 d L fc _ 176 _ x _) (fun x => ld2 d L fw _ 5 16 _ x _ _) (fun x => ld2 d L fw _ 5 48 _ x _ _) (fun x => ld2 d L fw _ 5 80 _ x _ _) (fun x => ld2 d L fw _ 5 112 _ x _ _) _ x,
      fun x => pick_chunk _ _ 160 5 0 rfl (by decide) (by decide) (trip.sl.x_50 B d L k fc) (trip.sl.x_51 B d L k hR fk fw) (trip.sl.x_52 B d L k hR fk fw) (trip.sl.x_53 B d L k hR fk fw) (trip.sl.x_54 B d L k hR fk fw)
        (fun x => ld1 d L fc _ 160 _ x _) (fun x => ld2 d L fw _ 5 0 _ x _ _) (fun x => ld2 d L fw _ 5 32 _ x _ _) (fun x => ld2 d L fw _ 5 64 _ x _ _) (fun x => ld2 d L fw _ 5 96 _ x _ _) _ x,
      fun x => pick_chunk _ _ 144 4 16 rfl (by decide) (by decide) (trip.sl.x_45 B d L k fc) (trip.sl.x_46 B d L k hR fk fw) (trip.sl.x_47 B d L k hR fk fw) (trip.sl.x_48 B d L k hR fk fw) (trip.sl.x_49 B d L k hR fk fw)
        (fun x => ld1 d L fc _ 144 _ x _) (fun x => ld2 d L fw _ 4 16 _ x _ _) (fun x => ld2 d L fw _ 4 48 _ x _ _) (fun x => ld2 d L fw _ 4 80 _ x _ _) (fun x => ld2 d L fw _ 4 112 _ x _ _) _ x,
      fun x => pick_chunk _ _ 128 4 0 rfl (by decide) (by decide) (trip.sl.x_40 B d L k fc) (trip.sl.x_41 B d L k hR fk fw) (trip.sl.x_42 B d L k hR fk fw) (trip.sl.x_43 B d L k hR fk fw) (trip.sl.x_44 B d L k hR fk fw)
        (fun x => ld1 d L fc _ 128 _ x _) (fun x => ld2 d L fw _ 4 0 _ x _ _) (fun x => ld2 d L fw _ 4 32 _ x _ _) (fun x => ld2 d L fw _ 4 64 _ x _ _) (fun x => ld2 d L fw _ 4 96 _ x _ _) _ x,
      fun x => pick_chunk _ _ 112 3 16 rfl (by decide) (by decide) (trip.sl.x_35 B d L k fc) (trip.sl.x_36 B d L k hR fk fw) (trip.sl.x_37 B d L k hR fk fw) (trip.sl.x_38 B d L k hR fk fw) (trip.sl.x_39 B d L k hR fk fw)
        (fun x => ld1 d L fc _ 112 _ x _) (fun x => ld2 d L fw _ 3 16 _ x _ _) (fun x => ld2 d L fw _ 3 48 _ x _ _) (fun x => ld2 d L fw _ 3 80 _ x _ _) (fun x => ld2 d L fw _ 3 112 _ x _ _) _ x,
      fun x => pick_chunk _ _ 96 3 0 rfl (by decide) (by decide) (trip.sl.x_30 B d L k fc) (trip.sl.x_31 B d L k hR fk fw) (trip.sl.x_32 B d L k hR fk fw) (trip.sl.x_33 B d L k hR fk fw) (trip.sl.x_34 B d L k hR fk fw)
        (fun x => ld1 d L fc _ 96 _ x _) (fun x => ld2 d L fw _ 3 0 _ x _ _) (fun x => ld2 d L fw _ 3 32 _ x _ _) (fun x => ld2 d L fw _ 3 64 _ x _ _) (fun x => ld2 d L fw _ 3 96 _ x _ _) _ x,
      fun x => pick_chunk _ _ 80 2 16 rfl (by decide) (by decide) (trip.sl.x_25 B d L k fc) (trip.sl.x_26 B d L k hR fk fw) (trip.sl.x_27 B d L k hR fk fw) (trip.sl.x_28 B d L k hR fk fw) (trip.sl.x_29 B d L k hR fk fw)
        (fun x => ld1 d L fc _ 80 _ x _) (fun x => ld2 d L fw _ 2 16 _ x _ _) (fun x => ld2 d L fw _ 2 48 _ x _ _) (fun x => ld2 d L fw _ 2 80 _ x _ _) (fun x => ld2 d L fw _ 2 112 _ x _ _) _ x,
      fun x => pick_chunk _ _ 64 2 0 rfl (by decide) (by decide) (trip.sl.x_20 B d L k fc) (trip.sl.x_21 B d L k hR fk fw) (trip.sl.x_22 B d L k hR fk fw) (trip.sl.x_23 B d L k hR fk fw) (trip.sl.x_24 B d L k hR fk fw)
        (fun x => ld1 d L fc _ 64 _ x _) (fun x => ld2 d L fw _ 2 0 _ x _ _) (fun x => ld2 d L fw _ 2 32 _ x _ _) (fun x => ld2 d L fw _ 2 64 _ x _ _) (fun x => ld2 d L fw _ 2 96 _ x _ _) _ x,
      fun x => pick_chunk _ _ 48 1 16 rfl (by decide) (by decide) (trip.sl.x_15 B d L k fc) (trip.sl.x_16 B d L k hR fk fw) (trip.sl.x_17 B d L k hR fk fw) (trip.sl.x_18 B d L k hR fk fw) (trip.sl.x_19 B d L k hR fk fw)
        (fun x => ld1 d L fc _ 48 _ x _) (fun x => ld2 d L fw _ 1 16 _ x _ _) (fun x => ld2 d L fw _ 1 48 _ x _ _) (fun x => ld2 d L fw _ 1 80 _ x _ _) (fun x => ld2 d L fw _ 1 112 _ x _ _) _ x,
      fun x => pick_chunk _ _ 32 1 0 rfl (by decide) (by decide) (trip.sl.x_10 B d L k fc) (trip.sl.x_11 B d L k hR fk fw) (trip.sl.x_12 B d L k hR fk fw) (trip.sl.x_13 B d L k hR fk fw) (trip.sl.x_14 B d L k hR fk fw)
        (fun x => ld1 d L fc _ 32 _ x _) (fun x => ld2 d L fw _ 1 0 _ x _ _) (fun x => ld2 d L fw _ 1 32 _ x _ _) (fun x => ld2 d L fw _ 1 64 _ x _ _) (fun x => ld2 d L fw _ 1 96 _ x _ _) _ x,
      fun x => pick_chunk _ _ 16 0 16 rfl (by decide) (by decide) (trip.sl.x_5 B d L k fc) (trip.sl.x_6 B d L k hR fk fw) (trip.sl.x_7 B d L k hR fk fw) (trip.sl.x_8 B d L k hR fk fw) (trip.sl.x_9 B d L k hR fk fw)
        (fun x => ld1 d L fc _ 16 _ x _) (fun x => ld2 d L fw _ 0 16 _ x _ _) (fun x => ld2 d L fw _ 0 48 _ x _ _) (fun x => ld2 d L fw _ 0 80 _ x _ _) (fun x => ld2 d L fw _ 0 112 _ x _ _) _ x,
      fun x => pick_chunk _ _ 0 0 0 rfl (by decide) (by decide) (trip.sl.x B d L k fc) (trip.sl.x_1 B d L k hR fk fw) (trip.sl.x_2 B d L k hR fk fw) (trip.sl.x_3 B d L k hR fk fw) (trip.sl.x_4 B d L k hR fk fw)
        (fun x => ld1 d L fc _ 0 _ x _) (fun x => ld2 d L fw _ 0 0 _ x _ _) (fun x => ld2 d L fw _ 0 32 _ x _ _) (fun x => ld2 d L fw _ 0 64 _ x _ _) (fun x => ld2 d L fw _ 0 96 _ x _ _) _ x, fun p hp => absurd hp List.not_mem_nil⟩
  have hread : ∀ y, (s3).view.read (Elt F) ((s3).view.writes (Elt F) (s3).view.junk (trip.sl.H3_20 B d L k hR fk fc fw)) y = nbOut B d ((oR L k).view.emb y) := fun y =>
    (View.read_writes_apply_of_pieces (s3).view _ (fun y => pick ((cR L k).view.read (Elt F) (B d main_v26)) (grpRow B d L k hR fk) (y 0)) _ hG y
      (View.cover_of_tiled _ ![16] (by rfl) y)).trans (nb_row B d L k hR fk y)
  revert hread
  generalize (s3).view.writes (Elt F) (s3).view.junk (trip.sl.H3_20 B d L k hR fk fc fw) = fl3
  intro hread
  have hin : ∀ x, ((s3).view.read (Elt F) fl3 x).toNat < S100000x128.size gathers_S100000x128_S320x128.axis := fun x => by
    rw [hread]; exact nbOut_lt B d hN _
  ihave Hxs := (pointsTo_split_subset (q := q) (f := B d main_arg2) (S := Finset.univ) (Finset.subset_univ (xAll).view.set)).1 $$ Hx
  icases Hxs with ⟨Hxs, Hxr⟩
  have hl : (s3).view.set = Finset.univ := View.set_whole _
  have hx : (s4).view.set = Finset.univ := View.set_whole _
  ihave H4' := (Entails.of_eq (show ((s4).view.loc (thr1 d L) ↦{fullShare} fx : sProp 𝕄)
      = (s4).view.loc (thr1 d L) ↦[(s4).view.set]{fullShare} fx by rw [hx])) $$ H4
  ihave H3' := (Entails.of_eq (show ((s3).view.loc (thr1 d L) ↦{fullShare} fl3 : sProp 𝕄)
      = (s3).view.loc (thr1 d L) ↦[(s3).view.set]{fullShare} fl3 by rw [hl])) $$ H3
  have hcx : ∀ h : S100000x128.Gathers 0 S320x128, ∑ j, ((s4).slice (S320x128.rowRect h.axis' j) (S320x128.stride_rowRect h.axis' j)).view.dmaCredit
      = (s4).view.dmaCredit := by decide
  iapply (SparseCore.wp_indirectGatherLocal countersEmb 𝒱₀ (thr1 d L) none (hg := gathers_S100000x128_S320x128) (default : HIx 2)
      (s4).view.dmaCredit (hcx _) (by decide) hin) $$ [Hxs H4' H3' Hb]
  · isplitl [Hxs]; · iexact Hxs
    isplitl [H4']; · iexact H4'
    isplitl [H3']; · iexact H3'
    iexact Hb
  iintro Hfl
  sl_exec
  iapply (Transfers.wp_waitLocalO countersEmb 𝒱₀ (thr1 d L) none (default : HIx 2) (rfl : (s4).view.dmaCredit = _)) $$ [Hfl HO]
  · isplitl [Hfl]; · iexact Hfl
    isplitl [HO]; · iexact HO
    iapply (Transfers.MayWaits.elim (SemLoc.dma cc1_scratch6.sem)) $$ Hmw
  iintro ⟨⟨H4', Hxs, H3'⟩, Hb, HO⟩
  ihave Hx := (pointsTo_split_subset (q := q) (f := B d main_arg2) (S := Finset.univ) (Finset.subset_univ (xAll).view.set)).2 $$ [Hxs Hxr]; · isplitl [Hxs] <;> iassumption
  ihave H4 := (Entails.of_eq (show ((s4).view.loc (thr1 d L) ↦[(s4).view.set]{fullShare} _ : sProp 𝕄)
      = (s4).view.loc (thr1 d L) ↦{fullShare} _ by rw [hx])) $$ H4'
  ihave H3 := (Entails.of_eq (show ((s3).view.loc (thr1 d L) ↦[(s3).view.set]{fullShare} _ : sProp 𝕄)
      = (s3).view.loc (thr1 d L) ↦{fullShare} _ by rw [hl])) $$ H3'
  sl_exec
  sl_step
  isplitl [Hn]; · iexact Hn
  isplitl [Hx]; · iexact Hx
  isplitl [Hk]; · iexact Hk
  isplitl [Hc]; · iexact Hc
  isplitl [Ho]
  · iapply (Entails.of_eq (pointsTo_congr (out_nb B d L k fl3 hread (B d main_v27_0) (trip.sl.dma0_2 fl3) rfl))) $$ Ho
  isplitl [Hg]
  · iapply (Entails.of_eq (pointsTo_congr (out_xg B d L k fl3 hread hN fx hin (B d main_v27_1) (trip.sl.dma0_3 B d L fx fl3 hin) rfl))) $$ Hg
  isplitl [H0]; · iexists _; iexact H0
  isplitl [H1]; · iexists _; iexact H1
  isplitl [H2]; · iexists _; iexact H2
  isplitl [H3]; · iexists _; iexact H3
  isplitl [H4]; · iexists _; iexact H4
  isplitl [Ha]; · iexact Ha
  isplitl [Hb]; · iexact Hb
  isplitl [Hs0]; · iexact Hs0
  isplitl [Hs1]; · iexact Hs1
  isplitl [Hs2]; · iexact Hs2
  isplitl [Hs3]; · iexact Hs3
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Sense

end
-- ==== Proof.Loop1.lean ====
/-
  The second SparseCore call, whole: a tile's ten trips, each writing one row of the two results, leave its ten rows of
  both; the tile's launch from its own part of the arrays.
-/
module

public import proofs.«01_k».proof.Proof.Tile1

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "kW" => (Memref.whole Cert.KernelIdeal.main_v14_scv : Memref Cert.KernelIdeal.sig Kind.scVector Space.hbm Cert.KernelIdeal.S320x16 EltTy.i32)
local notation "cW" => (Memref.whole Cert.KernelIdeal.main_v26_scv : Memref Cert.KernelIdeal.sig Kind.scVector Space.hbm Cert.KernelIdeal.S320x320 EltTy.i32)
local notation "nW" => (Memref.whole Cert.KernelIdeal.main_v12_scv : Memref Cert.KernelIdeal.sig Kind.scVector Space.hbm Cert.KernelIdeal.S25000x128 EltTy.i32)
local notation "xW" => (Memref.whole Cert.KernelIdeal.main_arg2_scv : Memref Cert.KernelIdeal.sig Kind.scVector Space.hbm Cert.KernelIdeal.S100000x128 EltTy.f32)
local notation "oW" => (Memref.whole Cert.KernelIdeal.main_v27_0_scv : Memref Cert.KernelIdeal.sig Kind.scVector Space.hbm Cert.KernelIdeal.S320x320 EltTy.i32)
local notation "gW" => (Memref.whole Cert.KernelIdeal.main_v27_1_scv : Memref Cert.KernelIdeal.sig Kind.scVector Space.hbm Cert.KernelIdeal.S320x320x128 EltTy.f32)
local notation "s0" => (Memref.whole Cert.KernelIdeal.cc1_scratch0 : Memref Cert.KernelIdeal.sig Kind.scVector Space.vmem Cert.KernelIdeal.S16 EltTy.i32)
local notation "s1" => (Memref.whole Cert.KernelIdeal.cc1_scratch1 : Memref Cert.KernelIdeal.sig Kind.scVector Space.vmem Cert.KernelIdeal.S320 EltTy.i32)
local notation "s2" => (Memref.whole Cert.KernelIdeal.cc1_scratch2 : Memref Cert.KernelIdeal.sig Kind.scVector Space.vmem Cert.KernelIdeal.S16x128 EltTy.i32)
local notation "s3" => (Memref.whole Cert.KernelIdeal.cc1_scratch3 : Memref Cert.KernelIdeal.sig Kind.scVector Space.vmem Cert.KernelIdeal.S320 EltTy.i32)
local notation "s4" => (Memref.whole Cert.KernelIdeal.cc1_scratch4 : Memref Cert.KernelIdeal.sig Kind.scVector Space.vmem Cert.KernelIdeal.S320x128 EltTy.f32)

variable (A B : Conts F)

section Tile

variable (d : Dev nD) (L : grid1.Coords)

/-! ## The rows -/

theorem base_eq : 10 * (w1 L).val = 20 * (L 1).val + 10 * (L 0).val := by
  show 10 * ((L 1).val * 2 + (L 0).val) = _
  omega

theorem mem_oR (k : Fin k1_t1_loop.trips) (i : S320x320.Idx) : i ∈ (oR L k).view.set ↔ (i 0).val = 10 * (w1 L).val + k.val := by
  rw [base_eq]
  constructor
  · intro h
    obtain ⟨y, -, rfl⟩ := Finset.mem_map.mp h
    exact congrArg (fun p : S320x320.Idx => (p 0).val) (oR_emb L k y)
  · intro h
    refine Finset.mem_map.mpr ⟨ix1 (i 1), Finset.mem_univ _, (oR_emb L k _).trans ?_⟩
    funext a
    match a with
    | 0 => exact Fin.ext h.symm
    | 1 => rfl

theorem mem_kR (k : Fin k1_t1_loop.trips) (i : S320x16.Idx) : i ∈ (kR L k).view.set ↔ (i 0).val = 10 * (w1 L).val + k.val := by
  rw [base_eq]
  constructor
  · intro h
    obtain ⟨y, -, rfl⟩ := Finset.mem_map.mp h
    exact congrArg (fun p : S320x16.Idx => (p 0).val) (kR_emb L k y)
  · intro h
    refine Finset.mem_map.mpr ⟨ix1 (i 1), Finset.mem_univ _, (kR_emb L k _).trans ?_⟩
    funext a
    match a with
    | 0 => exact Fin.ext h.symm
    | 1 => rfl

theorem mem_gR (k : Fin k1_t1_loop.trips) (i : S320x320x128.Idx) : i ∈ (gR L k).view.set ↔ (i 0).val = 10 * (w1 L).val + k.val := by
  rw [base_eq]
  constructor
  · intro h
    obtain ⟨y, -, rfl⟩ := Finset.mem_map.mp h
    exact congrArg (fun p : S320x320x128.Idx => (p 0).val) (gR_emb L k y)
  · intro h
    refine Finset.mem_map.mpr ⟨ix2 (i 1) (i 2), Finset.mem_univ _, (gR_emb L k _).trans ?_⟩
    funext a
    match a with
    | 0 => exact Fin.ext h.symm
    | 1 => rfl
    | 2 => rfl

theorem mem_nbSet (w : Fin 32) (i : S320x320.Idx) : i ∈ nbSet w ↔ 10 * w.val ≤ (i 0).val ∧ (i 0).val < 10 * w.val + 10 := by
  unfold nbSet Rect.part Rect.block
  rw [Rect.mem_set_unit]
  constructor
  · intro h
    have h0 := h 0
    simp [Shape.partIx, Shape.partSize] at h0
    omega
  · intro h a
    match a with
    | 0 => simp [Shape.partIx, Shape.partSize]; omega
    | 1 => simp [Shape.partIx, Shape.partSize]; exact (i 1).isLt

theorem mem_krSet (w : Fin 32) (i : S320x16.Idx) : i ∈ krSet w ↔ 10 * w.val ≤ (i 0).val ∧ (i 0).val < 10 * w.val + 10 := by
  unfold krSet Rect.part Rect.block
  rw [Rect.mem_set_unit]
  constructor
  · intro h
    have h0 := h 0
    simp [Shape.partIx, Shape.partSize] at h0
    omega
  · intro h a
    match a with
    | 0 => simp [Shape.partIx, Shape.partSize]; omega
    | 1 => simp [Shape.partIx, Shape.partSize]; exact (i 1).isLt

theorem mem_xgSet (w : Fin 32) (i : S320x320x128.Idx) : i ∈ xgSet w ↔ 10 * w.val ≤ (i 0).val ∧ (i 0).val < 10 * w.val + 10 := by
  unfold xgSet Rect.part Rect.block
  rw [Rect.mem_set_unit]
  constructor
  · intro h
    have h0 := h 0
    simp [Shape.partIx, Shape.partSize] at h0
    omega
  · intro h a
    match a with
    | 0 => simp [Shape.partIx, Shape.partSize]; omega
    | 1 => simp [Shape.partIx, Shape.partSize]; exact (i 1).isLt
    | 2 => simp [Shape.partIx, Shape.partSize]; exact (i 2).isLt

/-! ## A row out of a block and back -/

/-- A block parts into a row of it, at contents equal there, and the others. -/
theorem row_out {ℓ : Loc nD τ sig} {I S : Finset (Idx ℓ)} (hI : I ⊆ S) (f g : Buf (Elt F) ℓ) (h : ∀ i ∈ I, f i = g i) :
    (ℓ ↦[S]{fullShare} f : sProp 𝕄) ⊢ iprop((ℓ ↦[I]{fullShare} g) ∗ ℓ ↦[S \ I]{fullShare} f) := by
  refine (pointsTo_split_subset hI).1.trans ?_
  rw [pointsTo_congr h]

/-- and the row, at new contents, goes back. -/
theorem row_in {ℓ : Loc nD τ sig} {I S : Finset (Idx ℓ)} (hI : I ⊆ S) (f g f' : Buf (Elt F) ℓ) (h : ∀ i ∈ I, g i = f' i)
    (h' : ∀ i ∈ S \ I, f i = f' i) :
    (iprop((ℓ ↦[I]{fullShare} g) ∗ ℓ ↦[S \ I]{fullShare} f) : sProp 𝕄) ⊢ ℓ ↦[S]{fullShare} f' := by
  rw [pointsTo_congr h, pointsTo_congr h']
  exact (pointsTo_split_subset hI).2

/-! ## The loop -/

/-- After `t` trips: the tile's first `t` rows of the neighbour lists, and the others as they were. -/
def mixO (t : ℕ) : Buf (Elt F) (bLoc d main_v27_0) :=
  fun p : S320x320.Idx => if (p 0).val < 10 * (w1 L).val + t then nbOut B d p else B d main_v27_0 p
/-- The same of the gathered rows. -/
def mixG (t : ℕ) : Buf (Elt F) (bLoc d main_v27_1) :=
  fun p : S320x320x128.Idx => if (p 0).val < 10 * (w1 L).val + t then xgOut B d p else B d main_v27_1 p

/-- Before trip `t`. -/
def inv1 (O : CellTallies nD τ sig (HIx 2)) (W : Waits sig (HIx 2)) (t : ℕ) (_ : PUnit) : sProp 𝕄 :=
  iprop(□ Transfers.MayWaits (thr1 d L) (default : HIx 2) O
      ∗ ((nW).view.loc (thr1 d L) ↦{sh (w1 L)} B d main_v12) ∗ ((xW).view.loc (thr1 d L) ↦{sh (w1 L)} B d main_arg2)
      ∗ (bLoc d main_v14 ↦[krSet (w1 L)]{fullShare} B d main_v14)
      ∗ (bLoc d main_v26 ↦[nbSet (w1 L)]{fullShare} B d main_v26)
      ∗ (bLoc d main_v27_0 ↦[nbSet (w1 L)]{fullShare} mixO B d L t)
      ∗ (bLoc d main_v27_1 ↦[xgSet (w1 L)]{fullShare} mixG B d L t)
      ∗ (∃ f, (s0).view.loc (thr1 d L) ↦{fullShare} f) ∗ (∃ f, (s1).view.loc (thr1 d L) ↦{fullShare} f)
      ∗ (∃ f, (s2).view.loc (thr1 d L) ↦{fullShare} f) ∗ (∃ f, (s3).view.loc (thr1 d L) ↦{fullShare} f)
      ∗ (∃ f, (s4).view.loc (thr1 d L) ↦{fullShare} f)
      ∗ semVal (thr1 d L, .dma cc1_scratch5.sem) 0 ∗ semVal (thr1 d L, .dma cc1_scratch6.sem) 0
      ∗ semVal (thr1 d L, .dma cc1_scoped0.sem) 0 ∗ semVal (thr1 d L, .dma cc1_scoped1.sem) 0
      ∗ semVal (thr1 d L, .dma cc1_scoped2.sem) 0 ∗ semVal (thr1 d L, .dma cc1_scoped3.sem) 0
      ∗ ∃ W', ⌜∀ p ∈ W', p ∈ W ∨ p.2 = none⌝ ∗ owes (thr1 d L) O W')

variable [FloatOps F] [Named F]

theorem sub_kR (k : Fin k1_t1_loop.trips) : (kR L k).view.set ⊆ krSet (w1 L) := fun i h => by
  have := (mem_kR L k i).mp h
  have hk : k.val < 10 := k.isLt
  exact (mem_krSet _ i).mpr ⟨by omega, by omega⟩
theorem sub_oR (k : Fin k1_t1_loop.trips) : (oR L k).view.set ⊆ nbSet (w1 L) := fun i h => by
  have := (mem_oR L k i).mp h
  have hk : k.val < 10 := k.isLt
  exact (mem_nbSet _ i).mpr ⟨by omega, by omega⟩
theorem sub_gR (k : Fin k1_t1_loop.trips) : (gR L k).view.set ⊆ xgSet (w1 L) := fun i h => by
  have := (mem_gR L k i).mp h
  have hk : k.val < 10 := k.isLt
  exact (mem_xgSet _ i).mpr ⟨by omega, by omega⟩

set_option maxHeartbeats 1000000 in
/-- One trip keeps the loop's state. -/
theorem trip_inv (hR : RowOK B) (hN : NbOK B) (O : CellTallies nD τ sig (HIx 2)) (W : Waits sig (HIx 2)) (k : Fin k1_t1_loop.trips) (v2 : BitVec 32) :
    inv1 B d L O W k.val ⟨⟩
      ⊢ wp frame (wpE (defs₀ (F := F)) 𝒱₀ (thr1 d L) none) Set.univ (tripProg (F := F) L k v2) fun _ => inv1 B d L O W (k.val + 1) ⟨⟩ := by
  unfold inv1
  iintro ⟨#Hmw, Hn, Hx, Hk, Hc, Ho, Hg, ⟨%f0, H0⟩, ⟨%f1, H1⟩, ⟨%f2, H2⟩, ⟨%f3, H3⟩, ⟨%f4, H4⟩, Ha, Hb, Hs0, Hs1, Hs2, Hs3, %W', %hW', HO⟩
  ihave Hk' := (row_out (F := F) (sub_kR L k) (B d main_v14) (B d main_v14) fun _ _ => rfl) $$ Hk
  ihave Hc' := (row_out (F := F) (sub_oR L k) (B d main_v26) (B d main_v26) fun _ _ => rfl) $$ Hc
  ihave Ho' := (row_out (F := F) (sub_oR L k) (mixO B d L k.val) (B d main_v27_0) fun i hi =>
    if_neg (by have := (mem_oR L k i).mp hi; omega)) $$ Ho
  ihave Hg' := (row_out (F := F) (sub_gR L k) (mixG B d L k.val) (B d main_v27_1) fun i hi =>
    if_neg (by have := (mem_gR L k i).mp hi; omega)) $$ Hg
  icases Hk' with ⟨Hk, Hkr⟩
  icases Hc' with ⟨Hc, Hcr⟩
  icases Ho' with ⟨Ho, Hor⟩
  icases Hg' with ⟨Hg, Hgr⟩
  iapply (wp_wand_r frame (wpE (defs₀ (F := F)) 𝒱₀ (thr1 d L) none) Set.univ)
  isplitl [Hn Hx Hk Hc Ho Hg H0 H1 H2 H3 H4 Ha Hb Hs0 Hs1 Hs2 Hs3 HO]
  · iapply (trip B d L k hR hN O W' (sh (w1 L)) f0 f1 f2 f3 f4 v2)
    unfold tripIn
    isplitl []; · iexact Hmw
    isplitl [Hn]; · iexact Hn
    isplitl [Hx]; · iexact Hx
    isplitl [Hk]; · iexact Hk
    isplitl [Hc]; · iexact Hc
    isplitl [Ho]; · iexact Ho
    isplitl [Hg]; · iexact Hg
    isplitl [H0]; · iexact H0
    isplitl [H1]; · iexact H1
    isplitl [H2]; · iexact H2
    isplitl [H3]; · iexact H3
    isplitl [H4]; · iexact H4
    isplitl [Ha]; · iexact Ha
    isplitl [Hb]; · iexact Hb
    isplitl [Hs0]; · iexact Hs0
    isplitl [Hs1]; · iexact Hs1
    isplitl [Hs2]; · iexact Hs2
    isplitl [Hs3]; · iexact Hs3
    iexact HO
  iintro %_ HT
  unfold tripOut
  icases HT with ⟨Hn, Hx, Hk, Hc, Ho, Hg, H0, H1, H2, H3, H4, Ha, Hb, Hs0, Hs1, Hs2, Hs3, %W'', %hW'', HO⟩
  ihave Hk' := (row_in (F := F) (sub_kR L k) (B d main_v14) (B d main_v14) (B d main_v14) (fun _ _ => rfl) (fun _ _ => rfl)) $$ [Hk Hkr]
  · isplitl [Hk]; · iexact Hk
    iexact Hkr
  ihave Hc' := (row_in (F := F) (sub_oR L k) (B d main_v26) (B d main_v26) (B d main_v26) (fun _ _ => rfl) (fun _ _ => rfl)) $$ [Hc Hcr]
  · isplitl [Hc]; · iexact Hc
    iexact Hcr
  ihave Ho' := (row_in (F := F) (sub_oR L k) (mixO B d L k.val) (nbOut B d) (mixO B d L (k.val + 1))
    (fun i hi => (if_pos (by have := (mem_oR L k i).mp hi; omega)).symm)
    (fun i hi => by
      have hne : (i 0).val ≠ 10 * (w1 L).val + k.val := fun e => (Finset.mem_sdiff.mp hi).2 ((mem_oR L k i).mpr e)
      unfold mixO
      exact if_congr (by omega) rfl rfl)) $$ [Ho Hor]
  · isplitl [Ho]; · iexact Ho
    iexact Hor
  ihave Hg' := (row_in (F := F) (sub_gR L k) (mixG B d L k.val) (xgOut B d) (mixG B d L (k.val + 1))
    (fun i hi => (if_pos (by have := (mem_gR L k i).mp hi; omega)).symm)
    (fun i hi => by
      have hne : (i 0).val ≠ 10 * (w1 L).val + k.val := fun e => (Finset.mem_sdiff.mp hi).2 ((mem_gR L k i).mpr e)
      unfold mixG
      exact if_congr (by omega) rfl rfl)) $$ [Hg Hgr]
  · isplitl [Hg]; · iexact Hg
    iexact Hgr
  isplitl []; · iexact Hmw
  isplitl [Hn]; · iexact Hn
  isplitl [Hx]; · iexact Hx
  isplitl [Hk']; · iexact Hk'
  isplitl [Hc']; · iexact Hc'
  isplitl [Ho']; · iexact Ho'
  isplitl [Hg']; · iexact Hg'
  isplitl [H0]; · iexact H0
  isplitl [H1]; · iexact H1
  isplitl [H2]; · iexact H2
  isplitl [H3]; · iexact H3
  isplitl [H4]; · iexact H4
  isplitl [Ha]; · iexact Ha
  isplitl [Hb]; · iexact Hb
  isplitl [Hs0]; · iexact Hs0
  isplitl [Hs1]; · iexact Hs1
  isplitl [Hs2]; · iexact Hs2
  isplitl [Hs3]; · iexact Hs3
  iexists W''; isplitr
  · ipureintro; intro p hp
    rcases hW'' p hp with h | h
    · exact hW' p h
    · exact .inr h
  · iexact HO

/-! ## The tile's own cells and buffers -/

abbrev cells1 (d : Dev nD) (L : grid1.Coords) : Finset (GSem nD τ sig) :=
  {(thr1 d L, .dma cc1_scratch5.sem), (thr1 d L, .dma cc1_scratch6.sem), (thr1 d L, .dma cc1_scoped0.sem),
    (thr1 d L, .dma cc1_scoped1.sem), (thr1 d L, .dma cc1_scoped2.sem), (thr1 d L, .dma cc1_scoped3.sem)}

theorem cells1_sub : cells1 d L ⊆ ownCells (thr1 d L) := by
  intro g hg
  simp only [cells1, Finset.mem_insert, Finset.mem_singleton] at hg
  rcases hg with rfl | rfl | rfl | rfl | rfl | rfl
  · exact mem_ownCells.mpr ⟨rfl, show (SemLoc.dma cc1_scratch5.sem : SemLoc sig).isScoped .scVector = true by decide⟩
  · exact mem_ownCells.mpr ⟨rfl, show (SemLoc.dma cc1_scratch6.sem : SemLoc sig).isScoped .scVector = true by decide⟩
  · exact mem_ownCells.mpr ⟨rfl, show (SemLoc.dma cc1_scoped0.sem : SemLoc sig).isScoped .scVector = true by decide⟩
  · exact mem_ownCells.mpr ⟨rfl, show (SemLoc.dma cc1_scoped1.sem : SemLoc sig).isScoped .scVector = true by decide⟩
  · exact mem_ownCells.mpr ⟨rfl, show (SemLoc.dma cc1_scoped2.sem : SemLoc sig).isScoped .scVector = true by decide⟩
  · exact mem_ownCells.mpr ⟨rfl, show (SemLoc.dma cc1_scoped3.sem : SemLoc sig).isScoped .scVector = true by decide⟩

/-- Cells of one thread at the members of a list of places without repetition. -/
theorem cell_notMem {thr : Thread nD τ} {x : SemLoc sig} {S : Finset (SemLoc sig)} (h : x ∉ S) :
    ((thr, x) : GSem nD τ sig) ∉ S.image (fun y => ((thr, y) : GSem nD τ sig)) := fun hm => by
  obtain ⟨y, hy, e⟩ := Finset.mem_image.mp hm
  exact h ((Prod.mk.inj e).2 ▸ hy)

theorem cells1_eq : (bigSep (cells1 d L) fun g => semVal g 0 : sProp 𝕄)
    = iprop(semVal (thr1 d L, .dma cc1_scratch5.sem) 0 ∗ semVal (thr1 d L, .dma cc1_scratch6.sem) 0 ∗ semVal (thr1 d L, .dma cc1_scoped0.sem) 0
      ∗ semVal (thr1 d L, .dma cc1_scoped1.sem) 0 ∗ semVal (thr1 d L, .dma cc1_scoped2.sem) 0 ∗ semVal (thr1 d L, .dma cc1_scoped3.sem) 0) := by
  have n1 : (SemLoc.dma cc1_scratch5.sem : SemLoc sig) ∉ ({.dma cc1_scratch6.sem, .dma cc1_scoped0.sem, .dma cc1_scoped1.sem, .dma cc1_scoped2.sem, .dma cc1_scoped3.sem} : Finset (SemLoc sig)) := by decide
  have n2 : (SemLoc.dma cc1_scratch6.sem : SemLoc sig) ∉ ({.dma cc1_scoped0.sem, .dma cc1_scoped1.sem, .dma cc1_scoped2.sem, .dma cc1_scoped3.sem} : Finset (SemLoc sig)) := by decide
  have n3 : (SemLoc.dma cc1_scoped0.sem : SemLoc sig) ∉ ({.dma cc1_scoped1.sem, .dma cc1_scoped2.sem, .dma cc1_scoped3.sem} : Finset (SemLoc sig)) := by decide
  have n4 : (SemLoc.dma cc1_scoped1.sem : SemLoc sig) ∉ ({.dma cc1_scoped2.sem, .dma cc1_scoped3.sem} : Finset (SemLoc sig)) := by decide
  have n5 : (SemLoc.dma cc1_scoped2.sem : SemLoc sig) ∉ ({.dma cc1_scoped3.sem} : Finset (SemLoc sig)) := by decide
  rw [SparseCore.bigSep_insert' (by simpa only [Finset.image_insert, Finset.image_singleton] using cell_notMem (thr := thr1 d L) n1),
    SparseCore.bigSep_insert' (by simpa only [Finset.image_insert, Finset.image_singleton] using cell_notMem (thr := thr1 d L) n2),
    SparseCore.bigSep_insert' (by simpa only [Finset.image_insert, Finset.image_singleton] using cell_notMem (thr := thr1 d L) n3),
    SparseCore.bigSep_insert' (by simpa only [Finset.image_insert, Finset.image_singleton] using cell_notMem (thr := thr1 d L) n4),
    SparseCore.bigSep_insert' (by simpa only [Finset.image_insert, Finset.image_singleton] using cell_notMem (thr := thr1 d L) n5), bigSep_singleton]

abbrev bufs1 (L : grid1.Coords) : Finset (DevRef τ sig) :=
  {(Proc.scVector (cV1 L) (jV1 L)).devRef cc1_scratch0, (Proc.scVector (cV1 L) (jV1 L)).devRef cc1_scratch1,
    (Proc.scVector (cV1 L) (jV1 L)).devRef cc1_scratch2, (Proc.scVector (cV1 L) (jV1 L)).devRef cc1_scratch3,
    (Proc.scVector (cV1 L) (jV1 L)).devRef cc1_scratch4}

theorem bufs1_sub : bufs1 L ⊆ ownRefs (τ := τ) (thr1 d L).2 := by
  intro b hb
  simp only [bufs1, Finset.mem_insert, Finset.mem_singleton] at hb
  rcases hb with rfl | rfl | rfl | rfl | rfl <;> exact SparseCore.Cfg.mem_ownRefs_of_owner (p := Proc.scVector (cV1 L) (jV1 L)) rfl

theorem buf_notMem {p : Proc τ} {x : Ref sig p.kind} {S : Finset (Ref sig p.kind)} (h : x ∉ S) : p.devRef x ∉ S.image p.devRef := fun hm => by
  obtain ⟨y, hy, e⟩ := Finset.mem_image.mp hm
  exact h (Proc.devRef_injective _ e ▸ hy)

theorem bufs1_eq : (bigSep (bufs1 L) fun b => iprop(∃ f, (((thr1 d L).1, b) : Loc nD τ sig) ↦{fullShare} f) : sProp 𝕄)
    = iprop((∃ f, (thr1 d L).loc cc1_scratch0 ↦{fullShare} f) ∗ (∃ f, (thr1 d L).loc cc1_scratch1 ↦{fullShare} f)
      ∗ (∃ f, (thr1 d L).loc cc1_scratch2 ↦{fullShare} f) ∗ (∃ f, (thr1 d L).loc cc1_scratch3 ↦{fullShare} f)
      ∗ ∃ f, (thr1 d L).loc cc1_scratch4 ↦{fullShare} f) := by
  have n1 : (cc1_scratch0 : Ref sig .scVector) ∉ ({cc1_scratch1, cc1_scratch2, cc1_scratch3, cc1_scratch4} : Finset (Ref sig .scVector)) := by decide
  have n2 : (cc1_scratch1 : Ref sig .scVector) ∉ ({cc1_scratch2, cc1_scratch3, cc1_scratch4} : Finset (Ref sig .scVector)) := by decide
  have n3 : (cc1_scratch2 : Ref sig .scVector) ∉ ({cc1_scratch3, cc1_scratch4} : Finset (Ref sig .scVector)) := by decide
  have n4 : (cc1_scratch3 : Ref sig .scVector) ∉ ({cc1_scratch4} : Finset (Ref sig .scVector)) := by decide
  rw [SparseCore.bigSep_insert' (by simpa only [Finset.image_insert, Finset.image_singleton] using buf_notMem (p := Proc.scVector (cV1 L) (jV1 L)) n1),
    SparseCore.bigSep_insert' (by simpa only [Finset.image_insert, Finset.image_singleton] using buf_notMem (p := Proc.scVector (cV1 L) (jV1 L)) n2),
    SparseCore.bigSep_insert' (by simpa only [Finset.image_insert, Finset.image_singleton] using buf_notMem (p := Proc.scVector (cV1 L) (jV1 L)) n3),
    SparseCore.bigSep_insert' (by simpa only [Finset.image_insert, Finset.image_singleton] using buf_notMem (p := Proc.scVector (cV1 L) (jV1 L)) n4),
    bigSep_singleton]

set_option maxHeartbeats 1000000 in
/-- The task. -/
theorem tile_body1 (hF : (K (F := F)).Facts) (hR : RowOK B) (hN : NbOK B) (O : CellTallies nD τ sig (HIx 2)) (W : Waits sig (HIx 2)) (hO : ∀ g, O g none = 0) :
    iprop(levAts (K (F := F)).L (K (F := F)).lev ∗ emp ∗ go1 B d (w1 L) ∗ scopedBufs (thr1 d L) ∗ scopedSems0 (thr1 d L) ∗ owes (thr1 d L) O W)
      ⊢ wp frame (wpE (defs₀ (F := F)) 𝒱₀ (thr1 d L) none) Set.univ
          (cc1_k L kW (Memref.isWhole_whole _) cW (Memref.isWhole_whole _) nW (Memref.isWhole_whole _) xW (Memref.isWhole_whole _)
            oW (Memref.isWhole_whole _) gW (Memref.isWhole_whole _) s0 (Memref.isWhole_whole _) s1 (Memref.isWhole_whole _)
            s2 (Memref.isWhole_whole _) s3 (Memref.isWhole_whole _) s4 (Memref.isWhole_whole _) cc1_scratch5 cc1_scratch6
            cc1_scoped0 cc1_scoped1 cc1_scoped2 cc1_scoped3)
          fun _ => iprop(td1 B d (w1 L) ∗ scopedBufs (thr1 d L) ∗ scopedSems0 (thr1 d L)
            ∗ ∃ W', ⌜∀ p ∈ W', p ∈ W ∨ p.2 = none⌝ ∗ owes (thr1 d L) O W') := by
  simp only [cc1_k_eq_skeleton]; unfold cc1_k_skel
  rw [(K (F := F)).scopedBufs_V hF d (cV1 L) (jV1 L), SparseCore.Cfg.scopedSems0_V (Val := Elt F) d (cV1 L) (jV1 L),
    ownSems0_part _ _ (cells1_sub d L), ownBufs_part _ _ (bufs1_sub d L), cells1_eq, bufs1_eq]
  iintro ⟨#Hlv, -, ⟨Hn, Hx, Hk, Hc, Ho, Hg⟩, ⟨⟨H0, H1, H2, H3, H4⟩, Hbufs⟩, ⟨⟨Ha, Hb, Hs0, Hs1, Hs2, Hs3⟩, Hsems⟩, HO⟩
  ihave #Hmw := (show levAts (K (F := F)).L (K (F := F)).lev ⊢ Transfers.MayWaits (thr1 d L) (default : HIx 2) O from
    (K (F := F)).mayWaits_none (thr := thr1 d L) hO) $$ Hlv
  dsimp only
  sl_for (inv1 B d L O W) $$ [Hn Hx Hk Hc Ho Hg H0 H1 H2 H3 H4 Ha Hb Hs0 Hs1 Hs2 Hs3 HO]
  case region =>
    intro k _
    exact trip_inv B d L hR hN O W k _
  · unfold inv1
    isplitl []; · iexact Hmw
    isplitl [Hn]; · iexact Hn
    isplitl [Hx]; · iexact Hx
    isplitl [Hk]; · iexact Hk
    isplitl [Hc]; · iexact Hc
    isplitl [Ho]
    · iapply (Entails.of_eq (pointsTo_congr (f := B d main_v27_0) (g := mixO B d L 0) fun i hi => (if_neg (by
        have := (mem_nbSet _ i).mp hi; omega)).symm)) $$ Ho
    isplitl [Hg]
    · iapply (Entails.of_eq (pointsTo_congr (f := B d main_v27_1) (g := mixG B d L 0) fun i hi => (if_neg (by
        have := (mem_xgSet _ i).mp hi; omega)).symm)) $$ Hg
    isplitl [H0]; · iexact H0
    isplitl [H1]; · iexact H1
    isplitl [H2]; · iexact H2
    isplitl [H3]; · iexact H3
    isplitl [H4]; · iexact H4
    isplitl [Ha]; · iexact Ha
    isplitl [Hb]; · iexact Hb
    isplitl [Hs0]; · iexact Hs0
    isplitl [Hs1]; · iexact Hs1
    isplitl [Hs2]; · iexact Hs2
    isplitl [Hs3]; · iexact Hs3
    iexists W; isplitr
    · ipureintro; exact fun p hp => .inl hp
    · iexact HO
  iintro %_ HI
  unfold inv1
  icases HI with ⟨-, Hn, Hx, Hk, Hc, Ho, Hg, H0, H1, H2, H3, H4, Ha, Hb, Hs0, Hs1, Hs2, Hs3, HW⟩
  sl_exec
  sl_step
  have ht : k1_t1_loop.trips = 10 := by decide
  isplitl [Hn Hx Hk Hc Ho Hg]
  · isplitl [Hn]; · iexact Hn
    isplitl [Hx]; · iexact Hx
    isplitl [Hk]; · iexact Hk
    isplitl [Hc]; · iexact Hc
    isplitl [Ho]
    · iapply (Entails.of_eq (pointsTo_congr (f := mixO B d L k1_t1_loop.trips) (g := nbOut B d) fun i hi => (if_pos (by
        have := (mem_nbSet _ i).mp hi; omega)))) $$ Ho
    · iapply (Entails.of_eq (pointsTo_congr (f := mixG B d L k1_t1_loop.trips) (g := xgOut B d) fun i hi => (if_pos (by
        have := (mem_xgSet _ i).mp hi; omega)))) $$ Hg
  isplitl [H0 H1 H2 H3 H4 Hbufs]
  · isplitr [Hbufs]
    · isplitl [H0]; · iexact H0
      isplitl [H1]; · iexact H1
      isplitl [H2]; · iexact H2
      isplitl [H3]; · iexact H3
      iexact H4
    · iexact Hbufs
  isplitl [Ha Hb Hs0 Hs1 Hs2 Hs3 Hsems]
  · isplitr [Hsems]
    · isplitl [Ha]; · iexact Ha
      isplitl [Hb]; · iexact Hb
      isplitl [Hs0]; · iexact Hs0
      isplitl [Hs1]; · iexact Hs1
      isplitl [Hs2]; · iexact Hs2
      iexact Hs3
    · iexact Hsems
  iexact HW

end Tile

end Cert.Proof.Sense

end
-- ==== Proof.Calls.lean ====
/-
  The two SparseCore calls as the launch theorem asks for them: each tile's launched body from the call's part of the
  arrays.
-/
module

public import proofs.«01_k».proof.Proof.Loop1

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (A B : Conts F)

/-- The grid coordinates of the launched body, for either call: the core's and the subcore's. -/
def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))

/-- What a body leaves is what the call's obligation asks back, of waits recorded outside any call. -/
theorem obl_weaken {X Y Z : sProp 𝕄} {thr : Thread nD τ} {O : CellTallies nD τ sig (HIx 2)} {W : Waits sig (HIx 2)} (q : Fin 2) :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨Hx, Hy, Hz, %W', %h, HO⟩
  isplitl [Hx]; · iexact Hx
  isplitl [Hy]; · iexact Hy
  isplitl [Hz]; · iexact Hz
  iexists W'; isplitr
  · ipureintro; exact fun p hp => (h p hp).imp_right Or.inl
  · iexact HO

variable [FloatOps F] [Named F]

theorem body0_eq (c : Fin τ.nSC) (s : Fin τ.nSub) :
    (defs₀ (F := F)) (.scVector c s) 0 () = SparseCore.onTile hcore0 hsub0 (fun c s => cc0_k (coords0 c s)
      (Memref.whole main_arg1_scv) (Memref.isWhole_whole _) (Memref.whole main_v3_scv) (Memref.isWhole_whole _) (Memref.whole main_v4_scv) (Memref.isWhole_whole _)
      (Memref.whole cc0_scratch0) (Memref.isWhole_whole _) (Memref.whole cc0_scratch1) (Memref.isWhole_whole _) cc0_scratch2 cc0_scoped0 cc0_scoped1) ⟨⟩ c s := rfl

theorem body1_eq (c : Fin τ.nSC) (s : Fin τ.nSub) :
    (defs₀ (F := F)) (.scVector c s) 1 () = SparseCore.onTile hcore1 hsub1 (fun c s => cc1_k (coords1 c s)
      (Memref.whole main_v14_scv) (Memref.isWhole_whole _) (Memref.whole main_v26_scv) (Memref.isWhole_whole _) (Memref.whole main_v12_scv) (Memref.isWhole_whole _)
      (Memref.whole main_arg2_scv) (Memref.isWhole_whole _) (Memref.whole main_v27_0_scv) (Memref.isWhole_whole _) (Memref.whole main_v27_1_scv) (Memref.isWhole_whole _)
      (Memref.whole cc1_scratch0) (Memref.isWhole_whole _) (Memref.whole cc1_scratch1) (Memref.isWhole_whole _) (Memref.whole cc1_scratch2) (Memref.isWhole_whole _)
      (Memref.whole cc1_scratch3) (Memref.isWhole_whole _) (Memref.whole cc1_scratch4) (Memref.isWhole_whole _) cc1_scratch5 cc1_scratch6
      cc1_scoped0 cc1_scoped1 cc1_scoped2 cc1_scoped3) ⟨⟩ c s := rfl

theorem tileObl0 (hF : (K (F := F)).Facts) (hA : TokOK A) : (K (F := F)).TileObl (D (F := F)) 𝒱 (P A B) v₀ 0 := by
  intro d c i O W hO _ _
  simp only [show (P A B).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [body0_eq]; simp only [SparseCore.onTile, hc, and_self, ↓reduceDIte]
  exact (tile_body0 A d (coords0 ⟨_, hc.1⟩ ⟨_, hc.2⟩) hF hA O W hO).trans (wp_mono frame _ _ fun _ => obl_weaken 0)

theorem tileObl1 (hF : (K (F := F)).Facts) (hR : RowOK B) (hN : NbOK B) : (K (F := F)).TileObl (D (F := F)) 𝒱 (P A B) v₀ 1 := by
  intro d c i O W hO _ _
  simp only [show (P A B).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [body1_eq]; simp only [SparseCore.onTile, hc, and_self, ↓reduceDIte]
  exact (tile_body1 B d (coords1 ⟨_, hc.1⟩ ⟨_, hc.2⟩) hF hR hN O W hO).trans (wp_mono frame _ _ fun _ => obl_weaken 1)

end Cert.Proof.Sense

end
-- ==== Proof.Bodies.lean ====
/-
  The two TensorCore calls: what one run of each body leaves in the result's block, from the operands' blocks.
-/
module

public import proofs.«01_k».proof.Proof.Setup
public import Idealize.ShloMosaic.Lib.Pipeline.FrameBody
public import Idealize.ShloMosaic.Lib.Pipeline.RegionArrays
public import Idealize.ShloMosaic.Lib.Pipeline.Value
public import Idealize.ShloMosaic.Lib.Writes

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.TcCoe

variable [FloatOps F] [Named F]

omit [FloatOps F] [Named F] in
/-- A store of a whole block leaves what was stored. -/
theorem read_store_zero [∀ e, Nonempty (Elt F e)] {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, by
    subst h
    show y ∈ (Rect.whole S).set
    rw [Rect.set_whole]; exact Finset.mem_univ y⟩), View.canon_unit_zero h]

omit [FloatOps F] [Named F] in
/-- A load of a whole block reads it. -/
theorem read_load_zero {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb (v.read (Elt F) f)

/-- The second pipeline's body, on any whole buffers: the operands' blocks are kept, the result's block takes the
    nearest neighbours of the block's rows. -/
theorem cos_run (c : Dev nD) (i : grid2.Coords) (M1 : Memref sig .tc .vmem S8x1x128 .f32) (h1 : M1.IsWhole)
    (M2 : Memref sig .tc .vmem S8x320x128 .f32) (h2 : M2.IsWhole) (M3 : Memref sig .tc .vmem S8x1x320 .i32) (h3 : M3.IsWhole)
    (M4 : Memref sig .tc .vmem S8x128 .i32) (h4 : M4.IsWhole)
    (X1 : Vec F S8x1x128 .f32) (X2 : Vec F S8x320x128 .f32) (X3 : Vec F S8x1x320 .i32) (X4 : Vec F S8x128 .i32) (E : Set ℕ)
    (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4
        ∗ (iprop(owns (c : Thread nD τ) M1 fullShare X1 ∗ owns (c : Thread nD τ) M2 fullShare X2 ∗ owns (c : Thread nD τ) M3 fullShare X3
            ∗ owns (c : Thread nD τ) M4 fullShare (k2_pay1 X2 X1 X3)) -∗ Q ⟨⟩))
      ⊢ wp frame (wpE (defs₀ (F := F)) 𝒱₀ (c : Thread nD τ) none) E (cc2__cos_kernel i M1 h1 M2 h2 M3 h3 M4 h4) Q := by
  rw [cc2__cos_kernel_eq_skeleton]
  unfold cc2__cos_kernel_skel
  rw [k2_part1_eq_skeleton]
  unfold k2_part1_skel
  unfold owns
  rw [h1.set_eq_univ, h2.set_eq_univ, h3.set_eq_univ, h4.set_eq_univ]
  iintro ⟨⟨%f1, %e1, H1⟩, ⟨%f2, %e2, H2⟩, ⟨%f3, %e3, H3⟩, ⟨%f4, -, H4⟩, Hk⟩
  subst e1 e2 e3
  sl_exec
  sl_step
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  iexists _; isplitr; swap; (· iexact H4)
  ipureintro
  refine (read_store_zero _ _ (by funext a; fin_cases a <;> rfl) _ _).trans ?_
  rw [read_load_zero M2.view f2 (by funext a; fin_cases a <;> rfl), read_load_zero M1.view f1 (by funext a; fin_cases a <;> rfl),
    read_load_zero M3.view f3 (by funext a; fin_cases a <;> rfl)]

/-- The third pipeline's body, on any whole buffers: the column of chosen numbers is kept, the result's block is filled. -/
theorem fill_run (c : Dev nD) (i : grid3.Coords) (M1 : Memref sig .tc .vmem S320x1 .i32) (h1 : M1.IsWhole)
    (M2 : Memref sig .tc .vmem S320x2048 .f32) (h2 : M2.IsWhole)
    (X1 : Vec F S320x1 .i32) (X2 : Vec F S320x2048 .f32) (E : Set ℕ) (Q : PUnit → sProp 𝕄) :
    iprop(owns (c : Thread nD τ) M1 fullShare X1 ∗ owns (c : Thread nD τ) M2 fullShare X2
        ∗ (iprop(owns (c : Thread nD τ) M1 fullShare X1 ∗ owns (c : Thread nD τ) M2 fullShare (k3_pay1 i X1)) -∗ Q ⟨⟩))
      ⊢ wp frame (wpE (defs₀ (F := F)) 𝒱₀ (c : Thread nD τ) none) E (cc3__fill_kernel i M1 h1 M2 h2) Q := by
  rw [cc3__fill_kernel_eq_skeleton]
  unfold cc3__fill_kernel_skel
  unfold owns
  rw [h1.set_eq_univ, h2.set_eq_univ]
  iintro ⟨⟨%f1, %e1, H1⟩, ⟨%f2, -, H2⟩, Hk⟩
  subst e1
  sl_exec
  sl_step
  iapply Hk
  isplitl [H1]; · iexists f1; isplitr; (· ipureintro; rfl); iexact H1
  iexists _; isplitr; swap; (· iexact H2)
  ipureintro
  refine (read_store_zero _ _ (by funext a; fin_cases a <;> rfl) _ _).trans ?_
  rw [read_load_zero M1.view f1 (by funext a; fin_cases a <;> rfl)]

end Cert.Proof.Sense

end
-- ==== Proof.Regions.lean ====
/-
  The two TensorCore calls as the pipeline library reads them: what each window's block holds at each point of the grid,
  the bodies' obligations, and the arrays each call leaves.
-/
module

public import proofs.«01_k».proof.Proof.Bodies

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.TcCoe
open Idealize.ShloMosaic.Pipeline (Dat Cfg Window BodyObligation)

variable [FloatOps F] [Named F]

/-! ## The data of the two calls -/

/-- The waits the core has recorded when a TensorCore call is entered: none above the level the SparseCore calls end at. -/
abbrev recd (c : Dev nD) : Set (SemLoc sig × HIx 2) :=
  {p | (K (F := F)).lev ((SparseCore.T c : Thread nD τ), p.1) p.2 ≤ 8 * SparseCore.Cfg.Blocks.fst (Q := 2) (N := 2) 2}

variable (Va : (c : Dev nD) → Valuation τ sig (Elt F))

/-- A window's array of the second and the third pipeline, at the contents the call is entered with. -/
abbrev arr2 (c : Dev nD) (w : Fin 4) : Buf (Elt F) (((cfg2.win w).arr.view.loc (c : Thread nD τ))) :=
  Va c (Proc.devRef .tc (Pipeline.arrRef spec2 w))
abbrev arr3 (c : Dev nD) (w : Fin 2) : Buf (Elt F) (((cfg3.win w).arr.view.loc (c : Thread nD τ))) :=
  Va c (Proc.devRef .tc (Pipeline.arrRef spec3 w))

/-- Its block at a point. -/
abbrev blk2 (c : Dev nD) (w : Fin 4) (t : Fin cfg2.N) : ((cfg2.win w).xblock (cfg2.grid.coords t)).Idx → Elt F (cfg2.win w).elt :=
  ((cfg2.win w).blk t).view.read (Elt F) (arr2 Va c w)
abbrev blk3 (c : Dev nD) (t : Fin cfg3.N) : (cfg3.win 0).block.Idx → Elt F (cfg3.win 0).elt :=
  ((cfg3.win 0).blk t).view.read (Elt F) (arr3 Va c 0)

def dat2 (c : Dev nD) : Dat τ (Elt F) (HIx 2) ℕ UU ℕ cfg2 c where
  A w := arr2 Va c w
  after w t := match w with
    | ⟨0, _⟩ => blk2 Va c 0 t
    | ⟨1, _⟩ => blk2 Va c 1 t
    | ⟨2, _⟩ => blk2 Va c 2 t
    | ⟨3, _⟩ => k2_pay1 (blk2 Va c 1 t) (blk2 Va c 0 t) (blk2 Va c 2 t)
  Φ _ := Pipeline.scopedRest spec2 c
  q _ := fullShare
  owed _ := 0
  recorded _ := recd (F := F) c

def dat3 (c : Dev nD) : Dat τ (Elt F) (HIx 2) ℕ UU ℕ cfg3 c where
  A w := arr3 Va c w
  after w t := match w with
    | ⟨0, _⟩ => blk3 Va c t
    | ⟨1, _⟩ => k3_pay1 (grid3.coords t) (blk3 Va c t)
  Φ _ := Pipeline.scopedRest spec3 c
  q _ := fullShare
  owed _ := 0
  recorded _ := recd (F := F) c

theorem before2_0 (c : Dev nD) (t : Fin cfg2.N) (d) : (dat2 Va c).before 0 t d = blk2 Va c 0 t :=
  Pipeline.Dat.before_in_eq_fetched (dat2 Va c) 0 rfl (fun _ => rfl) (fun _ _ _ => rfl) (fun _ => rfl) t d
theorem before2_1 (c : Dev nD) (t : Fin cfg2.N) (d) : (dat2 Va c).before 1 t d = blk2 Va c 1 t :=
  Pipeline.Dat.before_in_eq_fetched (dat2 Va c) 1 rfl (fun _ => rfl) (fun _ _ _ => rfl) (fun _ => rfl) t d
theorem before2_2 (c : Dev nD) (t : Fin cfg2.N) (d) : (dat2 Va c).before 2 t d = blk2 Va c 2 t :=
  Pipeline.Dat.before_in_eq_fetched (dat2 Va c) 2 rfl (fun _ => rfl) (fun _ _ _ => rfl) (fun _ => rfl) t d
theorem before3_0 (c : Dev nD) (t : Fin cfg3.N) (d) : (dat3 Va c).before 0 t d = blk3 Va c t :=
  Pipeline.Dat.before_in_eq_fetched (dat3 Va c) 0 rfl (fun _ => rfl) (fun _ _ _ => rfl) (fun _ => rfl) t d

theorem obligation2 (c : Dev nD) : BodyObligation (dat2 Va c) (defs₀ (F := F)) 𝒱₀ none Set.univ := fun t => by
  rw [bigSep_W2, bigSep_W2]
  rw [show (dat2 Va c).Φ t.succ = (dat2 Va c).Φ t.castSucc from rfl, show (dat2 Va c).owesAt none t.succ = (dat2 Va c).owesAt none t.castSucc from rfl]
  iintro ⟨HΦ, Howes, ⟨%d0, H0⟩, ⟨%d1, H1⟩, ⟨%d2, H2⟩, ⟨%d3, H3⟩⟩
  rw [before2_0, before2_1, before2_2]
  iapply (cos_run c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (blk2 Va c 0 t) (blk2 Va c 1 t) (blk2 Va c 2 t) _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

theorem obligation3 (c : Dev nD) : BodyObligation (dat3 Va c) (defs₀ (F := F)) 𝒱₀ none Set.univ := fun t => by
  rw [bigSep_W3, bigSep_W3]
  rw [show (dat3 Va c).Φ t.succ = (dat3 Va c).Φ t.castSucc from rfl, show (dat3 Va c).owesAt none t.succ = (dat3 Va c).owesAt none t.castSucc from rfl]
  iintro ⟨HΦ, Howes, ⟨%d0, H0⟩, ⟨%d1, H1⟩⟩
  rw [before3_0]
  iapply (fill_run c (grid3.coords t) (st3_0 t) (hstage3_0 ((cfg3.slots t 0).cast nbuf3_0)) (st3_1 t) (hstage3_1 ((cfg3.slots t 1).cast nbuf3_1)) (blk3 Va c t) _ Set.univ _)
  isplitl [H0]; · iexact H0
  isplitl [H1]; · iexact H1
  iintro ⟨H0, H1⟩
  isplitl [HΦ]; · iexact HΦ
  isplitl [Howes]; · iexact Howes
  isplitl [H0]; · iexact H0
  iexact H1

end Cert.Proof.Sense

end
-- ==== Proof.Arrays.lean ====
/-
  The arrays the two TensorCore calls leave, as functions of the arrays they are entered with.
-/
module

public import proofs.«01_k».proof.Proof.Regions
public import Idealize.ShloMosaic.Lib.Pipeline.ValueKit.Geometry

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.TcCoe
open Idealize.ShloMosaic.Pipeline (Dat Cfg Window BodyObligation)

variable [FloatOps F] [Named F]

/-- The row of an array of 320 rows at a place within a block of eight. -/
def rowOf (b : Fin 40) (j : Fin 8) : Fin 320 := ⟨8 * b.val + j.val, by omega⟩

/-- Eight rows of each of the second pipeline's operands. -/
def ctxBlk (x : Vec F S320x1x128 .f32) (b : Fin 40) : Vec F S8x1x128 .f32 := fun z => x (ix3 (rowOf b (z 0)) (z 1) (z 2))
def xgBlk (x : Vec F S320x320x128 .f32) (b : Fin 40) : Vec F S8x320x128 .f32 := fun z => x (ix3 (rowOf b (z 0)) (z 1) (z 2))
def nbBlk (x : Vec F S320x1x320 .i32) (b : Fin 40) : Vec F S8x1x320 .i32 := fun z => x (ix3 (rowOf b (z 0)) (z 1) (z 2))

/-- What the second pipeline leaves: on each row, the row's nearest neighbour in every column. -/
def closeVal (ctx : Vec F S320x1x128 .f32) (xg : Vec F S320x320x128 .f32) (nb : Vec F S320x1x320 .i32) : Vec F S320x128 .i32 :=
  fun p =>
    let b : Fin 40 := ⟨(p 0).val / 8, by have := (p 0).isLt; change _ < 320 at this; omega⟩
    k2_pay1 (xgBlk xg b) (ctxBlk ctx b) (nbBlk nb b) (ix2 (⟨(p 0).val % 8, Nat.mod_lt _ (by decide)⟩ : Fin 8) (p 1))

/-- What the third pipeline leaves: one constant at the chosen column of each row, another elsewhere. -/
def fillVal (cl : Vec F S320x1 .i32) : Vec F S320x100000 .f32 := fun p =>
  if BitVec.ofNat 32 (p 1).val = cl (ix2 (p 0) (0 : Fin 1)) then Named.named κ "log_sel" 0xBA8322E2#32
  else Named.named κ "log_eps" 0xC1935D8E#32

omit [Named F] in
/-- At a row of a block, the nearest neighbour is the block's. -/
theorem closeVal_at (ctx : Vec F S320x1x128 .f32) (xg : Vec F S320x320x128 .f32) (nb : Vec F S320x1x320 .i32) (b : Fin 40) (y : S8x128.Idx)
    (p : S320x128.Idx) (h0 : (p 0).val = b.val * 8 + (y 0).val) (h1 : (p 1).val = (y 1).val) :
    closeVal ctx xg nb p = k2_pay1 (xgBlk xg b) (ctxBlk ctx b) (nbBlk nb b) y := by
  have hy : (y 0).val < 8 := (y 0).isLt
  have hb : (⟨(p 0).val / 8, by have := (p 0).isLt; change _ < 320 at this; omega⟩ : Fin 40) = b := Fin.ext (by show (p 0).val / 8 = b.val; omega)
  have hp : (ix2 (⟨(p 0).val % 8, Nat.mod_lt _ (by decide)⟩ : Fin 8) (p 1) : S8x128.Idx) = y := by
    funext a
    match a with
    | 0 => exact Fin.ext (by show (p 0).val % 8 = (y 0).val; omega)
    | 1 => exact Fin.ext h1
  unfold closeVal
  dsimp only
  rw [hb, hp]

/-- One entry of the third pipeline's block. -/
theorem fill_at (i : grid3.Coords) (v : Vec F S320x1 .i32) (z : S320x2048.Idx) :
    k3_pay1 i v z = if BitVec.ofNat 32 ((i 0).val * 2048 + (z 1).val) = v (ix2 (z 0) (0 : Fin 1)) then Named.named κ "log_sel" 0xBA8322E2#32
      else Named.named κ "log_eps" 0xC1935D8E#32 := by
  have e1 : iota .tc S320x2048 32 [1] iota_S320x2048_d1_w32 z = BitVec.ofNat 32 (z 1).val := iota_single_apply _ _ _ _ _ z
  have e2 : broadcastTo S320x2048 (shapeCast S320x1 v shapeCasts_S320x1_S320x1) broadcasts_S320x1_S320x2048 z = v (ix2 (z 0) (0 : Fin 1)) := by
    rw [shapeCast_self]
    exact broadcastTo_apply v _ z _ (fun a => by match a with | 0 => rfl | 1 => rfl)
  show Scalar.select (IntOp.cmpi .eq (IntOp.addi (Scalar.muli (BitVec.ofNat 32 (i 0).val) 2048#32) (iota .tc S320x2048 32 [1] iota_S320x2048_d1_w32 z))
    (broadcastTo S320x2048 (shapeCast S320x1 v shapeCasts_S320x1_S320x1) broadcasts_S320x1_S320x2048 z)) _ _ = _
  rw [e1, e2]
  have e3 : IntOp.addi (Scalar.muli (BitVec.ofNat 32 (i 0).val) 2048#32) (BitVec.ofNat 32 (z 1).val) = BitVec.ofNat 32 ((i 0).val * 2048 + (z 1).val) := by
    show BitVec.ofNat 32 (i 0).val * BitVec.ofNat 32 2048 + BitVec.ofNat 32 (z 1).val = _
    rw [← BitVec.ofNat_mul, ← BitVec.ofNat_add]
  rw [e3]
  unfold IntOp.cmpi
  by_cases h : BitVec.ofNat 32 ((i 0).val * 2048 + (z 1).val) = v (ix2 (z 0) (0 : Fin 1))
  · rw [if_pos h]; simp only [h, beq_self_eq_true]; rfl
  · rw [if_neg h]; simp only [beq_eq_false_iff_ne.mpr h]; rfl

variable (Va : (c : Dev nD) → Valuation τ sig (Elt F))

theorem at2_0 : ∀ t : Fin cfg2.N, win2_0.index t = ![t.val, 0, 0] := (by decide +kernel : ∀ t : Fin grid2.N, win2_0.index t = ![t.val, 0, 0])
theorem at2_1 : ∀ t : Fin cfg2.N, win2_1.index t = ![t.val, 0, 0] := (by decide +kernel : ∀ t : Fin grid2.N, win2_1.index t = ![t.val, 0, 0])
theorem at2_2 : ∀ t : Fin cfg2.N, win2_2.index t = ![t.val, 0, 0] := (by decide +kernel : ∀ t : Fin grid2.N, win2_2.index t = ![t.val, 0, 0])
theorem at2_3 : ∀ t : Fin cfg2.N, win2_3.index t = ![t.val, 0] := (by decide +kernel : ∀ t : Fin grid2.N, win2_3.index t = ![t.val, 0])
theorem at3_1 : ∀ t : Fin cfg3.N, win3_1.index t = ![0, t.val] := (by decide +kernel : ∀ t : Fin grid3.N, win3_1.index t = ![0, t.val])
theorem at3_0 : ∀ t : Fin cfg3.N, win3_0.index t = ![0, 0] := (by decide +kernel : ∀ t : Fin grid3.N, win3_0.index t = ![0, 0])
theorem crd3 : ∀ t : Fin cfg3.N, ((grid3.coords t) 0).val = t.val := (by decide +kernel : ∀ t : Fin grid3.N, ((grid3.coords t) 0).val = t.val)

theorem blk2_0_eq (c : Dev nD) (t : Fin cfg2.N) : blk2 Va c 0 t = ctxBlk (Va c (Proc.devRef .tc main_v34)) (t : Fin 40) := by
  funext z
  show arr2 Va c 0 _ = arr2 Va c 0 _
  blk_ext [at2_0, rowOf, ix3]

theorem blk2_1_eq (c : Dev nD) (t : Fin cfg2.N) : blk2 Va c 1 t = xgBlk (Va c (Proc.devRef .tc main_v27_1)) (t : Fin 40) := by
  funext z
  show arr2 Va c 1 _ = arr2 Va c 1 _
  blk_ext [at2_1, rowOf, ix3]

theorem blk2_2_eq (c : Dev nD) (t : Fin cfg2.N) : blk2 Va c 2 t = nbBlk (Va c (Proc.devRef .tc main_v35)) (t : Fin 40) := by
  funext z
  show arr2 Va c 2 _ = arr2 Va c 2 _
  blk_ext [at2_2, rowOf, ix3]

theorem blk3_eq (c : Dev nD) (t : Fin cfg3.N) : blk3 Va c t = Va c (Proc.devRef .tc main_v37) := by
  funext z
  show arr3 Va c 0 _ = arr3 Va c 0 _
  blk_ext [at3_0]

/-- The second pipeline's result. -/
theorem final2 (c : Dev nD) : (dat2 Va c).arrAt 3 cfg2.N
    = closeVal (Va c (Proc.devRef .tc main_v34)) (Va c (Proc.devRef .tc main_v27_1)) (Va c (Proc.devRef .tc main_v35)) := by
  refine (dat2 Va c).arrAt_eq_of_covers 3 _ (by decide +kernel) fun t hf y => ?_
  blk_simp
  rw [show (dat2 Va c).after 3 t = k2_pay1 (blk2 Va c 1 t) (blk2 Va c 0 t) (blk2 Va c 2 t) from rfl, blk2_0_eq, blk2_1_eq, blk2_2_eq]
  have h0 : (((win2_3.blk t).view.emb y) 0).val = t.val * 8 + (y 0).val := by blk_simp [at2_3]
  have h1 : (((win2_3.blk t).view.emb y) 1).val = (y 1).val := by blk_simp [at2_3]
  exact (closeVal_at _ _ _ (t : Fin 40) y _ h0 h1).symm

theorem final3 (c : Dev nD) : (dat3 Va c).arrAt 1 cfg3.N = fillVal (Va c (Proc.devRef .tc main_v37)) := by
  refine (dat3 Va c).arrAt_eq_of_covers 1 _ (by decide +kernel) fun t hf y => ?_
  blk_simp
  rw [show (dat3 Va c).after 1 t = k3_pay1 (grid3.coords t) (blk3 Va c t) from rfl, blk3_eq]
  have h0 : (((win3_1.blk t).view.emb y) 0).val = (y 0).val := by blk_simp [at3_1]
  have h1 : (((win3_1.blk t).view.emb y) 1).val = t.val * 2048 + (y 1).val := by blk_simp [at3_1]
  have e0 : (win3_1.blk t).view.emb y 0 = (win3_1.xinj (grid3.coords t) y) 0 := Fin.ext h0
  unfold fillVal
  rw [fill_at, crd3, e0, h1]

end Cert.Proof.Sense

end
-- ==== Proof.Segs.lean ====
/-
  The two TensorCore calls as steps of the program: each takes its arrays at one set of contents and gives them back with
  the result's array filled.
-/
module

public import proofs.«01_k».proof.Proof.Arrays

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.TcCoe
open Idealize.ShloMosaic.Pipeline (Dat Cfg Window BodyObligation)

variable [FloatOps F] [Named F]

/-- Neither pipeline reads a table ahead. -/
abbrev adm (p : Fin 2) : (pcfgs (F := F) p).Adm := (cfgs p).toPCfg_adm

variable (Va : (c : Dev nD) → Valuation τ sig (Elt F))

def pdats : (p : Fin 2) → (c : Dev nD) → Dat τ (Elt F) (HIx 2) ℕ UU ℕ (Pipeline.pin (pcfgs (F := F)) adm p) c
  | ⟨0, _⟩ => fun c => dat2 Va c
  | ⟨1, _⟩ => fun c => dat3 Va c

/-- What the core owes between the calls: nothing, every wait recorded at or below the level the SparseCore calls end at. -/
abbrev idle (c : Dev nD) : sProp 𝕄 :=
  iprop(∃ W, ⌜(K (F := F)).WBelow (SparseCore.T c : Thread nD τ) W (8 * SparseCore.Cfg.Blocks.fst (Q := 2) (N := 2) 2)⌝
    ∗ owes (SparseCore.T c : Thread nD τ) (0 : CellTallies nD τ sig (HIx 2)) W)

set_option backward.isDefEq.respectTransparency.types false in
/-- The second pipeline: entered at `Va`, left at any contents with its result's array filled. -/
def seg2 (Vb : (c : Dev nD) → Valuation τ sig (Elt F))
    (hout : ∀ c, Vb c (Proc.devRef .tc main_v36) = closeVal (Va c (Proc.devRef .tc main_v34)) (Va c (Proc.devRef .tc main_v27_1)) (Va c (Proc.devRef .tc main_v35)))
    (h0 : ∀ c, Vb c (Proc.devRef .tc main_v34) = Va c (Proc.devRef .tc main_v34)) (h1 : ∀ c, Vb c (Proc.devRef .tc main_v27_1) = Va c (Proc.devRef .tc main_v27_1))
    (h2 : ∀ c, Vb c (Proc.devRef .tc main_v35) = Va c (Proc.devRef .tc main_v35)) :
    Pipeline.RegionSeg (pcfgs (F := F)) adm (pdats Va) none defs₀ 𝒱₀ (K (F := F)).L (K (F := F)).lev 0 where
  win := (launch2.toP (Val := Elt F)).win.to₀
  block_pos := launch2.block_pos
  stage_whole := launch2.stage_whole
  K := PEmpty
  osem k := k.elim
  ho := Pipeline.OwnSemFacts.none _
  hbody c := (obligation2 Va c).loose
  hwaits := Pipeline.hwaits_of_owed_zero _ _ _ _ (K (F := F)).L (K (F := F)).lev 0 fun _ _ => rfl
  pre c := iprop(StableHlo.held (c.tc : Thread nD τ) (Pipeline.arrRefs spec2) (Va c) ∗ idle (F := F) c)
  post c := iprop(StableHlo.held (c.tc : Thread nD τ) (Pipeline.arrRefs spec2) (Vb c) ∗ idle (F := F) c)
  X _ := BI.emp
  Y _ := BI.emp
  Z _ := BI.emp
  hentry c := by
    rw [Pipeline.ownSems0_none, Pipeline.prefHeld_of_none _ rfl,
      Pipeline.arrays_held (pcfgs (F := F)) adm (pdats Va) 0 launch2.toP c ((pdats Va 0 c).share_full fun _ => rfl) ((pdats Va 0 c).arrAt · 0) (Va c) (fun _ => rfl)]
    iintro ⟨⟨Ha, %W, %hW, HO⟩, -, -⟩
    imodintro
    isplitl [Ha]; · iexact Ha
    isplitr; · iempintro
    isplitl [HO]
    · unfold Pipeline.Dat.owesAt Pipeline.owesWithin
      iexists W; isplitr; · ipureintro; exact fun p hp => Or.inl (hW p hp)
      iexact HO
    isplitr <;> iempintro
  hin c := by
    rw [show (pdats Va 0 c).Φ 0 = Pipeline.scopedRest spec2 c from rfl]
    iintro ⟨-, -, Hr⟩; iexact Hr
  hout c := by
    rw [Pipeline.ownSems0_none, show (pdats Va 0 c).Φ (Fin.last _) = Pipeline.scopedRest spec2 c from rfl]
    iintro Hr
    isplitr; · iempintro
    isplitr; · iempintro
    iexact Hr
  hexit c := by
    rw [Pipeline.arrays_held (pcfgs (F := F)) adm (pdats Va) 0 launch2.toP c ((pdats Va 0 c).share_full fun _ => rfl) ((pdats Va 0 c).arrAt · (Pipeline.pin (pcfgs (F := F)) adm 0).N) (Vb c)
      (fun w => by
        match w with
        | ⟨0, _⟩ => exact ((dat2 Va c).arrAt_in 0 rfl _).trans (h0 c).symm
        | ⟨1, _⟩ => exact ((dat2 Va c).arrAt_in 1 rfl _).trans (h1 c).symm
        | ⟨2, _⟩ => exact ((dat2 Va c).arrAt_in 2 rfl _).trans (h2 c).symm
        | ⟨3, _⟩ => exact (final2 Va c).trans (hout c).symm)]
    iintro ⟨Ha, HO, -, -⟩
    imodintro
    isplitl [Ha]; · iexact Ha
    unfold Pipeline.Dat.owesAt Pipeline.owesWithin
    icases HO with ⟨%W, %hW, HO⟩
    iexists W; isplitr
    · ipureintro
      intro p hp
      rcases hW hp with h | ⟨w, s, rfl⟩
      · exact h
      · exact Nat.zero_le _
    iexact HO

set_option backward.isDefEq.respectTransparency.types false in
/-- The third pipeline: the same. -/
def seg3 (Vb : (c : Dev nD) → Valuation τ sig (Elt F))
    (hout : ∀ c, Vb c (Proc.devRef .tc main_v38) = fillVal (Va c (Proc.devRef .tc main_v37)))
    (h0 : ∀ c, Vb c (Proc.devRef .tc main_v37) = Va c (Proc.devRef .tc main_v37)) :
    Pipeline.RegionSeg (pcfgs (F := F)) adm (pdats Va) none defs₀ 𝒱₀ (K (F := F)).L (K (F := F)).lev 1 where
  win := (launch3.toP (Val := Elt F)).win.to₀
  block_pos := launch3.block_pos
  stage_whole := launch3.stage_whole
  K := PEmpty
  osem k := k.elim
  ho := Pipeline.OwnSemFacts.none _
  hbody c := (obligation3 Va c).loose
  hwaits := Pipeline.hwaits_of_owed_zero _ _ _ _ (K (F := F)).L (K (F := F)).lev 1 fun _ _ => rfl
  pre c := iprop(StableHlo.held (c.tc : Thread nD τ) (Pipeline.arrRefs spec3) (Va c) ∗ idle (F := F) c)
  post c := iprop(StableHlo.held (c.tc : Thread nD τ) (Pipeline.arrRefs spec3) (Vb c) ∗ idle (F := F) c)
  X _ := BI.emp
  Y _ := BI.emp
  Z _ := BI.emp
  hentry c := by
    rw [Pipeline.ownSems0_none, Pipeline.prefHeld_of_none _ rfl,
      Pipeline.arrays_held (pcfgs (F := F)) adm (pdats Va) 1 launch3.toP c ((pdats Va 1 c).share_full fun _ => rfl) ((pdats Va 1 c).arrAt · 0) (Va c) (fun _ => rfl)]
    iintro ⟨⟨Ha, %W, %hW, HO⟩, -, -⟩
    imodintro
    isplitl [Ha]; · iexact Ha
    isplitr; · iempintro
    isplitl [HO]
    · unfold Pipeline.Dat.owesAt Pipeline.owesWithin
      iexists W; isplitr; · ipureintro; exact fun p hp => Or.inl (hW p hp)
      iexact HO
    isplitr <;> iempintro
  hin c := by
    rw [show (pdats Va 1 c).Φ 0 = Pipeline.scopedRest spec3 c from rfl]
    iintro ⟨-, -, Hr⟩; iexact Hr
  hout c := by
    rw [Pipeline.ownSems0_none, show (pdats Va 1 c).Φ (Fin.last _) = Pipeline.scopedRest spec3 c from rfl]
    iintro Hr
    isplitr; · iempintro
    isplitr; · iempintro
    iexact Hr
  hexit c := by
    rw [Pipeline.arrays_held (pcfgs (F := F)) adm (pdats Va) 1 launch3.toP c ((pdats Va 1 c).share_full fun _ => rfl) ((pdats Va 1 c).arrAt · (Pipeline.pin (pcfgs (F := F)) adm 1).N) (Vb c)
      (fun w => by
        match w with
        | ⟨0, _⟩ => exact ((dat3 Va c).arrAt_in 0 rfl _).trans (h0 c).symm
        | ⟨1, _⟩ => exact (final3 Va c).trans (hout c).symm)]
    iintro ⟨Ha, HO, -, -⟩
    imodintro
    isplitl [Ha]; · iexact Ha
    unfold Pipeline.Dat.owesAt Pipeline.owesWithin
    icases HO with ⟨%W, %hW, HO⟩
    iexists W; isplitr
    · ipureintro
      intro p hp
      rcases hW hp with h | ⟨w, s, rfl⟩
      · exact h
      · exact Nat.zero_le _
    iexact HO

end Cert.Proof.Sense

end
-- ==== Proof.Host.lean ====
/-
  The program's host operations as lists, and the program as those lists around its four calls.
-/
module

public import proofs.«01_k».proof.Proof.Segs

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] [Named F]

/-- The tokens' list: the padded transposed batch. -/
abbrev ops0 : List (HloOp τ sig (Elt F)) :=
  [ StableHlo.unary main_arg0 main_v0 ((transpose S20x16 [1, 0] · transposes_S16x20_S20x16_1_0) : (⟨S16x20, .i32⟩ : BufTy).Contents (Elt F) → (⟨S20x16, .i32⟩ : BufTy).Contents (Elt F))
  , StableHlo.reshape main_v0 main_v1 (rfl : (.i32 : EltTy) = .i32) shapeCasts_S20x16_S320
  , StableHlo.nullary main_c (constantI S_ 32 0#32)
  , StableHlo.unary main_c main_v2 (broadcastInDim S192 ![] bcast_S_S192 : (⟨S_, .i32⟩ : BufTy).Contents (Elt F) → (⟨S192, .i32⟩ : BufTy).Contents (Elt F))
  , StableHlo.binary main_v1 main_v2 main_v3 ((fun a b => concatenate S512 0 [⟨S320, a⟩, ⟨S192, b⟩] concatenates_S320_S192_S512_d0) : (⟨S320, .i32⟩ : BufTy).Contents (Elt F) → (⟨S192, .i32⟩ : BufTy).Contents (Elt F) → (⟨S512, .i32⟩ : BufTy).Contents (Elt F)) ]

/-- The first call's rows cut to length, and the second call's two lists and its regrouped table. -/
abbrev ops1 : List (HloOp τ sig (Elt F)) :=
  [ StableHlo.unary main_v4 main_v5 ((extractStridedSlice S320x128 ![0, 0] · slices_S512x128_S320x128_0_0) : (⟨S512x128, .f32⟩ : BufTy).Contents (Elt F) → (⟨S320x128, .f32⟩ : BufTy).Contents (Elt F))
  , StableHlo.nullary main_v6 (iotaInDim S16 32 0)
  , StableHlo.unary main_v6 main_v7 (broadcastInDim S1x16 ![1] bcast_S16_S1x16_1 : (⟨S16, .i32⟩ : BufTy).Contents (Elt F) → (⟨S1x16, .i32⟩ : BufTy).Contents (Elt F))
  , StableHlo.nullary main_c_0 (constantI S_ 32 10#32)
  , StableHlo.unary main_c_0 main_v8 (broadcastInDim S1x16 ![] bcast_S_S1x16 : (⟨S_, .i32⟩ : BufTy).Contents (Elt F) → (⟨S1x16, .i32⟩ : BufTy).Contents (Elt F))
  , StableHlo.binary main_v7 main_v8 main_v9 (cmpi .slt : (⟨S1x16, .i32⟩ : BufTy).Contents (Elt F) → (⟨S1x16, .i32⟩ : BufTy).Contents (Elt F) → (⟨S1x16, .i1⟩ : BufTy).Contents (Elt F))
  , StableHlo.unary main_arg4 main_v10 ((extractStridedSlice S320x1 ![0, 0] · slices_S320x16_S320x1_0_0) : (⟨S320x16, .i32⟩ : BufTy).Contents (Elt F) → (⟨S320x1, .i32⟩ : BufTy).Contents (Elt F))
  , StableHlo.TRef.unary (.of main_v9 : StableHlo.TRef sig ⟨S1x16, .i1⟩) main_call0.v0 (broadcastInDim S320x16 ![0, 1] bcast_S1x16_S320x16_0_1)
  , StableHlo.TRef.unary (.of main_v10 : StableHlo.TRef sig ⟨S320x1, .i32⟩) main_call0.v1 (broadcastInDim S320x16 ![0, 1] bcast_S320x1_S320x16_0_1)
  , StableHlo.TRef.ternary main_call0.v0 (.of main_arg4) main_call0.v1 main_call0.v2 select
  , StableHlo.reshape main_arg3 main_v12 (rfl : (.i32 : EltTy) = .i32) shapeCasts_S100000x32_S25000x128
  , StableHlo.nullary main_c_1 (constantI S_ 32 2#32)
  , StableHlo.unary main_c_1 main_v13 (broadcastInDim S320x16 ![] bcast_S_S320x16 : (⟨S_, .i32⟩ : BufTy).Contents (Elt F) → (⟨S320x16, .i32⟩ : BufTy).Contents (Elt F))
  , StableHlo.binary main_v11 main_v13 main_v14 (Host.shrui : (⟨S320x16, .i32⟩ : BufTy).Contents (Elt F) → (⟨S320x16, .i32⟩ : BufTy).Contents (Elt F) → (⟨S320x16, .i32⟩ : BufTy).Contents (Elt F))
  , StableHlo.unary main_v11 main_v15 ((extractStridedSlice S320x10 ![0, 0] · slices_S320x16_S320x10_0_0) : (⟨S320x16, .i32⟩ : BufTy).Contents (Elt F) → (⟨S320x10, .i32⟩ : BufTy).Contents (Elt F))
  , StableHlo.nullary main_c_2 (constantI S_ 32 3#32)
  , StableHlo.unary main_c_2 main_v16 (broadcastInDim S320x10 ![] bcast_S_S320x10 : (⟨S_, .i32⟩ : BufTy).Contents (Elt F) → (⟨S320x10, .i32⟩ : BufTy).Contents (Elt F))
  , StableHlo.binary main_v15 main_v16 main_v17 (andi : (⟨S320x10, .i32⟩ : BufTy).Contents (Elt F) → (⟨S320x10, .i32⟩ : BufTy).Contents (Elt F) → (⟨S320x10, .i32⟩ : BufTy).Contents (Elt F))
  , StableHlo.nullary main_c_3 (constantI S_ 32 5#32)
  , StableHlo.unary main_c_3 main_v18 (broadcastInDim S320x10 ![] bcast_S_S320x10 : (⟨S_, .i32⟩ : BufTy).Contents (Elt F) → (⟨S320x10, .i32⟩ : BufTy).Contents (Elt F))
  , StableHlo.binary main_v17 main_v18 main_v19 (Host.shli : (⟨S320x10, .i32⟩ : BufTy).Contents (Elt F) → (⟨S320x10, .i32⟩ : BufTy).Contents (Elt F) → (⟨S320x10, .i32⟩ : BufTy).Contents (Elt F))
  , StableHlo.unary main_v19 main_v20 (broadcastInDim S320x10x1 ![0, 1] bcast_S320x10_S320x10x1_0_1 : (⟨S320x10, .i32⟩ : BufTy).Contents (Elt F) → (⟨S320x10x1, .i32⟩ : BufTy).Contents (Elt F))
  , StableHlo.nullary main_v21 (iotaInDim S32 32 0)
  , StableHlo.unary main_v21 main_v22 (broadcastInDim S1x1x32 ![2] bcast_S32_S1x1x32_2 : (⟨S32, .i32⟩ : BufTy).Contents (Elt F) → (⟨S1x1x32, .i32⟩ : BufTy).Contents (Elt F))
  , StableHlo.unary main_v20 main_v23 (broadcastInDim S320x10x32 ![0, 1, 2] bcast_S320x10x1_S320x10x32_0_1_2 : (⟨S320x10x1, .i32⟩ : BufTy).Contents (Elt F) → (⟨S320x10x32, .i32⟩ : BufTy).Contents (Elt F))
  , StableHlo.unary main_v22 main_v24 (broadcastInDim S320x10x32 ![0, 1, 2] bcast_S1x1x32_S320x10x32_0_1_2 : (⟨S1x1x32, .i32⟩ : BufTy).Contents (Elt F) → (⟨S320x10x32, .i32⟩ : BufTy).Contents (Elt F))
  , StableHlo.binary main_v23 main_v24 main_v25 (addi : (⟨S320x10x32, .i32⟩ : BufTy).Contents (Elt F) → (⟨S320x10x32, .i32⟩ : BufTy).Contents (Elt F) → (⟨S320x10x32, .i32⟩ : BufTy).Contents (Elt F))
  , StableHlo.reshape main_v25 main_v26 (rfl : (.i32 : EltTy) = .i32) shapeCasts_S320x10x32_S320x320 ]

/-- The context's rows and the two relaid arrays the cosine call takes. -/
abbrev ops2 : List (HloOp τ sig (Elt F)) :=
  [ StableHlo.reshape main_v5 main_v28 (rfl : (.f32 : EltTy) = .f32) shapeCasts_S320x128_S20x16x128
  , StableHlo.unary main_v28 main_v29 ((transpose S16x20x128 [1, 0, 2] · transposes_S20x16x128_S16x20x128_1_0_2) : (⟨S20x16x128, .f32⟩ : BufTy).Contents (Elt F) → (⟨S16x20x128, .f32⟩ : BufTy).Contents (Elt F))
  , StableHlo.reshape main_v29 main_v30 (rfl : (.f32 : EltTy) = .f32) shapeCasts_S16x20x128_S320x128
  , StableHlo.nullary main_cst (constant S_ .f32 0x3F800000#32)
  , StableHlo.nullary main_cst_4 (constant S_ .f32 0x40A00000#32)
  , StableHlo.binary main_cst main_cst_4 main_v31 (Host.divf : (⟨S_, .f32⟩ : BufTy).Contents (Elt F) → (⟨S_, .f32⟩ : BufTy).Contents (Elt F) → (⟨S_, .f32⟩ : BufTy).Contents (Elt F))
  , StableHlo.unary main_v31 main_v32 (broadcastInDim S320x128 ![] bcast_S_S320x128 : (⟨S_, .f32⟩ : BufTy).Contents (Elt F) → (⟨S320x128, .f32⟩ : BufTy).Contents (Elt F))
  , StableHlo.binary main_v30 main_v32 main_v33 (mulf : (⟨S320x128, .f32⟩ : BufTy).Contents (Elt F) → (⟨S320x128, .f32⟩ : BufTy).Contents (Elt F) → (⟨S320x128, .f32⟩ : BufTy).Contents (Elt F))
  , StableHlo.reshape main_v33 main_v34 (rfl : (.f32 : EltTy) = .f32) shapeCasts_S320x128_S320x1x128
  , StableHlo.reshape main_v27_0 main_v35 (rfl : (.i32 : EltTy) = .i32) shapeCasts_S320x320_S320x1x320 ]

/-- The closest senses' column. -/
abbrev ops3 : List (HloOp τ sig (Elt F)) :=
  [ StableHlo.unary main_v36 main_v37 ((extractStridedSlice S320x1 ![0, 0] · slices_S320x128_S320x1_0_0) : (⟨S320x128, .i32⟩ : BufTy).Contents (Elt F) → (⟨S320x1, .i32⟩ : BufTy).Contents (Elt F)) ]

/-- What the line writes. -/
abbrev wr0 : List (Ref sig .tc) := [main_v0, main_v1, main_c, main_v2, main_v3]

theorem ops0_bufs : ∀ op ∈ (ops0 (F := F)), op.bufs ⊆ Pipeline.ucRefs τ sig := fun op h =>
  Pipeline.sub_ucRefs op (List.forall_iff_forall_mem.mp (show (ops0 (F := F)).Forall fun op => op.bufs ⊆ StableHlo.tcRefs τ sig from
    ⟨StableHlo.unary_bufs_sub .., StableHlo.reshape_bufs_sub .., StableHlo.nullary_bufs_sub .., StableHlo.unary_bufs_sub .., StableHlo.binary_bufs_sub ..⟩) op h)
theorem ops0_fresh : ∀ op ∈ (ops0 (F := F)), op.fresh = ∅ :=
  List.forall_iff_forall_mem.mp (StableHlo.forall_fresh_of_map (ops := ops0 (F := F)) rfl)
theorem ops0_keep (W : Valuation τ sig (Elt F)) {r : Ref sig .tc} (hr : r ∉ wr0) :
    StableHlo.after (ops0 (F := F)) W (Proc.devRef .tc r) = W (Proc.devRef .tc r) :=
  StableHlo.after_of_writes_sub ops0 W (StableHlo.forall_writes_sub_of_map (W := wr0) rfl) hr

/-- What the line writes. -/
abbrev wr1 : List (Ref sig .tc) := [main_v5, main_v6, main_v7, main_c_0, main_v8, main_v9, main_v10, main_call0_v0, main_call0_v1, main_v11, main_v12, main_c_1, main_v13, main_v14, main_v15, main_c_2, main_v16, main_v17, main_c_3, main_v18, main_v19, main_v20, main_v21, main_v22, main_v23, main_v24, main_v25, main_v26]

theorem ops1_bufs : ∀ op ∈ (ops1 (F := F)), op.bufs ⊆ Pipeline.ucRefs τ sig := fun op h =>
  Pipeline.sub_ucRefs op (List.forall_iff_forall_mem.mp (show (ops1 (F := F)).Forall fun op => op.bufs ⊆ StableHlo.tcRefs τ sig from
    ⟨StableHlo.unary_bufs_sub .., StableHlo.nullary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.ternary_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.binary_bufs_sub .., StableHlo.reshape_bufs_sub ..⟩) op h)
theorem ops1_fresh : ∀ op ∈ (ops1 (F := F)), op.fresh = ∅ :=
  List.forall_iff_forall_mem.mp (StableHlo.forall_fresh_of_map (ops := ops1 (F := F)) rfl)
theorem ops1_keep (W : Valuation τ sig (Elt F)) {r : Ref sig .tc} (hr : r ∉ wr1) :
    StableHlo.after (ops1 (F := F)) W (Proc.devRef .tc r) = W (Proc.devRef .tc r) :=
  StableHlo.after_of_writes_sub ops1 W (StableHlo.forall_writes_sub_of_map (W := wr1) rfl) hr

/-- What the line writes. -/
abbrev wr2 : List (Ref sig .tc) := [main_v28, main_v29, main_v30, main_cst, main_cst_4, main_v31, main_v32, main_v33, main_v34, main_v35]

theorem ops2_bufs : ∀ op ∈ (ops2 (F := F)), op.bufs ⊆ Pipeline.ucRefs τ sig := fun op h =>
  Pipeline.sub_ucRefs op (List.forall_iff_forall_mem.mp (show (ops2 (F := F)).Forall fun op => op.bufs ⊆ StableHlo.tcRefs τ sig from
    ⟨StableHlo.reshape_bufs_sub .., StableHlo.unary_bufs_sub .., StableHlo.reshape_bufs_sub .., StableHlo.nullary_bufs_sub .., StableHlo.nullary_bufs_sub .., StableHlo.binary_bufs_sub .., StableHlo.unary_bufs_sub .., StableHlo.binary_bufs_sub .., StableHlo.reshape_bufs_sub .., StableHlo.reshape_bufs_sub ..⟩) op h)
theorem ops2_fresh : ∀ op ∈ (ops2 (F := F)), op.fresh = ∅ :=
  List.forall_iff_forall_mem.mp (StableHlo.forall_fresh_of_map (ops := ops2 (F := F)) rfl)
theorem ops2_keep (W : Valuation τ sig (Elt F)) {r : Ref sig .tc} (hr : r ∉ wr2) :
    StableHlo.after (ops2 (F := F)) W (Proc.devRef .tc r) = W (Proc.devRef .tc r) :=
  StableHlo.after_of_writes_sub ops2 W (StableHlo.forall_writes_sub_of_map (W := wr2) rfl) hr

/-- What the line writes. -/
abbrev wr3 : List (Ref sig .tc) := [main_v37]

theorem ops3_bufs : ∀ op ∈ (ops3 (F := F)), op.bufs ⊆ Pipeline.ucRefs τ sig := fun op h =>
  Pipeline.sub_ucRefs op (List.forall_iff_forall_mem.mp (show (ops3 (F := F)).Forall fun op => op.bufs ⊆ StableHlo.tcRefs τ sig from
    (StableHlo.unary_bufs_sub ..)) op h)
theorem ops3_fresh : ∀ op ∈ (ops3 (F := F)), op.fresh = ∅ :=
  List.forall_iff_forall_mem.mp (StableHlo.forall_fresh_of_map (ops := ops3 (F := F)) rfl)
theorem ops3_keep (W : Valuation τ sig (Elt F)) {r : Ref sig .tc} (hr : r ∉ wr3) :
    StableHlo.after (ops3 (F := F)) W (Proc.devRef .tc r) = W (Proc.devRef .tc r) :=
  StableHlo.after_of_writes_sub ops3 W (StableHlo.forall_writes_sub_of_map (W := wr3) rfl) hr

/-- The program: four lines of host operations around the two SparseCore calls and the two pipelines. -/
theorem main_eq (d : Dev nD) :
    main (F := F) d = (StableHlo.seq ops0 >>= fun _ => ((K (F := F)).run d 0 >>= fun _ => (StableHlo.seq ops1 >>= fun _ => ((K (F := F)).run d 1 >>= fun _ =>
      (StableHlo.seq ops2 >>= fun _ => (Prog.lift (.customCall (SparseCore.inner (Pipeline.entry 0)) ()) >>= fun _ =>
      (StableHlo.seq ops3 >>= fun _ => Prog.lift (.customCall (SparseCore.inner (Pipeline.entry 1)) ()) >>= fun _ => pure ⟨⟩))))))) := by
  simp only [main, fn_where.body, StableHlo.seq, bind_assoc, pure_bind]

end Cert.Proof.Sense

end
-- ==== Proof.Main.lean ====
/-
  The program on a device's TensorCore: what its buffers hold before and after each call, the four calls as steps between
  those contents, and the run.
-/
module

public import proofs.«01_k».proof.Proof.Calls
public import proofs.«01_k».proof.Proof.Host

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.TcCoe
open Idealize.ShloMosaic.StableHlo (held after)
open Idealize.ShloMosaic.Pipeline (ucRefs arrRefs cellsGhost toksInit)

variable [FloatOps F] [Named F]

/-- A TensorCore's buffer as the device names it. -/
abbrev dr (b : Ref sig .tc) : DevRef τ sig := Proc.devRef .tc b

theorem dr_ne {a b : Ref sig .tc} (h : a ≠ b) : dr a ≠ dr b := fun e => h (Proc.devRef_injective _ e)

/-! ## What the buffers hold -/

variable (m : (ℓ : Loc nD τ sig) → Buf (Elt F) ℓ)

/-- At the start; after the first line; after the first call; and so on. -/
def va0 (d : Dev nD) : Valuation τ sig (Elt F) := fun b => m (d, b)
def va1 (d : Dev nD) : Valuation τ sig (Elt F) := after ops0 (va0 m d)
def va2 (d : Dev nD) : Valuation τ sig (Elt F) :=
  Function.update (va1 m d) (dr main_v4) (takeRows (F := F) (va1 m d (dr main_arg1)) (va1 m d (dr main_v3)))
def va3 (d : Dev nD) : Valuation τ sig (Elt F) := after ops1 (va2 m d)
/-- What the second call is given, by name. -/
def contsA : Conts F := fun d b => va1 m d (dr b)
def contsB : Conts F := fun d b => va3 m d (dr b)
def va4 (d : Dev nD) : Valuation τ sig (Elt F) :=
  Function.update (Function.update (va3 m d) (dr main_v27_0) (nbOut (contsB m) d)) (dr main_v27_1) (xgOut (contsB m) d)
def va5 (d : Dev nD) : Valuation τ sig (Elt F) := after ops2 (va4 m d)
def va6 (d : Dev nD) : Valuation τ sig (Elt F) :=
  Function.update (va5 m d) (dr main_v36) (closeVal (F := F) (va5 m d (dr main_v34)) (va5 m d (dr main_v27_1)) (va5 m d (dr main_v35)))
def va7 (d : Dev nD) : Valuation τ sig (Elt F) := after ops3 (va6 m d)
def va8 (d : Dev nD) : Valuation τ sig (Elt F) := Function.update (va7 m d) (dr main_v38) (fillVal (F := F) (va7 m d (dr main_v37)))

/-! ## The SparseCore calls' operands out of the buffers and back -/

theorem part_disj {s : Shape} {a₀ : Fin s.rank} {n : ℕ} (h : n ∣ s.size a₀) (i j : Fin n) (hij : i ≠ j) :
    Disjoint (Rect.part h i).set (Rect.part h j).set := Rect.part_disjoint h hij

/-- The arrays of the first call, and of the second. -/
abbrev S0 : Finset (DevRef τ sig) := {dr main_arg1, dr main_v3, dr main_v4}
abbrev S1 : Finset (DevRef τ sig) := {dr main_v12, dr main_arg2, dr main_v14, dr main_v26, dr main_v27_0, dr main_v27_1}

theorem held_S0 (d : Dev nD) (W : Valuation τ sig (Elt F)) :
    (held (SparseCore.T d) S0 W : sProp 𝕄)
      = bigSep Finset.univ fun w : Fin 32 => iprop((bLoc d main_arg1 ↦{sh w} W (dr main_arg1)) ∗ (bLoc d main_v3 ↦[tokSet w]{fullShare} W (dr main_v3))
          ∗ bLoc d main_v4 ↦[embSet w]{fullShare} W (dr main_v4)) := by
  rw [bigSep_sep', bigSep_sep']
  unfold held S0
  rw [SparseCore.bigSep_insert' (by decide), SparseCore.bigSep_insert' (by decide), bigSep_singleton]
  congr 1
  · exact shares_eq (bLoc d main_arg1) _
  congr 1
  · exact rows_eq (bLoc d main_v3) tokSet (part_disj _) (Rect.biUnion_part _) _
  · exact rows_eq (bLoc d main_v4) embSet (part_disj _) (Rect.biUnion_part _) _

theorem held_S1 (d : Dev nD) (W : Valuation τ sig (Elt F)) :
    (held (SparseCore.T d) S1 W : sProp 𝕄)
      = bigSep Finset.univ fun w : Fin 32 => iprop((bLoc d main_v12 ↦{sh w} W (dr main_v12)) ∗ (bLoc d main_arg2 ↦{sh w} W (dr main_arg2))
          ∗ (bLoc d main_v14 ↦[krSet w]{fullShare} W (dr main_v14)) ∗ (bLoc d main_v26 ↦[nbSet w]{fullShare} W (dr main_v26))
          ∗ (bLoc d main_v27_0 ↦[nbSet w]{fullShare} W (dr main_v27_0)) ∗ bLoc d main_v27_1 ↦[xgSet w]{fullShare} W (dr main_v27_1)) := by
  rw [bigSep_sep', bigSep_sep', bigSep_sep', bigSep_sep', bigSep_sep']
  unfold held S1
  rw [SparseCore.bigSep_insert' (by decide), SparseCore.bigSep_insert' (by decide), SparseCore.bigSep_insert' (by decide),
    SparseCore.bigSep_insert' (by decide), SparseCore.bigSep_insert' (by decide), bigSep_singleton]
  congr 1
  · exact shares_eq (bLoc d main_v12) _
  congr 1
  · exact shares_eq (bLoc d main_arg2) _
  congr 1
  · exact rows_eq (bLoc d main_v14) krSet (part_disj _) (Rect.biUnion_part _) _
  congr 1
  · exact rows_eq (bLoc d main_v26) nbSet (part_disj _) (Rect.biUnion_part _) _
  congr 1
  · exact rows_eq (bLoc d main_v27_0) nbSet (part_disj _) (Rect.biUnion_part _) _
  · exact rows_eq (bLoc d main_v27_1) xgSet (part_disj _) (Rect.biUnion_part _) _

theorem uc_of {b : Ref sig .tc} (h : b.isScoped = false) : dr b ∈ ucRefs τ sig :=
  Finset.mem_filter.mpr ⟨StableHlo.devRef_mem_tcRefs _, fun h' => Bool.false_ne_true (h.symm.trans h')⟩

theorem S0_sub : S0 ⊆ ucRefs τ sig := by
  intro b hb
  simp only [S0, Finset.mem_insert, Finset.mem_singleton] at hb
  rcases hb with rfl | rfl | rfl <;> exact uc_of rfl
theorem S1_sub : S1 ⊆ ucRefs τ sig := by
  intro b hb
  simp only [S1, Finset.mem_insert, Finset.mem_singleton] at hb
  rcases hb with rfl | rfl | rfl | rfl | rfl | rfl <;> exact uc_of rfl

end Cert.Proof.Sense

end
-- ==== Proof.Run.lean ====
/-
  The program's run: its four calls as steps between the contents of the buffers, the whole program on a TensorCore, and
  what every final state of a launch holds.
-/
module

public import proofs.«01_k».proof.Proof.Main

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.TcCoe
open Idealize.ShloMosaic.StableHlo (held after)
open Idealize.ShloMosaic.Pipeline (ucRefs arrRefs cellsGhost toksInit)

variable [FloatOps F] [Named F]
variable (m : (ℓ : Loc nD τ sig) → Buf (Elt F) ℓ) (ρ : Dev nD → PrngReg)

/-! ## The calls as steps -/

theorem spec2_sub : arrRefs (τ := τ) spec2 ⊆ ucRefs τ sig := Pipeline.arrRefs_sub_ucRefs spec2 (by decide)
theorem spec3_sub : arrRefs (τ := τ) spec3 ⊆ ucRefs τ sig := Pipeline.arrRefs_sub_ucRefs spec3 (by decide)

theorem mem_arr2 : dr main_v36 ∈ arrRefs (τ := τ) spec2 :=
  Finset.mem_map.mpr ⟨main_v36, Finset.mem_image.mpr ⟨3, Finset.mem_univ _, rfl⟩, rfl⟩
theorem mem_arr3 : dr main_v38 ∈ arrRefs (τ := τ) spec3 :=
  Finset.mem_map.mpr ⟨main_v38, Finset.mem_image.mpr ⟨1, Finset.mem_univ _, rfl⟩, rfl⟩

abbrev reg2 [∀ e, Nonempty (Elt F e)] := seg2 (F := F) (va5 m) (va6 m) (fun _ => Function.update_self _ _ _)
  (fun _ => Function.update_of_ne (dr_ne (by decide)) _ _) (fun _ => Function.update_of_ne (dr_ne (by decide)) _ _) (fun _ => Function.update_of_ne (dr_ne (by decide)) _ _)
abbrev reg3 [∀ e, Nonempty (Elt F e)] := seg3 (F := F) (va7 m) (va8 m) (fun _ => Function.update_self _ _ _)
  (fun _ => Function.update_of_ne (dr_ne (by decide)) _ _)

theorem pin_inj : Function.Injective (Pipeline.cellOf (nD := nD) (τ := τ) (Pipeline.pin (pcfgs (F := F)) adm)) := cellOf_inj

theorem arrRest2 (d : Dev nD) : (held (SparseCore.T d) (ucRefs τ sig \ arrRefs spec2) (va6 m d) : sProp 𝕄)
    = held (SparseCore.T d) (ucRefs τ sig \ arrRefs spec2) (va5 m d) :=
  StableHlo.held_congr _ fun b hb => Function.update_of_ne (fun e => (Finset.mem_sdiff.mp hb).2 (by rw [e]; exact mem_arr2)) _ _
theorem arrRest3 (d : Dev nD) : (held (SparseCore.T d) (ucRefs τ sig \ arrRefs spec3) (va8 m d) : sProp 𝕄)
    = held (SparseCore.T d) (ucRefs τ sig \ arrRefs spec3) (va7 m d) :=
  StableHlo.held_congr _ fun b hb => Function.update_of_ne (fun e => (Finset.mem_sdiff.mp hb).2 (by rw [e]; exact mem_arr3)) _ _

theorem step2 [∀ e, Nonempty (Elt F e)] (d : Dev nD) (Q : PUnit.{1} → sProp 𝕄) :
    iprop(((boundary (SparseCore.T d) ∗ held (SparseCore.T d) (ucRefs τ sig) (va6 m d) ∗ idle (F := F) d) -∗ Q ⟨⟩)
        ∗ boundary (SparseCore.T d) ∗ held (SparseCore.T d) (ucRefs τ sig) (va5 m d) ∗ idle (F := F) d ∗ levAts (K (F := F)).L (K (F := F)).lev
        ∗ cellsGhost (Pipeline.pin (pcfgs (F := F)) adm) EP 0 d ∗ toksInit (Pipeline.pin (pcfgs (F := F)) adm) EP 0 d)
      ⊢ wp frame (wpE ((K (F := F)).defs (D (F := F))) 𝒱 (SparseCore.T d) none) Set.univ
          (Prog.lift (.customCall (SparseCore.inner (Pipeline.entry 0)) ())) Q := by
  have h := (Pipeline.RegionSeg.wp (pcfgs (F := F)) adm (pdats (va5 m)) none pin_inj EP defs₀ 𝒱₀ (K (F := F)).L (K (F := F)).lev
    (reg2 m) d none (fun u hu => nomatch hu) .ret Q).trans ((K (F := F)).wp_liftProg (D (F := F)) 𝒱 (SparseCore.T d) Set.univ none
    (.op (.customCall (Pipeline.entry 0) ()) .ret) Q)
  rw [show (reg2 m).post d = iprop(held (SparseCore.T d) (arrRefs spec2) (va6 m d) ∗ idle (F := F) d) from rfl,
    show (reg2 m).pre d = iprop(held (SparseCore.T d) (arrRefs spec2) (va5 m d) ∗ idle (F := F) d) from rfl] at h
  refine BIBase.Entails.trans ?_ h
  rw [StableHlo.held_sub_split (SparseCore.T d) spec2_sub (va5 m d), StableHlo.held_sub_split (SparseCore.T d) spec2_sub (va6 m d),
    arrRest2]
  iintro ⟨Hk, Hb, ⟨Ha, Hr⟩, Hi, Hl, Hc, Ht⟩
  isplitl [Hk Hr]
  · iintro ⟨Hb, Ha, Hi⟩
    rw [wp_ret]; imodintro
    iapply Hk
    isplitl [Hb]; · iexact Hb
    isplitl [Ha Hr]
    · isplitl [Ha]; · iexact Ha
      iexact Hr
    iexact Hi
  isplitl [Hb]; · iexact Hb
  isplitl [Ha Hi]
  · isplitl [Ha]; · iexact Ha
    iexact Hi
  isplitl [Hl]; · iexact Hl
  isplitl [Hc]; · iexact Hc
  iexact Ht

theorem step3 [∀ e, Nonempty (Elt F e)] (d : Dev nD) (Q : PUnit.{1} → sProp 𝕄) :
    iprop(((boundary (SparseCore.T d) ∗ held (SparseCore.T d) (ucRefs τ sig) (va8 m d) ∗ idle (F := F) d) -∗ Q ⟨⟩)
        ∗ boundary (SparseCore.T d) ∗ held (SparseCore.T d) (ucRefs τ sig) (va7 m d) ∗ idle (F := F) d ∗ levAts (K (F := F)).L (K (F := F)).lev
        ∗ cellsGhost (Pipeline.pin (pcfgs (F := F)) adm) EP 1 d ∗ toksInit (Pipeline.pin (pcfgs (F := F)) adm) EP 1 d)
      ⊢ wp frame (wpE ((K (F := F)).defs (D (F := F))) 𝒱 (SparseCore.T d) none) Set.univ
          (Prog.lift (.customCall (SparseCore.inner (Pipeline.entry 1)) ())) Q := by
  have h := (Pipeline.RegionSeg.wp (pcfgs (F := F)) adm (pdats (va7 m)) none pin_inj EP defs₀ 𝒱₀ (K (F := F)).L (K (F := F)).lev
    (reg3 m) d none (fun u hu => nomatch hu) .ret Q).trans ((K (F := F)).wp_liftProg (D (F := F)) 𝒱 (SparseCore.T d) Set.univ none
    (.op (.customCall (Pipeline.entry 1) ()) .ret) Q)
  rw [show (reg3 m).post d = iprop(held (SparseCore.T d) (arrRefs spec3) (va8 m d) ∗ idle (F := F) d) from rfl,
    show (reg3 m).pre d = iprop(held (SparseCore.T d) (arrRefs spec3) (va7 m d) ∗ idle (F := F) d) from rfl] at h
  refine BIBase.Entails.trans ?_ h
  rw [StableHlo.held_sub_split (SparseCore.T d) spec3_sub (va7 m d), StableHlo.held_sub_split (SparseCore.T d) spec3_sub (va8 m d),
    arrRest3]
  iintro ⟨Hk, Hb, ⟨Ha, Hr⟩, Hi, Hl, Hc, Ht⟩
  isplitl [Hk Hr]
  · iintro ⟨Hb, Ha, Hi⟩
    rw [wp_ret]; imodintro
    iapply Hk
    isplitl [Hb]; · iexact Hb
    isplitl [Ha Hr]
    · isplitl [Ha]; · iexact Ha
      iexact Hr
    iexact Hi
  isplitl [Hb]; · iexact Hb
  isplitl [Ha Hi]
  · isplitl [Ha]; · iexact Ha
    iexact Hi
  isplitl [Hl]; · iexact Hl
  isplitl [Hc]; · iexact Hc
  iexact Ht

/-- What the SparseCore calls of the program carry. -/
abbrev PP : (K (F := F)).Pay (nD := nD) (Val := Elt F) (Name := ℕ) (U := UU) := P (F := F) (contsA m) (contsB m)

theorem st0_eq (d : Dev nD) : (bigSep Finset.univ fun c : Fin ((K (F := F)).nCore 0) => (PP m).st 0 d c : sProp 𝕄) = held (SparseCore.T d) S0 (va1 m d) :=
  (bigSep_tiles 0 (go0 (contsA m) d)).trans (held_S0 d (va1 m d)).symm
theorem dn0_eq (d : Dev nD) : (bigSep Finset.univ fun c : Fin ((K (F := F)).nCore 0) => (PP m).dn 0 d c : sProp 𝕄) = held (SparseCore.T d) S0 (va2 m d) := by
  rw [held_S0]
  unfold va2
  rw [Function.update_self, Function.update_of_ne (dr_ne (by decide)), Function.update_of_ne (dr_ne (by decide))]
  exact bigSep_tiles 0 (td0 (contsA m) d)
theorem st1_eq (d : Dev nD) : (bigSep Finset.univ fun c : Fin ((K (F := F)).nCore 1) => (PP m).st 1 d c : sProp 𝕄) = held (SparseCore.T d) S1 (va3 m d) :=
  (bigSep_tiles 1 (go1 (contsB m) d)).trans (held_S1 d (va3 m d)).symm
theorem dn1_eq (d : Dev nD) : (bigSep Finset.univ fun c : Fin ((K (F := F)).nCore 1) => (PP m).dn 1 d c : sProp 𝕄) = held (SparseCore.T d) S1 (va4 m d) := by
  rw [held_S1]
  unfold va4
  rw [Function.update_self, Function.update_of_ne (dr_ne (show main_v27_0 ≠ main_v27_1 by decide)), Function.update_self]
  simp only [Function.update_of_ne (dr_ne (show main_v12 ≠ main_v27_1 by decide)), Function.update_of_ne (dr_ne (show main_v12 ≠ main_v27_0 by decide)),
    Function.update_of_ne (dr_ne (show main_arg2 ≠ main_v27_1 by decide)), Function.update_of_ne (dr_ne (show main_arg2 ≠ main_v27_0 by decide)),
    Function.update_of_ne (dr_ne (show main_v14 ≠ main_v27_1 by decide)), Function.update_of_ne (dr_ne (show main_v14 ≠ main_v27_0 by decide)),
    Function.update_of_ne (dr_ne (show main_v26 ≠ main_v27_1 by decide)), Function.update_of_ne (dr_ne (show main_v26 ≠ main_v27_0 by decide))]
  exact bigSep_tiles 1 (td1 (contsB m) d)

theorem rest0 (d : Dev nD) : (held (SparseCore.T d) (ucRefs τ sig \ S0) (va2 m d) : sProp 𝕄) = held (SparseCore.T d) (ucRefs τ sig \ S0) (va1 m d) :=
  StableHlo.held_congr _ fun b hb => Function.update_of_ne (fun e => (Finset.mem_sdiff.mp hb).2 (by rw [e]; decide)) _ _
theorem rest1 (d : Dev nD) : (held (SparseCore.T d) (ucRefs τ sig \ S1) (va4 m d) : sProp 𝕄) = held (SparseCore.T d) (ucRefs τ sig \ S1) (va3 m d) :=
  StableHlo.held_congr _ fun b hb => (Function.update_of_ne (fun e => (Finset.mem_sdiff.mp hb).2 (by rw [e]; decide)) _ _).trans
    (Function.update_of_ne (fun e => (Finset.mem_sdiff.mp hb).2 (by rw [e]; decide)) _ _)

/-- The first call: its operands out of the buffers, its results into them. -/
theorem call0 (κ : GSem nD τ sig → ℕ) (d : Dev nD) (Q : PUnit.{1} → sProp 𝕄) :
    iprop((K (F := F)).ctx EH (PP m) κ ∗ (K (F := F)).tcSt EH d 0 ∗ held (SparseCore.T d) (ucRefs τ sig) (va1 m d)
        ∗ (((K (F := F)).tcSt EH d 1 ∗ held (SparseCore.T d) (ucRefs τ sig) (va2 m d)) -∗ Q ⟨⟩))
      ⊢ wp frame (wpE ((K (F := F)).defs (D (F := F))) 𝒱 (SparseCore.T d) none) Set.univ ((K (F := F)).run d 0) Q := by
  rw [StableHlo.held_sub_split (SparseCore.T d) S0_sub (va1 m d), StableHlo.held_sub_split (SparseCore.T d) S0_sub (va2 m d), rest0,
    ← st0_eq, ← dn0_eq]
  iintro ⟨#Hctx, Hst, ⟨Ha, Hr⟩, Hk⟩
  iapply ((K (F := F)).wp_run (D (F := F)) 𝒱 (EH := EH) (P := PP m) κ d 0)
  isplitr; · iexact Hctx
  isplitl [Hst]; · iexact Hst
  isplitl [Ha]; · iexact Ha
  iintro ⟨Hst, Hd⟩
  iapply Hk
  isplitl [Hst]; · iexact Hst
  isplitl [Hd]; · iexact Hd
  iexact Hr

/-- The second call: the same. -/
theorem call1 (κ : GSem nD τ sig → ℕ) (d : Dev nD) (Q : PUnit.{1} → sProp 𝕄) :
    iprop((K (F := F)).ctx EH (PP m) κ ∗ (K (F := F)).tcSt EH d 1 ∗ held (SparseCore.T d) (ucRefs τ sig) (va3 m d)
        ∗ (((K (F := F)).tcSt EH d 2 ∗ held (SparseCore.T d) (ucRefs τ sig) (va4 m d)) -∗ Q ⟨⟩))
      ⊢ wp frame (wpE ((K (F := F)).defs (D (F := F))) 𝒱 (SparseCore.T d) none) Set.univ ((K (F := F)).run d 1) Q := by
  rw [StableHlo.held_sub_split (SparseCore.T d) S1_sub (va3 m d), StableHlo.held_sub_split (SparseCore.T d) S1_sub (va4 m d), rest1,
    ← st1_eq, ← dn1_eq]
  iintro ⟨#Hctx, Hst, ⟨Ha, Hr⟩, Hk⟩
  iapply ((K (F := F)).wp_run (D (F := F)) 𝒱 (EH := EH) (P := PP m) κ d 1)
  isplitr; · iexact Hctx
  isplitl [Hst]; · iexact Hst
  isplitl [Ha]; · iexact Ha
  iintro ⟨Hst, Hd⟩
  iapply Hk
  isplitl [Hst]; · iexact Hst
  isplitl [Hd]; · iexact Hd
  iexact Hr

/-! ## The program on a TensorCore -/

/-- What a pipeline takes from the launch: its cells' state and its transfers' duties, on a device. -/
abbrev ghost (d : Dev nD) : sProp 𝕄 :=
  iprop((cellsGhost (Pipeline.pin (pcfgs (F := F)) adm) EP 0 d ∗ toksInit (Pipeline.pin (pcfgs (F := F)) adm) EP 0 d)
    ∗ cellsGhost (Pipeline.pin (pcfgs (F := F)) adm) EP 1 d ∗ toksInit (Pipeline.pin (pcfgs (F := F)) adm) EP 1 d)

/-- What the program leaves: every buffer at its last contents. -/
abbrev left (d : Dev nD) : sProp 𝕄 := held (SparseCore.T d) (ucRefs τ sig) (va8 m d)

/-- After both calls the core's state is that nothing is owed, and the rest of it. -/
theorem tcSt_idle (d : Dev nD) : ∃ R : sProp 𝕄, ((K (F := F)).tcSt EH d 2 : sProp 𝕄) = iprop(idle (F := F) d ∗ R) := by
  unfold SparseCore.Cfg.tcSt
  rw [(K (F := F)).Otc_end d le_rfl]
  exact ⟨_, rfl⟩

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 2 ∗ left m d ∗ (K (F := F)).tcEnd d) := by
  obtain ⟨R, hR⟩ := tcSt_idle (F := F) d
  unfold SparseCore.Cfg.tcRes SparseCore.Cfg.tcEnd
  rw [main_eq, show (unscopedBufs d (fun b => m ((SparseCore.T d).loc b)) : sProp 𝕄) = held (SparseCore.T d) (ucRefs τ sig) (va0 m d)
    from Pipeline.unscopedBufs_held d (va0 m d)]
  iintro ⟨#Hctx, Hst, ⟨Hb, Hh, Hts, -⟩, ⟨Hc0, Ht0⟩, Hc1, Ht1⟩
  ihave #Hlev := (SparseCore.Cfg.ctx_levAts κ) $$ Hctx
  iapply (StableHlo.wp_seq 𝒱 none Set.univ d (ucRefs τ sig) _ ops0 ops0_bufs ops0_fresh (va0 m d)) $$ [Hb Hh]
  · isplitl [Hb]; · iexact Hb
    iexact Hh
  iintro ⟨Hb, Hh⟩
  rw [wp_bind]
  iapply (call0 m κ d)
  isplitr; · iexact Hctx
  isplitl [Hst]; · iexact Hst
  isplitl [Hh]; · iexact Hh
  iintro ⟨Hst, Hh⟩
  iapply (StableHlo.wp_seq 𝒱 none Set.univ d (ucRefs τ sig) _ ops1 ops1_bufs ops1_fresh (va2 m d)) $$ [Hb Hh]
  · isplitl [Hb]; · iexact Hb
    iexact Hh
  iintro ⟨Hb, Hh⟩
  rw [wp_bind]
  iapply (call1 m κ d)
  isplitr; · iexact Hctx
  isplitl [Hst]; · iexact Hst
  isplitl [Hh]; · iexact Hh
  rw [hR]
  iintro ⟨⟨Hi, Hst⟩, Hh⟩
  iapply (StableHlo.wp_seq 𝒱 none Set.univ d (ucRefs τ sig) _ ops2 ops2_bufs ops2_fresh (va4 m d)) $$ [Hb Hh]
  · isplitl [Hb]; · iexact Hb
    iexact Hh
  iintro ⟨Hb, Hh⟩
  rw [wp_bind]
  iapply (step2 m d)
  isplitr [Hb Hh Hi Hc0 Ht0]
  swap
  · isplitl [Hb]; · iexact Hb
    isplitl [Hh]; · iexact Hh
    isplitl [Hi]; · iexact Hi
    isplitr; · iexact Hlev
    isplitl [Hc0]; · iexact Hc0
    iexact Ht0
  iintro ⟨Hb, Hh, Hi⟩
  iapply (StableHlo.wp_seq 𝒱 none Set.univ d (ucRefs τ sig) _ ops3 ops3_bufs ops3_fresh (va6 m d)) $$ [Hb Hh]
  · isplitl [Hb]; · iexact Hb
    iexact Hh
  iintro ⟨Hb, Hh⟩
  rw [wp_bind]
  iapply (step3 m d)
  isplitr [Hb Hh Hi Hc1 Ht1]
  swap
  · isplitl [Hb]; · iexact Hb
    isplitl [Hh]; · iexact Hh
    isplitl [Hi]; · iexact Hi
    isplitr; · iexact Hlev
    isplitl [Hc1]; · iexact Hc1
    iexact Ht1
  iintro ⟨Hb, Hh, Hi⟩
  rw [wp_pure]; imodintro
  isplitl [Hi Hst]
  · isplitl [Hi]; · iexact Hi
    iexact Hst
  isplitl [Hh]; · iexact Hh
  isplitl [Hb]; · iexact Hb
  iexact Hts

/-! ## The launch -/

def u₀ : UU := (initOf (K (F := F)).hsCells (K (F := F)).hsToks,
  (initOf (Pipeline.cells (nD := nD) (τ := τ) (Pipeline.pin (pcfgs (F := F)) adm) pin_inj) (Pipeline.launchToks (nD := nD) (τ := τ) (Pipeline.pin (pcfgs (F := F)) adm) pin_inj), 1))

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 2 => (PP m).x q thr) := by
  unfold u₀
  iintro Hu
  ihave H := (ownU_pair _ _) $$ Hu
  icases H with ⟨HH, HR⟩
  ihave H := (own_pair_emb _ _ _) $$ HR
  icases H with ⟨HP, -⟩
  imod (Pipeline.fund_ghost (Pipeline.pin (pcfgs (F := F)) adm) (EP : Emb UP 𝕄) pin_inj) $$ HP with ⟨Hg, Ht⟩
  imodintro
  isplitl [HH]; · iexact HH
  isplitl [Hg Ht]
  · have e : ∀ Φ : Fin 2 → sProp 𝕄, bigSep Finset.univ Φ = iprop(Φ 0 ∗ Φ 1) := fun Φ => by
      rw [show (Finset.univ : Finset (Fin 2)) = {0, 1} by decide, SparseCore.bigSep_insert' (by decide), bigSep_singleton]
    simp only [e, bigSep_sep']
    icases Hg with ⟨Hg0, Hg1⟩
    icases Ht with ⟨Ht0, Ht1⟩
    isplitl [Hg0 Ht0]
    · isplitl [Hg0]; · iexact Hg0
      iexact Ht0
    isplitl [Hg1]; · iexact Hg1
    iexact Ht1
  · rw [show (fun thr : Thread nD τ => bigSep Finset.univ fun q : Fin 2 => (PP m).x q thr) = fun _ => (iprop(emp) : sProp 𝕄) from
      funext fun _ => bigSep_none _, bigSep_none]
    iempintro

/-- What the claims read of a device's final state: every buffer of the TensorCore at its last contents. -/
def fq (d : Dev nD) (s' : Phys nD τ sig (Elt F)) : Prop :=
  ∀ b : Ref sig .tc, b.isScoped = false → s'.mem.mem (bLoc d b) = va8 m d (dr b)

theorem hfin (d : Dev nD) (s' : Phys nD τ sig (Elt F)) : iprop(left m d ∗ SI s') ⊢ (⌜fq m d s'⌝ : sProp 𝕄) := by
  unfold left held
  iintro ⟨H, HSI⟩
  ihave %h := (SI_pointsTo_bufs_agree (qs := fun _ => fullShare) (ucRefs τ sig)) $$ [HSI H]
  · isplitl [HSI]; · iexact HSI
    iexact H
  ipureintro
  exact fun b hb => h _ (uc_of hb)

/-- Every execution of the program terminates, with every buffer at its last contents and every counter at zero. -/
theorem run_main [∀ e, Nonempty (Elt F e)] (hA : TokOK (contsA m)) (hR : RowOK (contsB m)) (hN : NbOK (contsB m)) :
    θ_run (defs (F := F)) (threads (F := F)) ⟨m, fun _ => 0, ρ⟩
      fun r => (∀ (d : Dev nD) (b : Ref sig .tc), b.isScoped = false → r.2.mem (bLoc d b) = va8 m d (dr b)) ∧ r.2.sem = fun _ => 0 :=
  SparseCore.Cfg.θ_run_sc_quiescent (K := K (F := F)) (D := D (F := F)) (𝒱 := 𝒱) (EH := EH) (P := PP m) (A := ∅) facts v₀
    (fun q hq => match q with | 0 => nomatch hq | 1 => nomatch hq)
    (fun q _ => match q with | 0 => tileObl0 (contsA m) (contsB m) facts hA | 1 => tileObl1 (contsA m) (contsB m) facts hR hN)
    (fun q _ => SparseCore.Cfg.VecSplit.of_plain (vecSplit (contsA m) (contsB m) q))
    m ρ main (fun d => ghost (F := F) d) (left m) (u₀ (F := F)) (sep_elim_left.trans (hu₀ m)) (hmain m ρ) (fq m) (hfin m) _ (fun _ h hz => ⟨h, hz⟩)

end Cert.Proof.Sense

end
-- ==== Proof.Pre.lean ====
/-
  What the precondition says of the arguments: the tokens, the neighbour table's entries and the ten candidates of each
  row are numbers below 100000.
-/
module

public import proofs.«01_k».proof.Pre_in_range
public import proofs.«01_k».proof.Proof.Gen.Pre_in_range
public import Idealize.ShloMosaic.Lib.ReduceAll
public import Idealize.ShloMosaic.Lib.WordCmp
public import Idealize.ShloMosaic.Lib.Pipeline.Value
public import Idealize.ShloMosaic.Lib.StableHlo.Predicate

@[expose] public section

namespace Cert.Proof.Sense

open Idealize.ShloMosaic Cert.Pre_in_range Cert.Pre_in_range.Gen

variable {F : FTy → Type} [FloatOps F]

/-- A word at least zero and below 100000, read signed, is below 100000 as a natural. -/
theorem lt_of_range (x : BitVec 32) (h : IntOp.andi (IntOp.cmpi .sge x 0#32) (IntOp.cmpi .slt x 100000#32) = 1#1) : x.toNat < 100000 := by
  rw [show (100000#32 : BitVec 32) = BitVec.ofNat 32 100000 from rfl, WordCmp.andi_sge_zero_slt_ofNat (by decide)] at h
  by_contra hc
  rw [decide_eq_false hc] at h
  exact absurd h (by decide)

instance : Subsingleton S_.Idx := ⟨fun a b => funext fun i => i.elim0⟩

/-- The precondition, element by element. -/
theorem pre_bounds {a0 : IVec S16x20 32} {a1 a2 : FVec F S100000x128 .f32} {a3 : IVec S100000x32 32} {a4 : IVec S320x16 32}
    (h : Cert.Pre_in_range.fn (F := F) a0 a1 a2 a3 a4 = fun _ => 1#1) :
    (∀ i, (a0 i).toNat < 100000) ∧ (∀ i, (a3 i).toNat < 100000) ∧ ∀ i : S320x16.Idx, (i 1).val < 10 → (a4 i).toNat < 100000 := by
  have h0 := congrFun h (fun i => i.elim0)
  dsimp only [fn, fn_part1] at h0
  obtain ⟨h1, h4⟩ := IntOp.andi_eq_one.1 h0
  obtain ⟨h2, h3⟩ := IntOp.andi_eq_one.1 h1
  refine ⟨fun i => ?_, fun i => ?_, fun i hi => ?_⟩
  · exact lt_of_range _ (Host.reduce_andi_all _ _ _ _ _ h2 i)
  · exact lt_of_range _ (Host.reduce_andi_all _ _ _ _ _ h3 i)
  · have e := lt_of_range _ (Host.reduce_andi_all _ _ _ _ _ h4 (fun | 0 => i 0 | 1 => ⟨(i 1).val, hi⟩))
    rwa [extractStridedSlice_apply _ _ _ _ i (fun a => by match a with | 0 => exact (Nat.zero_add _).symm | 1 => exact (Nat.zero_add _).symm)] at e

end Cert.Proof.Sense
-- ==== Proof.HostVals.lean ====
/-
  The kernel's host lines read element by element: the tokens' list, the two lists of the second call, the regrouped
  neighbour table; and the bounds the two SparseCore calls ask for, from the precondition.
-/
module

public import proofs.«01_k».proof.Proof.Main
public import proofs.«01_k».proof.Proof.Pre
public import Idealize.ShloMosaic.Lib.StableHlo.RunClose
public import Idealize.ShloMosaic.Lib.Pipeline.Value

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

open Idealize.ShloMosaic.TcCoe
open Idealize.ShloMosaic.StableHlo (held after)

variable [FloatOps F] [Named F]

variable (m : (ℓ : Loc nD τ sig) → Buf (Elt F) ℓ) (d : Dev nD)

/-- The arguments, by name. -/
abbrev argBatch : Vec F S16x20 .i32 := va0 m d (dr main_arg0)
abbrev argE : Vec F S100000x128 .f32 := va0 m d (dr main_arg1)
abbrev argX : Vec F S100000x128 .f32 := va0 m d (dr main_arg2)
abbrev argNb : Vec F S100000x32 .i32 := va0 m d (dr main_arg3)
abbrev argTop : Vec F S320x16 .i32 := va0 m d (dr main_arg4)

theorem va1_v3 : va1 m d (dr main_v3)
    = concatenate S512 0 [⟨S320, shapeCast S320 (transpose S20x16 [1, 0] (argBatch m d) transposes_S16x20_S20x16_1_0) shapeCasts_S20x16_S320⟩,
        ⟨S192, broadcastInDim S192 ![] bcast_S_S192 (constantI S_ 32 0#32)⟩] concatenates_S320_S192_S512_d0 := by
  unfold va1 ops0
  after_results_simp
  rfl

theorem va2_ne {b : Ref sig .tc} (h : b ≠ main_v4) : va2 m d (dr b) = va1 m d (dr b) := Function.update_of_ne (dr_ne h) _ _
theorem va2_v4 : va2 m d (dr main_v4) = takeRows (F := F) (va1 m d (dr main_arg1)) (va1 m d (dr main_v3)) := Function.update_self _ _ _

/-- The sixteen candidates of a row as the second call has them: the ten, and the first again in the places past them. -/
def candVal (T : Vec F S320x16 .i32) : Vec F S320x16 .i32 :=
  select (broadcastInDim S320x16 ![0, 1] bcast_S1x16_S320x16_0_1
      (cmpi .slt (broadcastInDim S1x16 ![1] bcast_S16_S1x16_1 (iotaInDim S16 32 0)) (broadcastInDim S1x16 ![] bcast_S_S1x16 (constantI S_ 32 10#32))))
    T (broadcastInDim S320x16 ![0, 1] bcast_S320x1_S320x16_0_1 (extractStridedSlice S320x1 ![0, 0] T slices_S320x16_S320x1_0_0))

theorem va3_v5 : va3 m d (dr main_v5) = extractStridedSlice S320x128 ![0, 0] (va2 m d (dr main_v4)) slices_S512x128_S320x128_0_0 := by
  unfold va3 ops1
  after_results_simp

theorem va3_v12 : va3 m d (dr main_v12) = shapeCast S25000x128 (va2 m d (dr main_arg3)) shapeCasts_S100000x32_S25000x128 := by
  unfold va3 ops1
  after_results_simp
  rfl

theorem va3_v14 : va3 m d (dr main_v14)
    = Host.shrui (candVal (F := F) (va2 m d (dr main_arg4))) (broadcastInDim S320x16 ![] bcast_S_S320x16 (constantI S_ 32 2#32)) := by
  unfold va3 ops1 candVal
  after_results_simp
  rfl

theorem va3_v26 : va3 m d (dr main_v26)
    = shapeCast S320x320 (addi
        (broadcastInDim S320x10x32 ![0, 1, 2] bcast_S320x10x1_S320x10x32_0_1_2 (broadcastInDim S320x10x1 ![0, 1] bcast_S320x10_S320x10x1_0_1
          (Host.shli (andi (extractStridedSlice S320x10 ![0, 0] (candVal (F := F) (va2 m d (dr main_arg4))) slices_S320x16_S320x10_0_0)
            (broadcastInDim S320x10 ![] bcast_S_S320x10 (constantI S_ 32 3#32))) (broadcastInDim S320x10 ![] bcast_S_S320x10 (constantI S_ 32 5#32)))))
        (broadcastInDim S320x10x32 ![0, 1, 2] bcast_S1x1x32_S320x10x32_0_1_2 (broadcastInDim S1x1x32 ![2] bcast_S32_S1x1x32_2 (iotaInDim S32 32 0))))
      shapeCasts_S320x10x32_S320x320 := by
  unfold va3 ops1 candVal
  after_results_simp
  rfl

/-! ## Element by element -/

/-- The tokens' list below its padding: the batch's transpose, row after row. -/
theorem tok_at (B : Vec F S16x20 .i32) (x : S512.Idx) (hx : (x 0).val < 320) :
    concatenate S512 0 [⟨S320, shapeCast S320 (transpose S20x16 [1, 0] B transposes_S16x20_S20x16_1_0) shapeCasts_S20x16_S320⟩,
        ⟨S192, broadcastInDim S192 ![] bcast_S_S192 (constantI S_ 32 0#32)⟩] concatenates_S320_S192_S512_d0 x
      = B (ix2 (⟨(x 0).val % 16, by omega⟩ : Fin 16) (⟨(x 0).val / 16, by omega⟩ : Fin 20)) := by
  rw [concatenate_pair_apply_left (s₁ := S320) (s₂ := S192) 0 _ _ _ x rfl (ix1 (⟨(x 0).val, hx⟩ : Fin 320) : S320.Idx) (fun b => by match b with | 0 => rfl)]
  rw [shapeCast_apply _ _ _ (ix2 (⟨(x 0).val / 16, by omega⟩ : Fin 20) (⟨(x 0).val % 16, by omega⟩ : Fin 16) : S20x16.Idx)
    (by rw [Shape.rowMajor_val_two, Shape.rowMajor_val_one]; show (x 0).val / 16 * 16 + (x 0).val % 16 = (x 0).val; omega)]
  exact transpose_apply _ _ _ _ _ (fun b => by match b with | 0 => rfl | 1 => rfl)

/-- And in its padding. -/
theorem tok_pad (B : Vec F S16x20 .i32) (x : S512.Idx) (hx : ¬ (x 0).val < 320) :
    concatenate S512 0 [⟨S320, shapeCast S320 (transpose S20x16 [1, 0] B transposes_S16x20_S20x16_1_0) shapeCasts_S20x16_S320⟩,
        ⟨S192, broadcastInDim S192 ![] bcast_S_S192 (constantI S_ 32 0#32)⟩] concatenates_S320_S192_S512_d0 x = 0#32 := by
  have hx' : (x 0).val < 512 := (x 0).isLt
  rw [concatenate_pair_apply_right (s₁ := S320) (s₂ := S192) 0 _ _ _ x rfl rfl (ix1 (⟨(x 0).val - 320, by omega⟩ : Fin 192) : S192.Idx)
    (fun b hb => by match b with | 0 => exact absurd rfl hb) (by show (x 0).val - 320 + 320 = (x 0).val; omega)]
  rfl

/-- The candidates: the ten, then the first again. -/
theorem candVal_at (T : Vec F S320x16 .i32) (x : S320x16.Idx) :
    candVal (F := F) T x = if (x 1).val < 10 then T x else T (ix2 (x 0) (0 : Fin 16)) := by
  have hx : (x 1).val < 16 := (x 1).isLt
  have e1 : broadcastInDim S320x16 ![0, 1] bcast_S1x16_S320x16_0_1
      (cmpi .slt (broadcastInDim S1x16 ![1] bcast_S16_S1x16_1 (iotaInDim S16 32 0)) (broadcastInDim S1x16 ![] bcast_S_S1x16 (constantI S_ 32 10#32))) x
      = IntOp.cmpi .slt (BitVec.ofNat 32 (x 1).val) (BitVec.ofNat 32 10) := by
    rw [broadcastInDim_apply _ _ _ x (ix2 (0 : Fin 1) (x 1) : S1x16.Idx) (fun a => by match a with | 0 => rfl | 1 => rfl)]
    show IntOp.cmpi .slt (broadcastInDim S1x16 ![1] bcast_S16_S1x16_1 (iotaInDim S16 32 0) _) _ = _
    rw [broadcastInDim_apply _ _ _ _ (ix1 (x 1) : S16.Idx) (fun a => by match a with | 0 => rfl)]
    rfl
  have e2 : broadcastInDim S320x16 ![0, 1] bcast_S320x1_S320x16_0_1 (extractStridedSlice S320x1 ![0, 0] T slices_S320x16_S320x1_0_0) x
      = T (ix2 (x 0) (0 : Fin 16)) := by
    rw [broadcastInDim_apply _ _ _ x (ix2 (x 0) (0 : Fin 1) : S320x1.Idx) (fun a => by match a with | 0 => rfl | 1 => rfl)]
    exact extractStridedSlice_apply _ _ _ _ _ (fun a => by match a with | 0 => exact (Nat.zero_add _).symm | 1 => rfl)
  show Scalar.select _ (T x) _ = _
  rw [e1, e2, WordCmp.cmpi_slt_ofNat (by omega) (by omega)]
  by_cases h : (x 1).val < 10
  · rw [decide_eq_true h, if_pos h]; rfl
  · rw [decide_eq_false h, if_neg h]; rfl

theorem nbr4_at (N : Vec F S100000x32 .i32) (x : S25000x128.Idx) :
    shapeCast S25000x128 N shapeCasts_S100000x32_S25000x128 x
      = N (ix2 (⟨4 * (x 0).val + (x 1).val / 32, by have := (x 0).isLt; have := (x 1).isLt; change _ < 25000 at *; change _ < 128 at *; omega⟩ : Fin 100000)
          (⟨(x 1).val % 32, by omega⟩ : Fin 32)) := by
  refine shapeCast_apply _ _ _ _ ?_
  rw [Shape.rowMajor_val_two, Shape.rowMajor_val_two]
  show (4 * (x 0).val + (x 1).val / 32) * 32 + (x 1).val % 32 = (x 0).val * 128 + (x 1).val
  omega

/-- A candidate's row of the regrouped table. -/
theorem krow_at (T : Vec F S320x16 .i32) (x : S320x16.Idx) :
    Host.shrui (candVal (F := F) T) (broadcastInDim S320x16 ![] bcast_S_S320x16 (constantI S_ 32 2#32)) x = candVal (F := F) T x >>> 2 := rfl

/-- The lane a neighbour is taken from. -/
theorem lane_at (T : Vec F S320x16 .i32) (x : S320x320.Idx) :
    shapeCast S320x320 (addi
        (broadcastInDim S320x10x32 ![0, 1, 2] bcast_S320x10x1_S320x10x32_0_1_2 (broadcastInDim S320x10x1 ![0, 1] bcast_S320x10_S320x10x1_0_1
          (Host.shli (andi (extractStridedSlice S320x10 ![0, 0] (candVal (F := F) T) slices_S320x16_S320x10_0_0)
            (broadcastInDim S320x10 ![] bcast_S_S320x10 (constantI S_ 32 3#32))) (broadcastInDim S320x10 ![] bcast_S_S320x10 (constantI S_ 32 5#32)))))
        (broadcastInDim S320x10x32 ![0, 1, 2] bcast_S1x1x32_S320x10x32_0_1_2 (broadcastInDim S1x1x32 ![2] bcast_S32_S1x1x32_2 (iotaInDim S32 32 0))))
      shapeCasts_S320x10x32_S320x320 x
      = ((T (ix2 (x 0) (⟨(x 1).val / 32, by have := (x 1).isLt; change _ < 320 at this; omega⟩ : Fin 16)) &&& 3#32) <<< 5)
        + BitVec.ofNat 32 ((x 1).val % 32) := by
  have hx : (x 1).val < 320 := (x 1).isLt
  let j : Fin 10 := ⟨(x 1).val / 32, by omega⟩
  let g : Fin 32 := ⟨(x 1).val % 32, by omega⟩
  rw [shapeCast_apply _ _ _ (ix3 (x 0) j g : S320x10x32.Idx)
    (by rw [Shape.rowMajor_val_two, Shape.rowMajor_val_three]; show ((x 0).val * 10 + (x 1).val / 32) * 32 + (x 1).val % 32 = (x 0).val * 320 + (x 1).val; omega)]
  show IntOp.addi _ _ = _
  rw [broadcastInDim_apply _ _ _ _ (ix3 (x 0) j (0 : Fin 1) : S320x10x1.Idx) (fun a => by match a with | 0 => rfl | 1 => rfl | 2 => rfl),
    broadcastInDim_apply _ _ _ _ (ix2 (x 0) j : S320x10.Idx) (fun a => by match a with | 0 => rfl | 1 => rfl),
    broadcastInDim_apply _ _ _ _ (ix3 (0 : Fin 1) (0 : Fin 1) g : S1x1x32.Idx) (fun a => by match a with | 0 => rfl | 1 => rfl | 2 => rfl),
    broadcastInDim_apply _ _ _ _ (ix1 g : S32.Idx) (fun a => by match a with | 0 => rfl)]
  show IntOp.addi (IntOp.shli .host (IntOp.andi (extractStridedSlice S320x10 ![0, 0] (candVal (F := F) T) slices_S320x16_S320x10_0_0 _) 3#32) 5#32) (BitVec.ofNat 32 g.val) = _
  rw [extractStridedSlice_apply _ _ _ _ (ix2 (x 0) (⟨(x 1).val / 32, by omega⟩ : Fin 16) : S320x16.Idx)
    (fun a => by match a with | 0 => exact (Nat.zero_add _).symm | 1 => exact (Nat.zero_add _).symm), candVal_at,
    if_pos (show ((ix2 (x 0) (⟨(x 1).val / 32, by omega⟩ : Fin 16) : S320x16.Idx) 1).val < 10 from (by omega : (x 1).val / 32 < 10))]
  rfl

/-! ## The bounds -/

/-- The precondition of the arguments of device `d`. -/
abbrev InRange : Prop :=
  (∀ i, (argBatch m d i).toNat < 100000) ∧ (∀ i, (argNb m d i).toNat < 100000) ∧ ∀ i : S320x16.Idx, (i 1).val < 10 → (argTop m d i).toNat < 100000

theorem va2_arg3 : va2 m d (dr main_arg3) = argNb m d := (va2_ne m d (by decide)).trans (ops0_keep _ (by decide))
theorem va2_arg4 : va2 m d (dr main_arg4) = argTop m d := (va2_ne m d (by decide)).trans (ops0_keep _ (by decide))

variable {m d}

theorem cand_lt (h : InRange m d) (x : S320x16.Idx) : (candVal (F := F) (argTop m d) x).toNat < 100000 := by
  rw [candVal_at]
  split
  · exact h.2.2 x ‹_›
  · exact h.2.2 _ (by decide : (0 : ℕ) < 10)

theorem tokOK (h : ∀ d, InRange m d) : TokOK (contsA m) := by
  intro d x
  show (va1 m d (dr main_v3) x).toNat < 100000
  rw [va1_v3]
  by_cases hx : (x 0).val < 320
  · rw [tok_at _ _ hx]; exact (h d).1 _
  · rw [tok_pad _ _ hx]; decide

theorem rowOK (h : ∀ d, InRange m d) : RowOK (contsB m) := by
  intro d x
  show (va3 m d (dr main_v14) x).toNat < 25000
  rw [va3_v14, krow_at, va2_arg4, BitVec.toNat_ushiftRight, Nat.shiftRight_eq_div_pow]
  have := cand_lt (h d) x
  omega

theorem nbOK (h : ∀ d, InRange m d) : NbOK (contsB m) := by
  intro d x
  show (va3 m d (dr main_v12) x).toNat < 100000
  rw [va3_v12, nbr4_at, va2_arg3]
  exact (h d).2.1 _

end Cert.Proof.Sense

end
-- ==== Proof.Ends.lean ====
/-
  What every final state of a launch whose arguments are in range holds of the result and of the arguments.
-/
module

public import proofs.«01_k».proof.Proof.Run
public import proofs.«01_k».proof.Proof.HostVals

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.TcCoe
open Idealize.ShloMosaic.StableHlo (held after)

section
variable [FloatOps F] [Named F]

/-- A buffer no line writes and no call fills ends as it began. -/
theorem va8_keep (m : (ℓ : Loc nD τ sig) → Buf (Elt F) ℓ) (d : Dev nD) {b : Ref sig .tc} (h0 : b ∉ wr0) (h1 : b ∉ wr1) (h2 : b ∉ wr2) (h3 : b ∉ wr3)
    (n4 : b ≠ main_v4) (na : b ≠ main_v27_0) (nb : b ≠ main_v27_1) (n36 : b ≠ main_v36) (n38 : b ≠ main_v38) :
    va8 m d (dr b) = m (bLoc d b) := by
  have e1 : va1 m d (dr b) = m (bLoc d b) := ops0_keep _ h0
  have e3 : va3 m d (dr b) = va2 m d (dr b) := ops1_keep _ h1
  have e4 : va4 m d (dr b) = va3 m d (dr b) := (Function.update_of_ne (dr_ne nb) _ _).trans (Function.update_of_ne (dr_ne na) _ _)
  have e5 : va5 m d (dr b) = va4 m d (dr b) := ops2_keep _ h2
  have e6 : va6 m d (dr b) = va5 m d (dr b) := Function.update_of_ne (dr_ne n36) _ _
  have e7 : va7 m d (dr b) = va6 m d (dr b) := ops3_keep _ h3
  have e8 : va8 m d (dr b) = va7 m d (dr b) := Function.update_of_ne (dr_ne n38) _ _
  rw [e8, e7, e6, e5, e4, e3, va2_ne m d n4, e1]

/-- What a final state holds of the result and of the arguments. -/
abbrev Ends (m : (ℓ : Loc nD τ sig) → Buf (Elt F) ℓ) (mem : (ℓ : Loc nD τ sig) → Buf (Elt F) ℓ) : Prop :=
  ∀ c : Dev nD, mem (bLoc c main_v38) = va8 m c (dr main_v38) ∧ mem (bLoc c main_arg0) = m (bLoc c main_arg0) ∧ mem (bLoc c main_arg1) = m (bLoc c main_arg1)
    ∧ mem (bLoc c main_arg2) = m (bLoc c main_arg2) ∧ mem (bLoc c main_arg3) = m (bLoc c main_arg3) ∧ mem (bLoc c main_arg4) = m (bLoc c main_arg4)

theorem run_ends [∀ e, Nonempty (Elt F e)] (m : (ℓ : Loc nD τ sig) → Buf (Elt F) ℓ) (ρ : Dev nD → PrngReg) (h : ∀ d, InRange m d) :
    θ_run (defs (F := F)) (threads (F := F)) ⟨m, fun _ => 0, ρ⟩ fun r => Ends m r.2.mem ∧ r.2.sem = fun _ => 0 := by
  refine (θ_run _ _ _).mono (fun r hr => ⟨fun c => ⟨hr.1 c _ rfl, ?_, ?_, ?_, ?_, ?_⟩, hr.2⟩) (run_main m ρ (tokOK h) (rowOK h) (nbOK h)) <;>
  exact (hr.1 c _ rfl).trans (va8_keep m c (by decide) (by decide) (by decide) (by decide) (by decide) (by decide) (by decide) (by decide) (by decide))

/-- The arguments alone, and the semaphores. -/
theorem run_frame [∀ e, Nonempty (Elt F e)] (m : (ℓ : Loc nD τ sig) → Buf (Elt F) ℓ) (ρ : Dev nD → PrngReg) (h : ∀ d, InRange m d) :
    θ_run (defs (F := F)) (threads (F := F)) ⟨m, fun _ => 0, ρ⟩ fun r => (∀ c : Dev nD, r.2.mem (bLoc c main_arg0) = m (bLoc c main_arg0) ∧ r.2.mem (bLoc c main_arg1) = m (bLoc c main_arg1)
      ∧ r.2.mem (bLoc c main_arg2) = m (bLoc c main_arg2) ∧ r.2.mem (bLoc c main_arg3) = m (bLoc c main_arg3) ∧ r.2.mem (bLoc c main_arg4) = m (bLoc c main_arg4)) ∧ r.2.sem = fun _ => 0 :=
  (θ_run _ _ _).mono (fun _ hr => ⟨fun c => (hr.1 c).2, hr.2⟩) (run_ends m ρ h)

end

end Cert.Proof.Sense

end
-- ==== Proof.PrintedEnds.lean ====
/-
  For the kernel as printed, before its constants are named.
  What every final state of a launch whose arguments are in range holds of the result and of the arguments.
-/
module

public import proofs.«01_k».proof.Proof.PrintedRun
public import proofs.«01_k».proof.Proof.PrintedHostVals

@[expose] public section

noncomputable section

namespace Cert.Proof.Printed

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.TcCoe
open Idealize.ShloMosaic.StableHlo (held after)

section
variable [FloatOps F]

/-- A buffer no line writes and no call fills ends as it began. -/
theorem va8_keep (m : (ℓ : Loc nD τ sig) → Buf (Elt F) ℓ) (d : Dev nD) {b : Ref sig .tc} (h0 : b ∉ wr0) (h1 : b ∉ wr1) (h2 : b ∉ wr2) (h3 : b ∉ wr3)
    (n4 : b ≠ main_v4) (na : b ≠ main_v27_0) (nb : b ≠ main_v27_1) (n36 : b ≠ main_v36) (n38 : b ≠ main_v38) :
    va8 m d (dr b) = m (bLoc d b) := by
  have e1 : va1 m d (dr b) = m (bLoc d b) := ops0_keep _ h0
  have e3 : va3 m d (dr b) = va2 m d (dr b) := ops1_keep _ h1
  have e4 : va4 m d (dr b) = va3 m d (dr b) := (Function.update_of_ne (dr_ne nb) _ _).trans (Function.update_of_ne (dr_ne na) _ _)
  have e5 : va5 m d (dr b) = va4 m d (dr b) := ops2_keep _ h2
  have e6 : va6 m d (dr b) = va5 m d (dr b) := Function.update_of_ne (dr_ne n36) _ _
  have e7 : va7 m d (dr b) = va6 m d (dr b) := ops3_keep _ h3
  have e8 : va8 m d (dr b) = va7 m d (dr b) := Function.update_of_ne (dr_ne n38) _ _
  rw [e8, e7, e6, e5, e4, e3, va2_ne m d n4, e1]

/-- What a final state holds of the result and of the arguments. -/
abbrev Ends (m : (ℓ : Loc nD τ sig) → Buf (Elt F) ℓ) (mem : (ℓ : Loc nD τ sig) → Buf (Elt F) ℓ) : Prop :=
  ∀ c : Dev nD, mem (bLoc c main_v38) = va8 m c (dr main_v38) ∧ mem (bLoc c main_arg0) = m (bLoc c main_arg0) ∧ mem (bLoc c main_arg1) = m (bLoc c main_arg1)
    ∧ mem (bLoc c main_arg2) = m (bLoc c main_arg2) ∧ mem (bLoc c main_arg3) = m (bLoc c main_arg3) ∧ mem (bLoc c main_arg4) = m (bLoc c main_arg4)

theorem run_ends [∀ e, Nonempty (Elt F e)] (m : (ℓ : Loc nD τ sig) → Buf (Elt F) ℓ) (ρ : Dev nD → PrngReg) (h : ∀ d, InRange m d) :
    θ_run (defs (F := F)) (threads (F := F)) ⟨m, fun _ => 0, ρ⟩ fun r => Ends m r.2.mem ∧ r.2.sem = fun _ => 0 := by
  refine (θ_run _ _ _).mono (fun r hr => ⟨fun c => ⟨hr.1 c _ rfl, ?_, ?_, ?_, ?_, ?_⟩, hr.2⟩) (run_main m ρ (tokOK h) (rowOK h) (nbOK h)) <;>
  exact (hr.1 c _ rfl).trans (va8_keep m c (by decide) (by decide) (by decide) (by decide) (by decide) (by decide) (by decide) (by decide) (by decide))

/-- The arguments alone, and the semaphores. -/
theorem run_frame [∀ e, Nonempty (Elt F e)] (m : (ℓ : Loc nD τ sig) → Buf (Elt F) ℓ) (ρ : Dev nD → PrngReg) (h : ∀ d, InRange m d) :
    θ_run (defs (F := F)) (threads (F := F)) ⟨m, fun _ => 0, ρ⟩ fun r => (∀ c : Dev nD, r.2.mem (bLoc c main_arg0) = m (bLoc c main_arg0) ∧ r.2.mem (bLoc c main_arg1) = m (bLoc c main_arg1)
      ∧ r.2.mem (bLoc c main_arg2) = m (bLoc c main_arg2) ∧ r.2.mem (bLoc c main_arg3) = m (bLoc c main_arg3) ∧ r.2.mem (bLoc c main_arg4) = m (bLoc c main_arg4)) ∧ r.2.sem = fun _ => 0 :=
  (θ_run _ _ _).mono (fun _ hr => ⟨fun c => (hr.1 c).2, hr.2⟩) (run_ends m ρ h)

end

end Cert.Proof.Printed

end
-- ==== Proof.Frames.lean ====
/-
  The frames of the kernel: as printed and idealized, it runs, leaves its arguments and puts every semaphore back.
-/
module

public import proofs.«01_k».proof.Defs
public import proofs.«01_k».proof.Proof.Ends
public import proofs.«01_k».proof.Proof.PrintedEnds

@[expose] public section

namespace Cert.Proof

open Idealize.ShloMosaic Idealize.SL.Sem

theorem inRange_ideal (m : (ℓ : Loc Cert.KernelIdeal.nD Cert.KernelIdeal.τ Cert.KernelIdeal.sig) → Buf (Elt Ideal) ℓ) (h : Cert.Pre_KernelIdeal m) :
    ∀ d, Sense.InRange (F := Ideal) m d := fun d => Sense.pre_bounds (h d)

theorem inRange_bits (m : (ℓ : Loc Cert.Kernel.nD Cert.Kernel.τ Cert.Kernel.sig) → Buf (Elt Bits) ℓ) (h : Cert.Pre_Kernel m) :
    ∀ d, Printed.InRange (F := Bits) m d := fun d => Sense.pre_bounds (h d)

theorem frame_ideal : Cert.quiescent_KernelIdeal := fun m g h => Sense.run_frame m g (inRange_ideal m h)

theorem frame_bits : Cert.quiescent_Kernel := fun m g h => Printed.run_frame m g (inRange_bits m h)

end Cert.Proof
-- ==== Proof.RefOps.lean ====
/-
  The reference's host operations as lists, the reference as those lists in a row, and what every final state of it holds.
-/
module

public import proofs.«01_k».proof.ReferenceIdeal
public import proofs.«01_k».proof.Proof.Gen.ReferenceIdeal
public import Idealize.ShloMosaic.Lib.StableHlo.Run
public import Idealize.ShloMosaic.Lib.Quiescent
public import Idealize.ShloMosaic.Lib.Pipeline.Frame
public import Idealize.ShloMosaic.Lib.StableHlo.RunClose

@[expose] public section

noncomputable section

namespace Cert.Proof.Ref

open Cert.ReferenceIdeal Cert.ReferenceIdeal.Gen
open Idealize.ShloMosaic Idealize.SL.Sem

variable {F : FTy → Type} [FloatOps F]

/-- The looked-up rows: the tokens' embeddings, the neighbours and the senses' vectors. -/
abbrev ops0 : List (HloOp τ sig (Elt F)) :=
  [ StableHlo.TRef.unary (.of main_arg0 : StableHlo.TRef sig ⟨S16x20, .i32⟩) main_call0.v0 (broadcastInDim S16x20x1 ![0, 1] bcast_S16x20_S16x20x1_0_1)
  , StableHlo.TRef.binary (.of main_arg1 : StableHlo.TRef sig ⟨S100000x128, .f32⟩) main_call0.v0 main_call0.v1 (fun x i => Host.gather gather_S100000x128_S16x20x1_S16x20x128_2_0_n_n_0_2_1128 x i)
  , StableHlo.unary main_arg4 main_v1 ((extractStridedSlice S320x10 ![0, 0] · slices_S320x16_S320x10_0_0) : (⟨S320x16, .i32⟩ : BufTy).Contents (Elt F) → (⟨S320x10, .i32⟩ : BufTy).Contents (Elt F))
  , StableHlo.TRef.unary (.of main_v1 : StableHlo.TRef sig ⟨S320x10, .i32⟩) main_call1.v0 (broadcastInDim S320x10x1 ![0, 1] bcast_S320x10_S320x10x1_0_1)
  , StableHlo.TRef.binary (.of main_arg3 : StableHlo.TRef sig ⟨S100000x32, .i32⟩) main_call1.v0 main_call1.v1 (fun x i => Host.gather gather_S100000x32_S320x10x1_S320x10x32_2_0_n_n_0_2_132 x i)
  , StableHlo.reshape main_v2 main_v3 (rfl : (.i32 : EltTy) = .i32) shapeCasts_S320x10x32_S320x320
  , StableHlo.TRef.unary (.of main_v3 : StableHlo.TRef sig ⟨S320x320, .i32⟩) main_call2.v0 (broadcastInDim S320x320x1 ![0, 1] bcast_S320x320_S320x320x1_0_1)
  , StableHlo.TRef.binary (.of main_arg2 : StableHlo.TRef sig ⟨S100000x128, .f32⟩) main_call2.v0 main_call2.v1 (fun x i => Host.gather gather_S100000x128_S320x320x1_S320x320x128_2_0_n_n_0_2_1128 x i)
  , StableHlo.reshape main_v0 main_v5 (rfl : (.f32 : EltTy) = .f32) shapeCasts_S16x20x128_S320x128 ]

/-- The contexts, and their inner products with the senses' vectors. -/
abbrev ops1 : List (HloOp τ sig (Elt F)) :=
  [ StableHlo.nullary main_cst (constant S_ .f32 0x40A00000#32)
  , StableHlo.unary main_cst main_v6 (broadcastInDim S320x128 ![] bcast_S_S320x128 : (⟨S_, .f32⟩ : BufTy).Contents (Elt F) → (⟨S320x128, .f32⟩ : BufTy).Contents (Elt F))
  , StableHlo.binary main_v5 main_v6 main_v7 (Host.divf : (⟨S320x128, .f32⟩ : BufTy).Contents (Elt F) → (⟨S320x128, .f32⟩ : BufTy).Contents (Elt F) → (⟨S320x128, .f32⟩ : BufTy).Contents (Elt F))
  , StableHlo.unary main_v7 main_v8 (broadcastInDim S320x1x128 ![0, 2] bcast_S320x128_S320x1x128_0_2 : (⟨S320x128, .f32⟩ : BufTy).Contents (Elt F) → (⟨S320x1x128, .f32⟩ : BufTy).Contents (Elt F))
  , StableHlo.unary main_v8 main_v9 (broadcastInDim S320x320x128 ![0, 1, 2] bcast_S320x1x128_S320x320x128_0_1_2 : (⟨S320x1x128, .f32⟩ : BufTy).Contents (Elt F) → (⟨S320x320x128, .f32⟩ : BufTy).Contents (Elt F))
  , StableHlo.binary main_v9 main_v4 main_v10 (mulf : (⟨S320x320x128, .f32⟩ : BufTy).Contents (Elt F) → (⟨S320x320x128, .f32⟩ : BufTy).Contents (Elt F) → (⟨S320x320x128, .f32⟩ : BufTy).Contents (Elt F))
  , StableHlo.nullary main_cst_0 (constant S_ .f32 0x00000000#32)
  , StableHlo.binary main_v10 main_cst_0 main_v11 ((fun x v => Host.reduceAdd x v reducesTo_S320x320x128_S320x320_d2 h_S_) : (⟨S320x320x128, .f32⟩ : BufTy).Contents (Elt F) → (⟨S_, .f32⟩ : BufTy).Contents (Elt F) → (⟨S320x320, .f32⟩ : BufTy).Contents (Elt F)) ]

/-- The norms and the cosines. -/
abbrev ops2 : List (HloOp τ sig (Elt F)) :=
  [ StableHlo.TRef.binary (.of main_v7 : StableHlo.TRef sig ⟨S320x128, .f32⟩) (.of main_v7 : StableHlo.TRef sig ⟨S320x128, .f32⟩) main_call3.v0 mulf
  , StableHlo.TRef.nullary main_call3.cst (constant S_ .f32 0x00000000#32)
  , StableHlo.TRef.binary main_call3.v0 main_call3.cst main_call3.v1 (fun x v => Host.reduceAdd x v reducesTo_S320x128_S320_d1 h_S_)
  , StableHlo.TRef.unary main_call3.v1 main_call3.v2 Host.sqrt
  , StableHlo.unary main_v12 main_v13 (broadcastInDim S320x1 ![0] bcast_S320_S320x1_0 : (⟨S320, .f32⟩ : BufTy).Contents (Elt F) → (⟨S320x1, .f32⟩ : BufTy).Contents (Elt F))
  , StableHlo.TRef.binary (.of main_v4 : StableHlo.TRef sig ⟨S320x320x128, .f32⟩) (.of main_v4 : StableHlo.TRef sig ⟨S320x320x128, .f32⟩) main_call4.v0 mulf
  , StableHlo.TRef.nullary main_call4.cst (constant S_ .f32 0x00000000#32)
  , StableHlo.TRef.binary main_call4.v0 main_call4.cst main_call4.v1 (fun x v => Host.reduceAdd x v reducesTo_S320x320x128_S320x320_d2 h_S_)
  , StableHlo.TRef.unary main_call4.v1 main_call4.v2 Host.sqrt
  , StableHlo.unary main_v13 main_v15 (broadcastInDim S320x320 ![0, 1] bcast_S320x1_S320x320_0_1 : (⟨S320x1, .f32⟩ : BufTy).Contents (Elt F) → (⟨S320x320, .f32⟩ : BufTy).Contents (Elt F))
  , StableHlo.binary main_v15 main_v14 main_v16 (mulf : (⟨S320x320, .f32⟩ : BufTy).Contents (Elt F) → (⟨S320x320, .f32⟩ : BufTy).Contents (Elt F) → (⟨S320x320, .f32⟩ : BufTy).Contents (Elt F))
  , StableHlo.nullary main_cst_1 (constant S_ .f32 0x2B8CBCCC#32)
  , StableHlo.unary main_cst_1 main_v17 (broadcastInDim S320x320 ![] bcast_S_S320x320 : (⟨S_, .f32⟩ : BufTy).Contents (Elt F) → (⟨S320x320, .f32⟩ : BufTy).Contents (Elt F))
  , StableHlo.binary main_v16 main_v17 main_v18 (addf : (⟨S320x320, .f32⟩ : BufTy).Contents (Elt F) → (⟨S320x320, .f32⟩ : BufTy).Contents (Elt F) → (⟨S320x320, .f32⟩ : BufTy).Contents (Elt F))
  , StableHlo.binary main_v11 main_v18 main_v19 (Host.divf : (⟨S320x320, .f32⟩ : BufTy).Contents (Elt F) → (⟨S320x320, .f32⟩ : BufTy).Contents (Elt F) → (⟨S320x320, .f32⟩ : BufTy).Contents (Elt F)) ]

/-- The closest sense of each token. -/
abbrev ops3 : List (HloOp τ sig (Elt F)) :=
  [ StableHlo.TRef.nullary main_call5.v0 (iotaInDim S320x320 32 1)
  , StableHlo.TRef.nullary main_call5.cst (constant S_ .f32 0xFF800000#32)
  , StableHlo.TRef.nullary main_call5.c (constantI S_ 32 0#32)
  , StableHlo.TRef.quaternary (.of main_v19 : StableHlo.TRef sig ⟨S320x320, .f32⟩) main_call5.v0 main_call5.cst main_call5.c main_call5.v1_0 (fun x y u v j => (Host.argReduce reducer_argmax_f32_i32 x y u v reducesTo_S320x320_S320_d1 h_S_ j).1)
  , StableHlo.TRef.quaternary (.of main_v19 : StableHlo.TRef sig ⟨S320x320, .f32⟩) main_call5.v0 main_call5.cst main_call5.c main_call5.v1_1 (fun x y u v j => (Host.argReduce reducer_argmax_f32_i32 x y u v reducesTo_S320x320_S320_d1 h_S_ j).2)
  , StableHlo.unary main_v20 main_v21 (broadcastInDim S320x1 ![0] bcast_S320_S320x1_0 : (⟨S320, .i32⟩ : BufTy).Contents (Elt F) → (⟨S320x1, .i32⟩ : BufTy).Contents (Elt F))
  , StableHlo.TRef.nullary main_call6.c (constantI S_ 32 0#32)
  , StableHlo.TRef.unary main_call6.c main_call6.v0 (broadcastInDim S320x1 ![] bcast_S_S320x1)
  , StableHlo.TRef.binary (.of main_v21 : StableHlo.TRef sig ⟨S320x1, .i32⟩) main_call6.v0 main_call6.v1 (cmpi .slt)
  , StableHlo.TRef.nullary main_call6.c_0 (constantI S_ 32 320#32)
  , StableHlo.TRef.unary main_call6.c_0 main_call6.v2 (broadcastInDim S320x1 ![] bcast_S_S320x1)
  , StableHlo.TRef.binary (.of main_v21 : StableHlo.TRef sig ⟨S320x1, .i32⟩) main_call6.v2 main_call6.v3 addi
  , StableHlo.TRef.ternary main_call6.v1 main_call6.v3 (.of main_v21 : StableHlo.TRef sig ⟨S320x1, .i32⟩) main_call6.v4 select
  , StableHlo.TRef.reshape main_call6.v4 main_call6.v5 (rfl : (.i32 : EltTy) = .i32) shapeCasts_S320x1_S320x1x1
  , StableHlo.TRef.binary (.of main_v3 : StableHlo.TRef sig ⟨S320x320, .i32⟩) main_call6.v5 main_call6.v6 (fun x i => Host.gather gather_S320x320_S320x1x1_S320x1_n_1_0_0_1_2_11 x i)
  , StableHlo.reshape main_v22 main_v23 (rfl : (.i32 : EltTy) = .i32) shapeCasts_S320x1_S320 ]

/-- The scores scattered and their logarithms. -/
abbrev ops4 : List (HloOp τ sig (Elt F)) :=
  [ StableHlo.nullary main_cst_2 (constant S_ .f32 0x3F800000#32)
  , StableHlo.nullary main_cst_3 (constant S_ .f32 0x4CBEBC20#32)
  , StableHlo.binary main_cst_2 main_cst_3 main_v24 (Host.divf : (⟨S_, .f32⟩ : BufTy).Contents (Elt F) → (⟨S_, .f32⟩ : BufTy).Contents (Elt F) → (⟨S_, .f32⟩ : BufTy).Contents (Elt F))
  , StableHlo.nullary main_cst_4 (constant S_ .f32 0x47C34F80#32)
  , StableHlo.binary main_v24 main_cst_4 main_v25 (mulf : (⟨S_, .f32⟩ : BufTy).Contents (Elt F) → (⟨S_, .f32⟩ : BufTy).Contents (Elt F) → (⟨S_, .f32⟩ : BufTy).Contents (Elt F))
  , StableHlo.nullary main_cst_5 (constant S_ .f32 0x3F800000#32)
  , StableHlo.binary main_cst_5 main_v25 main_v26 (subf : (⟨S_, .f32⟩ : BufTy).Contents (Elt F) → (⟨S_, .f32⟩ : BufTy).Contents (Elt F) → (⟨S_, .f32⟩ : BufTy).Contents (Elt F))
  , StableHlo.unary main_v24 main_v27 (broadcastInDim S320x100000 ![] bcast_S_S320x100000 : (⟨S_, .f32⟩ : BufTy).Contents (Elt F) → (⟨S320x100000, .f32⟩ : BufTy).Contents (Elt F))
  , StableHlo.nullary main_v28 (iotaInDim S320 32 0)
  , StableHlo.nullary main_c (constantI S_ 32 0#32)
  , StableHlo.unary main_c main_v29 (broadcastInDim S320 ![] bcast_S_S320 : (⟨S_, .i32⟩ : BufTy).Contents (Elt F) → (⟨S320, .i32⟩ : BufTy).Contents (Elt F))
  , StableHlo.binary main_v28 main_v29 main_v30 (cmpi .slt : (⟨S320, .i32⟩ : BufTy).Contents (Elt F) → (⟨S320, .i32⟩ : BufTy).Contents (Elt F) → (⟨S320, .i1⟩ : BufTy).Contents (Elt F))
  , StableHlo.nullary main_c_6 (constantI S_ 32 320#32)
  , StableHlo.unary main_c_6 main_v31 (broadcastInDim S320 ![] bcast_S_S320 : (⟨S_, .i32⟩ : BufTy).Contents (Elt F) → (⟨S320, .i32⟩ : BufTy).Contents (Elt F))
  , StableHlo.binary main_v28 main_v31 main_v32 (addi : (⟨S320, .i32⟩ : BufTy).Contents (Elt F) → (⟨S320, .i32⟩ : BufTy).Contents (Elt F) → (⟨S320, .i32⟩ : BufTy).Contents (Elt F))
  , StableHlo.ternary main_v30 main_v32 main_v28 main_v33 (select : (⟨S320, .i1⟩ : BufTy).Contents (Elt F) → (⟨S320, .i32⟩ : BufTy).Contents (Elt F) → (⟨S320, .i32⟩ : BufTy).Contents (Elt F) → (⟨S320, .i32⟩ : BufTy).Contents (Elt F))
  , StableHlo.nullary main_c_7 (constantI S_ 32 0#32)
  , StableHlo.unary main_c_7 main_v34 (broadcastInDim S320 ![] bcast_S_S320 : (⟨S_, .i32⟩ : BufTy).Contents (Elt F) → (⟨S320, .i32⟩ : BufTy).Contents (Elt F))
  , StableHlo.binary main_v23 main_v34 main_v35 (cmpi .slt : (⟨S320, .i32⟩ : BufTy).Contents (Elt F) → (⟨S320, .i32⟩ : BufTy).Contents (Elt F) → (⟨S320, .i1⟩ : BufTy).Contents (Elt F))
  , StableHlo.nullary main_c_8 (constantI S_ 32 100000#32)
  , StableHlo.unary main_c_8 main_v36 (broadcastInDim S320 ![] bcast_S_S320 : (⟨S_, .i32⟩ : BufTy).Contents (Elt F) → (⟨S320, .i32⟩ : BufTy).Contents (Elt F))
  , StableHlo.binary main_v23 main_v36 main_v37 (addi : (⟨S320, .i32⟩ : BufTy).Contents (Elt F) → (⟨S320, .i32⟩ : BufTy).Contents (Elt F) → (⟨S320, .i32⟩ : BufTy).Contents (Elt F))
  , StableHlo.ternary main_v35 main_v37 main_v23 main_v38 (select : (⟨S320, .i1⟩ : BufTy).Contents (Elt F) → (⟨S320, .i32⟩ : BufTy).Contents (Elt F) → (⟨S320, .i32⟩ : BufTy).Contents (Elt F) → (⟨S320, .i32⟩ : BufTy).Contents (Elt F))
  , StableHlo.unary main_v33 main_v39 (broadcastInDim S320x1 ![0] bcast_S320_S320x1_0 : (⟨S320, .i32⟩ : BufTy).Contents (Elt F) → (⟨S320x1, .i32⟩ : BufTy).Contents (Elt F))
  , StableHlo.unary main_v38 main_v40 (broadcastInDim S320x1 ![0] bcast_S320_S320x1_0 : (⟨S320, .i32⟩ : BufTy).Contents (Elt F) → (⟨S320x1, .i32⟩ : BufTy).Contents (Elt F))
  , StableHlo.binary main_v39 main_v40 main_v41 ((fun a b => concatenate S320x2 1 [⟨S320x1, a⟩, ⟨S320x1, b⟩] concatenates_S320x1_S320x1_S320x2_d1) : (⟨S320x1, .i32⟩ : BufTy).Contents (Elt F) → (⟨S320x1, .i32⟩ : BufTy).Contents (Elt F) → (⟨S320x2, .i32⟩ : BufTy).Contents (Elt F))
  , StableHlo.unary main_v26 main_v42 (broadcastInDim S320 ![] bcast_S_S320 : (⟨S_, .f32⟩ : BufTy).Contents (Elt F) → (⟨S320, .f32⟩ : BufTy).Contents (Elt F))
  , StableHlo.ternary main_v27 main_v41 main_v42 main_v43 ((fun x i u => Host.scatter scatter_S320x100000_S320x2_S320_n_01_01_1 (fun _ b => b) x i u) : (⟨S320x100000, .f32⟩ : BufTy).Contents (Elt F) → (⟨S320x2, .i32⟩ : BufTy).Contents (Elt F) → (⟨S320, .f32⟩ : BufTy).Contents (Elt F) → (⟨S320x100000, .f32⟩ : BufTy).Contents (Elt F))
  , StableHlo.unary main_v43 main_v44 (Host.log : (⟨S320x100000, .f32⟩ : BufTy).Contents (Elt F) → (⟨S320x100000, .f32⟩ : BufTy).Contents (Elt F)) ]

/-- What the line writes. -/
abbrev wr0 : List (Ref sig .tc) := [main_call0_v0, main_v0, main_v1, main_call1_v0, main_v2, main_v3, main_call2_v0, main_v4, main_v5]

theorem ops0_sub : (ops0 (F := F)).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.binary_bufs_sub .., StableHlo.reshape_bufs_sub ..⟩
theorem ops0_keep (W : Valuation τ sig (Elt F)) {r : Ref sig .tc} (hr : r ∉ wr0) :
    StableHlo.after (ops0 (F := F)) W (Proc.devRef .tc r) = W (Proc.devRef .tc r) :=
  StableHlo.after_of_writes_sub ops0 W (StableHlo.forall_writes_sub_of_map (W := wr0) rfl) hr

/-- What the line writes. -/
abbrev wr1 : List (Ref sig .tc) := [main_cst, main_v6, main_v7, main_v8, main_v9, main_v10, main_cst_0, main_v11]

theorem ops1_sub : (ops1 (F := F)).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub ..⟩
theorem ops1_keep (W : Valuation τ sig (Elt F)) {r : Ref sig .tc} (hr : r ∉ wr1) :
    StableHlo.after (ops1 (F := F)) W (Proc.devRef .tc r) = W (Proc.devRef .tc r) :=
  StableHlo.after_of_writes_sub ops1 W (StableHlo.forall_writes_sub_of_map (W := wr1) rfl) hr

/-- What the line writes. -/
abbrev wr2 : List (Ref sig .tc) := [main_call3_v0, main_call3_cst, main_call3_v1, main_v12, main_v13, main_call4_v0, main_call4_cst, main_call4_v1, main_v14, main_v15, main_v16, main_cst_1, main_v17, main_v18, main_v19]

theorem ops2_sub : (ops2 (F := F)).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩
theorem ops2_keep (W : Valuation τ sig (Elt F)) {r : Ref sig .tc} (hr : r ∉ wr2) :
    StableHlo.after (ops2 (F := F)) W (Proc.devRef .tc r) = W (Proc.devRef .tc r) :=
  StableHlo.after_of_writes_sub ops2 W (StableHlo.forall_writes_sub_of_map (W := wr2) rfl) hr

/-- What the line writes. -/
abbrev wr3 : List (Ref sig .tc) := [main_call5_v0, main_call5_cst, main_call5_c, main_call5_v1_0, main_v20, main_v21, main_call6_c, main_call6_v0, main_call6_v1, main_call6_c_0, main_call6_v2, main_call6_v3, main_call6_v4, main_call6_v5, main_v22, main_v23]

theorem ops3_sub : (ops3 (F := F)).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub .., StableHlo.reshape_bufs_sub ..⟩
theorem ops3_keep (W : Valuation τ sig (Elt F)) {r : Ref sig .tc} (hr : r ∉ wr3) :
    StableHlo.after (ops3 (F := F)) W (Proc.devRef .tc r) = W (Proc.devRef .tc r) :=
  StableHlo.after_of_writes_sub ops3 W (StableHlo.forall_writes_sub_of_map (W := wr3) rfl) hr

/-- What the line writes. -/
abbrev wr4 : List (Ref sig .tc) := [main_cst_2, main_cst_3, main_v24, main_cst_4, main_v25, main_cst_5, main_v26, main_v27, main_v28, main_c, main_v29, main_v30, main_c_6, main_v31, main_v32, main_v33, main_c_7, main_v34, main_v35, main_c_8, main_v36, main_v37, main_v38, main_v39, main_v40, main_v41, main_v42, main_v43, main_v44]

theorem ops4_sub : (ops4 (F := F)).Forall fun op => op.bufs ⊆ StableHlo.tcRefs τ sig :=
  ⟨StableHlo.nullary_bufs_sub .., StableHlo.nullary_bufs_sub .., StableHlo.binary_bufs_sub .., StableHlo.nullary_bufs_sub .., StableHlo.binary_bufs_sub .., StableHlo.nullary_bufs_sub .., StableHlo.binary_bufs_sub .., StableHlo.unary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.unary_bufs_sub .., StableHlo.ternary_bufs_sub .., StableHlo.unary_bufs_sub ..⟩
theorem ops4_keep (W : Valuation τ sig (Elt F)) {r : Ref sig .tc} (hr : r ∉ wr4) :
    StableHlo.after (ops4 (F := F)) W (Proc.devRef .tc r) = W (Proc.devRef .tc r) :=
  StableHlo.after_of_writes_sub ops4 W (StableHlo.forall_writes_sub_of_map (W := wr4) rfl) hr

/-- The reference's whole line. -/
abbrev refOps : List (HloOp τ sig (Elt F)) := ops0 ++ (ops1 ++ (ops2 ++ (ops3 ++ ops4)))

theorem main_eq (d : Dev nD) : main (F := F) d = StableHlo.seq refOps := by
  simp only [main, fn_take.body, fn_take_0.body, fn_take_1.body, fn_norm.body, fn_norm_2.body, fn_argmax.body, fn_take_along_axis.body,
    refOps, ops0, ops1, ops2, ops3, ops4, List.cons_append, List.nil_append, StableHlo.seq, bind_assoc, pure_bind]

theorem refOps_sub : (refOps (F := F)).Forall fun op => op.bufs ⊆ StableHlo.tcRefs τ sig := by
  simp only [refOps, List.forall_append]
  exact ⟨ops0_sub, ops1_sub, ops2_sub, ops3_sub, ops4_sub⟩

theorem refOps_fresh : ∀ op ∈ (refOps (F := F)), op.fresh = ∅ :=
  List.forall_iff_forall_mem.mp (StableHlo.forall_fresh_of_map (ops := refOps (F := F)) rfl)

/-- What the reference's line leaves, in its five pieces. -/
theorem refOps_split (W : Valuation τ sig (Elt F)) :
    StableHlo.after (refOps (F := F)) W = StableHlo.after ops4 (StableHlo.after ops3 (StableHlo.after ops2 (StableHlo.after ops1 (StableHlo.after ops0 W)))) := by
  rw [refOps, StableHlo.after_append, StableHlo.after_append, StableHlo.after_append, StableHlo.after_append]

/-- A buffer no operation writes is left. -/
theorem refOps_keep (W : Valuation τ sig (Elt F)) {r : Ref sig .tc} (h0 : r ∉ wr0) (h1 : r ∉ wr1) (h2 : r ∉ wr2) (h3 : r ∉ wr3) (h4 : r ∉ wr4) :
    StableHlo.after (refOps (F := F)) W (Proc.devRef .tc r) = W (Proc.devRef .tc r) := by
  rw [refOps, StableHlo.after_append, StableHlo.after_append, StableHlo.after_append, StableHlo.after_append,
    ops4_keep _ h4, ops3_keep _ h3, ops2_keep _ h2, ops1_keep _ h1, ops0_keep _ h0]

/-- Every final state holds what the operations leave, and no semaphore is in use: the reference declares none. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = StableHlo.after (refOps (F := F)) (StableHlo.launchContents m d) (Proc.devRef .tc b))
      ∧ r.2.sem = fun _ => 0 :=
  (θ_run _ _ _).mono (fun r hr => ⟨hr, sem_eq_zero_of_no_sems rfl _⟩)
    (StableHlo.run_seq (by decide) (by decide) defs main (fun _ => refOps) main_eq (fun _ => refOps_sub) m ρ (fun _ => refOps_fresh))

end Cert.Proof.Ref

end
-- ==== Proof.RefFrame.lean ====
/-
  The reference's frame: it runs, leaves its arguments and uses no semaphore; and the two named constants.
-/
module

public import proofs.«01_k».proof.Defs
public import proofs.«01_k».proof.Proof.Gen.Pre_in_range
public import proofs.«01_k».proof.Proof.Gen.ReferenceIdeal
public import proofs.«01_k».proof.Proof.RefOps

@[expose] public section

namespace Cert.Proof

open Idealize.ShloMosaic Idealize.SL.Sem

open Ref in
/-- The reference leaves its five arguments. -/
theorem ref_args (W : Valuation Cert.ReferenceIdeal.τ Cert.ReferenceIdeal.sig (Elt Ideal)) {r : Ref Cert.ReferenceIdeal.sig .tc}
    (hr : r ∈ [Cert.ReferenceIdeal.main_arg0, Cert.ReferenceIdeal.main_arg1, Cert.ReferenceIdeal.main_arg2, Cert.ReferenceIdeal.main_arg3, Cert.ReferenceIdeal.main_arg4]) :
    StableHlo.after (refOps (F := Ideal)) W (Proc.devRef .tc r) = W (Proc.devRef .tc r) := by
  simp only [List.mem_cons, List.not_mem_nil, or_false] at hr
  rcases hr with rfl | rfl | rfl | rfl | rfl <;>
    exact refOps_keep W (by decide) (by decide) (by decide) (by decide) (by decide)

theorem frame_ref : Cert.quiescent_ReferenceIdeal := fun m g _ =>
  (θ_run _ _ _).mono (fun _ hr => ⟨fun c =>
      ⟨(hr.1 c _).trans (ref_args _ (by simp)), (hr.1 c _).trans (ref_args _ (by simp)), (hr.1 c _).trans (ref_args _ (by simp)),
        (hr.1 c _).trans (ref_args _ (by simp)), (hr.1 c _).trans (ref_args _ (by simp))⟩, hr.2⟩)
    (Ref.run_main m g)

/-- The two named constants: the table gives each the logarithm that its literal stands for. -/
theorem constants : Cert.preserves_Kernel_KernelIdeal :=
  ⟨IdealRules.named_const.statement Cert.KernelIdeal.κ "log_sel" .f32 0xBA8322E2#32 _ rfl,
    IdealRules.named_const.statement Cert.KernelIdeal.κ "log_eps" .f32 0xC1935D8E#32 _ rfl⟩

end Cert.Proof
-- ==== Proof.FirstMax.lean ====
/-
  The first place of a row that holds its maximum, as the kernel finds it (the least index at which the row equals its
  maximum) and as the reference finds it (a fold over pairs of value and index).
-/
module

public import proofs.«01_k».proof.ReferenceIdeal
public import Idealize.ShloMosaic.PureOps.Ideal.Laws
public import Idealize.ShloMosaic.PureOps.Reduce
public import Mathlib.Data.Finset.Fold

@[expose] public section

noncomputable section

namespace Cert.Proof

open Idealize.ShloMosaic

/-- Place `k` holds the row's maximum, and no earlier place does. -/
def IsFirstMax (f : Fin 320 → EReal) (k : Fin 320) : Prop := (∀ j, f j ≤ f k) ∧ ∀ j, j < k → f j < f k

theorem exists_firstMax (f : Fin 320 → EReal) : ∃ k, IsFirstMax f k := by
  obtain ⟨a, -, ha⟩ := Finset.exists_max_image (Finset.univ : Finset (Fin 320)) f ⟨0, Finset.mem_univ _⟩
  let S : Finset (Fin 320) := Finset.univ.filter fun k => ∀ j, f j ≤ f k
  have hS : S.Nonempty := ⟨a, by simp only [S, Finset.mem_filter, Finset.mem_univ, true_and]; exact fun j => ha j (Finset.mem_univ _)⟩
  have hm : ∀ j, f j ≤ f (S.min' hS) := by
    have := S.min'_mem hS
    simp only [S, Finset.mem_filter, Finset.mem_univ, true_and] at this
    exact this
  refine ⟨S.min' hS, hm, fun j hj => lt_of_le_of_ne (hm j) fun e => ?_⟩
  have hjS : j ∈ S := by
    simp only [S, Finset.mem_filter, Finset.mem_univ, true_and]
    exact fun i => (hm i).trans e.ge
  exact absurd (S.min'_le j hjS) (not_le.mpr hj)

/-- The fold of `max` from `⊥` over a row is the value at its first maximum. -/
theorem fold_max_firstMax {f : Fin 320 → EReal} {k : Fin 320} (h : IsFirstMax f k) :
    (Finset.univ : Finset (Fin 320)).fold max ⊥ f = f k :=
  le_antisymm ((Finset.fold_max_le _).mpr ⟨bot_le, fun j _ => h.1 j⟩) ((Finset.le_fold_max _).mpr (.inr ⟨k, Finset.mem_univ _, le_rfl⟩))

/-! ## Words -/

theorem minsi_toInt (x y : BitVec 32) : (IntOp.minsi x y).toInt = min x.toInt y.toInt := by
  unfold IntOp.minsi
  simp only [BitVec.slt, decide_eq_true_eq]
  split_ifs <;> omega

theorem maxsi_toInt (x y : BitVec 32) : (IntOp.maxsi x y).toInt = max x.toInt y.toInt := by
  unfold IntOp.maxsi
  simp only [BitVec.slt, decide_eq_true_eq]
  split_ifs <;> omega

theorem toInt_ofNat_lt {n : ℕ} (h : n < 2147483648) : (BitVec.ofNat 32 n).toInt = n := by
  rw [BitVec.toInt_eq_toNat_of_lt (by rw [BitVec.toNat_ofNat]; omega), BitVec.toNat_ofNat, Nat.mod_eq_of_lt (by omega)]

theorem fold_minsi_toInt (b : BitVec 32) (g : Fin 320 → BitVec 32) :
    ((Finset.univ : Finset (Fin 320)).fold IntOp.minsi b g).toInt = (Finset.univ : Finset (Fin 320)).fold min b.toInt fun k => (g k).toInt :=
  (Finset.fold_hom (op := IntOp.minsi) (op' := min) (m := BitVec.toInt) (fun x y => minsi_toInt x y)).symm

theorem fold_maxsi_toInt (b : BitVec 32) (g : Fin 320 → BitVec 32) :
    ((Finset.univ : Finset (Fin 320)).fold IntOp.maxsi b g).toInt = (Finset.univ : Finset (Fin 320)).fold max b.toInt fun k => (g k).toInt :=
  (Finset.fold_hom (op := IntOp.maxsi) (op' := max) (m := BitVec.toInt) (fun x y => maxsi_toInt x y)).symm

/-- The least index at which the row equals its maximum is the first maximum. -/
theorem fold_minsi_firstMax {f : Fin 320 → EReal} {k : Fin 320} (h : IsFirstMax f k) (g : Fin 320 → BitVec 32)
    (hg : ∀ j, g j = if f j = f k then BitVec.ofNat 32 j.val else 2147483647#32) :
    (Finset.univ : Finset (Fin 320)).fold IntOp.minsi 2147483647#32 g = BitVec.ofNat 32 k.val := by
  have hk := k.isLt
  have eb : (2147483647#32 : BitVec 32).toInt = 2147483647 := by decide
  apply BitVec.eq_of_toInt_eq
  rw [fold_minsi_toInt, toInt_ofNat_lt (n := k.val) (by omega), eb]
  apply le_antisymm
  · refine (Finset.fold_min_le _).mpr (.inr ⟨k, Finset.mem_univ _, ?_⟩)
    rw [hg, if_pos rfl, toInt_ofNat_lt (n := k.val) (by omega)]
  · refine (Finset.le_fold_min _).mpr ⟨by omega, fun j _ => ?_⟩
    have hj := j.isLt
    rw [hg]
    split
    · rename_i e
      rw [toInt_ofNat_lt (n := j.val) (by omega)]
      by_contra hlt
      have : j < k := by rw [Fin.lt_def]; omega
      exact absurd e (h.2 j this).ne
    · rw [eb]; omega

/-- The one place kept of a row of words that are not negative is its maximum. -/
theorem fold_maxsi_pick (k : Fin 320) (w g : Fin 320 → BitVec 32) (hw : 0 ≤ (w k).toInt)
    (hg : ∀ j, g j = if j = k then w j else 4294967295#32) :
    (Finset.univ : Finset (Fin 320)).fold IntOp.maxsi 2147483648#32 g = w k := by
  have eb : (2147483648#32 : BitVec 32).toInt = -2147483648 := by decide
  have em : (4294967295#32 : BitVec 32).toInt = -1 := by decide
  apply BitVec.eq_of_toInt_eq
  rw [fold_maxsi_toInt, eb]
  apply le_antisymm
  · refine (Finset.fold_max_le _).mpr ⟨by omega, fun j _ => ?_⟩
    rw [hg]
    split
    · rename_i e; rw [e]
    · rw [em]; omega
  · refine (Finset.le_fold_max _).mpr (.inr ⟨k, Finset.mem_univ _, ?_⟩)
    rw [hg, if_pos rfl]

/-! ## The reference's fold over pairs -/

/-- Pair `p` is at least as good as pair `q`: a larger value, or the same value at an index no later. -/
def Beats (p q : EReal × BitVec 32) : Prop := q.1 < p.1 ∨ (q.1 = p.1 ∧ p.2.toInt ≤ q.2.toInt)

theorem Beats.refl (p : EReal × BitVec 32) : Beats p p := .inr ⟨rfl, le_rfl⟩

theorem Beats.trans {p q r : EReal × BitVec 32} (h : Beats p q) (h' : Beats q r) : Beats p r := by
  rcases h with h | ⟨h, i⟩ <;> rcases h' with h' | ⟨h', i'⟩
  · exact .inl (h'.trans h)
  · exact .inl (h' ▸ h)
  · exact .inl (h ▸ h')
  · exact .inr ⟨h'.trans h, i.trans i'⟩

/-- The reference's reducer at the extended reals. -/
abbrev red : EReal × BitVec 32 → EReal × BitVec 32 → EReal × BitVec 32 := Cert.ReferenceIdeal.reducer_argmax_f32_i32 (F := Ideal)

theorem red_eq (a b : EReal × BitVec 32) :
    red a b = if b.1 < a.1 then a else if a.1 = b.1 then (b.1, if a.2.slt b.2 then a.2 else b.2) else b := by
  obtain ⟨a1, a2⟩ := a
  obtain ⟨b1, b2⟩ := b
  show (_, _) = _
  simp only [Cert.ReferenceIdeal.reducer_argmax_f32_i32, Ideal.cmpf_def, Ideal.cmp, IntOp.cmpi, IntOp.ori, IntOp.andi, Scalar.select]
  by_cases h1 : b1 < a1
  · have : ¬ a1 = b1 := h1.ne'
    simp [h1, this]
  · by_cases h2 : a1 = b1
    · subst h2
      by_cases h3 : a2.slt b2 <;> simp [h3]
    · simp [h1, h2]

theorem red_mem (a b : EReal × BitVec 32) : red a b = a ∨ red a b = b := by
  obtain ⟨a1, a2⟩ := a
  obtain ⟨b1, b2⟩ := b
  rw [red_eq]
  dsimp only
  split_ifs with h1 h2 h3
  · exact .inl rfl
  · exact .inl (by rw [h2])
  · exact .inr rfl
  · exact .inr rfl

theorem red_beats (a b : EReal × BitVec 32) : Beats (red a b) a ∧ Beats (red a b) b := by
  obtain ⟨a1, a2⟩ := a
  obtain ⟨b1, b2⟩ := b
  rw [red_eq]
  dsimp only
  unfold Beats
  split_ifs with h1 h2 h3
  · exact ⟨.inr ⟨rfl, le_rfl⟩, .inl h1⟩
  · simp only [BitVec.slt, decide_eq_true_eq] at h3
    exact ⟨.inr ⟨h2, le_rfl⟩, .inr ⟨rfl, h3.le⟩⟩
  · simp only [BitVec.slt, decide_eq_true_eq] at h3
    exact ⟨.inr ⟨h2, not_lt.mp h3⟩, .inr ⟨rfl, le_rfl⟩⟩
  · exact ⟨.inl (lt_of_le_of_ne (not_lt.mp h1) h2), .inr ⟨rfl, le_rfl⟩⟩

/-- The fold's result is one of its pairs, or the initial one, and beats them all: in whatever order they come. -/
theorem foldl_red (l : List (EReal × BitVec 32)) (a : EReal × BitVec 32) :
    (l.foldl red a = a ∨ l.foldl red a ∈ l) ∧ Beats (l.foldl red a) a ∧ ∀ q ∈ l, Beats (l.foldl red a) q := by
  induction l generalizing a with
  | nil => exact ⟨.inl rfl, Beats.refl _, fun q hq => absurd hq List.not_mem_nil⟩
  | cons b l ih =>
    obtain ⟨hm, hb, hl⟩ := ih (red a b)
    have hr := red_beats a b
    rw [List.foldl_cons]
    refine ⟨?_, hb.trans hr.1, fun q hq => ?_⟩
    · rcases hm with e | e
      · rw [e]
        rcases red_mem a b with e' | e'
        · exact .inl e'
        · exact .inr (by rw [e']; exact List.mem_cons_self)
      · exact .inr (List.mem_cons_of_mem _ e)
    · rcases List.mem_cons.mp hq with e | e
      · rw [e]; exact hb.trans hr.2
      · exact hl q e

/-- A fold over a row's pairs, from the least value at index zero, ends at the first maximum's index. -/
theorem foldl_red_firstMax {f : Fin 320 → EReal} {k : Fin 320} (h : IsFirstMax f k) (l : List (EReal × BitVec 32))
    (hl : ∀ q, q ∈ l ↔ ∃ j : Fin 320, q = (f j, BitVec.ofNat 32 j.val)) :
    (l.foldl red (⊥, 0#32)).2 = BitVec.ofNat 32 k.val := by
  have hk := k.isLt
  obtain ⟨hm, -, hb⟩ := foldl_red l (⊥, 0#32)
  have hq : Beats (l.foldl red (⊥, 0#32)) (f k, BitVec.ofNat 32 k.val) := hb _ ((hl _).mpr ⟨k, rfl⟩)
  rcases hm with e | e
  · rw [e] at hq ⊢
    show 0#32 = _
    rcases hq with hq | ⟨hq, -⟩
    · exact absurd hq (not_lt.mpr bot_le)
    · have : k.val = 0 := by
        by_contra hne
        have := h.2 0 (by rw [Fin.lt_def]; exact Nat.pos_of_ne_zero hne)
        rw [show f k = ⊥ from hq] at this
        exact absurd this (not_lt.mpr bot_le)
      rw [this]
  · obtain ⟨j, ej⟩ := (hl _).mp e
    have hj := j.isLt
    rw [ej] at hq ⊢
    show BitVec.ofNat 32 j.val = _
    rcases hq with hq | ⟨hq, hi⟩
    · exact absurd hq (not_lt.mpr (h.1 j))
    · simp only [toInt_ofNat_lt (show j.val < 2147483648 by omega), toInt_ofNat_lt (show k.val < 2147483648 by omega)] at hi
      have : ¬ j < k := fun hlt => absurd hq (h.2 j hlt).ne'
      rw [Fin.lt_def] at this
      have : j.val = k.val := by omega
      rw [this]

end Cert.Proof

end
-- ==== Proof.Plain.lean ====
/-
  The problem's values written plainly: the neighbours of a token's top candidates, its context, the cosines of the
  context with the neighbours' vectors; and what the second pipeline computes of a block, in those terms.
-/
module

public import proofs.«01_k».proof.Proof.FirstMax
public import proofs.«01_k».proof.Proof.Arrays
public import Idealize.ShloMosaic.Lib.Pipeline.Value
public import Idealize.ShloMosaic.Lib.IdealHost

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
open Idealize.ShloMosaic.TcCoe

/-- The neighbour at place `k` of row `r`: the candidate `k / 32` of the row, and its neighbour `k % 32`. -/
def nbr (N : IVec S100000x32 32) (T : IVec S320x16 32) (r k : Fin 320) : BitVec 32 :=
  N (ix2 (rowAt 99999 (T (ix2 r (⟨k.val / 32, by have := k.isLt; omega⟩ : Fin 16)))) (⟨k.val % 32, by omega⟩ : Fin 32))

/-- The context of row `r`: its token's embedding over five. -/
def ctxv (B : IVec S16x20 32) (E : FVec Ideal S100000x128 .f32) (r : Fin 320) (e : Fin 128) : EReal :=
  Ideal.div (E (ix2 (rowAt 99999 (B (ix2 (⟨r.val / 20, by have := r.isLt; omega⟩ : Fin 16) (⟨r.val % 20, by omega⟩ : Fin 20)))) e)) (Ideal.ofBits .f32 0x40A00000#32)

/-- The vector of the neighbour at place `k` of row `r`. -/
def vecv (X : FVec Ideal S100000x128 .f32) (N : IVec S100000x32 32) (T : IVec S320x16 32) (r k : Fin 320) (e : Fin 128) : EReal :=
  X (ix2 (rowAt 99999 (nbr N T r k)) e)

/-- The cosine of a context with the vector at place `k`. -/
def cosOf (c : Fin 128 → EReal) (v : Fin 320 → Fin 128 → EReal) (k : Fin 320) : EReal :=
  Ideal.div (∑ e, c e * v k e) (Ideal.sqrt (∑ e, c e * c e) * Ideal.sqrt (∑ e, v k e * v k e) + Ideal.ofBits .f32 0x2B8CBCCC#32)

theorem ofBits_neg_inf : Ideal.ofBits .f32 0xFF800000#32 = ⊥ := by
  simp [Ideal.ofBits, Ideal.ieee]

/-! ## The inserted indices of the block's reductions -/

theorem lift_last (h : S8x320x128.Reduces [2] S8x320) (j : S8x320.Idx) (e : Fin 128) : h.lift j e = (ix3 (j 0) (j 1) e : S8x320x128.Idx) := by
  funext a
  match a with
  | 0 => rfl
  | 1 => rfl
  | 2 => rfl

theorem lift_ctx (h : S8x1x128.Reduces [2] S8x1) (j : S8x1.Idx) (e : Fin 128) : h.lift j e = (ix3 (j 0) (j 1) e : S8x1x128.Idx) := by
  funext a
  match a with
  | 0 => rfl
  | 1 => rfl
  | 2 => rfl

theorem lift_row (h : S8x320.Reduces [1] S8) (j : S8.Idx) (k : Fin 320) : h.lift j k = (ix2 (j 0) k : S8x320.Idx) := by
  funext a
  match a with
  | 0 => rfl
  | 1 => rfl

/-! ## The block's reductions as sums and folds along an axis -/

theorem sum_last (v : FVec Ideal S8x320x128 .f32) (j : S8x320.Idx) :
    multiReduction .add [2] S8x320 v 0x00000000#32 reduces_S8x320x128_S8x320 (.inl rfl) rfl j = ∑ e : Fin 128, v (ix3 (j 0) (j 1) e) :=
  (Ideal.multiReduction_add_single v _ reduces_S8x320x128_S8x320 (.inl rfl) rfl j).trans (Finset.sum_congr rfl fun e _ => congrArg v (lift_last _ j e))

theorem sum_ctx (v : FVec Ideal S8x1x128 .f32) (j : S8x1.Idx) :
    multiReduction .add [2] S8x1 v 0x00000000#32 reduces_S8x1x128_S8x1 (.inl rfl) rfl j = ∑ e : Fin 128, v (ix3 (j 0) (j 1) e) :=
  (Ideal.multiReduction_add_single v _ reduces_S8x1x128_S8x1 (.inl rfl) rfl j).trans (Finset.sum_congr rfl fun e _ => congrArg v (lift_ctx _ j e))

theorem max_row (v : FVec Ideal S8x320 .f32) (j : S8.Idx) :
    multiReduction .maximumf [1] S8 v 0xFF800000#32 reduces_S8x320_S8 (.inl rfl) rfl j
      = (Finset.univ : Finset (Fin 320)).fold max ⊥ fun k => v (ix2 (j 0) k) := by
  refine (Ideal.multiReduction_maximumf_single v _ reduces_S8x320_S8 (.inl rfl) rfl j).trans ?_
  rw [← ofBits_neg_inf]
  exact congrArg (fun g => (Finset.univ : Finset (Fin 320)).fold max (Ideal.ofBits .f32 0xFF800000#32) g) (funext fun k => congrArg v (lift_row _ j k))

theorem minI_row (v : IVec S8x320 32) (j : S8.Idx) :
    multiReductionI .minsi [1] S8 v 2147483647#32 reduces_S8x320_S8 rfl j
      = (Finset.univ : Finset (Fin 320)).fold IntOp.minsi 2147483647#32 fun k => v (ix2 (j 0) k) := by
  refine (multiReductionI_eq_fold .minsi v _ reduces_S8x320_S8 rfl j).trans ?_
  refine (Shape.Reduces.fold_filter_drop_single _ _ _ v j).trans ?_
  exact congrArg (fun g => (Finset.univ : Finset (Fin 320)).fold IntOp.minsi 2147483647#32 g) (funext fun k => congrArg v (lift_row _ j k))

theorem maxI_row (v : IVec S8x320 32) (j : S8.Idx) :
    multiReductionI .maxsi [1] S8 v 2147483648#32 reduces_S8x320_S8 rfl j
      = (Finset.univ : Finset (Fin 320)).fold IntOp.maxsi 2147483648#32 fun k => v (ix2 (j 0) k) := by
  refine (multiReductionI_eq_fold .maxsi v _ reduces_S8x320_S8 rfl j).trans ?_
  refine (Shape.Reduces.fold_filter_drop_single _ _ _ v j).trans ?_
  exact congrArg (fun g => (Finset.univ : Finset (Fin 320)).fold IntOp.maxsi 2147483648#32 g) (funext fun k => congrArg v (lift_row _ j k))

/-! ## The block's values -/

section
variable (x : FVec Ideal S8x320x128 .f32) (c : FVec Ideal S8x1x128 .f32)

/-- The block's cosines. -/
def cosBlk : FVec Ideal S8x320 .f32 :=
  divf (multiReduction .add [2] S8x320 (mulf x (broadcastTo S8x320x128 c broadcasts_S8x1x128_S8x320x128)) 0x00000000#32 reduces_S8x320x128_S8x320 (.inl rfl) rfl)
    (addf (mulf (broadcastTo S8x320 (sqrt (multiReduction .add [2] S8x1 (mulf c c) 0x00000000#32 reduces_S8x1x128_S8x1 (.inl rfl) rfl)) broadcasts_S8x1_S8x320)
        (sqrt (multiReduction .add [2] S8x320 (mulf x x) 0x00000000#32 reduces_S8x320x128_S8x320 (.inl rfl) rfl)))
      (broadcast S8x320 (Scalar.ofBits .f32 0x2B8CBCCC#32)))

/-- … at one place. -/
theorem cosBlk_at (i : S8x320.Idx) : cosBlk x c i = cosOf (fun e => c (ix3 (i 0) (0 : Fin 1) e)) (fun k e => x (ix3 (i 0) k e)) (i 1) := by
  have e1 : multiReduction .add [2] S8x320 (mulf x (broadcastTo S8x320x128 c broadcasts_S8x1x128_S8x320x128)) 0x00000000#32 reduces_S8x320x128_S8x320 (.inl rfl) rfl i
      = ∑ e : Fin 128, c (ix3 (i 0) (0 : Fin 1) e) * x (ix3 (i 0) (i 1) e) := by
    rw [sum_last]
    refine Finset.sum_congr rfl fun e _ => ?_
    show x (ix3 (i 0) (i 1) e) * broadcastTo S8x320x128 c broadcasts_S8x1x128_S8x320x128 (ix3 (i 0) (i 1) e) = _
    rw [broadcastTo_apply c _ _ (ix3 (i 0) (0 : Fin 1) e : S8x1x128.Idx) (fun a => by match a with | 0 => rfl | 1 => rfl | 2 => rfl)]
    exact mul_comm _ _
  have e2 : multiReduction .add [2] S8x320 (mulf x x) 0x00000000#32 reduces_S8x320x128_S8x320 (.inl rfl) rfl i
      = ∑ e : Fin 128, x (ix3 (i 0) (i 1) e) * x (ix3 (i 0) (i 1) e) := by
    rw [sum_last]
    rfl
  have e3 : broadcastTo S8x320 (sqrt (multiReduction .add [2] S8x1 (mulf c c) 0x00000000#32 reduces_S8x1x128_S8x1 (.inl rfl) rfl)) broadcasts_S8x1_S8x320 i
      = Ideal.sqrt (∑ e : Fin 128, c (ix3 (i 0) (0 : Fin 1) e) * c (ix3 (i 0) (0 : Fin 1) e)) := by
    rw [broadcastTo_apply _ _ _ (ix2 (i 0) (0 : Fin 1) : S8x1.Idx) (fun a => by match a with | 0 => rfl | 1 => rfl)]
    show Ideal.sqrt (multiReduction .add [2] S8x1 (mulf c c) 0x00000000#32 reduces_S8x1x128_S8x1 (.inl rfl) rfl (ix2 (i 0) (0 : Fin 1) : S8x1.Idx)) = _
    rw [sum_ctx]
    rfl
  show Ideal.div (multiReduction .add [2] S8x320 (mulf x (broadcastTo S8x320x128 c broadcasts_S8x1x128_S8x320x128)) 0x00000000#32 reduces_S8x320x128_S8x320 (.inl rfl) rfl i)
    (broadcastTo S8x320 (sqrt (multiReduction .add [2] S8x1 (mulf c c) 0x00000000#32 reduces_S8x1x128_S8x1 (.inl rfl) rfl)) broadcasts_S8x1_S8x320 i
      * Ideal.sqrt (multiReduction .add [2] S8x320 (mulf x x) 0x00000000#32 reduces_S8x320x128_S8x320 (.inl rfl) rfl i) + Ideal.ofBits .f32 0x2B8CBCCC#32) = _
  rw [e1, e2, e3]
  rfl

/-- A row's maximum, spread over the row. -/
theorem rowMax_at (v17 : FVec Ideal S8x320 .f32) (i : S8x320.Idx) {k : Fin 320} (hk : IsFirstMax (fun k => v17 (ix2 (i 0) k)) k) :
    broadcastTo S8x320 (shapeCast S8x1 (multiReduction .maximumf [1] S8 v17 0xFF800000#32 reduces_S8x320_S8 (.inl rfl) rfl) shapeCasts_S8_S8x1) broadcasts_S8x1_S8x320 i
      = v17 (ix2 (i 0) k) := by
  rw [broadcastTo_apply _ _ _ (ix2 (i 0) (0 : Fin 1) : S8x1.Idx) (fun a => by match a with | 0 => rfl | 1 => rfl)]
  rw [shapeCast_apply _ _ _ (ix1 (i 0) : S8.Idx) (by rw [Shape.rowMajor_val_one, Shape.rowMajor_val_two]; show (i 0).val = (i 0).val * 1 + 0; omega)]
  rw [max_row]
  exact fold_max_firstMax hk

/-- The least index at which a row equals its maximum, spread over the row. -/
theorem argMax_at (v17 v21 : FVec Ideal S8x320 .f32) (i : S8x320.Idx) {k : Fin 320} (hk : IsFirstMax (fun k => v17 (ix2 (i 0) k)) k)
    (h21 : ∀ j : Fin 320, v21 (ix2 (i 0) j) = v17 (ix2 (i 0) k)) :
    broadcastTo S8x320 (shapeCast S8x1 (multiReductionI .minsi [1] S8 (select (cmpf .oeq v17 v21) (iota .tc S8x320 32 [1] iota_S8x320_d1_w32) (broadcast S8x320 2147483647#32))
        2147483647#32 reduces_S8x320_S8 rfl) shapeCasts_S8_S8x1) broadcasts_S8x1_S8x320 i = BitVec.ofNat 32 k.val := by
  rw [broadcastTo_apply _ _ _ (ix2 (i 0) (0 : Fin 1) : S8x1.Idx) (fun a => by match a with | 0 => rfl | 1 => rfl)]
  rw [shapeCast_apply _ _ _ (ix1 (i 0) : S8.Idx) (by rw [Shape.rowMajor_val_one, Shape.rowMajor_val_two]; show (i 0).val = (i 0).val * 1 + 0; omega)]
  rw [minI_row]
  refine fold_minsi_firstMax hk _ fun j => ?_
  show Scalar.select (cmpf .oeq v17 v21 (ix2 (i 0) j)) (iota .tc S8x320 32 [1] iota_S8x320_d1_w32 (ix2 (i 0) j)) 2147483647#32 = _
  rw [iota_single_apply]
  show Scalar.select (Ideal.cmp .oeq (v17 (ix2 (i 0) j)) (v21 (ix2 (i 0) j))) (BitVec.ofNat 32 j.val) 2147483647#32 = _
  rw [h21]
  by_cases e : v17 (ix2 (i 0) j) = v17 (ix2 (i 0) k) <;> simp [Scalar.select, Ideal.cmp, e]

/-- The block's result on a row: the neighbour at the row's first greatest cosine. -/
theorem pay_at (nb : IVec S8x1x320 32) (y : S8x128.Idx) {k : Fin 320}
    (hk : IsFirstMax (cosOf (fun e => c (ix3 (y 0) (0 : Fin 1) e)) (fun k e => x (ix3 (y 0) k e))) k)
    (hnb : 0 ≤ (nb (ix3 (y 0) (0 : Fin 1) k)).toInt) :
    k2_pay1 (F := Ideal) x c nb y = nb (ix3 (y 0) (0 : Fin 1) k) := by
  unfold k2_pay1
  dsimp only
  rw [shapeCast_self, shapeCast_self, shapeCast_self]
  obtain ⟨v17, h17⟩ : ∃ v, v = cosBlk x c := ⟨_, rfl⟩
  have hcos : ∀ i : S8x320.Idx, v17 i = cosOf (fun e => c (ix3 (i 0) (0 : Fin 1) e)) (fun k e => x (ix3 (i 0) k e)) (i 1) :=
    fun i => (congrFun h17 i).trans (cosBlk_at x c i)
  unfold cosBlk at h17
  rw [← h17]
  have hk' : IsFirstMax (fun k => v17 (ix2 (y 0) k)) k := by
    have : (fun k => v17 (ix2 (y 0) k)) = cosOf (fun e => c (ix3 (y 0) (0 : Fin 1) e)) (fun k e => x (ix3 (y 0) k e)) := funext fun j => hcos _
    rw [this]; exact hk
  rw [broadcastTo_apply _ _ _ (ix2 (y 0) (0 : Fin 1) : S8x1.Idx) (fun a => by match a with | 0 => rfl | 1 => rfl)]
  rw [shapeCast_apply _ _ _ (ix1 (y 0) : S8.Idx) (by rw [Shape.rowMajor_val_one, Shape.rowMajor_val_two]; show (y 0).val = (y 0).val * 1 + 0; omega)]
  rw [maxI_row]
  refine fold_maxsi_pick k (fun j => nb (ix3 (y 0) (0 : Fin 1) j)) _ hnb fun j => ?_
  show Scalar.select (IntOp.cmpi .eq (iota .tc S8x320 32 [1] iota_S8x320_d1_w32 (ix2 (y 0) j)) _) (shapeCast S8x320 nb shapeCasts_S8x1x320_S8x320 (ix2 (y 0) j)) 4294967295#32 = _
  rw [iota_single_apply, shapeCast_apply _ _ _ (ix3 (y 0) (0 : Fin 1) j : S8x1x320.Idx)
      (by rw [Shape.rowMajor_val_three, Shape.rowMajor_val_two]; show ((y 0).val * 1 + 0) * 320 + j.val = (y 0).val * 320 + j.val; omega)]
  refine (congrArg (fun w => Scalar.select (IntOp.cmpi .eq (BitVec.ofNat 32 j.val) w) (nb (ix3 (y 0) (0 : Fin 1) j)) 4294967295#32)
    (argMax_at v17 _ (ix2 (y 0) j) hk' (fun i => rowMax_at v17 (ix2 (y 0) i) hk'))).trans ?_
  have hj := j.isLt
  have hkk := k.isLt
  by_cases e : j = k
  · subst e; simp [Scalar.select, IntOp.cmpi]
  · have : ¬ BitVec.ofNat 32 j.val = BitVec.ofNat 32 k.val := fun h => e (Fin.ext (by
      have := congrArg BitVec.toNat h
      simp only [BitVec.toNat_ofNat] at this
      omega))
    have hb : (BitVec.ofNat 32 j.val == BitVec.ofNat 32 k.val) = false := beq_eq_false_iff_ne.mpr this
    simp [Scalar.select, IntOp.cmpi, e, hb]
end

end Cert.Proof.Sense

end
-- ==== Proof.KernelValue.lean ====
/-
  The kernel's result in the problem's terms: on each row one constant at the neighbour with the first greatest cosine,
  another elsewhere.
-/
module

public import proofs.«01_k».proof.Proof.Plain
public import proofs.«01_k».proof.Proof.HostVals
public import proofs.«01_k».proof.Proof.Main
public import Idealize.ShloMosaic.Lib.StableHlo.RunClose

@[expose] public section

noncomputable section

namespace Cert.Proof.Sense

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
open Idealize.ShloMosaic.TcCoe
open Idealize.ShloMosaic.StableHlo (held after)

/-- Which of the four regrouped rows a candidate lies in, as the lane's offset. -/
theorem and_three (t : BitVec 32) : t &&& 3#32 = BitVec.ofNat 32 (t.toNat % 4) := by
  apply BitVec.eq_of_toNat_eq
  rw [BitVec.toNat_and, BitVec.toNat_ofNat (w := 32) (x := t.toNat % 4), Nat.mod_eq_of_lt (a := t.toNat % 4) (by omega)]
  exact Nat.and_two_pow_sub_one_eq_mod t.toNat 2

/-- A neighbour of a candidate, found in the regrouped table. -/
theorem nbVal_at (N : IVec S100000x32 32) (T : IVec S320x16 32) (krow : IVec S320x16 32) (lane : IVec S320x320 32) (nbr4 : IVec S25000x128 32)
    (hk : ∀ x : S320x16.Idx, (x 1).val < 10 → krow x = T x >>> 2)
    (hl : ∀ x : S320x320.Idx, lane x = ((T (ix2 (x 0) (⟨(x 1).val / 32, by have := (x 1).isLt; change _ < 320 at this; omega⟩ : Fin 16)) &&& 3#32) <<< 5) + BitVec.ofNat 32 ((x 1).val % 32))
    (hn : ∀ x : S25000x128.Idx, nbr4 x = N (ix2 (⟨4 * (x 0).val + (x 1).val / 32, by have := (x 0).isLt; have := (x 1).isLt; change _ < 25000 at *; change _ < 128 at *; omega⟩ : Fin 100000)
          (⟨(x 1).val % 32, by omega⟩ : Fin 32)))
    (hT : ∀ x : S320x16.Idx, (x 1).val < 10 → (T x).toNat < 100000) (r k : Fin 320) :
    nbVal (F := Ideal) krow lane nbr4 (ix2 r k) = nbr N T r k := by
  have hkk := k.isLt
  have h10 : ((ix2 r (⟨k.val / 32, by omega⟩ : Fin 16) : S320x16.Idx) 1).val < 10 := by show k.val / 32 < 10; omega
  obtain ⟨t, ht⟩ : ∃ t, t = T (ix2 r (⟨k.val / 32, by omega⟩ : Fin 16)) := ⟨_, rfl⟩
  have htl : t.toNat < 100000 := by rw [ht]; exact hT _ h10
  have ek : krow (ix2 r (⟨k.val / 32, by omega⟩ : Fin 16)) = t >>> 2 := by rw [hk _ h10, ← ht]
  have ekn : (t >>> 2).toNat = t.toNat / 4 := by rw [BitVec.toNat_ushiftRight, Nat.shiftRight_eq_div_pow]
  have er : (rowAt 24999 (t >>> 2)).val = t.toNat / 4 := by rw [rowAt_val (by omega), ekn]
  have ew : ∀ o : Fin 4, nbr4 (ix2 (rowAt 24999 (krow (ix2 r (⟨k.val / 32, by omega⟩ : Fin 16)))) (⟨32 * o.val + k.val % 32, by omega⟩ : Fin 128))
      = N (ix2 (⟨4 * (t.toNat / 4) + o.val, by omega⟩ : Fin 100000) (⟨k.val % 32, by omega⟩ : Fin 32)) := by
    intro o
    have ho := o.isLt
    rw [hn, ek]
    have e0 : (⟨4 * (rowAt 24999 (t >>> 2)).val + (32 * o.val + k.val % 32) / 32, by rw [er]; omega⟩ : Fin 100000) = ⟨4 * (t.toNat / 4) + o.val, by omega⟩ :=
      Fin.ext (by show 4 * (rowAt 24999 (t >>> 2)).val + (32 * o.val + k.val % 32) / 32 = 4 * (t.toNat / 4) + o.val; rw [er]; omega)
    have e1 : (⟨(32 * o.val + k.val % 32) % 32, by omega⟩ : Fin 32) = ⟨k.val % 32, by omega⟩ := Fin.ext (by show (32 * o.val + k.val % 32) % 32 = k.val % 32; omega)
    exact congrArg N (congrArg₂ ix2 e0 e1)
  have eoff : lane (ix2 r k) - BitVec.ofNat 32 (k.val % 32) = BitVec.ofNat 32 (t.toNat % 4) <<< 5 := by
    rw [hl, ← and_three]
    show ((T (ix2 r (⟨k.val / 32, _⟩ : Fin 16)) &&& 3#32) <<< 5) + BitVec.ofNat 32 (k.val % 32) - BitVec.ofNat 32 (k.val % 32) = _
    rw [← ht, BitVec.add_sub_cancel]
  have eN : nbr N T r k = N (ix2 (⟨4 * (t.toNat / 4) + t.toNat % 4, by omega⟩ : Fin 100000) (⟨k.val % 32, by omega⟩ : Fin 32)) := by
    unfold nbr
    rw [← ht]
    refine congrArg N (congrArg₂ ix2 (Fin.ext ?_) rfl)
    rw [rowAt_val (by omega)]
    show t.toNat = 4 * (t.toNat / 4) + t.toNat % 4
    omega
  rw [eN]
  unfold nbVal
  dsimp only
  show (if lane (ix2 r k) - BitVec.ofNat 32 (k.val % 32) = 0#32 then nbr4 (ix2 (rowAt 24999 (krow (ix2 r (⟨k.val / 32, _⟩ : Fin 16)))) (⟨32 * (0 : Fin 4).val + k.val % 32, _⟩ : Fin 128))
    else if lane (ix2 r k) - BitVec.ofNat 32 (k.val % 32) = 32#32 then nbr4 (ix2 (rowAt 24999 (krow (ix2 r (⟨k.val / 32, _⟩ : Fin 16)))) (⟨32 * (1 : Fin 4).val + k.val % 32, _⟩ : Fin 128))
    else if lane (ix2 r k) - BitVec.ofNat 32 (k.val % 32) = 64#32 then nbr4 (ix2 (rowAt 24999 (krow (ix2 r (⟨k.val / 32, _⟩ : Fin 16)))) (⟨32 * (2 : Fin 4).val + k.val % 32, _⟩ : Fin 128))
    else nbr4 (ix2 (rowAt 24999 (krow (ix2 r (⟨k.val / 32, _⟩ : Fin 16)))) (⟨32 * (3 : Fin 4).val + k.val % 32, _⟩ : Fin 128))) = _
  rw [ew 0, ew 1, ew 2, ew 3, eoff]
  have hm : t.toNat % 4 = 0 ∨ t.toNat % 4 = 1 ∨ t.toNat % 4 = 2 ∨ t.toNat % 4 = 3 := by omega
  rcases hm with h | h | h | h
  · rw [if_pos (by rw [h]; decide)]; exact congrArg N (congrArg₂ ix2 (Fin.ext (by show 4 * (t.toNat / 4) + 0 = 4 * (t.toNat / 4) + t.toNat % 4; omega)) rfl)
  · rw [if_neg (by rw [h]; decide), if_pos (by rw [h]; decide)]; exact congrArg N (congrArg₂ ix2 (Fin.ext (by show 4 * (t.toNat / 4) + 1 = 4 * (t.toNat / 4) + t.toNat % 4; omega)) rfl)
  · rw [if_neg (by rw [h]; decide), if_neg (by rw [h]; decide), if_pos (by rw [h]; decide)]; exact congrArg N (congrArg₂ ix2 (Fin.ext (by show 4 * (t.toNat / 4) + 2 = 4 * (t.toNat / 4) + t.toNat % 4; omega)) rfl)
  · rw [if_neg (by rw [h]; decide), if_neg (by rw [h]; decide), if_neg (by rw [h]; decide)]; exact congrArg N (congrArg₂ ix2 (Fin.ext (by show 4 * (t.toNat / 4) + 3 = 4 * (t.toNat / 4) + t.toNat % 4; omega)) rfl)

variable {m : (ℓ : Loc nD τ sig) → Buf (Elt Ideal) ℓ} {d : Dev nD}

/-- The second call's list of neighbours. -/
theorem nbOut_at (h : InRange m d) (r k : Fin 320) : nbOut (contsB m) d (ix2 r k) = nbr (argNb m d) (argTop m d) r k := by
  have hT : ∀ x : S320x16.Idx, (x 1).val < 10 → candVal (F := Ideal) (argTop m d) x = argTop m d x := fun x hx => by rw [candVal_at, if_pos hx]
  refine nbVal_at (argNb m d) (argTop m d) _ _ _ (fun x hx => ?_) (fun x => ?_) (fun x => ?_) (fun x hx => h.2.2 x hx) r k
  · show va3 m d (dr main_v14) x = _
    rw [va3_v14, krow_at, va2_arg4, hT x hx]
  · show va3 m d (dr main_v26) x = _
    rw [va3_v26, lane_at, va2_arg4]
  · show va3 m d (dr main_v12) x = _
    rw [va3_v12, nbr4_at, va2_arg3]

/-! ## The second pipeline's operands -/

theorem ofBits_five : Ideal.ofBits .f32 0x40A00000#32 = ((5 : ℝ) : EReal) := by
  simp [Ideal.ofBits, Ideal.ieee, -EReal.coe_mul]; norm_num

theorem five_ne : Ideal.ofBits .f32 0x40A00000#32 ≠ 0 := by
  rw [ofBits_five]
  exact EReal.coe_ne_zero.mpr (by norm_num)

theorem va5_v34 : va5 m d (dr main_v34) = shapeCast S320x1x128 (mulf (F := Ideal) (φ := .f32) (shapeCast S320x128 (transpose S16x20x128 [1, 0, 2]
        (shapeCast S20x16x128 (va4 m d (dr main_v5)) shapeCasts_S320x128_S20x16x128) transposes_S20x16x128_S16x20x128_1_0_2) shapeCasts_S16x20x128_S320x128)
      (broadcastInDim S320x128 ![] bcast_S_S320x128 (Host.divf (F := Ideal) (φ := .f32) (constant S_ .f32 0x3F800000#32) (constant S_ .f32 0x40A00000#32)))) shapeCasts_S320x128_S320x1x128 := by
  unfold va5 ops2
  after_results_simp
  rfl

theorem va5_v35 : va5 m d (dr main_v35) = shapeCast S320x1x320 (va4 m d (dr main_v27_0)) shapeCasts_S320x320_S320x1x320 := by
  unfold va5 ops2
  after_results_simp
  rfl

theorem va4_v5 : va4 m d (dr main_v5) = va3 m d (dr main_v5) :=
  (Function.update_of_ne (dr_ne (by decide)) _ _).trans (Function.update_of_ne (dr_ne (by decide)) _ _)
theorem va4_v27_0 : va4 m d (dr main_v27_0) = nbOut (contsB m) d :=
  (Function.update_of_ne (dr_ne (by decide)) _ _).trans (Function.update_self _ _ _)
theorem va4_v27_1 : va4 m d (dr main_v27_1) = xgOut (contsB m) d := Function.update_self _ _ _
theorem va5_v27_1 : va5 m d (dr main_v27_1) = xgOut (contsB m) d := (ops2_keep _ (by decide)).trans va4_v27_1

theorem va1_arg1 : va1 m d (dr main_arg1) = argE m d := ops0_keep _ (by decide)
theorem contsB_arg2 : contsB m d main_arg2 = argX m d :=
  (ops1_keep _ (by decide)).trans ((va2_ne m d (by decide)).trans (ops0_keep _ (by decide)))

/-- The rows of contexts. -/
theorem ctx_at (r : Fin 320) (e : Fin 128) : va5 m d (dr main_v34) (ix3 r (0 : Fin 1) e : S320x1x128.Idx) = ctxv (argBatch m d) (argE m d) r e := by
  have hr := r.isLt
  have hrow : (r.val % 20) * 16 + r.val / 20 < 320 := by omega
  rw [va5_v34, shapeCast_apply _ _ _ (ix2 r e : S320x128.Idx)
    (by rw [Shape.rowMajor_val_two, Shape.rowMajor_val_three]; show r.val * 128 + e.val = (r.val * 1 + 0) * 128 + e.val; omega)]
  show (shapeCast S320x128 (transpose S16x20x128 [1, 0, 2] (shapeCast S20x16x128 (va4 m d (dr main_v5)) shapeCasts_S320x128_S20x16x128)
      transposes_S20x16x128_S16x20x128_1_0_2) shapeCasts_S16x20x128_S320x128 (ix2 r e) : EReal)
    * Ideal.div (Ideal.ofBits .f32 0x3F800000#32) (Ideal.ofBits .f32 0x40A00000#32) = _
  rw [Ideal.ofBits_one_f32, Ideal.mul_one_div five_ne]
  unfold ctxv
  refine congrArg (fun z => Ideal.div z (Ideal.ofBits .f32 0x40A00000#32)) ?_
  rw [shapeCast_apply _ _ _ (ix3 (⟨r.val / 20, by omega⟩ : Fin 16) (⟨r.val % 20, by omega⟩ : Fin 20) e : S16x20x128.Idx)
    (by rw [Shape.rowMajor_val_two, Shape.rowMajor_val_three]; show (r.val / 20 * 20 + r.val % 20) * 128 + e.val = r.val * 128 + e.val; omega)]
  rw [transpose_apply _ _ _ _ (ix3 (⟨r.val % 20, by omega⟩ : Fin 20) (⟨r.val / 20, by omega⟩ : Fin 16) e : S20x16x128.Idx)
    (fun b => by match b with | 0 => rfl | 1 => rfl | 2 => rfl)]
  rw [shapeCast_apply _ _ _ (ix2 (⟨(r.val % 20) * 16 + r.val / 20, hrow⟩ : Fin 320) e : S320x128.Idx)
    (by rw [Shape.rowMajor_val_two, Shape.rowMajor_val_three]; show ((r.val % 20) * 16 + r.val / 20) * 128 + e.val = ((r.val % 20) * 16 + r.val / 20) * 128 + e.val; rfl)]
  rw [va4_v5, va3_v5, extractStridedSlice_apply _ _ _ _ (ix2 (⟨(r.val % 20) * 16 + r.val / 20, by omega⟩ : Fin 512) e : S512x128.Idx)
    (fun a => by match a with | 0 => exact (Nat.zero_add _).symm | 1 => exact (Nat.zero_add _).symm)]
  rw [va2_v4, va1_v3, va1_arg1]
  unfold takeRows
  refine congrArg (argE m d) (congrArg₂ ix2 (congrArg (rowAt 99999) ?_) rfl)
  rw [tok_at _ _ (show (r.val % 20) * 16 + r.val / 20 < 320 from hrow)]
  refine congrArg (argBatch m d) (congrArg₂ ix2 (Fin.ext ?_) (Fin.ext ?_))
  · show ((r.val % 20) * 16 + r.val / 20) % 16 = r.val / 20; omega
  · show ((r.val % 20) * 16 + r.val / 20) / 16 = r.val % 20; omega

/-- The neighbours' vectors. -/
theorem xg_at (h : InRange m d) (r k : Fin 320) (e : Fin 128) :
    va5 m d (dr main_v27_1) (ix3 r k e : S320x320x128.Idx) = vecv (argX m d) (argNb m d) (argTop m d) r k e := by
  rw [va5_v27_1]
  show contsB m d main_arg2 (ix2 (rowAt 99999 (nbOut (contsB m) d (ix2 r k))) e) = _
  rw [nbOut_at h, contsB_arg2]
  rfl

/-- The neighbours. -/
theorem nb_at (h : InRange m d) (r k : Fin 320) : va5 m d (dr main_v35) (ix3 r (0 : Fin 1) k : S320x1x320.Idx) = nbr (argNb m d) (argTop m d) r k := by
  rw [va5_v35, shapeCast_apply _ _ _ (ix2 r k : S320x320.Idx)
    (by rw [Shape.rowMajor_val_two, Shape.rowMajor_val_three]; show r.val * 320 + k.val = (r.val * 1 + 0) * 320 + k.val; omega), va4_v27_0, nbOut_at h]

theorem nbr_lt (h : InRange m d) (r k : Fin 320) : (nbr (argNb m d) (argTop m d) r k).toNat < 100000 := h.2.1 _

/-! ## The result -/

/-- The cosines of a row. -/
abbrev rowCos (B : IVec S16x20 32) (E X : FVec Ideal S100000x128 .f32) (N : IVec S100000x32 32) (T : IVec S320x16 32) (r : Fin 320) : Fin 320 → EReal :=
  cosOf (ctxv B E r) (vecv X N T r)

/-- The second pipeline's row. -/
theorem close_at (h : InRange m d) (r : Fin 320) (q : Fin 128) {k : Fin 320} (hk : IsFirstMax (rowCos (argBatch m d) (argE m d) (argX m d) (argNb m d) (argTop m d) r) k) :
    closeVal (F := Ideal) (va5 m d (dr main_v34)) (va5 m d (dr main_v27_1)) (va5 m d (dr main_v35)) (ix2 r q) = nbr (argNb m d) (argTop m d) r k := by
  have hr := r.isLt
  have eR : rowOf (⟨r.val / 8, by omega⟩ : Fin 40) (⟨r.val % 8, by omega⟩ : Fin 8) = r := Fin.ext (by show 8 * (r.val / 8) + r.val % 8 = r.val; omega)
  rw [closeVal_at _ _ _ (⟨r.val / 8, by omega⟩ : Fin 40) (ix2 (⟨r.val % 8, by omega⟩ : Fin 8) q) (ix2 r q) (by show r.val = r.val / 8 * 8 + r.val % 8; omega) rfl]
  have ec : (fun e : Fin 128 => ctxBlk (F := Ideal) (va5 m d (dr main_v34)) (⟨r.val / 8, by omega⟩ : Fin 40) (ix3 (⟨r.val % 8, by omega⟩ : Fin 8) (0 : Fin 1) e : S8x1x128.Idx))
      = ctxv (argBatch m d) (argE m d) r := funext fun e => by
    show va5 m d (dr main_v34) (ix3 (rowOf (⟨r.val / 8, _⟩ : Fin 40) (⟨r.val % 8, _⟩ : Fin 8)) (0 : Fin 1) e : S320x1x128.Idx) = _
    rw [eR, ctx_at]
  have ex : (fun (k : Fin 320) (e : Fin 128) => xgBlk (F := Ideal) (va5 m d (dr main_v27_1)) (⟨r.val / 8, by omega⟩ : Fin 40) (ix3 (⟨r.val % 8, by omega⟩ : Fin 8) k e : S8x320x128.Idx))
      = vecv (argX m d) (argNb m d) (argTop m d) r := funext fun k => funext fun e => by
    show va5 m d (dr main_v27_1) (ix3 (rowOf (⟨r.val / 8, _⟩ : Fin 40) (⟨r.val % 8, _⟩ : Fin 8)) k e : S320x320x128.Idx) = _
    rw [eR, xg_at h]
  have en : nbBlk (F := Ideal) (va5 m d (dr main_v35)) (⟨r.val / 8, by omega⟩ : Fin 40) (ix3 (⟨r.val % 8, by omega⟩ : Fin 8) (0 : Fin 1) k : S8x1x320.Idx)
      = nbr (argNb m d) (argTop m d) r k := by
    show va5 m d (dr main_v35) (ix3 (rowOf (⟨r.val / 8, _⟩ : Fin 40) (⟨r.val % 8, _⟩ : Fin 8)) (0 : Fin 1) k : S320x1x320.Idx) = _
    rw [eR, nb_at h]
  refine (pay_at _ _ _ (ix2 (⟨r.val % 8, by omega⟩ : Fin 8) q) (k := k) ?_ ?_).trans en
  · show IsFirstMax (cosOf (fun e : Fin 128 => ctxBlk (F := Ideal) (va5 m d (dr main_v34)) (⟨r.val / 8, _⟩ : Fin 40) (ix3 (⟨r.val % 8, _⟩ : Fin 8) (0 : Fin 1) e : S8x1x128.Idx))
      (fun (k : Fin 320) (e : Fin 128) => xgBlk (F := Ideal) (va5 m d (dr main_v27_1)) (⟨r.val / 8, _⟩ : Fin 40) (ix3 (⟨r.val % 8, _⟩ : Fin 8) k e : S8x320x128.Idx))) k
    rw [ec, ex]
    exact hk
  · have := nbr_lt h r k
    refine le_of_le_of_eq ?_ (congrArg BitVec.toInt en.symm)
    rw [BitVec.toInt_eq_toNat_of_lt (by omega)]
    exact Int.natCast_nonneg _

theorem va7_v37 : va7 m d (dr main_v37) = extractStridedSlice S320x1 ![0, 0] (va6 m d (dr main_v36)) slices_S320x128_S320x1_0_0 := by
  unfold va7 ops3
  after_results_simp

/-- The kernel's result: on each row one constant at the neighbour with the first greatest cosine, another elsewhere. -/
theorem result_at (h : InRange m d) (r : Fin 320) (q : Fin 100000) {k : Fin 320} (hk : IsFirstMax (rowCos (argBatch m d) (argE m d) (argX m d) (argNb m d) (argTop m d) r) k) :
    va8 m d (dr main_v38) (ix2 r q : S320x100000.Idx) = if BitVec.ofNat 32 q.val = nbr (argNb m d) (argTop m d) r k
      then ((Real.log (99900001 / 100000000) : ℝ) : EReal) else ((Real.log (1 / 100000000) : ℝ) : EReal) := by
  have e : va7 m d (dr main_v37) (ix2 r (0 : Fin 1) : S320x1.Idx) = nbr (argNb m d) (argTop m d) r k := by
    rw [va7_v37, extractStridedSlice_apply _ _ _ _ (ix2 r (0 : Fin 128) : S320x128.Idx)
      (fun a => by match a with | 0 => exact (Nat.zero_add _).symm | 1 => exact (Nat.zero_add _).symm)]
    rw [show va6 m d (dr main_v36) = closeVal (F := Ideal) (va5 m d (dr main_v34)) (va5 m d (dr main_v27_1)) (va5 m d (dr main_v35)) from Function.update_self _ _ _]
    exact close_at h r 0 hk
  rw [show va8 m d (dr main_v38) = fillVal (F := Ideal) (va7 m d (dr main_v37)) from Function.update_self _ _ _]
  unfold fillVal
  show (if BitVec.ofNat 32 q.val = va7 m d (dr main_v37) (ix2 r (0 : Fin 1) : S320x1.Idx) then _ else _) = _
  rw [e]
  rfl

end Cert.Proof.Sense

end
-- ==== Proof.RefStages.lean ====
/-
  The reference's arrays as terms of the arrays before them, one line of operations at a time, and its two lookups by
  index and its scatter read at an index.
-/
module

public import proofs.«01_k».proof.Proof.RefOps
public import proofs.«01_k».proof.Proof.Plain
public import Idealize.ShloMosaic.Lib.Routing.OpsSet
public import Idealize.ShloMosaic.Lib.Pipeline.Value
public import Idealize.ShloMosaic.Lib.IdealHost

@[expose] public section

noncomputable section

namespace Cert.Proof.Ref

open Cert.ReferenceIdeal Cert.ReferenceIdeal.Gen
open Idealize.ShloMosaic Idealize.SL.Sem
open Idealize.ShloMosaic.StableHlo (held after)
open Cert.Proof.Sense (ix1 ix2 ix3 rowAt nbr ctxv vecv cosOf rowAt_val)
open Idealize.ShloMosaic.Tactic

abbrev rd (b : Ref sig .tc) : DevRef τ sig := Proc.devRef .tc b

variable (V : Valuation τ sig (Elt Ideal))

/-! ## The arrays -/

/-- The tokens' embeddings. -/
def gE (E : FVec Ideal S100000x128 .f32) (B : IVec S16x20 32) : FVec Ideal S16x20x128 .f32 :=
  Host.gather gather_S100000x128_S16x20x1_S16x20x128_2_0_n_n_0_2_1128 E (broadcastInDim S16x20x1 ![0, 1] bcast_S16x20_S16x20x1_0_1 B)

/-- The neighbours. -/
def gN (N : IVec S100000x32 32) (T : IVec S320x16 32) : IVec S320x320 32 :=
  shapeCast S320x320 (Host.gather gather_S100000x32_S320x10x1_S320x10x32_2_0_n_n_0_2_132 N
    (broadcastInDim S320x10x1 ![0, 1] bcast_S320x10_S320x10x1_0_1 (extractStridedSlice S320x10 ![0, 0] T slices_S320x16_S320x10_0_0))) shapeCasts_S320x10x32_S320x320

/-- The senses' vectors. -/
def gX (X : FVec Ideal S100000x128 .f32) (n : IVec S320x320 32) : FVec Ideal S320x320x128 .f32 :=
  Host.gather gather_S100000x128_S320x320x1_S320x320x128_2_0_n_n_0_2_1128 X (broadcastInDim S320x320x1 ![0, 1] bcast_S320x320_S320x320x1_0_1 n)

theorem w0_v3 : after ops0 V (rd main_v3) = gN (V (rd main_arg3)) (V (rd main_arg4)) := by
  unfold ops0 gN
  after_results_simp
  rfl

theorem w0_v4 : after ops0 V (rd main_v4) = gX (V (rd main_arg2)) (gN (V (rd main_arg3)) (V (rd main_arg4))) := by
  unfold ops0 gX gN
  after_results_simp
  rfl

theorem w0_v5 : after ops0 V (rd main_v5) = shapeCast S320x128 (gE (V (rd main_arg1)) (V (rd main_arg0))) shapeCasts_S16x20x128_S320x128 := by
  unfold ops0 gE
  after_results_simp
  rfl

/-- The contexts. -/
def cCtx (x : FVec Ideal S320x128 .f32) : FVec Ideal S320x128 .f32 :=
  Host.divf x (broadcastInDim S320x128 ![] bcast_S_S320x128 (constant S_ .f32 0x40A00000#32))

/-- The inner products. -/
def cDot (c : FVec Ideal S320x128 .f32) (x : FVec Ideal S320x320x128 .f32) : FVec Ideal S320x320 .f32 :=
  Host.reduceAdd (mulf (broadcastInDim S320x320x128 ![0, 1, 2] bcast_S320x1x128_S320x320x128_0_1_2
    (broadcastInDim S320x1x128 ![0, 2] bcast_S320x128_S320x1x128_0_2 c)) x) (constant S_ .f32 0x00000000#32) reducesTo_S320x320x128_S320x320_d2 h_S_

theorem w1_v7 : after ops1 V (rd main_v7) = cCtx (V (rd main_v5)) := by
  unfold ops1 cCtx
  after_results_simp

theorem w1_v11 : after ops1 V (rd main_v11) = cDot (cCtx (V (rd main_v5))) (V (rd main_v4)) := by
  unfold ops1 cDot cCtx
  after_results_simp

/-- The cosines. -/
def cCos (dot : FVec Ideal S320x320 .f32) (c : FVec Ideal S320x128 .f32) (x : FVec Ideal S320x320x128 .f32) : FVec Ideal S320x320 .f32 :=
  Host.divf dot (addf (mulf (broadcastInDim S320x320 ![0, 1] bcast_S320x1_S320x320_0_1 (broadcastInDim S320x1 ![0] bcast_S320_S320x1_0
      (Host.sqrt (Host.reduceAdd (mulf c c) (constant S_ .f32 0x00000000#32) reducesTo_S320x128_S320_d1 h_S_))))
    (Host.sqrt (Host.reduceAdd (mulf x x) (constant S_ .f32 0x00000000#32) reducesTo_S320x320x128_S320x320_d2 h_S_)))
    (broadcastInDim S320x320 ![] bcast_S_S320x320 (constant S_ .f32 0x2B8CBCCC#32)))

theorem w2_v19 : after ops2 V (rd main_v19) = cCos (V (rd main_v11)) (V (rd main_v7)) (V (rd main_v4)) := by
  unfold ops2 cCos
  after_results_simp
  rfl

/-- The place of the greatest cosine. -/
def cArg (s : FVec Ideal S320x320 .f32) : IVec S320 32 := fun j =>
  (Host.argReduce reducer_argmax_f32_i32 s (iotaInDim S320x320 32 1) (constant S_ .f32 0xFF800000#32) (constantI S_ 32 0#32) reducesTo_S320x320_S320_d1 h_S_ j).2

/-- A column of places read at each row. -/
def cTake (n : IVec S320x320 32) (a : IVec S320x1 32) : IVec S320 32 :=
  shapeCast S320 (Host.gather gather_S320x320_S320x1x1_S320x1_n_1_0_0_1_2_11 n
    (shapeCast S320x1x1 (select (cmpi .slt a (broadcastInDim S320x1 ![] bcast_S_S320x1 (constantI S_ 32 0#32)))
      (addi a (broadcastInDim S320x1 ![] bcast_S_S320x1 (constantI S_ 32 320#32))) a) shapeCasts_S320x1_S320x1x1)) shapeCasts_S320x1_S320

/-- The fourth line up to the greatest cosine's place, and from it on. -/
abbrev ops3a {F : FTy → Type} [FloatOps F] : List (HloOp τ sig (Elt F)) :=
  [ StableHlo.TRef.nullary main_call5.v0 (iotaInDim S320x320 32 1)
  , StableHlo.TRef.nullary main_call5.cst (constant S_ .f32 0xFF800000#32)
  , StableHlo.TRef.nullary main_call5.c (constantI S_ 32 0#32)
  , StableHlo.TRef.quaternary (.of main_v19 : StableHlo.TRef sig ⟨S320x320, .f32⟩) main_call5.v0 main_call5.cst main_call5.c main_call5.v1_0 (fun x y u v j => (Host.argReduce reducer_argmax_f32_i32 x y u v reducesTo_S320x320_S320_d1 h_S_ j).1)
  , StableHlo.TRef.quaternary (.of main_v19 : StableHlo.TRef sig ⟨S320x320, .f32⟩) main_call5.v0 main_call5.cst main_call5.c main_call5.v1_1 (fun x y u v j => (Host.argReduce reducer_argmax_f32_i32 x y u v reducesTo_S320x320_S320_d1 h_S_ j).2) ]
abbrev ops3b {F : FTy → Type} [FloatOps F] : List (HloOp τ sig (Elt F)) :=
  [ StableHlo.unary main_v20 main_v21 (broadcastInDim S320x1 ![0] bcast_S320_S320x1_0 : (⟨S320, .i32⟩ : BufTy).Contents (Elt F) → (⟨S320x1, .i32⟩ : BufTy).Contents (Elt F))
  , StableHlo.TRef.nullary main_call6.c (constantI S_ 32 0#32)
  , StableHlo.TRef.unary main_call6.c main_call6.v0 (broadcastInDim S320x1 ![] bcast_S_S320x1)
  , StableHlo.TRef.binary (.of main_v21 : StableHlo.TRef sig ⟨S320x1, .i32⟩) main_call6.v0 main_call6.v1 (cmpi .slt)
  , StableHlo.TRef.nullary main_call6.c_0 (constantI S_ 32 320#32)
  , StableHlo.TRef.unary main_call6.c_0 main_call6.v2 (broadcastInDim S320x1 ![] bcast_S_S320x1)
  , StableHlo.TRef.binary (.of main_v21 : StableHlo.TRef sig ⟨S320x1, .i32⟩) main_call6.v2 main_call6.v3 addi
  , StableHlo.TRef.ternary main_call6.v1 main_call6.v3 (.of main_v21 : StableHlo.TRef sig ⟨S320x1, .i32⟩) main_call6.v4 select
  , StableHlo.TRef.reshape main_call6.v4 main_call6.v5 (rfl : (.i32 : EltTy) = .i32) shapeCasts_S320x1_S320x1x1
  , StableHlo.TRef.binary (.of main_v3 : StableHlo.TRef sig ⟨S320x320, .i32⟩) main_call6.v5 main_call6.v6 (fun x i => Host.gather gather_S320x320_S320x1x1_S320x1_n_1_0_0_1_2_11 x i)
  , StableHlo.reshape main_v22 main_v23 (rfl : (.i32 : EltTy) = .i32) shapeCasts_S320x1_S320 ]

theorem w3_split : after (ops3 (F := Ideal)) V = after (ops3b (F := Ideal)) (after (ops3a (F := Ideal)) V) :=
  StableHlo.after_append (ops3a (F := Ideal)) (ops3b (F := Ideal)) V

theorem w3b_v23 : after (ops3b (F := Ideal)) V (rd main_v23) = cTake (V (rd main_v3)) (broadcastInDim S320x1 ![0] bcast_S320_S320x1_0 (V (rd main_v20))) := by
  unfold ops3b cTake
  after_results_simp
  rfl

theorem w3a_v20 : after (ops3a (F := Ideal)) V (rd main_v20) = cArg (V (rd main_v19)) := by
  unfold ops3a
  after_results_simp
  rfl
theorem w3a_v3 : after (ops3a (F := Ideal)) V (rd main_v3) = V (rd main_v3) := by
  unfold ops3a
  after_results_simp

theorem w3_v23 : after (ops3 (F := Ideal)) V (rd main_v23) = cTake (V (rd main_v3)) (broadcastInDim S320x1 ![0] bcast_S320_S320x1_0 (cArg (V (rd main_v19)))) := by
  rw [w3_split, w3b_v23, w3a_v20, w3a_v3]

/-- The small score, and the score of the selected sense. -/
def cEps : FVec Ideal S_ .f32 := Host.divf (constant S_ .f32 0x3F800000#32) (constant S_ .f32 0x4CBEBC20#32)
def cSel : FVec Ideal S_ .f32 := subf (constant S_ .f32 0x3F800000#32) (mulf cEps (constant S_ .f32 0x47C34F80#32))

/-- The index pairs of the scatter. -/
def cPair (w : IVec S320 32) : IVec S320x2 32 :=
  concatenate S320x2 1 [⟨S320x1, broadcastInDim S320x1 ![0] bcast_S320_S320x1_0
      (select (cmpi .slt (iotaInDim S320 32 0) (broadcastInDim S320 ![] bcast_S_S320 (constantI S_ 32 0#32)))
        (addi (iotaInDim S320 32 0) (broadcastInDim S320 ![] bcast_S_S320 (constantI S_ 32 320#32))) (iotaInDim S320 32 0))⟩,
    ⟨S320x1, broadcastInDim S320x1 ![0] bcast_S320_S320x1_0
      (select (cmpi .slt w (broadcastInDim S320 ![] bcast_S_S320 (constantI S_ 32 0#32)))
        (addi w (broadcastInDim S320 ![] bcast_S_S320 (constantI S_ 32 100000#32))) w)⟩] concatenates_S320x1_S320x1_S320x2_d1

/-- The last line before its index pairs, and from them on. -/
abbrev ops4a {F : FTy → Type} [FloatOps F] : List (HloOp τ sig (Elt F)) :=
  [ StableHlo.nullary main_cst_2 (constant S_ .f32 0x3F800000#32)
  , StableHlo.nullary main_cst_3 (constant S_ .f32 0x4CBEBC20#32)
  , StableHlo.binary main_cst_2 main_cst_3 main_v24 (Host.divf : (⟨S_, .f32⟩ : BufTy).Contents (Elt F) → (⟨S_, .f32⟩ : BufTy).Contents (Elt F) → (⟨S_, .f32⟩ : BufTy).Contents (Elt F))
  , StableHlo.nullary main_cst_4 (constant S_ .f32 0x47C34F80#32)
  , StableHlo.binary main_v24 main_cst_4 main_v25 (mulf : (⟨S_, .f32⟩ : BufTy).Contents (Elt F) → (⟨S_, .f32⟩ : BufTy).Contents (Elt F) → (⟨S_, .f32⟩ : BufTy).Contents (Elt F))
  , StableHlo.nullary main_cst_5 (constant S_ .f32 0x3F800000#32)
  , StableHlo.binary main_cst_5 main_v25 main_v26 (subf : (⟨S_, .f32⟩ : BufTy).Contents (Elt F) → (⟨S_, .f32⟩ : BufTy).Contents (Elt F) → (⟨S_, .f32⟩ : BufTy).Contents (Elt F))
  , StableHlo.unary main_v24 main_v27 (broadcastInDim S320x100000 ![] bcast_S_S320x100000 : (⟨S_, .f32⟩ : BufTy).Contents (Elt F) → (⟨S320x100000, .f32⟩ : BufTy).Contents (Elt F))
  , StableHlo.nullary main_v28 (iotaInDim S320 32 0)
  , StableHlo.nullary main_c (constantI S_ 32 0#32)
  , StableHlo.unary main_c main_v29 (broadcastInDim S320 ![] bcast_S_S320 : (⟨S_, .i32⟩ : BufTy).Contents (Elt F) → (⟨S320, .i32⟩ : BufTy).Contents (Elt F))
  , StableHlo.binary main_v28 main_v29 main_v30 (cmpi .slt : (⟨S320, .i32⟩ : BufTy).Contents (Elt F) → (⟨S320, .i32⟩ : BufTy).Contents (Elt F) → (⟨S320, .i1⟩ : BufTy).Contents (Elt F))
  , StableHlo.nullary main_c_6 (constantI S_ 32 320#32)
  , StableHlo.unary main_c_6 main_v31 (broadcastInDim S320 ![] bcast_S_S320 : (⟨S_, .i32⟩ : BufTy).Contents (Elt F) → (⟨S320, .i32⟩ : BufTy).Contents (Elt F))
  , StableHlo.binary main_v28 main_v31 main_v32 (addi : (⟨S320, .i32⟩ : BufTy).Contents (Elt F) → (⟨S320, .i32⟩ : BufTy).Contents (Elt F) → (⟨S320, .i32⟩ : BufTy).Contents (Elt F))
  , StableHlo.ternary main_v30 main_v32 main_v28 main_v33 (select : (⟨S320, .i1⟩ : BufTy).Contents (Elt F) → (⟨S320, .i32⟩ : BufTy).Contents (Elt F) → (⟨S320, .i32⟩ : BufTy).Contents (Elt F) → (⟨S320, .i32⟩ : BufTy).Contents (Elt F))
  , StableHlo.nullary main_c_7 (constantI S_ 32 0#32)
  , StableHlo.unary main_c_7 main_v34 (broadcastInDim S320 ![] bcast_S_S320 : (⟨S_, .i32⟩ : BufTy).Contents (Elt F) → (⟨S320, .i32⟩ : BufTy).Contents (Elt F))
  , StableHlo.binary main_v23 main_v34 main_v35 (cmpi .slt : (⟨S320, .i32⟩ : BufTy).Contents (Elt F) → (⟨S320, .i32⟩ : BufTy).Contents (Elt F) → (⟨S320, .i1⟩ : BufTy).Contents (Elt F))
  , StableHlo.nullary main_c_8 (constantI S_ 32 100000#32)
  , StableHlo.unary main_c_8 main_v36 (broadcastInDim S320 ![] bcast_S_S320 : (⟨S_, .i32⟩ : BufTy).Contents (Elt F) → (⟨S320, .i32⟩ : BufTy).Contents (Elt F))
  , StableHlo.binary main_v23 main_v36 main_v37 (addi : (⟨S320, .i32⟩ : BufTy).Contents (Elt F) → (⟨S320, .i32⟩ : BufTy).Contents (Elt F) → (⟨S320, .i32⟩ : BufTy).Contents (Elt F))
  , StableHlo.ternary main_v35 main_v37 main_v23 main_v38 (select : (⟨S320, .i1⟩ : BufTy).Contents (Elt F) → (⟨S320, .i32⟩ : BufTy).Contents (Elt F) → (⟨S320, .i32⟩ : BufTy).Contents (Elt F) → (⟨S320, .i32⟩ : BufTy).Contents (Elt F))
  , StableHlo.unary main_v33 main_v39 (broadcastInDim S320x1 ![0] bcast_S320_S320x1_0 : (⟨S320, .i32⟩ : BufTy).Contents (Elt F) → (⟨S320x1, .i32⟩ : BufTy).Contents (Elt F))
  , StableHlo.unary main_v38 main_v40 (broadcastInDim S320x1 ![0] bcast_S320_S320x1_0 : (⟨S320, .i32⟩ : BufTy).Contents (Elt F) → (⟨S320x1, .i32⟩ : BufTy).Contents (Elt F)) ]
abbrev ops4b {F : FTy → Type} [FloatOps F] : List (HloOp τ sig (Elt F)) :=
  [ StableHlo.binary main_v39 main_v40 main_v41 ((fun a b => concatenate S320x2 1 [⟨S320x1, a⟩, ⟨S320x1, b⟩] concatenates_S320x1_S320x1_S320x2_d1) : (⟨S320x1, .i32⟩ : BufTy).Contents (Elt F) → (⟨S320x1, .i32⟩ : BufTy).Contents (Elt F) → (⟨S320x2, .i32⟩ : BufTy).Contents (Elt F))
  , StableHlo.unary main_v26 main_v42 (broadcastInDim S320 ![] bcast_S_S320 : (⟨S_, .f32⟩ : BufTy).Contents (Elt F) → (⟨S320, .f32⟩ : BufTy).Contents (Elt F))
  , StableHlo.ternary main_v27 main_v41 main_v42 main_v43 ((fun x i u => Host.scatter scatter_S320x100000_S320x2_S320_n_01_01_1 (fun _ b => b) x i u) : (⟨S320x100000, .f32⟩ : BufTy).Contents (Elt F) → (⟨S320x2, .i32⟩ : BufTy).Contents (Elt F) → (⟨S320, .f32⟩ : BufTy).Contents (Elt F) → (⟨S320x100000, .f32⟩ : BufTy).Contents (Elt F))
  , StableHlo.unary main_v43 main_v44 (Host.log : (⟨S320x100000, .f32⟩ : BufTy).Contents (Elt F) → (⟨S320x100000, .f32⟩ : BufTy).Contents (Elt F)) ]

theorem w4_split : after (ops4 (F := Ideal)) V = after (ops4b (F := Ideal)) (after (ops4a (F := Ideal)) V) := StableHlo.after_append (ops4a (F := Ideal)) (ops4b (F := Ideal)) V

theorem w4b_v44 : after (ops4b (F := Ideal)) V (rd main_v44) = Host.log (F := Ideal) (φ := .f32) (Host.scatter scatter_S320x100000_S320x2_S320_n_01_01_1 (fun _ b => b)
    (V (rd main_v27)) (concatenate S320x2 1 [⟨S320x1, V (rd main_v39)⟩, ⟨S320x1, V (rd main_v40)⟩] concatenates_S320x1_S320x1_S320x2_d1)
    (broadcastInDim S320 ![] bcast_S_S320 (V (rd main_v26)))) := by
  unfold ops4b
  after_results_simp

theorem w4a_v26 : after (ops4a (F := Ideal)) V (rd main_v26) = cSel := by
  unfold ops4a cSel cEps
  after_results_simp
theorem w4a_v27 : after (ops4a (F := Ideal)) V (rd main_v27) = broadcastInDim S320x100000 ![] bcast_S_S320x100000 cEps := by
  unfold ops4a cEps
  after_results_simp
theorem w4a_v39 : after (ops4a (F := Ideal)) V (rd main_v39) = broadcastInDim S320x1 ![0] bcast_S320_S320x1_0
    (select (cmpi .slt (iotaInDim S320 32 0) (broadcastInDim S320 ![] bcast_S_S320 (constantI S_ 32 0#32)))
      (addi (iotaInDim S320 32 0) (broadcastInDim S320 ![] bcast_S_S320 (constantI S_ 32 320#32))) (iotaInDim S320 32 0)) := by
  unfold ops4a
  after_results_simp
theorem w4a_v40 : after (ops4a (F := Ideal)) V (rd main_v40) = broadcastInDim S320x1 ![0] bcast_S320_S320x1_0
    (select (cmpi .slt (V (rd main_v23)) (broadcastInDim S320 ![] bcast_S_S320 (constantI S_ 32 0#32)))
      (addi (V (rd main_v23)) (broadcastInDim S320 ![] bcast_S_S320 (constantI S_ 32 100000#32))) (V (rd main_v23))) := by
  unfold ops4a
  after_results_simp

theorem w4_v44 : after (ops4 (F := Ideal)) V (rd main_v44) = Host.log (F := Ideal) (φ := .f32) (Host.scatter scatter_S320x100000_S320x2_S320_n_01_01_1 (fun _ b => b)
    (broadcastInDim S320x100000 ![] bcast_S_S320x100000 cEps) (cPair (V (rd main_v23))) (broadcastInDim S320 ![] bcast_S_S320 cSel)) := by
  rw [w4_split, w4b_v44, w4a_v26, w4a_v27, w4a_v39, w4a_v40]
  rfl

end Cert.Proof.Ref

end
-- ==== Proof.RefValue.lean ====
/-
  The reference's result read at an index: on each row one constant at the neighbour with the first greatest cosine,
  another elsewhere.
-/
module

public import proofs.«01_k».proof.Proof.RefStages

@[expose] public section

noncomputable section

namespace Cert.Proof.Ref

open Cert.ReferenceIdeal Cert.ReferenceIdeal.Gen
open Idealize.ShloMosaic Idealize.SL.Sem
open Idealize.ShloMosaic.StableHlo (held after)
open Cert.Proof.Sense (ix1 ix2 ix3 rowAt nbr ctxv vecv cosOf rowAt_val)

/-! ## Rows looked up by index -/

/-- The dimension numbers of rows of an `N × C` table at an `R × K` array of numbers. -/
abbrev rowsDims (N C R K : ℕ) (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- Such rows, read at an index whose number is that of a row. -/
theorem rows_at {α : Type} {C R K : ℕ} (wf : GatherDims.WF ⟨2, ![100000, C]⟩ ⟨3, ![R, K, 1]⟩ ⟨3, ![R, K, C]⟩ [2] [0] [] [0] [] 2 ![1, C])
    (x : (⟨2, ![100000, C]⟩ : Shape).Idx → α) (idx : IVec ⟨3, ![R, K, 1]⟩ 32) (r : Fin R) (k : Fin K) (e : Fin C)
    (hi : (idx (ix3 r k (0 : Fin 1))).toNat < 100000) :
    Host.gather (rowsDims 100000 C R K wf) x idx (ix3 r k e) = x (ix2 (rowAt 99999 (idx (ix3 r k (0 : Fin 1)))) e) := by
  unfold Host.gather
  congr 1
  funext a
  refine Fin.ext ?_
  show (rowsDims 100000 C R K wf).start (ix3 r k e) idx a + (rowsDims 100000 C R K wf).batchCoord (ix3 r k e) a
    + (rowsDims 100000 C R K wf).offCoord (ix3 r k e) a = _
  have h01 : a = 0 ∨ a = 1 := by
    match a with
    | ⟨0, _⟩ => exact .inl rfl
    | ⟨1, _⟩ => exact .inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (rowsDims 100000 C R K wf).startIndexMap from List.mem_singleton.mpr rfl)]
    have hs : (rowsDims 100000 C R K wf).siIdx (ix3 r k e) ⟨List.idxOf (0 : Fin 2) (rowsDims 100000 C R K wf).startIndexMap,
        List.idxOf_lt_length_iff.2 (List.mem_singleton.mpr rfl)⟩ = ix3 r k (0 : Fin 1) := by
      funext b
      refine Fin.ext ?_
      match b with
      | ⟨0, _⟩ => rfl
      | ⟨1, _⟩ => rfl
      | ⟨2, _⟩ => rfl
    rw [hs, BitVec.toInt_eq_toNat_of_lt (by omega)]
    rfl
  · rw [GatherDims.batchCoord_eq_zero _ _ _ List.not_mem_nil]
    unfold GatherDims.start
    rw [dif_neg (show (1 : Fin 2) ∉ (rowsDims 100000 C R K wf).startIndexMap from by simp)]
    rw [Nat.zero_add]
    rfl

/-- The tokens' embeddings. -/
theorem gE_at (E : FVec Ideal S100000x128 .f32) (B : IVec S16x20 32) (hB : ∀ x, (B x).toNat < 100000) (b : Fin 16) (t : Fin 20) (e : Fin 128) :
    gE E B (ix3 b t e : S16x20x128.Idx) = E (ix2 (rowAt 99999 (B (ix2 b t))) e) := by
  have ei : broadcastInDim S16x20x1 ![0, 1] bcast_S16x20_S16x20x1_0_1 B (ix3 b t (0 : Fin 1) : S16x20x1.Idx) = B (ix2 b t) :=
    broadcastInDim_apply _ _ _ _ _ (fun a => by match a with | 0 => rfl | 1 => rfl)
  refine (rows_at gather_S100000x128_S16x20x1_S16x20x128_2_0_n_n_0_2_1128_wf E _ b t e (by rw [ei]; exact hB _)).trans ?_
  rw [ei]

/-- The neighbours. -/
theorem gN_at (N : IVec S100000x32 32) (T : IVec S320x16 32) (hT : ∀ x : S320x16.Idx, (x 1).val < 10 → (T x).toNat < 100000) (r k : Fin 320) :
    gN N T (ix2 r k : S320x320.Idx) = nbr N T r k := by
  have hk := k.isLt
  unfold gN
  rw [shapeCast_apply _ _ _ (ix3 r (⟨k.val / 32, by omega⟩ : Fin 10) (⟨k.val % 32, by omega⟩ : Fin 32) : S320x10x32.Idx)
    (by rw [Shape.rowMajor_val_two, Shape.rowMajor_val_three]; show (r.val * 10 + k.val / 32) * 32 + k.val % 32 = r.val * 320 + k.val; omega)]
  have ei : broadcastInDim S320x10x1 ![0, 1] bcast_S320x10_S320x10x1_0_1 (extractStridedSlice S320x10 ![0, 0] T slices_S320x16_S320x10_0_0)
      (ix3 r (⟨k.val / 32, by omega⟩ : Fin 10) (0 : Fin 1) : S320x10x1.Idx) = T (ix2 r (⟨k.val / 32, by omega⟩ : Fin 16)) := by
    rw [broadcastInDim_apply _ _ _ _ (ix2 r (⟨k.val / 32, by omega⟩ : Fin 10) : S320x10.Idx) (fun a => by match a with | 0 => rfl | 1 => rfl)]
    exact extractStridedSlice_apply _ _ _ _ _ (fun a => by match a with | 0 => exact (Nat.zero_add _).symm | 1 => exact (Nat.zero_add _).symm)
  refine (rows_at gather_S100000x32_S320x10x1_S320x10x32_2_0_n_n_0_2_132_wf N _ r _ _ (by rw [ei]; exact hT _ (show k.val / 32 < 10 by omega))).trans ?_
  rw [ei]
  rfl

/-- The senses' vectors. -/
theorem gX_at (X : FVec Ideal S100000x128 .f32) (n : IVec S320x320 32) (hn : ∀ x, (n x).toNat < 100000) (r k : Fin 320) (e : Fin 128) :
    gX X n (ix3 r k e : S320x320x128.Idx) = X (ix2 (rowAt 99999 (n (ix2 r k))) e) := by
  have ei : broadcastInDim S320x320x1 ![0, 1] bcast_S320x320_S320x320x1_0_1 n (ix3 r k (0 : Fin 1) : S320x320x1.Idx) = n (ix2 r k) :=
    broadcastInDim_apply _ _ _ _ _ (fun a => by match a with | 0 => rfl | 1 => rfl)
  refine (rows_at gather_S100000x128_S320x320x1_S320x320x128_2_0_n_n_0_2_1128_wf X _ r k e (by rw [ei]; exact hn _)).trans ?_
  rw [ei]

/-- One place read in each row. -/
theorem place_at (n : IVec S320x320 32) (idx : IVec S320x1x1 32) (r k : Fin 320) (hi : idx (ix3 r (0 : Fin 1) (0 : Fin 1)) = BitVec.ofNat 32 k.val) :
    Host.gather gather_S320x320_S320x1x1_S320x1_n_1_0_0_1_2_11 n idx (ix2 r (0 : Fin 1) : S320x1.Idx) = n (ix2 r k) := by
  have hk := k.isLt
  unfold Host.gather
  congr 1
  funext a
  refine Fin.ext ?_
  show gather_S320x320_S320x1x1_S320x1_n_1_0_0_1_2_11.start (ix2 r (0 : Fin 1)) idx a + gather_S320x320_S320x1x1_S320x1_n_1_0_0_1_2_11.batchCoord (ix2 r (0 : Fin 1)) a
    + gather_S320x320_S320x1x1_S320x1_n_1_0_0_1_2_11.offCoord (ix2 r (0 : Fin 1)) a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    unfold GatherDims.batchCoord
    rw [dif_pos (show (0 : Fin 2) ∈ gather_S320x320_S320x1x1_S320x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gather_S320x320_S320x1x1_S320x1_n_1_0_0_1_2_11.startIndexMap from List.mem_singleton.mpr rfl)]
    have hs : gather_S320x320_S320x1x1_S320x1_n_1_0_0_1_2_11.siIdx (ix2 r (0 : Fin 1)) ⟨List.idxOf (1 : Fin 2) gather_S320x320_S320x1x1_S320x1_n_1_0_0_1_2_11.startIndexMap,
        List.idxOf_lt_length_iff.2 (List.mem_singleton.mpr rfl)⟩ = ix3 r (0 : Fin 1) (0 : Fin 1) := by
      funext b
      refine Fin.ext ?_
      match b with
      | ⟨0, _⟩ => rfl
      | ⟨1, _⟩ => rfl
      | ⟨2, _⟩ => rfl
    rw [hs, hi, toInt_ofNat_lt (n := k.val) (by omega)]
    show min k.val 319 + 0 + 0 = k.val
    omega

/-! ## Sums along the last axis -/

theorem red3 : S320x320x128.Reduces [2] S320x320 := by decide
theorem red2 : S320x128.Reduces [1] S320 := by decide

theorem lift3 (r k : Fin 320) (e : Fin 128) : red3.lift (ix2 r k : S320x320.Idx) e = (ix3 r k e : S320x320x128.Idx) := by
  funext a
  match a with
  | 0 => rfl
  | 1 => rfl
  | 2 => rfl

theorem lift2 (r : Fin 320) (e : Fin 128) : red2.lift (ix1 r : S320.Idx) e = (ix2 r e : S320x128.Idx) := by
  funext a
  match a with
  | 0 => rfl
  | 1 => rfl

theorem sum3 (v : FVec Ideal S320x320x128 .f32) (r k : Fin 320) :
    Host.reduceAdd v (constant S_ .f32 0x00000000#32) reducesTo_S320x320x128_S320x320_d2 h_S_ (ix2 r k : S320x320.Idx) = ∑ e : Fin 128, v (ix3 r k e) := by
  refine (Ideal.hostReduceAdd_single reducesTo_S320x320x128_S320x320_d2 red3 v (Ideal.ofBits .f32 0x00000000#32) (ix2 r k)).trans ?_
  rw [Ideal.ofBits_zero_f32]
  exact (zero_add _).trans (Finset.sum_congr rfl fun e _ => congrArg v (lift3 r k e))

theorem sum2 (v : FVec Ideal S320x128 .f32) (r : Fin 320) :
    Host.reduceAdd v (constant S_ .f32 0x00000000#32) reducesTo_S320x128_S320_d1 h_S_ (ix1 r : S320.Idx) = ∑ e : Fin 128, v (ix2 r e) := by
  refine (Ideal.hostReduceAdd_single reducesTo_S320x128_S320_d1 red2 v (Ideal.ofBits .f32 0x00000000#32) (ix1 r)).trans ?_
  rw [Ideal.ofBits_zero_f32]
  exact (zero_add _).trans (Finset.sum_congr rfl fun e _ => congrArg v (lift2 r e))

/-! ## The contexts and the cosines -/

theorem cCtx_at (E : FVec Ideal S100000x128 .f32) (B : IVec S16x20 32) (hB : ∀ x, (B x).toNat < 100000) (r : Fin 320) (e : Fin 128) :
    cCtx (shapeCast S320x128 (gE E B) shapeCasts_S16x20x128_S320x128) (ix2 r e : S320x128.Idx) = ctxv B E r e := by
  have hr := r.isLt
  show Ideal.div (shapeCast S320x128 (gE E B) shapeCasts_S16x20x128_S320x128 (ix2 r e)) (Ideal.ofBits .f32 0x40A00000#32) = _
  rw [shapeCast_apply _ _ _ (ix3 (⟨r.val / 20, by omega⟩ : Fin 16) (⟨r.val % 20, by omega⟩ : Fin 20) e : S16x20x128.Idx)
    (by rw [Shape.rowMajor_val_two, Shape.rowMajor_val_three]; show (r.val / 20 * 20 + r.val % 20) * 128 + e.val = r.val * 128 + e.val; omega), gE_at E B hB]
  rfl

theorem cDot_at (c : FVec Ideal S320x128 .f32) (x : FVec Ideal S320x320x128 .f32) (r k : Fin 320) :
    cDot c x (ix2 r k : S320x320.Idx) = ∑ e : Fin 128, c (ix2 r e) * x (ix3 r k e) := by
  unfold cDot
  rw [sum3]
  refine Finset.sum_congr rfl fun e _ => ?_
  refine congrArg (fun z : EReal => z * x (ix3 r k e)) ?_
  rw [broadcastInDim_apply _ _ _ _ (ix3 r (0 : Fin 1) e : S320x1x128.Idx) (fun a => by match a with | 0 => rfl | 1 => rfl | 2 => rfl)]
  exact broadcastInDim_apply _ _ _ _ _ (fun a => by match a with | 0 => rfl | 1 => rfl)

theorem cCos_at (c : FVec Ideal S320x128 .f32) (x : FVec Ideal S320x320x128 .f32) (r k : Fin 320) :
    cCos (cDot c x) c x (ix2 r k : S320x320.Idx) = cosOf (fun e => c (ix2 r e)) (fun k e => x (ix3 r k e)) k := by
  show Ideal.div (cDot c x (ix2 r k))
    (broadcastInDim S320x320 ![0, 1] bcast_S320x1_S320x320_0_1 (broadcastInDim S320x1 ![0] bcast_S320_S320x1_0
      (Host.sqrt (Host.reduceAdd (mulf c c) (constant S_ .f32 0x00000000#32) reducesTo_S320x128_S320_d1 h_S_))) (ix2 r k)
    * Ideal.sqrt (Host.reduceAdd (mulf x x) (constant S_ .f32 0x00000000#32) reducesTo_S320x320x128_S320x320_d2 h_S_ (ix2 r k))
    + Ideal.ofBits .f32 0x2B8CBCCC#32) = _
  rw [cDot_at, sum3,
    broadcastInDim_apply _ _ _ _ (ix2 r (0 : Fin 1) : S320x1.Idx) (fun a => by match a with | 0 => rfl | 1 => rfl),
    broadcastInDim_apply _ _ _ _ (ix1 r : S320.Idx) (fun a => by match a with | 0 => rfl)]
  show Ideal.div _ (Ideal.sqrt (Host.reduceAdd (mulf c c) (constant S_ .f32 0x00000000#32) reducesTo_S320x128_S320_d1 h_S_ (ix1 r)) * _ + _) = _
  rw [sum2]
  rfl

/-! ## The place of the greatest cosine -/

theorem cArg_at (s : FVec Ideal S320x320 .f32) (r : Fin 320) {k : Fin 320} (hk : IsFirstMax (fun j => s (ix2 r j)) k) :
    cArg s (ix1 r : S320.Idx) = BitVec.ofNat 32 k.val := by
  unfold cArg
  rw [Ideal.argReduce_eq_reduce2, Host.reduce2_eq_foldl_fiber]
  show (List.foldl red (Ideal.ofBits .f32 0xFF800000#32, 0#32) _).2 = _
  rw [Sense.ofBits_neg_inf]
  refine foldl_red_firstMax hk _ (fun q => ?_)
  unfold Host.argReduceFiber
  rw [List.mem_map]
  constructor
  · rintro ⟨n, hn, rfl⟩
    have hd := of_decide_eq_true (List.mem_filter.mp hn).2
    have h0 : ((S320x320.rowMajor.symm n) 0 : ℕ) = r.val := by
      rw [← Shape.ReducesTo.drop_apply_val_of_eq reducesTo_S320x320_S320_d1 (S320x320.rowMajor.symm n) 0 0, hd]
      rfl
    have e : S320x320.rowMajor.symm n = (ix2 r ((S320x320.rowMajor.symm n) 1) : S320x320.Idx) := by
      funext a
      match a with
      | 0 => exact Fin.ext h0
      | 1 => rfl
    refine ⟨(S320x320.rowMajor.symm n) 1, Prod.ext ?_ ?_⟩
    · exact congrArg s e
    · rfl
  · rintro ⟨j, rfl⟩
    refine ⟨S320x320.rowMajor (ix2 r j : S320x320.Idx), List.mem_filter.mpr ⟨List.mem_finRange _, decide_eq_true ?_⟩, ?_⟩
    · rw [Equiv.symm_apply_apply]
      funext b
      match b with
      | 0 => exact Fin.ext (Shape.ReducesTo.drop_apply_val_of_eq reducesTo_S320x320_S320_d1 (ix2 r j : S320x320.Idx) 0 0)
    · rw [Equiv.symm_apply_apply]
      rfl

theorem cTake_at (n : IVec S320x320 32) (a : IVec S320x1 32) (r k : Fin 320) (ha : a (ix2 r (0 : Fin 1) : S320x1.Idx) = BitVec.ofNat 32 k.val) :
    cTake n a (ix1 r : S320.Idx) = n (ix2 r k) := by
  have hk := k.isLt
  unfold cTake
  rw [shapeCast_apply _ _ _ (ix2 r (0 : Fin 1) : S320x1.Idx)
    (by rw [Shape.rowMajor_val_two, Shape.rowMajor_val_one]; show r.val * 1 + 0 = r.val; omega)]
  refine place_at n _ r k ?_
  rw [shapeCast_apply _ _ _ (ix2 r (0 : Fin 1) : S320x1.Idx)
    (by rw [Shape.rowMajor_val_two, Shape.rowMajor_val_three]; show r.val * 1 + 0 = (r.val * 1 + 0) * 1 + 0; omega)]
  show Scalar.select (IntOp.cmpi .slt (a (ix2 r (0 : Fin 1))) 0#32) (IntOp.addi (a (ix2 r (0 : Fin 1))) 320#32) (a (ix2 r (0 : Fin 1))) = _
  rw [Routing.wrap_of_lt _ _ (by rw [ha, BitVec.toNat_ofNat]; omega), ha]

/-! ## The scatter -/

theorem cPair_row (w : IVec S320 32) (r : Fin 320) : cPair w (ix2 r (0 : Fin 2) : S320x2.Idx) = BitVec.ofNat 32 r.val := by
  have hr := r.isLt
  unfold cPair
  rw [concatenate_pair_apply_left (s₁ := S320x1) (s₂ := S320x1) 1 _ _ _ (ix2 r (0 : Fin 2) : S320x2.Idx) rfl (ix2 r (0 : Fin 1) : S320x1.Idx)
    (fun b => by match b with | 0 => rfl | 1 => rfl)]
  · rw [broadcastInDim_apply _ _ _ _ (ix1 r : S320.Idx) (fun a => by match a with | 0 => rfl)]
    show Scalar.select (IntOp.cmpi .slt (BitVec.ofNat 32 r.val) 0#32) _ (BitVec.ofNat 32 r.val) = _
    exact Routing.wrap_of_lt _ _ (by rw [BitVec.toNat_ofNat]; omega)

theorem cPair_word (w : IVec S320 32) (r : Fin 320) (hw : (w (ix1 r)).toNat < 100000) : cPair w (ix2 r (1 : Fin 2) : S320x2.Idx) = w (ix1 r) := by
  unfold cPair
  rw [concatenate_pair_apply_right (s₁ := S320x1) (s₂ := S320x1) 1 _ _ _ (ix2 r (1 : Fin 2) : S320x2.Idx) rfl rfl (ix2 r (0 : Fin 1) : S320x1.Idx)
    (fun b hb => by match b with | 0 => rfl | 1 => exact absurd rfl hb) rfl]
  · rw [broadcastInDim_apply _ _ _ _ (ix1 r : S320.Idx) (fun a => by match a with | 0 => rfl)]
    show Scalar.select (IntOp.cmpi .slt (w (ix1 r)) 0#32) _ (w (ix1 r)) = _
    exact Routing.wrap_of_lt _ _ (by omega)

/-- Where an update lands. -/
theorem lands (idx : IVec S320x2 32) (a r : Fin 320) (q : Fin 100000) :
    scatter_S320x100000_S320x2_S320_n_01_01_1.resultIdx? (ix1 a : S320.Idx) idx = some (ix2 r q : S320x100000.Idx)
      ↔ (idx (ix2 a (0 : Fin 2))).toInt = r.val ∧ (idx (ix2 a (1 : Fin 2))).toInt = q.val := by
  have hm : ∀ p : Fin 2, p ∈ scatter_S320x100000_S320x2_S320_n_01_01_1.scatterDimsToOperandDims := fun p => by
    match p with
    | 0 => exact List.mem_cons_self
    | 1 => exact List.mem_cons_of_mem _ List.mem_cons_self
  have hw : ∀ p : Fin 2, scatter_S320x100000_S320x2_S320_n_01_01_1.window (ix1 a : S320.Idx) p = 0 := fun p => by
    unfold ScatterDims.window
    rw [dif_neg fun h => (of_decide_eq_true (List.mem_filter.1 h).2) (hm p)]
  have hs : ∀ p : Fin 2, scatter_S320x100000_S320x2_S320_n_01_01_1.start (ix1 a : S320.Idx) idx p = (idx (ix2 a p)).toInt := fun p => by
    unfold ScatterDims.start
    rw [dif_pos (hm p)]
    refine congrArg (fun z => (idx z).toInt) ?_
    funext b
    refine Fin.ext ?_
    match p, b with
    | 0, ⟨0, _⟩ => rfl
    | 0, ⟨1, _⟩ => rfl
    | 1, ⟨0, _⟩ => rfl
    | 1, ⟨1, _⟩ => rfl
  rw [Routing.resultIdx?_eq_some]
  constructor
  · intro h
    have h0 := h 0
    have h1 := h 1
    rw [hw, hs] at h0 h1
    exact ⟨(add_zero _).symm.trans h0, (add_zero _).symm.trans h1⟩
  · intro h p
    match p with
    | 0 => rw [hw, hs]; exact (add_zero _).trans h.1
    | 1 => rw [hw, hs]; exact (add_zero _).trans h.2

theorem scatter_row (x : FVec Ideal S320x100000 .f32) (u : EReal) (upd : FVec Ideal S320 .f32) (hu : ∀ j, upd j = u) (w : IVec S320 32)
    (hw : ∀ j, (w j).toNat < 100000) (r : Fin 320) (q : Fin 100000) :
    Host.scatter scatter_S320x100000_S320x2_S320_n_01_01_1 (fun _ b => b) x (cPair w) upd (ix2 r q : S320x100000.Idx)
      = if BitVec.ofNat 32 q.val = w (ix1 r) then u else x (ix2 r q) := by
  have hq := q.isLt
  have hr := r.isLt
  have hl : ∀ a : Fin 320, scatter_S320x100000_S320x2_S320_n_01_01_1.resultIdx? (ix1 a : S320.Idx) (cPair w) = some (ix2 r q : S320x100000.Idx)
      ↔ a = r ∧ BitVec.ofNat 32 q.val = w (ix1 a) := fun a => by
    have ha := a.isLt
    have hwa := hw (ix1 a)
    rw [lands, cPair_row, cPair_word w a hwa, toInt_ofNat_lt (n := a.val) (by omega), BitVec.toInt_eq_toNat_of_lt (by omega)]
    constructor
    · rintro ⟨h0, h1⟩
      refine ⟨Fin.ext (by omega), BitVec.eq_of_toNat_eq ?_⟩
      rw [BitVec.toNat_ofNat, Nat.mod_eq_of_lt (by omega)]
      omega
    · rintro ⟨rfl, h1⟩
      refine ⟨rfl, ?_⟩
      rw [← h1, BitVec.toNat_ofNat, Nat.mod_eq_of_lt (by omega)]
  have ej : ∀ j : S320.Idx, j = ix1 (j 0) := fun j => by
    funext a
    match a with
    | 0 => rfl
  by_cases h : BitVec.ofNat 32 q.val = w (ix1 r)
  · rw [if_pos h]
    exact Routing.scatter_set_hit _ x _ upd _ u (fun j _ => hu j) (ix1 r) ((hl r).mpr ⟨rfl, h⟩)
  · rw [if_neg h]
    refine Routing.scatter_set_miss _ x _ upd _ (fun j hj => ?_)
    rw [ej j] at hj
    obtain ⟨e, h'⟩ := (hl (j 0)).mp hj
    rw [e] at h'
    exact h h'

/-! ## The two constants -/

theorem ofBits_eps_den : Ideal.ofBits .f32 0x4CBEBC20#32 = ((100000000 : ℝ) : EReal) := by
  simp [Ideal.ofBits, Ideal.ieee, -EReal.coe_mul]; norm_num

theorem ofBits_rest : Ideal.ofBits .f32 0x47C34F80#32 = ((99999 : ℝ) : EReal) := by
  simp [Ideal.ofBits, Ideal.ieee, -EReal.coe_mul]; norm_num

theorem cEps_at (i : S_.Idx) : cEps i = ((1 / 100000000 : ℝ) : EReal) := by
  show Ideal.div (Ideal.ofBits .f32 0x3F800000#32) (Ideal.ofBits .f32 0x4CBEBC20#32) = _
  rw [Ideal.ofBits_one_f32, ofBits_eps_den, Ideal.div_coe (by norm_num), one_mul]

theorem cSel_at (i : S_.Idx) : cSel i = ((99900001 / 100000000 : ℝ) : EReal) := by
  show Ideal.ofBits .f32 0x3F800000#32 - cEps i * Ideal.ofBits .f32 0x47C34F80#32 = _
  rw [Ideal.ofBits_one_f32, ofBits_rest, cEps_at, ← EReal.coe_mul, ← EReal.coe_one, ← EReal.coe_sub]
  norm_num

theorem log_pos {x : ℝ} (h : 0 < x) : Ideal.log (x : EReal) = ((Real.log x : ℝ) : EReal) := by
  rw [Ideal.log_coe, if_neg (not_le.mpr h)]

/-! ## The result -/

/-- What is asked of the arguments. -/
def Within (B : IVec S16x20 32) (N : IVec S100000x32 32) (T : IVec S320x16 32) : Prop :=
  (∀ x, (B x).toNat < 100000) ∧ (∀ x, (N x).toNat < 100000) ∧ ∀ x : S320x16.Idx, (x 1).val < 10 → (T x).toNat < 100000

/-- The reference's contexts, vectors, cosines and selected senses, of the arguments. -/
def fCtx (B : IVec S16x20 32) (E : FVec Ideal S100000x128 .f32) : FVec Ideal S320x128 .f32 :=
  cCtx (shapeCast S320x128 (gE E B) shapeCasts_S16x20x128_S320x128)
def fVec (X : FVec Ideal S100000x128 .f32) (N : IVec S100000x32 32) (T : IVec S320x16 32) : FVec Ideal S320x320x128 .f32 := gX X (gN N T)
def fCos (B : IVec S16x20 32) (E X : FVec Ideal S100000x128 .f32) (N : IVec S100000x32 32) (T : IVec S320x16 32) : FVec Ideal S320x320 .f32 :=
  cCos (cDot (fCtx B E) (fVec X N T)) (fCtx B E) (fVec X N T)
def fWord (B : IVec S16x20 32) (E X : FVec Ideal S100000x128 .f32) (N : IVec S100000x32 32) (T : IVec S320x16 32) : IVec S320 32 :=
  cTake (gN N T) (broadcastInDim S320x1 ![0] bcast_S320_S320x1_0 (cArg (fCos B E X N T)))
/-- Its result. -/
def fOut (w : IVec S320 32) : FVec Ideal S320x100000 .f32 :=
  Host.log (F := Ideal) (φ := .f32) (Host.scatter scatter_S320x100000_S320x2_S320_n_01_01_1 (fun _ b => b)
    (broadcastInDim S320x100000 ![] bcast_S_S320x100000 cEps) (cPair w) (broadcastInDim S320 ![] bcast_S_S320 cSel))

section
variable {B : IVec S16x20 32} {E X : FVec Ideal S100000x128 .f32} {N : IVec S100000x32 32} {T : IVec S320x16 32}

theorem fVec_at (h : Within B N T) (r k : Fin 320) (e : Fin 128) : fVec X N T (ix3 r k e : S320x320x128.Idx) = vecv X N T r k e := by
  have hn : ∀ x, (gN N T x).toNat < 100000 := fun x => by
    have ex : x = (ix2 (x 0) (x 1) : S320x320.Idx) := funext fun a => by match a with | 0 => rfl | 1 => rfl
    exact lt_of_eq_of_lt (congrArg BitVec.toNat ((congrArg (gN N T) ex).trans (gN_at _ _ h.2.2 (x 0) (x 1)))) (h.2.1 _)
  unfold fVec
  rw [gX_at _ _ hn, gN_at _ _ h.2.2]
  rfl

theorem fCos_at (h : Within B N T) (r k : Fin 320) : fCos B E X N T (ix2 r k : S320x320.Idx) = cosOf (ctxv B E r) (vecv X N T r) k := by
  unfold fCos
  rw [cCos_at]
  exact congrArg₂ (fun c v => cosOf c v k) (funext fun e => cCtx_at _ _ h.1 r e) (funext fun k => funext fun e => fVec_at h r k e)

theorem fWord_at (h : Within B N T) (r : Fin 320) {k : Fin 320} (hk : IsFirstMax (cosOf (ctxv B E r) (vecv X N T r)) k) :
    fWord B E X N T (ix1 r : S320.Idx) = nbr N T r k := by
  unfold fWord
  refine (cTake_at _ _ r k ?_).trans (gN_at _ _ h.2.2 r k)
  rw [broadcastInDim_apply _ _ _ _ (ix1 r : S320.Idx) (fun a => by match a with | 0 => rfl)]
  refine cArg_at _ r ?_
  rw [show (fun j => fCos B E X N T (ix2 r j : S320x320.Idx)) = cosOf (ctxv B E r) (vecv X N T r) from funext fun j => fCos_at h r j]
  exact hk

theorem fWord_lt (h : Within B N T) (j : S320.Idx) : (fWord B E X N T j).toNat < 100000 := by
  obtain ⟨k, hk⟩ := exists_firstMax (cosOf (ctxv B E (j 0)) (vecv X N T (j 0)))
  rw [show j = (ix1 (j 0) : S320.Idx) from funext fun a => by match a with | 0 => rfl, fWord_at h (j 0) hk]
  exact h.2.1 _

end

theorem fOut_at (w : IVec S320 32) (hw : ∀ j, (w j).toNat < 100000) (r : Fin 320) (q : Fin 100000) :
    fOut w (ix2 r q : S320x100000.Idx)
      = if BitVec.ofNat 32 q.val = w (ix1 r) then ((Real.log (99900001 / 100000000) : ℝ) : EReal) else ((Real.log (1 / 100000000) : ℝ) : EReal) := by
  show Ideal.log (Host.scatter scatter_S320x100000_S320x2_S320_n_01_01_1 (fun _ b => b) (broadcastInDim S320x100000 ![] bcast_S_S320x100000 cEps)
    (cPair w) (broadcastInDim S320 ![] bcast_S_S320 cSel) (ix2 r q)) = _
  rw [scatter_row _ ((99900001 / 100000000 : ℝ) : EReal) (broadcastInDim S320 ![] bcast_S_S320 cSel) (fun j => cSel_at _) _ hw r q]
  by_cases hq : BitVec.ofNat 32 q.val = w (ix1 r)
  · rw [if_pos hq, if_pos hq, log_pos (by norm_num)]
  · rw [if_neg hq, if_neg hq]
    show Ideal.log (cEps _) = _
    rw [cEps_at, log_pos (by norm_num)]

/-- The reference's result, as a term of its arguments. -/
theorem out_eq (V : Valuation τ sig (Elt Ideal)) :
    after (refOps (F := Ideal)) V (rd main_v44)
      = fOut (fWord (V (rd main_arg0)) (V (rd main_arg1)) (V (rd main_arg2)) (V (rd main_arg3)) (V (rd main_arg4))) := by
  rw [refOps_split, w4_v44, w3_v23, w2_v19, ops2_keep _ (by decide), ops1_keep _ (by decide), w0_v3, w1_v11, w1_v7, ops1_keep _ (by decide), w0_v4, w0_v5]
  rfl

/-- The reference's result at an index. -/
theorem result_at (V : Valuation τ sig (Elt Ideal)) (B : IVec S16x20 32) (E X : FVec Ideal S100000x128 .f32) (N : IVec S100000x32 32) (T : IVec S320x16 32)
    (e0 : V (rd main_arg0) = B) (e1 : V (rd main_arg1) = E) (e2 : V (rd main_arg2) = X) (e3 : V (rd main_arg3) = N) (e4 : V (rd main_arg4) = T)
    (h : Within B N T) (r : Fin 320) (q : Fin 100000) {k : Fin 320} (hk : IsFirstMax (cosOf (ctxv B E r) (vecv X N T r)) k) :
    after (refOps (F := Ideal)) V (rd main_v44) (ix2 r q : S320x100000.Idx)
      = if BitVec.ofNat 32 q.val = nbr N T r k then ((Real.log (99900001 / 100000000) : ℝ) : EReal) else ((Real.log (1 / 100000000) : ℝ) : EReal) := by
  rw [out_eq, e0, e1, e2, e3, e4]
  refine (fOut_at _ (fWord_lt h) r q).trans ?_
  rw [fWord_at h r hk]

end Cert.Proof.Ref

end
-- ==== Proof.Equation.lean ====
/-
  The equation: at the extended reals, the idealized kernel's result is the reference's.
-/
module

public import proofs.«01_k».proof.Defs
public import proofs.«01_k».proof.Proof.Frames
public import proofs.«01_k».proof.Proof.RefFrame
public import proofs.«01_k».proof.Proof.KernelValue
public import proofs.«01_k».proof.Proof.RefValue

@[expose] public section

noncomputable section

namespace Cert.Proof

open Idealize.ShloMosaic Idealize.SL.Sem

/-- On a device, the two results agree at every index. -/
theorem same (m : (ℓ : Loc Cert.KernelIdeal.nD Cert.KernelIdeal.τ Cert.KernelIdeal.sig) → Buf (Elt Ideal) ℓ) (d : Dev Cert.KernelIdeal.nD) (h : Sense.InRange (F := Ideal) m d)
    (V : Valuation Cert.ReferenceIdeal.τ Cert.ReferenceIdeal.sig (Elt Ideal))
    (e0 : V (Ref.rd Cert.ReferenceIdeal.main_arg0) = Sense.argBatch m d) (e1 : V (Ref.rd Cert.ReferenceIdeal.main_arg1) = Sense.argE m d)
    (e2 : V (Ref.rd Cert.ReferenceIdeal.main_arg2) = Sense.argX m d) (e3 : V (Ref.rd Cert.ReferenceIdeal.main_arg3) = Sense.argNb m d)
    (e4 : V (Ref.rd Cert.ReferenceIdeal.main_arg4) = Sense.argTop m d) :
    StableHlo.after (Ref.refOps (F := Ideal)) V (Ref.rd Cert.ReferenceIdeal.main_v44) = Sense.va8 m d (Sense.dr Cert.KernelIdeal.main_v38) := by
  refine funext fun x => ?_
  obtain ⟨r, q, rfl⟩ : ∃ (r : Fin 320) (q : Fin 100000), x = (Sense.ix2 r q : Cert.ReferenceIdeal.S320x100000.Idx) :=
    ⟨x 0, x 1, funext fun a => by match a with | 0 => rfl | 1 => rfl⟩
  obtain ⟨k, hk⟩ := exists_firstMax (Sense.rowCos (Sense.argBatch m d) (Sense.argE m d) (Sense.argX m d) (Sense.argNb m d) (Sense.argTop m d) r)
  exact (Ref.result_at V _ _ _ _ _ e0 e1 e2 e3 e4 ⟨h.1, h.2.1, h.2.2⟩ r q hk).trans (Sense.result_at h r q hk).symm

theorem algebraic : Cert.algebraic_KernelIdeal_ReferenceIdeal := fun m g m' g' hpre hargs =>
  ⟨fun c => Sense.va8 m c (Sense.dr Cert.KernelIdeal.main_v38),
    (θ_run _ _ _).mono (fun _ hr => hr.1) (Sense.run_ends m g (inRange_ideal m hpre)),
    (θ_run _ _ _).mono (fun _ hr c =>
      ⟨(hr.1 c _).trans (same m c (inRange_ideal m hpre c) _ (hargs c).1 (hargs c).2.1 (hargs c).2.2.1 (hargs c).2.2.2.1 (hargs c).2.2.2.2),
        (hr.1 c _).trans (ref_args _ (by simp)), (hr.1 c _).trans (ref_args _ (by simp)), (hr.1 c _).trans (ref_args _ (by simp)),
        (hr.1 c _).trans (ref_args _ (by simp)), (hr.1 c _).trans (ref_args _ (by simp))⟩)
    (Ref.run_main m' g')⟩

end Cert.Proof

end
-- ==== Proof.States.Trip.lean ====
/-
  The recurrent call's loops: what each trip leaves, as plain functions of what the buffers hold.
-/
module

public import proofs.«01_k».proof.Proof.Gen.HiddenIdeal.Skeleton
public import Idealize.ShloMosaic.Lib.Exec
public import Idealize.ShloMosaic.Lib.Tactic
public import Idealize.ShloMosaic.Lib.VecWindow
public import Idealize.ShloMosaic.Lib.WholeRead
public import Idealize.ShloMosaic.Lib.Pipeline.Kit

@[expose] public section

noncomputable section

namespace Cert.Proof.States

open Cert.HiddenIdeal Cert.HiddenIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Row `y 0` of trip `k`'s sixteen, of an array of 320 rows. -/
def rowOf {n : ℕ} (k : ℕ) (y : (⟨2, ![16, n]⟩ : Shape).Idx) : (⟨2, ![320, n]⟩ : Shape).Idx :=
  fun a => match a with
  | 0 => ⟨(16 * k + (y 0).val) % 320, Nat.mod_lt _ (by decide)⟩
  | 1 => y 1

/-- The state before trip `k`, of the inputs' gates `g`, the recurrent weights and their bias. -/
def hs (g : Vec F S320x1536 .f32) (w : Vec F S1536x512 .bf16) (b : Vec F S1x1536 .f32) : ℕ → FVec F S16x512 .f32
  | 0 => k0_pay6
  | k + 1 => k0_pay2 (hs g w b k) (fun y => g (rowOf k y)) w b

/-- The place within a trip's sixteen rows. -/
def inTrip (i : S320x512.Idx) : S16x512.Idx :=
  fun a => match a with
  | 0 => ⟨(i 0).val % 16, Nat.mod_lt _ (by decide)⟩
  | 1 => i 1

/-- All states, one under another. -/
def stack (g : Vec F S320x1536 .f32) (w : Vec F S1536x512 .bf16) (b : Vec F S1x1536 .f32) : Vec F S320x512 .f32 :=
  fun i => hs g w b ((i 0).val / 16 + 1) (inTrip i)

variable (c : Dev nD) (arg0 : Memref sig .tc .vmem S320x128 .f32) (harg0 : arg0.IsWhole) (arg1 : Memref sig .tc .vmem S1536x128 .f32) (harg1 : arg1.IsWhole) (arg2 : Memref sig .tc .vmem S1536x512 .f32) (harg2 : arg2.IsWhole) (arg3 : Memref sig .tc .vmem S1x1536 .f32) (harg3 : arg3.IsWhole) (arg4 : Memref sig .tc .vmem S1x1536 .f32) (harg4 : arg4.IsWhole) (arg5 : Memref sig .tc .vmem S1536x512 .f32) (harg5 : arg5.IsWhole) (arg6 : Memref sig .tc .vmem S1536x512 .f32) (harg6 : arg6.IsWhole) (arg7 : Memref sig .tc .vmem S1x1536 .f32) (harg7 : arg7.IsWhole) (arg8 : Memref sig .tc .vmem S1x1536 .f32) (harg8 : arg8.IsWhole) (arg9 : Memref sig .tc .vmem S320x512 .f32) (harg9 : arg9.IsWhole) (arg10 : Memref sig .tc .vmem S320x1536 .f32) (harg10 : arg10.IsWhole) (arg11 : Memref sig .tc .vmem S320x512 .f32) (harg11 : arg11.IsWhole) (arg12 : Memref sig .tc .vmem S1536x512 .bf16) (harg12 : arg12.IsWhole) (arg13 : Memref sig .tc .vmem S1536x512 .bf16) (harg13 : arg13.IsWhole)

/-- Before trip `t`: the gates, the weights and the bias as they were, the rows of the trips before written. -/
def inv (gR : Memref sig .tc .vmem S320x1536 .f32) (wR : Memref sig .tc .vmem S1536x512 .bf16)
    (bR : Memref sig .tc .vmem S1x1536 .f32) (oR : Memref sig .tc .vmem S320x512 .f32)
    (g : Vec F S320x1536 .f32) (w : Vec F S1536x512 .bf16) (b : Vec F S1x1536 .f32) (t : ℕ) (acc : FVec F S16x512 .f32) : sProp 𝕄 :=
  iprop((∃ f, ⌜gR.view.read (Elt F) f = g⌝ ∗ (gR.view.loc (c : Thread nD τ) ↦[gR.view.set]{fullShare} f))
    ∗ (∃ f, ⌜wR.view.read (Elt F) f = w⌝ ∗ (wR.view.loc (c : Thread nD τ) ↦[wR.view.set]{fullShare} f))
    ∗ (∃ f, ⌜bR.view.read (Elt F) f = b⌝ ∗ (bR.view.loc (c : Thread nD τ) ↦[bR.view.set]{fullShare} f))
    ∗ (∃ f, (oR.view.loc (c : Thread nD τ) ↦[oR.view.set]{fullShare} f)
        ∗ ⌜∀ i : S320x512.Idx, (i 0).val < 16 * t → oR.view.read (Elt F) f i = stack g w b i⌝)
    ∗ ⌜acc = hs g w b t⌝)

theorem trip1 (g : Vec F S320x1536 .f32) (w : Vec F S1536x512 .bf16) (b : Vec F S1x1536 .f32) (k : Fin k0_t1_loop.trips) (acc : FVec F S16x512 .f32) :
    inv c arg10 arg12 arg4 arg11 g w b k.val acc
      ⊢ wp frame (wpE (defs₀ (F := F)) Variants.none (c : Thread nD τ) none) Set.univ
          (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 k acc)
          fun acc' => inv c arg10 arg12 arg4 arg11 g w b (k.val + 1) acc' := by
  have hk : k.val < 20 := Nat.lt_of_lt_of_le k.isLt k0_t1_abs.2.1
  have hw : View.readAt (Elt F) arg12.view (Rect.unit ![0, 0] S1536x512.size inb_S1536x512_S1536x512_0_0).toLoadRect (harg12.unread w) = w :=
    (View.readAt_full _ _ _).trans (harg12.read_unread w)
  have hb : View.readAt (Elt F) arg4.view (Rect.unit ![0, 0] S1x1536.size inb_S1x1536_S1x1536_0_0).toLoadRect (harg4.unread b) = b :=
    (View.readAt_full _ _ _).trans (harg4.read_unread b)
  have hg : View.readAt (Elt F) arg10.view (Rect.unit (s := S320x1536) (k0_off1 k) S16x1536.size (k0_off1_inb k)).toLoadRect (harg10.unread g)
      = fun y => g (rowOf k.val y) := by
    funext y
    rw [harg10.readAt_unread]
    refine congrArg g (funext fun a => Fin.ext ?_)
    have h0 := congrFun (k0_off1_eq k)
    have hy : (y 0).val < 16 := (y 0).isLt
    match a with
    | 0 =>
      show (k0_off1 k) 0 + 1 * (y 0).val = (16 * k.val + (y 0).val) % 320
      rw [h0 0, Nat.mod_eq_of_lt (by omega)]
      show 16 * k.val + 1 * _ = _
      omega
    | 1 =>
      show (k0_off1 k) 1 + 1 * (y 1).val = (y 1).val
      rw [h0 1]
      show 0 + 1 * _ = _
      omega
  unfold inv k0_t1_body
  iintro ⟨⟨%fg, %eg, Hg⟩, ⟨%fw, %ew, Hw⟩, ⟨%fb, %eb, Hb⟩, ⟨%f, Ho, %hf⟩, %hacc⟩
  subst hacc
  obtain rfl := harg10.eq_unread eg; obtain rfl := harg12.eq_unread ew; obtain rfl := harg4.eq_unread eb
  sl_exec
  sl_step
  isplitl [Hg]
  · iexists _; isplitr; swap; · iexact Hg
    · ipureintro; exact eg
  isplitl [Hw]
  · iexists _; isplitr; swap; · iexact Hw
    · ipureintro; exact ew
  isplitl [Hb]
  · iexists _; isplitr; swap; · iexact Hb
    · ipureintro; exact eb
  isplitl [Ho]
  · iexists _; isplitl [Ho]; · iexact Ho
    ipureintro
    intro i hi
    have hi' := (i 0).isLt
    by_cases hlt : (i 0).val < 16 * k.val
    · rw [View.read_writes_cons_unit_of_not_mem _ _ _ _ _ i (k0_off2_eq k) 0 (Or.inl hlt)]
      exact hf i hlt
    · have hq : (i 0).val / 16 = k.val := by omega
      refine (View.read_writes_cons_unit_of_mem _ _ _ _ _ i (inTrip i) (k0_off2_eq k) fun a => ?_).trans ?_
      · match a with
        | 0 =>
          show (i 0).val = 16 * k.val + (i 0).val % 16
          omega
        | 1 =>
          show (i 1).val = 0 + (i 1).val
          omega
      · unfold stack k0_pay8
        rw [hq, shapeCast_self]
        rfl
  ipureintro
  rfl

theorem trip2 (g : Vec F S320x1536 .f32) (w : Vec F S1536x512 .bf16) (b : Vec F S1x1536 .f32) (k : Fin k0_t2_loop.trips) (acc : FVec F S16x512 .f32) :
    inv c arg10 arg13 arg8 arg9 g w b k.val acc
      ⊢ wp frame (wpE (defs₀ (F := F)) Variants.none (c : Thread nD τ) none) Set.univ
          (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 k acc)
          fun acc' => inv c arg10 arg13 arg8 arg9 g w b (k.val + 1) acc' := by
  have hk : k.val < 20 := Nat.lt_of_lt_of_le k.isLt k0_t2_abs.2.1
  have hw : View.readAt (Elt F) arg13.view (Rect.unit ![0, 0] S1536x512.size inb_S1536x512_S1536x512_0_0).toLoadRect (harg13.unread w) = w :=
    (View.readAt_full _ _ _).trans (harg13.read_unread w)
  have hb : View.readAt (Elt F) arg8.view (Rect.unit ![0, 0] S1x1536.size inb_S1x1536_S1x1536_0_0).toLoadRect (harg8.unread b) = b :=
    (View.readAt_full _ _ _).trans (harg8.read_unread b)
  have hg : View.readAt (Elt F) arg10.view (Rect.unit (s := S320x1536) (k0_off3 k) S16x1536.size (k0_off3_inb k)).toLoadRect (harg10.unread g)
      = fun y => g (rowOf k.val y) := by
    funext y
    rw [harg10.readAt_unread]
    refine congrArg g (funext fun a => Fin.ext ?_)
    have h0 := congrFun (k0_off3_eq k)
    have hy : (y 0).val < 16 := (y 0).isLt
    match a with
    | 0 =>
      show (k0_off3 k) 0 + 1 * (y 0).val = (16 * k.val + (y 0).val) % 320
      rw [h0 0, Nat.mod_eq_of_lt (by omega)]
      show 16 * k.val + 1 * _ = _
      omega
    | 1 =>
      show (k0_off3 k) 1 + 1 * (y 1).val = (y 1).val
      rw [h0 1]
      show 0 + 1 * _ = _
      omega
  unfold inv k0_t2_body
  iintro ⟨⟨%fg, %eg, Hg⟩, ⟨%fw, %ew, Hw⟩, ⟨%fb, %eb, Hb⟩, ⟨%f, Ho, %hf⟩, %hacc⟩
  subst hacc
  obtain rfl := harg10.eq_unread eg; obtain rfl := harg13.eq_unread ew; obtain rfl := harg8.eq_unread eb
  sl_exec
  sl_step
  isplitl [Hg]
  · iexists _; isplitr; swap; · iexact Hg
    · ipureintro; exact eg
  isplitl [Hw]
  · iexists _; isplitr; swap; · iexact Hw
    · ipureintro; exact ew
  isplitl [Hb]
  · iexists _; isplitr; swap; · iexact Hb
    · ipureintro; exact eb
  isplitl [Ho]
  · iexists _; isplitl [Ho]; · iexact Ho
    ipureintro
    intro i hi
    have hi' := (i 0).isLt
    by_cases hlt : (i 0).val < 16 * k.val
    · rw [View.read_writes_cons_unit_of_not_mem _ _ _ _ _ i (k0_off4_eq k) 0 (Or.inl hlt)]
      exact hf i hlt
    · have hq : (i 0).val / 16 = k.val := by omega
      refine (View.read_writes_cons_unit_of_mem _ _ _ _ _ i (inTrip i) (k0_off4_eq k) fun a => ?_).trans ?_
      · match a with
        | 0 =>
          show (i 0).val = 16 * k.val + (i 0).val % 16
          omega
        | 1 =>
          show (i 1).val = 0 + (i 1).val
          omega
      · unfold stack
        rw [hq]
        rfl
  ipureintro
  rfl

/-- The states of the second layer, of the call's nine inputs: what the call leaves. -/
def gruOut (x0 : Vec F S320x128 .f32) (x1 : Vec F S1536x128 .f32) (x2 : Vec F S1536x512 .f32) (x3 : Vec F S1x1536 .f32) (x4 : Vec F S1x1536 .f32)
    (x5 : Vec F S1536x512 .f32) (x6 : Vec F S1536x512 .f32) (x7 : Vec F S1x1536 .f32) (x8 : Vec F S1x1536 .f32) : Vec F S320x512 .f32 :=
  stack (k0_pay1 (k0_pay9 (stack (k0_pay5 x0 x1 x3) (k0_pay3 x2) x4) x5) x7) (k0_pay4 x6) x8

/-- The call's body: from the nine inputs it leaves the second layer's states in the output, whatever the output and the scratch buffers held. -/
theorem body (x0 : Vec F S320x128 .f32) (x1 : Vec F S1536x128 .f32) (x2 : Vec F S1536x512 .f32) (x3 : Vec F S1x1536 .f32) (x4 : Vec F S1x1536 .f32)
    (x5 : Vec F S1536x512 .f32) (x6 : Vec F S1536x512 .f32) (x7 : Vec F S1x1536 .f32) (x8 : Vec F S1x1536 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (gruOut x0 x1 x2 x3 x4 x5 x6 x7 x8)
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none (c : Thread nD τ) none) Set.univ (cc0__gru_kernel arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_for (fun t acc => inv c arg10 arg12 arg4 arg11 (k0_pay5 x0 x1 x3) (k0_pay3 x2) x4 t acc) $$ [H10 H12 H4 H11]
  case region => intro k acc; exact trip1 c arg0 harg0 arg1 harg1 arg2 harg2 arg3 harg3 arg4 harg4 arg5 harg5 arg6 harg6 arg7 harg7 arg8 harg8 arg9 harg9 arg10 harg10 arg11 harg11 arg12 harg12 arg13 harg13 _ _ _ k acc
  · unfold inv
    isplitl [H10]
    · iexists _; isplitr; swap; · iexact H10
      ipureintro
      unfold body.sl.H10_1
      rw [View.read_writes_full]
      refine congr (congr (congrArg k0_pay5 ?_) ?_) ?_ <;> exact (View.readAt_full _ _ _).trans (Memref.IsWhole.read_unread _ _)
    isplitl [H12]
    · iexists _; isplitr; swap; · iexact H12
      ipureintro
      unfold body.sl.H12_1
      rw [View.read_writes_full]
      refine congrArg k0_pay3 ?_
      exact (View.readAt_full _ _ _).trans (Memref.IsWhole.read_unread _ _)
    isplitl [H4]
    · iexists _; isplitr; swap; · iexact H4
      ipureintro; exact hf4
    isplitl [H11]
    · iexists _; isplitl [H11]; · iexact H11
      ipureintro; intro i hi; omega
    ipureintro; rfl
  iintro %acc HI
  unfold inv
  icases HI with ⟨⟨%g10, %hg10, H10⟩, ⟨%g12, %hg12, H12⟩, ⟨%g4, %hg4, H4⟩, ⟨%g11, H11, %hg11⟩, %hacc⟩
  have e11 : arg11.view.read (Elt F) g11 = stack (k0_pay5 x0 x1 x3) (k0_pay3 x2) x4 := funext fun i => hg11 i (by
    have := (i 0).isLt
    show (i 0).val < 16 * 20
    exact this)
  obtain rfl := harg11.eq_unread e11
  sl_exec
  sl_for (fun t acc => inv c arg10 arg13 arg8 arg9 (k0_pay1 (k0_pay9 (stack (k0_pay5 x0 x1 x3) (k0_pay3 x2) x4) x5) x7) (k0_pay4 x6) x8 t acc) $$ [H10 H13 H8 H9]
  case region => intro k acc; exact trip2 c arg0 harg0 arg1 harg1 arg2 harg2 arg3 harg3 arg4 harg4 arg5 harg5 arg6 harg6 arg7 harg7 arg8 harg8 arg9 harg9 arg10 harg10 arg11 harg11 arg12 harg12 arg13 harg13 _ _ _ k acc
  · unfold inv
    isplitl [H10]
    · iexists _; isplitr; swap; · iexact H10
      ipureintro
      unfold body.sl.H10_1_1
      rw [View.read_writes_full]
      unfold body.sl.r
      refine congr (congrArg k0_pay1 (congr (congrArg k0_pay9 ?_) ?_)) ?_ <;> exact (View.readAt_full _ _ _).trans (Memref.IsWhole.read_unread _ _)
    isplitl [H13]
    · iexists _; isplitr; swap; · iexact H13
      ipureintro
      unfold body.sl.H13_1
      rw [View.read_writes_full]
      refine congrArg k0_pay4 ?_
      exact (View.readAt_full _ _ _).trans (Memref.IsWhole.read_unread _ _)
    isplitl [H8]
    · iexists _; isplitr; swap; · iexact H8
      ipureintro; exact hf8
    isplitl [H9]
    · iexists _; isplitl [H9]; · iexact H9
      ipureintro; intro i hi; omega
    ipureintro; rfl
  iintro %acc2 HI
  unfold inv
  icases HI with ⟨⟨%h10, %hh10, H10⟩, ⟨%h13, %hh13, H13⟩, ⟨%g8, %hg8, H8⟩, ⟨%g9, H9, %hg9⟩, %hacc2⟩
  have e9 : arg9.view.read (Elt F) g9 = gruOut x0 x1 x2 x3 x4 x5 x6 x7 x8 := funext fun i => hg9 i (by
    have := (i 0).isLt
    show (i 0).val < 16 * 20
    exact this)
  sl_step
  iapply Hk
  isplitl [H0]
  · iexists _; isplitr; swap; · iexact H0
    · ipureintro; exact hf0
  isplitl [H1]
  · iexists _; isplitr; swap; · iexact H1
    · ipureintro; exact hf1
  isplitl [H2]
  · iexists _; isplitr; swap; · iexact H2
    · ipureintro; exact hf2
  isplitl [H3]
  · iexists _; isplitr; swap; · iexact H3
    · ipureintro; exact hf3
  isplitl [H4]
  · iexists _; isplitr; swap; · iexact H4
    · ipureintro; exact hg4
  isplitl [H5]
  · iexists _; isplitr; swap; · iexact H5
    · ipureintro; exact hf5
  isplitl [H6]
  · iexists _; isplitr; swap; · iexact H6
    · ipureintro; exact hf6
  isplitl [H7]
  · iexists _; isplitr; swap; · iexact H7
    · ipureintro; exact hf7
  isplitl [H8]
  · iexists _; isplitr; swap; · iexact H8
    · ipureintro; exact hg8
  isplitl [H9]
  · iexists _; isplitr; swap; · iexact H9
    ipureintro; exact e9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

end Cert.Proof.States

end
-- ==== Proof.States.Call.lean ====
/-
  The recurrent call as a whole: it runs to its end, keeps its arguments, and leaves the second layer's states, a plain
  function of the nine arrays it is given.
-/
module

public import proofs.«01_k».proof.Proof.Gen.HiddenIdeal.Frame.Runs
public import proofs.«01_k».proof.Proof.States.Trip
public import Idealize.ShloMosaic.Lib.Claim
public import Idealize.ShloMosaic.Lib.Pipeline.Value
public import Idealize.ShloMosaic.Lib.StableHlo.RunRead

@[expose] public section

noncomputable section

namespace Cert.Proof.States

open Cert.HiddenIdeal Cert.HiddenIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the one point leaves in the output's block. -/
def left (c : Dev nD) (t : Fin cfg0.N) : Vec F S320x512 .f32 :=
  gruOut (iblk m c 0 t) (iblk m c 1 t) (iblk m c 2 t) (iblk m c 3 t) (iblk m c 4 t) (iblk m c 5 t) (iblk m c 6 t) (iblk m c 7 t) (iblk m c 8 t)

/-- The call's data: each array as it stands at entry, each input's block kept, the output's block at `left`. -/
def data (_ : Fin 1) (c : Dev nD) : Dat τ (Elt F) Unit ℕ (UR sig nD τ) ℕ cfg0 c where
  A w := V m c (Pipeline.arrRef spec0 w)
  Φ _ := Pipeline.ΦA spec0 c
  q _ := fullShare
  owed _ := 0
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => left m c t

theorem data_A (c : Dev nD) (w : Fin cfg0.W) : (data m 0 c).A w = V m c (Pipeline.arrRef spec0 w) := by dsimp only [data]

theorem kept0 (c : Dev nD) (t : Fin cfg0.N) : (data m 0 c).after 0 t = iblk m c 0 t := by dsimp only [data]
theorem kept1 (c : Dev nD) (t : Fin cfg0.N) : (data m 0 c).after 1 t = iblk m c 1 t := by dsimp only [data]
theorem kept2 (c : Dev nD) (t : Fin cfg0.N) : (data m 0 c).after 2 t = iblk m c 2 t := by dsimp only [data]
theorem kept3 (c : Dev nD) (t : Fin cfg0.N) : (data m 0 c).after 3 t = iblk m c 3 t := by dsimp only [data]
theorem kept4 (c : Dev nD) (t : Fin cfg0.N) : (data m 0 c).after 4 t = iblk m c 4 t := by dsimp only [data]
theorem kept5 (c : Dev nD) (t : Fin cfg0.N) : (data m 0 c).after 5 t = iblk m c 5 t := by dsimp only [data]
theorem kept6 (c : Dev nD) (t : Fin cfg0.N) : (data m 0 c).after 6 t = iblk m c 6 t := by dsimp only [data]
theorem kept7 (c : Dev nD) (t : Fin cfg0.N) : (data m 0 c).after 7 t = iblk m c 7 t := by dsimp only [data]
theorem kept8 (c : Dev nD) (t : Fin cfg0.N) : (data m 0 c).after 8 t = iblk m c 8 t := by dsimp only [data]
theorem kept9 (c : Dev nD) (t : Fin cfg0.N) : (data m 0 c).after 9 t = left m c t := by dsimp only [data]

theorem found0 (c : Dev nD) (t : Fin cfg0.N) (d) : (data m 0 c).before 0 t d = iblk m c 0 t := before0_0_of m (data m 0 c) (data_A m c 0) (kept0 m c) t d
theorem found1 (c : Dev nD) (t : Fin cfg0.N) (d) : (data m 0 c).before 1 t d = iblk m c 1 t := before0_1_of m (data m 0 c) (data_A m c 1) (kept1 m c) t d
theorem found2 (c : Dev nD) (t : Fin cfg0.N) (d) : (data m 0 c).before 2 t d = iblk m c 2 t := before0_2_of m (data m 0 c) (data_A m c 2) (kept2 m c) t d
theorem found3 (c : Dev nD) (t : Fin cfg0.N) (d) : (data m 0 c).before 3 t d = iblk m c 3 t := before0_3_of m (data m 0 c) (data_A m c 3) (kept3 m c) t d
theorem found4 (c : Dev nD) (t : Fin cfg0.N) (d) : (data m 0 c).before 4 t d = iblk m c 4 t := before0_4_of m (data m 0 c) (data_A m c 4) (kept4 m c) t d
theorem found5 (c : Dev nD) (t : Fin cfg0.N) (d) : (data m 0 c).before 5 t d = iblk m c 5 t := before0_5_of m (data m 0 c) (data_A m c 5) (kept5 m c) t d
theorem found6 (c : Dev nD) (t : Fin cfg0.N) (d) : (data m 0 c).before 6 t d = iblk m c 6 t := before0_6_of m (data m 0 c) (data_A m c 6) (kept6 m c) t d
theorem found7 (c : Dev nD) (t : Fin cfg0.N) (d) : (data m 0 c).before 7 t d = iblk m c 7 t := before0_7_of m (data m 0 c) (data_A m c 7) (kept7 m c) t d
theorem found8 (c : Dev nD) (t : Fin cfg0.N) (d) : (data m 0 c).before 8 t d = iblk m c 8 t := before0_8_of m (data m 0 c) (data_A m c 8) (kept8 m c) t d

set_option maxHeartbeats 1200000 in
/-- The body at the point, between what the call holds before it and after it. -/
theorem point (c : Dev nD) (t : Fin cfg0.N) :
    iprop((data m 0 c).Φ t.castSucc ∗ (data m 0 c).owesAt () t.castSucc
        ∗ (∃ d, owns (c : Thread nD τ) (ms0_0 t) fullShare ((data m 0 c).before 0 t d))
        ∗ (∃ d, owns (c : Thread nD τ) (ms0_1 t) fullShare ((data m 0 c).before 1 t d))
        ∗ (∃ d, owns (c : Thread nD τ) (ms0_2 t) fullShare ((data m 0 c).before 2 t d))
        ∗ (∃ d, owns (c : Thread nD τ) (ms0_3 t) fullShare ((data m 0 c).before 3 t d))
        ∗ (∃ d, owns (c : Thread nD τ) (ms0_4 t) fullShare ((data m 0 c).before 4 t d))
        ∗ (∃ d, owns (c : Thread nD τ) (ms0_5 t) fullShare ((data m 0 c).before 5 t d))
        ∗ (∃ d, owns (c : Thread nD τ) (ms0_6 t) fullShare ((data m 0 c).before 6 t d))
        ∗ (∃ d, owns (c : Thread nD τ) (ms0_7 t) fullShare ((data m 0 c).before 7 t d))
        ∗ (∃ d, owns (c : Thread nD τ) (ms0_8 t) fullShare ((data m 0 c).before 8 t d))
        ∗ (∃ d, owns (c : Thread nD τ) (ms0_9 t) fullShare ((data m 0 c).before 9 t d)))
      ⊢ wp frame (wpE (defs₀ (F := F)) Variants.none c none) Set.univ (bodyAt0 t) (fun _ =>
        iprop((data m 0 c).Φ t.succ ∗ (data m 0 c).owesAt () t.succ
        ∗ owns (c : Thread nD τ) (ms0_0 t) fullShare ((data m 0 c).after 0 t)
        ∗ owns (c : Thread nD τ) (ms0_1 t) fullShare ((data m 0 c).after 1 t)
        ∗ owns (c : Thread nD τ) (ms0_2 t) fullShare ((data m 0 c).after 2 t)
        ∗ owns (c : Thread nD τ) (ms0_3 t) fullShare ((data m 0 c).after 3 t)
        ∗ owns (c : Thread nD τ) (ms0_4 t) fullShare ((data m 0 c).after 4 t)
        ∗ owns (c : Thread nD τ) (ms0_5 t) fullShare ((data m 0 c).after 5 t)
        ∗ owns (c : Thread nD τ) (ms0_6 t) fullShare ((data m 0 c).after 6 t)
        ∗ owns (c : Thread nD τ) (ms0_7 t) fullShare ((data m 0 c).after 7 t)
        ∗ owns (c : Thread nD τ) (ms0_8 t) fullShare ((data m 0 c).after 8 t)
        ∗ owns (c : Thread nD τ) (ms0_9 t) fullShare ((data m 0 c).after 9 t))) := by
  unfold bodyAt0
  simp only [found0, found1, found2, found3, found4, found5, found6, found7, found8, kept0, kept1, kept2, kept3, kept4, kept5, kept6, kept7, kept8, kept9]
  rw [show (data m 0 c).Φ t.succ = (data m 0 c).Φ t.castSucc from rfl,
    show (data m 0 c).owesAt () t.succ = (data m 0 c).owesAt () t.castSucc from rfl,
    show (data m 0 c).Φ t.castSucc = Pipeline.ΦA spec0 c from rfl, PhiA0_eq]
  unfold left
  iintro ⟨⟨⟨S0, S1, S2, S3⟩, G⟩, O, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body c _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [S0]; · iexact S0
  isplitl [S1]; · iexact S1
  isplitl [S2]; · iexact S2
  isplitl [S3]; · iexact S3
  iintro ⟨H0, H1, H2, H3, H4, H5, H6, H7, H8, H9, S0, S1, S2, S3⟩
  isplitl [S0 S1 S2 S3 G]
  · isplitl [S0 S1 S2 S3]
    · isplitl [S0]; · iexact S0
      isplitl [S1]; · iexact S1
      isplitl [S2]; · iexact S2
      iexact S3
    iexact G
  isplitl [O]; · iexact O
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (point m c t) rfl .rfl fun _ => .rfl

set_option backward.isDefEq.respectTransparency.types false in
/-- The run: every array at what the call's data make of it, every counter at zero. -/
theorem run_end : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-- The call runs to its end, its arguments end as they began, and every counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (data m) (data_A m) ((θ_run defs _ _).mono (fun _ h => h.1) (run_end m ρ)))
    ((θ_run defs _ _).mono (fun _ h => h.2) (run_end m ρ))

/-- The one point. -/
def pt : Fin cfg0.N := ⟨0, by decide +kernel⟩

theorem idx_inj : ∀ t t' : Fin cfg0.N, win0_9.index t = win0_9.index t' → t = t' :=
  (by decide +kernel : ∀ t t' : Fin grid0.N, win0_9.index t = win0_9.index t' → t = t')

theorem apart : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj t t' h)

/-- The output's array at the end is what the one point left. -/
theorem final (c : Dev nD) : (data m 0 c).arrAt 9 cfg0.N = left m c pt := by
  have h := (data m 0 c).read_blk_arrAt_eq_flushed 9 apart cfg0.N pt pt.isLt (by decide +kernel)
  have h2 : (data m 0 c).flushed 9 pt = left m c pt := by
    show (cfg0.win 9).cut (grid0.coords pt) ((data m 0 c).after 9 pt) = _
    rw [kept9]
    rfl
  rw [h2] at h
  rw [← h]
  symm
  funext i
  refine congrArg ((data m 0 c).arrAt 9 cfg0.N) (funext fun a => Fin.ext ?_)
  match a with
  | 0 =>
    show 0 * 320 + 1 * (i 0).val = (i 0).val
    omega
  | 1 =>
    show 0 * 512 + 1 * (i 1).val = (i 1).val
    omega

theorem whole0 (c : Dev nD) : (iblk m c 0 pt : Vec F S320x128 .f32) = V m c main_arg0 := by
  unfold iblk
  funext i
  refine congrArg (V m c main_arg0) (funext fun a => Fin.ext ?_)
  match a with
  | 0 =>
    show 0 * 320 + 1 * (i 0).val = (i 0).val
    omega
  | 1 =>
    show 0 * 128 + 1 * (i 1).val = (i 1).val
    omega

theorem whole1 (c : Dev nD) : (iblk m c 1 pt : Vec F S1536x128 .f32) = V m c main_arg1 := by
  unfold iblk
  funext i
  refine congrArg (V m c main_arg1) (funext fun a => Fin.ext ?_)
  match a with
  | 0 =>
    show 0 * 1536 + 1 * (i 0).val = (i 0).val
    omega
  | 1 =>
    show 0 * 128 + 1 * (i 1).val = (i 1).val
    omega

theorem whole2 (c : Dev nD) : (iblk m c 2 pt : Vec F S1536x512 .f32) = V m c main_arg2 := by
  unfold iblk
  funext i
  refine congrArg (V m c main_arg2) (funext fun a => Fin.ext ?_)
  match a with
  | 0 =>
    show 0 * 1536 + 1 * (i 0).val = (i 0).val
    omega
  | 1 =>
    show 0 * 512 + 1 * (i 1).val = (i 1).val
    omega

theorem whole3 (c : Dev nD) : (iblk m c 3 pt : Vec F S1x1536 .f32) = V m c main_v0 := by
  unfold iblk
  funext i
  refine congrArg (V m c main_v0) (funext fun a => Fin.ext ?_)
  match a with
  | 0 =>
    show 0 * 1 + 1 * (i 0).val = (i 0).val
    omega
  | 1 =>
    show 0 * 1536 + 1 * (i 1).val = (i 1).val
    omega

theorem whole4 (c : Dev nD) : (iblk m c 4 pt : Vec F S1x1536 .f32) = V m c main_v1 := by
  unfold iblk
  funext i
  refine congrArg (V m c main_v1) (funext fun a => Fin.ext ?_)
  match a with
  | 0 =>
    show 0 * 1 + 1 * (i 0).val = (i 0).val
    omega
  | 1 =>
    show 0 * 1536 + 1 * (i 1).val = (i 1).val
    omega

theorem whole5 (c : Dev nD) : (iblk m c 5 pt : Vec F S1536x512 .f32) = V m c main_arg5 := by
  unfold iblk
  funext i
  refine congrArg (V m c main_arg5) (funext fun a => Fin.ext ?_)
  match a with
  | 0 =>
    show 0 * 1536 + 1 * (i 0).val = (i 0).val
    omega
  | 1 =>
    show 0 * 512 + 1 * (i 1).val = (i 1).val
    omega

theorem whole6 (c : Dev nD) : (iblk m c 6 pt : Vec F S1536x512 .f32) = V m c main_arg6 := by
  unfold iblk
  funext i
  refine congrArg (V m c main_arg6) (funext fun a => Fin.ext ?_)
  match a with
  | 0 =>
    show 0 * 1536 + 1 * (i 0).val = (i 0).val
    omega
  | 1 =>
    show 0 * 512 + 1 * (i 1).val = (i 1).val
    omega

theorem whole7 (c : Dev nD) : (iblk m c 7 pt : Vec F S1x1536 .f32) = V m c main_v2 := by
  unfold iblk
  funext i
  refine congrArg (V m c main_v2) (funext fun a => Fin.ext ?_)
  match a with
  | 0 =>
    show 0 * 1 + 1 * (i 0).val = (i 0).val
    omega
  | 1 =>
    show 0 * 1536 + 1 * (i 1).val = (i 1).val
    omega

theorem whole8 (c : Dev nD) : (iblk m c 8 pt : Vec F S1x1536 .f32) = V m c main_v3 := by
  unfold iblk
  funext i
  refine congrArg (V m c main_v3) (funext fun a => Fin.ext ?_)
  match a with
  | 0 =>
    show 0 * 1 + 1 * (i 0).val = (i 0).val
    omega
  | 1 =>
    show 0 * 1536 + 1 * (i 1).val = (i 1).val
    omega

/-- A vector of 1536 as one row. -/
def row (b : Vec F S1536 .f32) : Vec F S1x1536 .f32 := shapeCast S1x1536 b shapeCasts_S1536_S1x1536

theorem row3 (c : Dev nD) : (V m c main_v0 : Vec F S1x1536 .f32) = row (m ((c : Thread nD τ).loc main_arg3)) := by
  unfold V
  after_reads_simp
  try rfl

theorem row4 (c : Dev nD) : (V m c main_v1 : Vec F S1x1536 .f32) = row (m ((c : Thread nD τ).loc main_arg4)) := by
  unfold V
  after_reads_simp
  try rfl

theorem row7 (c : Dev nD) : (V m c main_v2 : Vec F S1x1536 .f32) = row (m ((c : Thread nD τ).loc main_arg7)) := by
  unfold V
  after_reads_simp
  try rfl

theorem row8 (c : Dev nD) : (V m c main_v3 : Vec F S1x1536 .f32) = row (m ((c : Thread nD τ).loc main_arg8)) := by
  unfold V
  after_reads_simp
  try rfl

/-- The second layer's states, of the call's arguments. -/
def result (c : Dev nD) : Vec F S320x512 .f32 :=
  gruOut (m ((c.tc : Thread nD τ).loc main_arg0)) (m ((c.tc : Thread nD τ).loc main_arg1)) (m ((c.tc : Thread nD τ).loc main_arg2)) (row (m ((c.tc : Thread nD τ).loc main_arg3))) (row (m ((c.tc : Thread nD τ).loc main_arg4))) (m ((c.tc : Thread nD τ).loc main_arg5)) (m ((c.tc : Thread nD τ).loc main_arg6)) (row (m ((c.tc : Thread nD τ).loc main_arg7))) (row (m ((c.tc : Thread nD τ).loc main_arg8)))

theorem left_eq (c : Dev nD) : left m c pt = result m c := by
  unfold left result
  rw [whole0, whole1, whole2, whole3, whole4, whole5, whole6, whole7, whole8, row3, row4, row7, row8, V_main_arg0, V_main_arg1, V_main_arg2, V_main_arg5, V_main_arg6]

/-- The call leaves its result and keeps its arguments. -/
theorem value : θ_run defs (onTc (τ := τ) (main (F := F))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  have hv : θ_run defs (onTc (τ := τ) (main (F := F))) ⟨m, fun _ => 0, ρ⟩ (fun r => ∀ c : Dev nD,
      r.2.mem ((c.tc : Thread nD τ).loc main_v4) = result m c) :=
    (θ_run defs _ _).mono (fun _ h c => ((h.1 c).1 9).trans ((final m c).trans (left_eq m c))) (run_end m ρ)
  (θ_run defs _ _).mono (fun _ h c => ⟨h.2 c, h.1.1 c⟩) (θ_run_and (frame_all m ρ) hv)

end Cert.Proof.States

end
-- ==== Proof.States.Scan.lean ====
/- The reference's scan as a sequence of states: the buffers that the loop carries, read as one record, go from trip to trip by
   the reference's step, and the reference leaves the stack of the twentieth record. -/
module

public import proofs.«01_k».proof.Proof.Gen.HiddenReferenceIdeal.Run
public import proofs.«01_k».proof.Proof.Gen.HiddenReferenceIdeal.Step

@[expose] public section

noncomputable section

namespace Cert.Proof.Scan

open Idealize.ShloMosaic Idealize.ShloMosaic.TcCoe Idealize.SL.Sem Idealize.ShloMosaic.StableHlo
open Cert.HiddenReferenceIdeal Cert.HiddenReferenceIdeal.Gen Cert.HiddenReferenceIdeal.Value
open Cert.HiddenReferenceIdeal.Step (State step init)

variable {F : FTy → Type} [FloatOps F]

/-- The carried buffers as one record. -/
def held (V : Valuation τ sig (Elt F)) : State F :=
  ⟨V (Proc.devRef .tc main_v3_10), V (Proc.devRef .tc main_v3_11), V (Proc.devRef .tc main_v3_12), V (Proc.devRef .tc main_v3_0), V (Proc.devRef .tc main_v3_1), V (Proc.devRef .tc main_v3_2), V (Proc.devRef .tc main_v3_3), V (Proc.devRef .tc main_v3_4), V (Proc.devRef .tc main_v3_5), V (Proc.devRef .tc main_v3_6), V (Proc.devRef .tc main_v3_7), V (Proc.devRef .tc main_v3_8)⟩

variable {V : Valuation τ sig (Elt F)} {j : ℕ}

/-- The counter stands at `j`. -/
def Counts (V : Valuation τ sig (Elt F)) (j : ℕ) : Prop :=
  V (Proc.devRef .tc main_v3_9) = constantI S_ 32 (BitVec.ofNat 32 j)

set_option maxRecDepth 8192 in
theorem value10 (h : Counts V j) : res_main_while0b_v10 V = Step.b8 j (held V) := by
  unfold res_main_while0b_v10
  rw [show V (Proc.devRef .tc main_v3_9) = _ from h]
  rfl

set_option maxRecDepth 8192 in
theorem value15 : res_main_while0b_v15 V = Step.b13 j (held V) := by
  unfold res_main_while0b_v15
  rfl

set_option maxRecDepth 8192 in
theorem value33 (h : Counts V j) : res_main_while0b_v33 V = Step.b35 j (held V) := by
  unfold res_main_while0b_v33
  rw [value10 h, value15 (j := j)]
  rfl

set_option maxRecDepth 8192 in
theorem value43 (h : Counts V j) : res_main_while0b_v43 V = Step.b46 j (held V) := by
  unfold res_main_while0b_v43
  rw [value10 h, value15 (j := j), value33 h]
  rfl

set_option maxRecDepth 8192 in
theorem value48 (h : Counts V j) : res_main_while0b_v48 V = Step.b51 j (held V) := by
  unfold res_main_while0b_v48
  rw [value43 h]
  rfl

set_option maxRecDepth 8192 in
theorem value53 : res_main_while0b_v53 V = Step.b56 j (held V) := by
  unfold res_main_while0b_v53
  rfl

set_option maxRecDepth 8192 in
theorem value71 (h : Counts V j) : res_main_while0b_v71 V = Step.b78 j (held V) := by
  unfold res_main_while0b_v71
  rw [value48 h, value53 (j := j)]
  rfl

set_option maxRecDepth 8192 in
theorem value81 (h : Counts V j) : res_main_while0b_v81 V = Step.b89 j (held V) := by
  unfold res_main_while0b_v81
  rw [value48 h, value53 (j := j), value71 h]
  rfl

set_option maxRecDepth 8192 in
theorem stacked (h : Counts V j) : step_main_v3_12 V = Step.b93 j (held V) := by
  unfold step_main_v3_12
  rw [value81 h, show V (Proc.devRef .tc main_v3_9) = _ from h]
  rfl

/-- One trip is one step of the record. -/
theorem held_step (h : Counts V j) : held (STEP V) = step j (held V) := by
  unfold held step
  rw [STEP_main_v3_10, STEP_main_v3_11, STEP_main_v3_12, STEP_main_v3_0, STEP_main_v3_1, STEP_main_v3_2, STEP_main_v3_3, STEP_main_v3_4, STEP_main_v3_5, STEP_main_v3_6, STEP_main_v3_7, STEP_main_v3_8, stacked h]
  unfold step_main_v3_10 step_main_v3_11
  rw [value43 h, value81 h]
  rfl

theorem counts_step (h : Counts V j) : Counts (STEP V) (j + 1) := by
  unfold Counts
  rw [STEP_main_v3_9]
  unfold step_main_v3_9
  rw [show V (Proc.devRef .tc main_v3_9) = _ from h]
  funext i
  show BitVec.ofNat 32 j + 1#32 = BitVec.ofNat 32 (j + 1)
  rw [BitVec.ofNat_add]

variable (m : (ℓ : Loc nD τ sig) → Buf (Elt F) ℓ) (c : Dev nD)

/-- The record before the first trip. -/
def start : State F :=
  init (m ((c.tc : Thread nD τ).loc main_arg1)) (m ((c.tc : Thread nD τ).loc main_arg3)) (m ((c.tc : Thread nD τ).loc main_arg2)) (m ((c.tc : Thread nD τ).loc main_arg4)) (m ((c.tc : Thread nD τ).loc main_arg5)) (m ((c.tc : Thread nD τ).loc main_arg7)) (m ((c.tc : Thread nD τ).loc main_arg6)) (m ((c.tc : Thread nD τ).loc main_arg8)) (m ((c.tc : Thread nD τ).loc main_arg0))

/-- The record before trip `k`. -/
def after (m : (ℓ : Loc nD τ sig) → Buf (Elt F) ℓ) (c : Dev nD) : ℕ → State F
  | 0 => start m c
  | k + 1 => step k (after m c k)

set_option maxRecDepth 65536 in
set_option maxHeartbeats 1000000 in
theorem held_start : held (entryContents preI m c) = start m c := by
  unfold held start init
  simp only [entryContents, afterL_cons, afterL_nil]
  after_reads_simp
  rfl

set_option maxRecDepth 65536 in
theorem counts_start : Counts (entryContents (F := F) preI m c) 0 := by
  unfold Counts
  simp only [entryContents, afterL_cons, afterL_nil]
  after_reads_simp
  rfl

theorem held_after (k : ℕ) : Counts (STEP^[k] (entryContents preI m c)) k ∧ held (STEP^[k] (entryContents preI m c)) = after m c k := by
  induction k with
  | zero =>
    rw [Function.iterate_zero_apply]
    exact ⟨counts_start m c, held_start m c⟩
  | succ k ih =>
    rw [Function.iterate_succ_apply']
    refine ⟨counts_step ih.1, (held_step ih.1).trans ?_⟩
    rw [ih.2, after]

theorem out_eq (V : Valuation τ sig (Elt F)) : out_main_v4 V = Step.R_main_v4 (held V) := by
  unfold out_main_v4 held Step.R_main_v4
  rfl

/-- The reference leaves the last record's stack and keeps its arguments. -/
theorem value (ρ : Dev nD → PrngReg) :
    θ_run (defs (F := F)) (onTc (τ := τ) (main (F := F))) ⟨m, fun _ => 0, ρ⟩ (fun r => ∀ c : Dev nD,
      r.2.mem ((c.tc : Thread nD τ).loc main_v4) = Step.R_main_v4 (after m c 20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have he : ∀ c : Dev nD, out_main_v4 (STEP^[20] (entryContents preI m c)) = Step.R_main_v4 (after m c 20) := fun c => by
    rw [out_eq, (held_after m c 20).2]
  exact (θ_run defs _ _).mono (fun _ h c => ⟨(h c).1.trans (he c), (h c).2⟩) (Value.run m ρ)

end Cert.Proof.Scan

end
-- ==== Proof.States.Equal.lean ====
/-
  One trip of the call and one trip of the reference's scan, at the extended reals: both are the recurrent cell, a plain
  function of the gates and the state.
-/
module

public import proofs.«01_k».proof.Proof.States.Call
public import proofs.«01_k».proof.Proof.States.Scan
public import Idealize.ShloMosaic.Lib.Pointwise

@[expose] public section

noncomputable section

namespace Cert.Proof.Cell

open Idealize.ShloMosaic
open Cert.HiddenIdeal.Gen (k0_pay1 k0_pay2 k0_pay3 k0_pay4 k0_pay5 k0_pay6 k0_pay9)
open Cert.Proof.States (row rowOf hs inTrip stack gruOut)
open Cert.HiddenReferenceIdeal.Step

/-- A matrix of extended reals. -/
abbrev Mat (p q : ℕ) := FVec Ideal ⟨2, ![p, q]⟩ .f32
/-- A vector of extended reals. -/
abbrev Row (p : ℕ) := FVec Ideal ⟨1, ![p]⟩ .f32

/-- `h` by the transpose of `W`, and `b` added to each row. -/
def lin {p k : ℕ} (h : Mat p k) (W : Mat 1536 k) (b : Row 1536) : Mat p 1536 :=
  fun y => (∑ x : Fin k, h (ix2 (y 0) x) * W (ix2 (y 1) x)) + b (ix1 (y 1))

/-- The cell's next state, of the two sums of gates and the state. -/
def gate (gx gh : Mat 16 1536) (h : Mat 16 512) (p : Fin 16) (q : Fin 512) : EReal :=
  ((1 : EReal) - Ideal.logistic (gx (ix2 p ⟨512 + q, by omega⟩) + gh (ix2 p ⟨512 + q, by omega⟩)))
      * Ideal.tanh (gx (ix2 p ⟨1024 + q, by omega⟩)
        + Ideal.logistic (gx (ix2 p ⟨q, by omega⟩) + gh (ix2 p ⟨q, by omega⟩)) * gh (ix2 p ⟨1024 + q, by omega⟩))
    + Ideal.logistic (gx (ix2 p ⟨512 + q, by omega⟩) + gh (ix2 p ⟨512 + q, by omega⟩)) * h (ix2 p q)

set_option maxRecDepth 16384 in
theorem pay2_at (h : Mat 16 512) (g : Mat 16 1536) (W : Mat 1536 512) (b : Row 1536) (p : Fin 16) (q : Fin 512) :
    k0_pay2 (F := Ideal) h g (k0_pay3 (F := Ideal) W) (row b) (ix2 p q) = gate g (lin h W b) h p q := by
  unfold gate lin
  pointwise [k0_pay2, k0_pay3, row]
  try rfl

variable (s : State Ideal) (j : ℕ)

set_option maxRecDepth 16384 in
theorem b13_at (y) : b13 j s y = lin s.main_v3_10 s.main_v3_3 s.main_v3_4 y := by
  idx_vars y
  unfold lin
  pointwise [b13, b12, b11, b10, b9]
  try rfl

set_option maxRecDepth 16384 in
theorem b46_at (p : Fin 16) (q : Fin 512) : b46 j s (ix2 p q) = gate (b8 j s) (b13 j s) s.main_v3_10 p q := by
  unfold gate Ideal.logistic
  generalize h8 : b8 j s = gx
  generalize h13 : b13 j s = gh
  pointwise [b46, b45, b44, b43, b42, b41, b40, b39, b38, b37, b36, b35, b34, b33, b32, b31, b30, b29, b28, b27, b26, b25, b24, b23, b22, b21, b20, b19, b18, b17, b16, b15, b14, h8, h13]
  try rfl

set_option maxRecDepth 16384 in
theorem b89_at (p : Fin 16) (q : Fin 512) : b89 j s (ix2 p q) = gate (b51 j s) (b56 j s) s.main_v3_11 p q := by
  unfold gate Ideal.logistic
  generalize h8 : b51 j s = gx
  generalize h13 : b56 j s = gh
  pointwise [b89, b88, b87, b86, b85, b84, b83, b82, b81, b80, b79, b78, b77, b76, b75, b74, b73, b72, b71, b70, b69, b68, b67, b66, b65, b64, b63, b62, b61, b60, b59, b58, b57, h8, h13]
  try rfl

set_option maxRecDepth 16384 in
theorem b56_at (y) : b56 j s y = lin s.main_v3_11 s.main_v3_7 s.main_v3_8 y := by
  idx_vars y
  unfold lin
  pointwise [b56, b55, b54, b53, b52]
  try rfl

set_option maxRecDepth 16384 in
theorem b51_at (y) : b51 j s y = lin (b46 j s) s.main_v3_5 s.main_v3_6 y := by
  idx_vars y
  unfold lin
  generalize h46 : b46 j s = h
  pointwise [b51, b50, b49, b48, b47, h46]
  try rfl

set_option maxRecDepth 16384 in
theorem b8_at (y) : b8 j s y = lin (b3 j s) s.main_v3_1 s.main_v3_2 y := by
  idx_vars y
  unfold lin
  generalize h3 : b3 j s = h
  pointwise [b8, b7, b6, b5, b4, h3]
  try rfl

set_option maxRecDepth 16384 in
theorem pay5_at (x : Mat 320 128) (W : Mat 1536 128) (b : Row 1536) (y) :
    k0_pay5 (F := Ideal) x W (row b) y = lin x W b y := by
  idx_vars y
  unfold lin
  pointwise [k0_pay5, row]
  try rfl

set_option maxRecDepth 16384 in
theorem pay19_at (x : Mat 320 512) (W : Mat 1536 512) (b : Row 1536) (y) :
    k0_pay1 (F := Ideal) (k0_pay9 x W) (row b) y = lin x W b y := by
  idx_vars y
  unfold lin
  pointwise [k0_pay1, k0_pay9, row]
  try rfl

theorem word_toInt (hj : j < 20) : (BitVec.ofNat 32 j).toInt = (j : ℤ) := by
  have hm : j % 2 ^ 32 = j := Nat.mod_eq_of_lt (by omega)
  rw [BitVec.toInt_eq_toNat_of_lt (by rw [BitVec.toNat_ofNat, hm]; omega), BitVec.toNat_ofNat, hm]

theorem readAt0 (hj : j < 20) (h : Cert.HiddenReferenceIdeal.S1x16x128.rank = Cert.HiddenReferenceIdeal.S20x16x128.rank) :
    Host.clampedStart Cert.HiddenReferenceIdeal.S20x16x128 Cert.HiddenReferenceIdeal.S1x16x128 h
      (fun k => BitVec.toInt (![constantI Cert.HiddenReferenceIdeal.S_ 32 (BitVec.ofNat 32 j), constantI Cert.HiddenReferenceIdeal.S_ 32 0#32,
        constantI Cert.HiddenReferenceIdeal.S_ 32 0#32] k (Shape.Idx.first Cert.HiddenReferenceIdeal.Gen.h_S_))) 0 = j :=
  Host.clampedStart_of_le _ _ _ _ (by exact word_toInt j hj) (by show j + 1 ≤ 20; omega)

theorem writeAt0 (hj : j < 20) (h : Cert.HiddenReferenceIdeal.S1x16x512.rank = Cert.HiddenReferenceIdeal.S20x16x512.rank) :
    Host.clampedStart Cert.HiddenReferenceIdeal.S20x16x512 Cert.HiddenReferenceIdeal.S1x16x512 h
      (fun k => BitVec.toInt (![constantI Cert.HiddenReferenceIdeal.S_ 32 (BitVec.ofNat 32 j), constantI Cert.HiddenReferenceIdeal.S_ 32 0#32,
        constantI Cert.HiddenReferenceIdeal.S_ 32 0#32] k (Shape.Idx.first Cert.HiddenReferenceIdeal.Gen.h_S_))) 0 = j :=
  Host.clampedStart_of_le _ _ _ _ (by exact word_toInt j hj) (by show j + 1 ≤ 20; omega)

theorem readAt1 (hj : j < 20) (h : Cert.HiddenReferenceIdeal.S1x16x128.rank = Cert.HiddenReferenceIdeal.S20x16x128.rank) :
    Host.clampedStart Cert.HiddenReferenceIdeal.S20x16x128 Cert.HiddenReferenceIdeal.S1x16x128 h
      (fun k => BitVec.toInt (![constantI Cert.HiddenReferenceIdeal.S_ 32 (BitVec.ofNat 32 j), constantI Cert.HiddenReferenceIdeal.S_ 32 0#32,
        constantI Cert.HiddenReferenceIdeal.S_ 32 0#32] k (Shape.Idx.first Cert.HiddenReferenceIdeal.Gen.h_S_))) 1 = 0 :=
  Host.clampedStart_of_le _ _ _ _ (by rfl) (by show 0 + 16 ≤ 16; omega)

theorem writeAt1 (hj : j < 20) (h : Cert.HiddenReferenceIdeal.S1x16x512.rank = Cert.HiddenReferenceIdeal.S20x16x512.rank) :
    Host.clampedStart Cert.HiddenReferenceIdeal.S20x16x512 Cert.HiddenReferenceIdeal.S1x16x512 h
      (fun k => BitVec.toInt (![constantI Cert.HiddenReferenceIdeal.S_ 32 (BitVec.ofNat 32 j), constantI Cert.HiddenReferenceIdeal.S_ 32 0#32,
        constantI Cert.HiddenReferenceIdeal.S_ 32 0#32] k (Shape.Idx.first Cert.HiddenReferenceIdeal.Gen.h_S_))) 1 = 0 :=
  Host.clampedStart_of_le _ _ _ _ (by rfl) (by show 0 + 16 ≤ 16; omega)

theorem readAt2 (hj : j < 20) (h : Cert.HiddenReferenceIdeal.S1x16x128.rank = Cert.HiddenReferenceIdeal.S20x16x128.rank) :
    Host.clampedStart Cert.HiddenReferenceIdeal.S20x16x128 Cert.HiddenReferenceIdeal.S1x16x128 h
      (fun k => BitVec.toInt (![constantI Cert.HiddenReferenceIdeal.S_ 32 (BitVec.ofNat 32 j), constantI Cert.HiddenReferenceIdeal.S_ 32 0#32,
        constantI Cert.HiddenReferenceIdeal.S_ 32 0#32] k (Shape.Idx.first Cert.HiddenReferenceIdeal.Gen.h_S_))) 2 = 0 :=
  Host.clampedStart_of_le _ _ _ _ (by rfl) (by show 0 + 128 ≤ 128; omega)

theorem writeAt2 (hj : j < 20) (h : Cert.HiddenReferenceIdeal.S1x16x512.rank = Cert.HiddenReferenceIdeal.S20x16x512.rank) :
    Host.clampedStart Cert.HiddenReferenceIdeal.S20x16x512 Cert.HiddenReferenceIdeal.S1x16x512 h
      (fun k => BitVec.toInt (![constantI Cert.HiddenReferenceIdeal.S_ 32 (BitVec.ofNat 32 j), constantI Cert.HiddenReferenceIdeal.S_ 32 0#32,
        constantI Cert.HiddenReferenceIdeal.S_ 32 0#32] k (Shape.Idx.first Cert.HiddenReferenceIdeal.Gen.h_S_))) 2 = 0 :=
  Host.clampedStart_of_le _ _ _ _ (by rfl) (by show 0 + 512 ≤ 512; omega)

/-- The `j`-th sixteen rows of the reference's embeddings. -/
theorem b3_at (hj : j < 20) (e : Mat 320 128) (hs : s.main_v3_0 = A_main_v1 e) (p : Fin 16) (q : Fin 128) :
    b3 j s (ix2 p q) = e (ix2 ⟨16 * j + p, by omega⟩ q) := by
  pointwise [b3, b2, b1, b0, hs, A_main_v1]
  refine congrArg e (congrArg₂ ix2 (Fin.ext ?_) (Fin.ext ?_))
  · show _ * 16 + (_ + p.val) = 16 * j + p.val
    rw [readAt0 j hj, readAt1 j hj]
    omega
  · show _ + q.val = q.val
    rw [readAt2 j hj]
    omega

theorem b93_at (hj : j < 20) (t : Fin 20) (p : Fin 16) (q : Fin 512) :
    b93 j s (ix3 t p q) = if t.val = j then b89 j s (ix2 p q) else s.main_v3_12 (ix3 t p q) := by
  generalize h : b89 j s = x
  pointwise [b93, b92, b91, b90, h]
  simp only [writeAt0 j hj, writeAt1 j hj, writeAt2 j hj, Nat.zero_le, and_true, Nat.sub_zero]
  by_cases ht : t.val = j
  · rw [dif_pos (by omega), if_pos ht]
  · rw [dif_neg (by omega), if_neg ht]

/-! ## The twenty trips -/

variable {e : Mat 320 128} {W1 : Mat 1536 128} {W2 : Mat 1536 512} {r3 r4 : Row 1536} {W5 W6 : Mat 1536 512} {r7 r8 : Row 1536}
  {it : ℕ → State Ideal}

/-- The record's nine constants. -/
structure Kept (e : Mat 320 128) (W1 : Mat 1536 128) (W2 : Mat 1536 512) (r3 r4 : Row 1536) (W5 W6 : Mat 1536 512) (r7 r8 : Row 1536)
    (s : State Ideal) : Prop where
  c0 : s.main_v3_0 = A_main_v1 e
  c1 : s.main_v3_1 = W1
  c2 : s.main_v3_2 = r3
  c3 : s.main_v3_3 = W2
  c4 : s.main_v3_4 = r4
  c5 : s.main_v3_5 = W5
  c6 : s.main_v3_6 = r7
  c7 : s.main_v3_7 = W6
  c8 : s.main_v3_8 = r8

/-- The records of the reference's scan over these arrays. -/
structure Scanned (e : Mat 320 128) (W1 : Mat 1536 128) (W2 : Mat 1536 512) (r3 r4 : Row 1536) (W5 W6 : Mat 1536 512) (r7 r8 : Row 1536)
    (it : ℕ → State Ideal) : Prop where
  start : it 0 = init W1 r3 W2 r4 W5 r7 W6 r8 e
  next : ∀ k, it (k + 1) = step k (it k)

theorem kept (H : Scanned e W1 W2 r3 r4 W5 W6 r7 r8 it) (k : ℕ) : Kept e W1 W2 r3 r4 W5 W6 r7 r8 (it k) := by
  induction k with
  | zero => rw [H.start]; exact ⟨rfl, rfl, rfl, rfl, rfl, rfl, rfl, rfl, rfl⟩
  | succ k ih => rw [H.next]; exact ⟨ih.c0, ih.c1, ih.c2, ih.c3, ih.c4, ih.c5, ih.c6, ih.c7, ih.c8⟩

/-- The first layer's gates of trip `k` are those rows of the gates that the call makes before its loop. -/
theorem gates1 (hj : j < 20) (K : Kept e W1 W2 r3 r4 W5 W6 r7 r8 s) :
    b8 j s = fun y => k0_pay5 (F := Ideal) e W1 (row r3) (rowOf j y) := by
  funext y
  rw [b8_at, pay5_at, K.c1, K.c2]
  unfold lin
  have hr : (⟨16 * j + (y 0).val, by have : (y 0).val < 16 := (y 0).isLt; omega⟩ : Fin 320) = rowOf j y 0 :=
    Fin.ext (Nat.mod_eq_of_lt (by have : (y 0).val < 16 := (y 0).isLt; omega)).symm
  refine congrArg₂ (· + ·) (Finset.sum_congr rfl fun x _ => congrArg₂ (· * ·) ?_ rfl) rfl
  exact (b3_at s j hj e K.c0 (y 0) x).trans (congrArg e (congrArg₂ ix2 hr rfl))

/-- The first layer's states of the call. -/
abbrev hs1 (e : Mat 320 128) (W1 : Mat 1536 128) (W2 : Mat 1536 512) (r3 r4 : Row 1536) : ℕ → Mat 16 512 :=
  hs (k0_pay5 (F := Ideal) e W1 (row r3)) (k0_pay3 (F := Ideal) W2) (row r4)

theorem layer1 (H : Scanned e W1 W2 r3 r4 W5 W6 r7 r8 it) (k : ℕ) (hk : k ≤ 20) :
    (it k).main_v3_10 = hs1 e W1 W2 r3 r4 k := by
  induction k with
  | zero =>
    rw [H.start]
    rfl
  | succ k ih =>
    have K := kept H k
    rw [H.next]
    funext y
    idx_vars y
    refine (b46_at (it k) k y0 y1).trans (Eq.trans ?_ (pay2_at (hs1 e W1 W2 r3 r4 k) (fun y => k0_pay5 (F := Ideal) e W1 (row r3) (rowOf k y)) W2 r4 y0 y1).symm)
    rw [gates1 (it k) k (by omega) K, show b13 k (it k) = _ from funext (b13_at (it k) k), K.c3, K.c4, ih (by omega)]

/-- The second layer's gates of the call. -/
abbrev g2 (e : Mat 320 128) (W1 : Mat 1536 128) (W2 : Mat 1536 512) (r3 r4 : Row 1536) (W5 : Mat 1536 512) (r7 : Row 1536) : Mat 320 1536 :=
  k0_pay1 (F := Ideal) (k0_pay9 (stack (k0_pay5 (F := Ideal) e W1 (row r3)) (k0_pay3 (F := Ideal) W2) (row r4)) W5) (row r7)

/-- The second layer's states of the call. -/
abbrev hs2 (e : Mat 320 128) (W1 : Mat 1536 128) (W2 : Mat 1536 512) (r3 r4 : Row 1536) (W5 W6 : Mat 1536 512) (r7 r8 : Row 1536) : ℕ → Mat 16 512 :=
  hs (g2 e W1 W2 r3 r4 W5 r7) (k0_pay4 (F := Ideal) W6) (row r8)

/-- Row `y 0` of the stack's trip `j` is that trip's state. -/
theorem stack_at (hj : j < 20) (g : Mat 320 1536) (w : FVec Ideal Cert.HiddenIdeal.S1536x512 .bf16) (b : Vec Ideal Cert.HiddenIdeal.S1x1536 .f32)
    (y : (⟨2, ![16, 1536]⟩ : Shape).Idx) (x : Fin 512) :
    stack (F := Ideal) g w b (ix2 (rowOf j y 0) x) = hs g w b (j + 1) (ix2 (y 0) x) := by
  have hy : (y 0).val < 16 := (y 0).isLt
  have hr : (rowOf j y 0).val = 16 * j + (y 0).val := Nat.mod_eq_of_lt (by omega)
  have hd : (rowOf j y 0).val / 16 = j := by omega
  have hi : inTrip (ix2 (rowOf j y 0) x) = (ix2 (y 0) x : (⟨2, ![16, 512]⟩ : Shape).Idx) := by
    funext a
    refine Fin.ext ?_
    match a with
    | 0 =>
      show (rowOf j y 0).val % 16 = (y 0).val
      rw [hr]
      omega
    | 1 => rfl
  unfold stack
  rw [hi]
  exact congrArg (fun n => hs g w b (n + 1) (ix2 (y 0) x)) hd

/-- The second layer's gates, row by row, of the first layer's states. -/
theorem g2_at (hj : j < 20) (g : Mat 320 1536) (w : FVec Ideal Cert.HiddenIdeal.S1536x512 .bf16) (b : Vec Ideal Cert.HiddenIdeal.S1x1536 .f32)
    (W : Mat 1536 512) (r : Row 1536) (y : (⟨2, ![16, 1536]⟩ : Shape).Idx) :
    lin (hs g w b (j + 1)) W r y = k0_pay1 (F := Ideal) (k0_pay9 (stack (F := Ideal) g w b) W) (row r) (rowOf j y) := by
  rw [pay19_at]
  unfold lin
  refine congrArg₂ (· + ·) (Finset.sum_congr rfl fun x _ => congrArg₂ (· * ·) ?_ rfl) rfl
  exact (stack_at j hj g w b y x).symm

theorem gates2 (H : Scanned e W1 W2 r3 r4 W5 W6 r7 r8 it) (hj : j < 20) :
    b51 j (it j) = fun y => g2 e W1 W2 r3 r4 W5 r7 (rowOf j y) := by
  have K := kept H j
  have h10 : b46 j (it j) = hs1 e W1 W2 r3 r4 (j + 1) :=
    (congrArg State.main_v3_10 (H.next j)).symm.trans (layer1 H (j + 1) (by omega))
  funext y
  refine (b51_at (it j) j y).trans ?_
  rw [K.c5, K.c6, h10]
  exact g2_at j hj _ _ _ W5 r7 y

theorem layer2 (H : Scanned e W1 W2 r3 r4 W5 W6 r7 r8 it) (k : ℕ) (hk : k ≤ 20) :
    (it k).main_v3_11 = hs2 e W1 W2 r3 r4 W5 W6 r7 r8 k := by
  induction k with
  | zero =>
    rw [H.start]
    rfl
  | succ k ih =>
    have K := kept H k
    rw [H.next]
    funext y
    idx_vars y
    refine (b89_at (it k) k y0 y1).trans (Eq.trans ?_ (pay2_at (hs2 e W1 W2 r3 r4 W5 W6 r7 r8 k) (fun y => g2 e W1 W2 r3 r4 W5 r7 (rowOf k y)) W6 r8 y0 y1).symm)
    rw [gates2 k H (by omega), show b56 k (it k) = _ from funext (b56_at (it k) k), K.c7, K.c8, ih (by omega)]

/-- The reference's stack holds, of the trips before `k`, the second layer's states. -/
theorem stack_rows (H : Scanned e W1 W2 r3 r4 W5 W6 r7 r8 it) (k : ℕ) (hk : k ≤ 20) (t : Fin 20) (ht : t.val < k) (p : Fin 16) (q : Fin 512) :
    (it k).main_v3_12 (ix3 t p q) = hs2 e W1 W2 r3 r4 W5 W6 r7 r8 (t.val + 1) (ix2 p q) := by
  induction k with
  | zero => omega
  | succ k ih =>
    rw [H.next]
    refine (b93_at (it k) k (by omega) t p q).trans ?_
    by_cases h : t.val = k
    · rw [if_pos h, h, ← layer2 H (k + 1) hk, H.next]
      rfl
    · rw [if_neg h]
      exact ih (by omega) (by omega)

/-- After the last trip the reference's result is the call's. -/
theorem same (H : Scanned e W1 W2 r3 r4 W5 W6 r7 r8 it) :
    R_main_v4 (it 20) = gruOut (F := Ideal) e W1 W2 (row r3) (row r4) W5 W6 (row r7) (row r8) := by
  funext y
  idx_vars y
  unfold R_main_v4
  pointwise []
  refine (stack_rows H 20 (Nat.le_refl _) _ (Fin.isLt _) _ _).trans ?_
  show _ = hs2 e W1 W2 r3 r4 W5 W6 r7 r8 (y0.val / 16 + 1) (inTrip (ix2 y0 y1))
  refine congrArg _ (funext fun a => Fin.ext ?_)
  match a with
  | 0 => rfl
  | 1 => rfl

end Cert.Proof.Cell

end
-- ==== Proof.States.PrintedCall.lean ====
/-
  The recurrent call as a whole: it runs to its end, keeps its arguments, and leaves the second layer's states, a plain
  function of the nine arrays it is given.
-/
module

public import proofs.«01_k».proof.Proof.Gen.Hidden.Frame.Runs
public import proofs.«01_k».proof.Proof.States.PrintedTrip
public import Idealize.ShloMosaic.Lib.Claim
public import Idealize.ShloMosaic.Lib.Pipeline.Value
public import Idealize.ShloMosaic.Lib.StableHlo.RunRead

@[expose] public section

noncomputable section

namespace Cert.Proof.PrintedStates

open Cert.Hidden Cert.Hidden.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the one point leaves in the output's block. -/
def left (c : Dev nD) (t : Fin cfg0.N) : Vec F S320x512 .f32 :=
  gruOut (iblk m c 0 t) (iblk m c 1 t) (iblk m c 2 t) (iblk m c 3 t) (iblk m c 4 t) (iblk m c 5 t) (iblk m c 6 t) (iblk m c 7 t) (iblk m c 8 t)

/-- The call's data: each array as it stands at entry, each input's block kept, the output's block at `left`. -/
def data (_ : Fin 1) (c : Dev nD) : Dat τ (Elt F) Unit ℕ (UR sig nD τ) ℕ cfg0 c where
  A w := V m c (Pipeline.arrRef spec0 w)
  Φ _ := Pipeline.ΦA spec0 c
  q _ := fullShare
  owed _ := 0
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => left m c t

theorem data_A (c : Dev nD) (w : Fin cfg0.W) : (data m 0 c).A w = V m c (Pipeline.arrRef spec0 w) := by dsimp only [data]

theorem kept0 (c : Dev nD) (t : Fin cfg0.N) : (data m 0 c).after 0 t = iblk m c 0 t := by dsimp only [data]
theorem kept1 (c : Dev nD) (t : Fin cfg0.N) : (data m 0 c).after 1 t = iblk m c 1 t := by dsimp only [data]
theorem kept2 (c : Dev nD) (t : Fin cfg0.N) : (data m 0 c).after 2 t = iblk m c 2 t := by dsimp only [data]
theorem kept3 (c : Dev nD) (t : Fin cfg0.N) : (data m 0 c).after 3 t = iblk m c 3 t := by dsimp only [data]
theorem kept4 (c : Dev nD) (t : Fin cfg0.N) : (data m 0 c).after 4 t = iblk m c 4 t := by dsimp only [data]
theorem kept5 (c : Dev nD) (t : Fin cfg0.N) : (data m 0 c).after 5 t = iblk m c 5 t := by dsimp only [data]
theorem kept6 (c : Dev nD) (t : Fin cfg0.N) : (data m 0 c).after 6 t = iblk m c 6 t := by dsimp only [data]
theorem kept7 (c : Dev nD) (t : Fin cfg0.N) : (data m 0 c).after 7 t = iblk m c 7 t := by dsimp only [data]
theorem kept8 (c : Dev nD) (t : Fin cfg0.N) : (data m 0 c).after 8 t = iblk m c 8 t := by dsimp only [data]
theorem kept9 (c : Dev nD) (t : Fin cfg0.N) : (data m 0 c).after 9 t = left m c t := by dsimp only [data]

theorem found0 (c : Dev nD) (t : Fin cfg0.N) (d) : (data m 0 c).before 0 t d = iblk m c 0 t := before0_0_of m (data m 0 c) (data_A m c 0) (kept0 m c) t d
theorem found1 (c : Dev nD) (t : Fin cfg0.N) (d) : (data m 0 c).before 1 t d = iblk m c 1 t := before0_1_of m (data m 0 c) (data_A m c 1) (kept1 m c) t d
theorem found2 (c : Dev nD) (t : Fin cfg0.N) (d) : (data m 0 c).before 2 t d = iblk m c 2 t := before0_2_of m (data m 0 c) (data_A m c 2) (kept2 m c) t d
theorem found3 (c : Dev nD) (t : Fin cfg0.N) (d) : (data m 0 c).before 3 t d = iblk m c 3 t := before0_3_of m (data m 0 c) (data_A m c 3) (kept3 m c) t d
theorem found4 (c : Dev nD) (t : Fin cfg0.N) (d) : (data m 0 c).before 4 t d = iblk m c 4 t := before0_4_of m (data m 0 c) (data_A m c 4) (kept4 m c) t d
theorem found5 (c : Dev nD) (t : Fin cfg0.N) (d) : (data m 0 c).before 5 t d = iblk m c 5 t := before0_5_of m (data m 0 c) (data_A m c 5) (kept5 m c) t d
theorem found6 (c : Dev nD) (t : Fin cfg0.N) (d) : (data m 0 c).before 6 t d = iblk m c 6 t := before0_6_of m (data m 0 c) (data_A m c 6) (kept6 m c) t d
theorem found7 (c : Dev nD) (t : Fin cfg0.N) (d) : (data m 0 c).before 7 t d = iblk m c 7 t := before0_7_of m (data m 0 c) (data_A m c 7) (kept7 m c) t d
theorem found8 (c : Dev nD) (t : Fin cfg0.N) (d) : (data m 0 c).before 8 t d = iblk m c 8 t := before0_8_of m (data m 0 c) (data_A m c 8) (kept8 m c) t d

set_option maxHeartbeats 1200000 in
/-- The body at the point, between what the call holds before it and after it. -/
theorem point (c : Dev nD) (t : Fin cfg0.N) :
    iprop((data m 0 c).Φ t.castSucc ∗ (data m 0 c).owesAt () t.castSucc
        ∗ (∃ d, owns (c : Thread nD τ) (ms0_0 t) fullShare ((data m 0 c).before 0 t d))
        ∗ (∃ d, owns (c : Thread nD τ) (ms0_1 t) fullShare ((data m 0 c).before 1 t d))
        ∗ (∃ d, owns (c : Thread nD τ) (ms0_2 t) fullShare ((data m 0 c).before 2 t d))
        ∗ (∃ d, owns (c : Thread nD τ) (ms0_3 t) fullShare ((data m 0 c).before 3 t d))
        ∗ (∃ d, owns (c : Thread nD τ) (ms0_4 t) fullShare ((data m 0 c).before 4 t d))
        ∗ (∃ d, owns (c : Thread nD τ) (ms0_5 t) fullShare ((data m 0 c).before 5 t d))
        ∗ (∃ d, owns (c : Thread nD τ) (ms0_6 t) fullShare ((data m 0 c).before 6 t d))
        ∗ (∃ d, owns (c : Thread nD τ) (ms0_7 t) fullShare ((data m 0 c).before 7 t d))
        ∗ (∃ d, owns (c : Thread nD τ) (ms0_8 t) fullShare ((data m 0 c).before 8 t d))
        ∗ (∃ d, owns (c : Thread nD τ) (ms0_9 t) fullShare ((data m 0 c).before 9 t d)))
      ⊢ wp frame (wpE (defs₀ (F := F)) Variants.none c none) Set.univ (bodyAt0 t) (fun _ =>
        iprop((data m 0 c).Φ t.succ ∗ (data m 0 c).owesAt () t.succ
        ∗ owns (c : Thread nD τ) (ms0_0 t) fullShare ((data m 0 c).after 0 t)
        ∗ owns (c : Thread nD τ) (ms0_1 t) fullShare ((data m 0 c).after 1 t)
        ∗ owns (c : Thread nD τ) (ms0_2 t) fullShare ((data m 0 c).after 2 t)
        ∗ owns (c : Thread nD τ) (ms0_3 t) fullShare ((data m 0 c).after 3 t)
        ∗ owns (c : Thread nD τ) (ms0_4 t) fullShare ((data m 0 c).after 4 t)
        ∗ owns (c : Thread nD τ) (ms0_5 t) fullShare ((data m 0 c).after 5 t)
        ∗ owns (c : Thread nD τ) (ms0_6 t) fullShare ((data m 0 c).after 6 t)
        ∗ owns (c : Thread nD τ) (ms0_7 t) fullShare ((data m 0 c).after 7 t)
        ∗ owns (c : Thread nD τ) (ms0_8 t) fullShare ((data m 0 c).after 8 t)
        ∗ owns (c : Thread nD τ) (ms0_9 t) fullShare ((data m 0 c).after 9 t))) := by
  unfold bodyAt0
  simp only [found0, found1, found2, found3, found4, found5, found6, found7, found8, kept0, kept1, kept2, kept3, kept4, kept5, kept6, kept7, kept8, kept9]
  rw [show (data m 0 c).Φ t.succ = (data m 0 c).Φ t.castSucc from rfl,
    show (data m 0 c).owesAt () t.succ = (data m 0 c).owesAt () t.castSucc from rfl,
    show (data m 0 c).Φ t.castSucc = Pipeline.ΦA spec0 c from rfl, PhiA0_eq]
  unfold left
  iintro ⟨⟨⟨S0, S1, S2, S3⟩, G⟩, O, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body c _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [S0]; · iexact S0
  isplitl [S1]; · iexact S1
  isplitl [S2]; · iexact S2
  isplitl [S3]; · iexact S3
  iintro ⟨H0, H1, H2, H3, H4, H5, H6, H7, H8, H9, S0, S1, S2, S3⟩
  isplitl [S0 S1 S2 S3 G]
  · isplitl [S0 S1 S2 S3]
    · isplitl [S0]; · iexact S0
      isplitl [S1]; · iexact S1
      isplitl [S2]; · iexact S2
      iexact S3
    iexact G
  isplitl [O]; · iexact O
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (point m c t) rfl .rfl fun _ => .rfl

set_option backward.isDefEq.respectTransparency.types false in
/-- The run: every array at what the call's data make of it, every counter at zero. -/
theorem run_end : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hΦ := fun _ _ => rfl)

/-- The call runs to its end, its arguments end as they began, and every counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (data m) (data_A m) ((θ_run defs _ _).mono (fun _ h => h.1) (run_end m ρ)))
    ((θ_run defs _ _).mono (fun _ h => h.2) (run_end m ρ))

end Cert.Proof.PrintedStates

end
-- ==== Proof.States.Claims.lean ====
/-
  The recurrent call's claims: the three frames and the equation.
-/
module

public import proofs.«01_k».proof.Defs
public import proofs.«01_k».proof.Proof.States.Equal
public import proofs.«01_k».proof.Proof.States.PrintedCall
public import Idealize.ShloMosaic.Lib.Claim

@[expose] public section

noncomputable section

namespace Cert.Proof

open Idealize.ShloMosaic Idealize.SL.Sem

theorem frame_hidden : Cert.quiescent_Hidden := fun m g _ => PrintedStates.frame_all m g

theorem frame_hidden_ideal : Cert.quiescent_HiddenIdeal := fun m g _ => States.frame_all m g

/-- The reference keeps its arguments, and has no semaphore to use. -/
theorem frame_hidden_ref : Cert.quiescent_HiddenReferenceIdeal := fun m g _ =>
  (θ_run _ _ _).mono (fun _ h => ⟨fun c => (h c).2, sem_eq_zero_of_no_sems rfl _⟩) (Scan.value m g)

open Cert.HiddenIdeal in
/-- From the call's own arguments the reference's result is the call's. -/
theorem same_states (m : (ℓ : Loc nD τ sig) → Buf (Elt Ideal) ℓ)
    (m' : (ℓ : Loc Cert.HiddenReferenceIdeal.nD Cert.HiddenReferenceIdeal.τ Cert.HiddenReferenceIdeal.sig) → Buf (Elt Ideal) ℓ) (c : Dev nD)
    (h0 : m' ((c.tc : Thread Cert.HiddenReferenceIdeal.nD Cert.HiddenReferenceIdeal.τ).loc Cert.HiddenReferenceIdeal.main_arg0) = m ((c.tc : Thread nD τ).loc main_arg0))
    (h1 : m' ((c.tc : Thread Cert.HiddenReferenceIdeal.nD Cert.HiddenReferenceIdeal.τ).loc Cert.HiddenReferenceIdeal.main_arg1) = m ((c.tc : Thread nD τ).loc main_arg1))
    (h2 : m' ((c.tc : Thread Cert.HiddenReferenceIdeal.nD Cert.HiddenReferenceIdeal.τ).loc Cert.HiddenReferenceIdeal.main_arg2) = m ((c.tc : Thread nD τ).loc main_arg2))
    (h3 : m' ((c.tc : Thread Cert.HiddenReferenceIdeal.nD Cert.HiddenReferenceIdeal.τ).loc Cert.HiddenReferenceIdeal.main_arg3) = m ((c.tc : Thread nD τ).loc main_arg3))
    (h4 : m' ((c.tc : Thread Cert.HiddenReferenceIdeal.nD Cert.HiddenReferenceIdeal.τ).loc Cert.HiddenReferenceIdeal.main_arg4) = m ((c.tc : Thread nD τ).loc main_arg4))
    (h5 : m' ((c.tc : Thread Cert.HiddenReferenceIdeal.nD Cert.HiddenReferenceIdeal.τ).loc Cert.HiddenReferenceIdeal.main_arg5) = m ((c.tc : Thread nD τ).loc main_arg5))
    (h6 : m' ((c.tc : Thread Cert.HiddenReferenceIdeal.nD Cert.HiddenReferenceIdeal.τ).loc Cert.HiddenReferenceIdeal.main_arg6) = m ((c.tc : Thread nD τ).loc main_arg6))
    (h7 : m' ((c.tc : Thread Cert.HiddenReferenceIdeal.nD Cert.HiddenReferenceIdeal.τ).loc Cert.HiddenReferenceIdeal.main_arg7) = m ((c.tc : Thread nD τ).loc main_arg7))
    (h8 : m' ((c.tc : Thread Cert.HiddenReferenceIdeal.nD Cert.HiddenReferenceIdeal.τ).loc Cert.HiddenReferenceIdeal.main_arg8) = m ((c.tc : Thread nD τ).loc main_arg8)) :
    Cert.HiddenReferenceIdeal.Step.R_main_v4 (Scan.after m' c 20) = States.result m c := by
  have H : Cell.Scanned (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (Scan.after m' c) := by
    refine ⟨?_, fun k => rfl⟩
    show Scan.start m' c = _
    unfold Scan.start
    rw [h0, h1, h2, h3, h4, h5, h6, h7, h8]
  exact Cell.same H

theorem algebraic_hidden : Cert.algebraic_HiddenIdeal_HiddenReferenceIdeal := fun m g m' g' _ hargs =>
  ⟨fun c => States.result m c, States.value m g,
    (θ_run _ _ _).mono (fun _ h c => ⟨(h c).1.trans (by
        obtain ⟨h0, h1, h2, h3, h4, h5, h6, h7, h8⟩ := hargs c
        exact same_states m m' c h0 h1 h2 h3 h4 h5 h6 h7 h8), (h c).2⟩) (Scan.value m' g')⟩

end Cert.Proof

end
-- ==== Proof.Scores.Call.lean ====
/-
  The normalize call as a whole: it runs to its end, keeps its arguments, and leaves each logit less its row's entry of
  the first column of the log-sum-exp array. Its last block reaches over the arrays' end; what stands there in the
  buffers is left open, and nothing of it is written back.
-/
module

public import proofs.«01_k».proof.Proof.Gen.ScoresIdeal.Frame
public import proofs.«01_k».proof.Proof.Gen.ScoresIdeal.Skeleton
public import Idealize.ShloMosaic.Lib.Claim
public import Idealize.ShloMosaic.Lib.Pipeline.Value
public import Idealize.ShloMosaic.Lib.Pipeline.ValueKit.Geometry
public import Idealize.ShloMosaic.Lib.ValueIdx
public import Idealize.ShloMosaic.Lib.Writes

@[expose] public section

noncomputable section

namespace Cert.Proof.Scores

open Cert.ScoresIdeal Cert.ScoresIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Idealize.ShloMosaic.ValueIdx (ix2)

variable {F : FTy → Type} [FloatOps F]

local notation "𝕄" => MT nD τ sig Unit (Elt F) ℕ (UR sig nD τ) ℕ

/-! ## One block -/

/-- A block of scores: each logit of the block, less its row's entry of the first column. -/
def less (X : Vec F S320x2048 .bf16) (L : Vec F S320x128 .f32) : Vec F S320x2048 .f32 := fun z =>
  FloatOps.subf (FloatOps.extf .f32 bitsLt_bf16_f32 (X z)) (L (ix2 (z 0) (0 : Fin 128)))

theorem pay_eq (M : Memref sig .tc .vmem S320x128 .f32) (f : M.view.ty.Contents (Elt F)) (X : Vec F S320x2048 .bf16) :
    k0_pay1 (M.view.readAt (Elt F) (Rect.unit (s := S320x128) ![0, 0] S320x1.size inb_S320x128_S320x1_0_0).toLoadRect f) X
      = less X (M.view.read (Elt F) f) := by
  funext z
  have e : broadcastTo S320x2048 (M.view.readAt (Elt F) (Rect.unit (s := S320x128) ![0, 0] S320x1.size inb_S320x128_S320x1_0_0).toLoadRect f : Vec F S320x1 .f32)
      broadcasts_S320x1_S320x2048 z = M.view.read (Elt F) f (ix2 (z 0) (0 : Fin 128)) :=
    (broadcastTo_apply _ _ z (ix2 (z 0) (0 : Fin 1)) (fun a => by match a with | 0 => rfl | 1 => rfl)).trans
      (congrArg (M.view.read (Elt F) f) (funext fun a => by match a with
        | 0 => exact Fin.ext (by simp [Rect.unit, LoadRect.idx, Rect.toLoadRect, ix2])
        | 1 => rfl))
  show FloatOps.subf (FloatOps.extf .f32 bitsLt_bf16_f32 (X z)) _ = _
  unfold less
  rw [← e]

/-- A store of a whole block leaves what was stored. -/
theorem read_stored [∀ e, Nonempty (Elt F e)] {s : Shape} {e : EltTy} (v : View sig .tc .vmem s e) (f : v.ty.Contents (Elt F))
    {off : Fin s.rank → Nat} (h : off = fun _ => 0) (inb : ∀ a, off a + s.size a ≤ s.size a) (w : s.Idx → Elt F e) :
    v.read (Elt F) (v.writes (Elt F) f [⟨Rect.unit off s.size inb, w⟩]) = w := by
  subst h
  rw [View.read_writes_eq_canon _ _ _ (fun y => ⟨_, List.mem_singleton_self _, by
    show y ∈ (Rect.whole s).set
    rw [Rect.set_whole]; exact Finset.mem_univ y⟩), View.canon_unit_zero rfl]

/-- The body, on any whole buffers: the operands' buffers are kept, the result's takes the scores. -/
theorem body (c : Dev nD) (i : grid0.Coords) (M1 : Memref sig .tc .vmem S320x2048 .bf16) (h1 : M1.IsWhole)
    (M2 : Memref sig .tc .vmem S320x128 .f32) (h2 : M2.IsWhole) (M3 : Memref sig .tc .vmem S320x2048 .f32) (h3 : M3.IsWhole)
    (X1 : Vec F S320x2048 .bf16) (X2 : Vec F S320x128 .f32) (X3 : Vec F S320x2048 .f32) (E : Set ℕ) (Q : PUnit → sProp 𝕄) :
    iprop(owns (c : Thread nD τ) M1 fullShare X1 ∗ owns (c : Thread nD τ) M2 fullShare X2 ∗ owns (c : Thread nD τ) M3 fullShare X3
        ∗ (iprop(owns (c : Thread nD τ) M1 fullShare X1 ∗ owns (c : Thread nD τ) M2 fullShare X2
            ∗ owns (c : Thread nD τ) M3 fullShare (less X1 X2)) -∗ Q ⟨⟩))
      ⊢ wp frame (wpE (defs₀ (F := F)) Variants.none (c : Thread nD τ) none) E (cc0__norm_kernel i M1 h1 M2 h2 M3 h3) Q := by
  rw [cc0__norm_kernel_eq_skeleton]
  unfold cc0__norm_kernel_skel
  unfold owns
  rw [h1.set_eq_univ, h2.set_eq_univ, h3.set_eq_univ]
  iintro ⟨⟨%f1, %e1, H1⟩, ⟨%f2, %e2, H2⟩, ⟨%f3, -, H3⟩, Hk⟩
  subst e1 e2
  sl_exec
  sl_step
  iapply Hk
  isplitl [H1]; · iexists f1; isplitr; (· ipureintro; rfl); iexact H1
  isplitl [H2]; · iexists f2; isplitr; (· ipureintro; rfl); iexact H2
  iexists _; isplitr; swap; (· iexact H3)
  ipureintro
  refine (read_stored _ _ (by funext a; fin_cases a <;> rfl) _ _).trans ?_
  rw [pay_eq]
  exact congrArg (less · _) (View.ld_unit_zero (by funext a; fin_cases a <;> rfl) _ (M1.view.read (Elt F) f1))

/-! ## The call's data -/

variable (m : (ℓ : Loc nD τ sig) → Buf (Elt F) ℓ) (ρ : Dev nD → PrngReg)

/-- The logits' block on the columns inside the array, filled out past the end with a word that nothing reads. -/
def logitBlk (c : Dev nD) (t : Fin cfg0.N) : Vec F S320x2048 .bf16 :=
  win0_0.fill (grid0.coords t) (fun _ => Scalar.ofBits .bf16 0#16) (iblk m c 0 t)

def data (_ : Fin 1) (c : Dev nD) : Dat τ (Elt F) Unit ℕ (UR sig nD τ) ℕ cfg0 c where
  A w := V m c (Pipeline.arrRef spec0 w)
  Φ _ := Pipeline.ΦA spec0 c
  q _ := fullShare
  owed _ := 0
  after w t := match w with
    | ⟨0, _⟩ => logitBlk m c t
    | ⟨1, _⟩ => iblk m c 1 t
    | ⟨2, _⟩ => less (logitBlk m c t) (iblk m c 1 t)

theorem data_A (c : Dev nD) (w : Fin cfg0.W) : (data m 0 c).A w = V m c (Pipeline.arrRef spec0 w) := by dsimp only [data]

theorem found0 (c : Dev nD) (t : Fin cfg0.N) (d) : (data m 0 c).before 0 t d = win0_0.fill (grid0.coords t) d (iblk m c 0 t) := by
  unfold Dat.before; rw [if_pos (fetch0_0 t)]; rfl
theorem found1 (c : Dev nD) (t : Fin cfg0.N) (d) : (data m 0 c).before 1 t d = iblk m c 1 t :=
  before0_1_of m (data m 0 c) (data_A m c 1) (fun _ => by dsimp only [data]) t d

/-- Blocks that agree inside the array have scores that agree there. -/
theorem cut_less (t : Fin cfg0.N) (X Y : Vec F S320x2048 .bf16) (L : Vec F S320x128 .f32)
    (h : win0_0.cut (grid0.coords t) X = win0_0.cut (grid0.coords t) Y) :
    win0_2.cut (grid0.coords t) (less X L) = win0_2.cut (grid0.coords t) (less Y L) := by
  funext j
  have hj : X (win0_2.xinj (grid0.coords t) j) = Y (win0_2.xinj (grid0.coords t) j) := congrFun h j
  show less X L (win0_2.xinj (grid0.coords t) j) = less Y L (win0_2.xinj (grid0.coords t) j)
  unfold less
  rw [hj]

theorem obligation (c : Dev nD) : BodyObligationLoose (data (F := F) m 0 c) (defs₀ (F := F)) Variants.none () Set.univ := fun t => by
  rw [bigSep_W0, bigSep_W0]
  simp only
  rw [show (data m 0 c).Φ t.succ = (data m 0 c).Φ t.castSucc from rfl,
    show (data m 0 c).owesAt () t.succ = (data m 0 c).owesAt () t.castSucc from rfl]
  iintro ⟨HΦ, Ho, ⟨%d0, H0⟩, ⟨%d1, H1⟩, ⟨%d2, H2⟩⟩
  rw [found0, found1]
  iapply (body c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (win0_0.fill (grid0.coords t) d0 (iblk m c 0 t)) (iblk m c 1 t) _ Set.univ _)
  isplitl [H0]; · iexact H0
  isplitl [H1]; · iexact H1
  isplitl [H2]; · iexact H2
  iintro ⟨H0, H1, H2⟩
  isplitl [HΦ]; · iexact HΦ
  isplitl [Ho]; · iexact Ho
  have hx : win0_0.cut (grid0.coords t) (logitBlk m c t) = iblk m c 0 t := win0_0.cut_fill _ _ _
  have hs : win0_2.fill (grid0.coords t) (less (win0_0.fill (grid0.coords t) d0 (iblk m c 0 t)) (iblk m c 1 t))
      (win0_2.cut (grid0.coords t) (less (logitBlk m c t) (iblk m c 1 t)))
      = less (win0_0.fill (grid0.coords t) d0 (iblk m c 0 t)) (iblk m c 1 t) := by
    rw [cut_less t (logitBlk m c t) (win0_0.fill (grid0.coords t) d0 (iblk m c 0 t)) _ (hx.trans (win0_0.cut_fill _ _ _).symm)]
    exact win0_2.fill_cut _ _
  isplitl [H0]
  · iexists d0
    change _ ⊢ owns (c : Thread nD τ) (st0_0 t) fullShare (win0_0.fill (grid0.coords t) d0 (win0_0.cut (grid0.coords t) (logitBlk m c t)))
    rw [hx]; try iexact H0
  isplitl [H1]; · iexact H1
  iexists less (win0_0.fill (grid0.coords t) d0 (iblk m c 0 t)) (iblk m c 1 t)
  change _ ⊢ owns (c : Thread nD τ) (st0_2 t) fullShare (win0_2.fill (grid0.coords t) (less (win0_0.fill (grid0.coords t) d0 (iblk m c 0 t)) (iblk m c 1 t))
      (win0_2.cut (grid0.coords t) (less (logitBlk m c t) (iblk m c 1 t))))
  rw [hs]; try iexact H2

set_option backward.isDefEq.respectTransparency.types false in
/-- The run: every array at what the call's data make of it, every counter at zero. -/
theorem run_end : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => obligation m c) (hshare := fun c => (data m 0 c).share_full fun _ => rfl)
    (howed := fun _ _ => rfl) (V := V m) (hmain := hmain m Variants.none) (hA := data_A m) (hΦ := fun _ _ => rfl)

/-- The call runs to its end, its arguments end as they began, and every counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (data m) (data_A m) ((θ_run defs _ _).mono (fun _ h => h.1) (run_end m ρ)))
    ((θ_run defs _ _).mono (fun _ h => h.2) (run_end m ρ))

/-! ## What the call leaves -/

/-- The scores: each logit, less its row's entry of the first column. -/
def result (c : Dev nD) : Vec F S320x100000 .f32 := fun p =>
  FloatOps.subf (FloatOps.extf .f32 bitsLt_bf16_f32 ((m ((c.tc : Thread nD τ).loc main_arg0) : Vec F S320x100000 .bf16) p))
    ((m ((c.tc : Thread nD τ).loc main_arg1) : Vec F S320x128 .f32) (ix2 (p 0) (0 : Fin 128)))

theorem at1 : ∀ t : Fin cfg0.N, win0_1.index t = ![0, 0] := (by decide +kernel : ∀ t : Fin grid0.N, win0_1.index t = ![0, 0])
theorem at2 : ∀ t : Fin cfg0.N, win0_2.index t = ![0, t.val] := (by decide +kernel : ∀ t : Fin grid0.N, win0_2.index t = ![0, t.val])

theorem lse_eq (c : Dev nD) (t : Fin cfg0.N) : iblk m c 1 t = m ((c.tc : Thread nD τ).loc main_arg1) := by
  funext z
  show m ((c.tc : Thread nD τ).loc main_arg1) _ = m ((c.tc : Thread nD τ).loc main_arg1) _
  blk_ext [at1]

theorem final (c : Dev nD) : (data m 0 c).arrAt 2 cfg0.N = result m c := by
  refine (data m 0 c).arrAt_eq_of_covers 2 _ (by decide +kernel) fun t hf y => ?_
  blk_simp
  rw [show (data m 0 c).after 2 t = less (logitBlk m c t) (iblk m c 1 t) from rfl, lse_eq]
  have h0 : (((win0_2.blk t).view.emb y) 0).val = (y 0).val := by blk_simp [at2]
  have e0 : (win0_2.blk t).view.emb y 0 = (win0_2.xinj (grid0.coords t) y) 0 := Fin.ext h0
  have hx : logitBlk m c t (win0_2.xinj (grid0.coords t) y)
      = (m ((c.tc : Thread nD τ).loc main_arg0) : Vec F S320x100000 .bf16) ((win0_2.blk t).view.emb y) :=
    congrFun (win0_0.cut_fill (grid0.coords t) _ (iblk m c 0 t)) y
  unfold result less
  rw [e0, hx]

/-- The call leaves its result and keeps its arguments. -/
theorem value : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  have hv : θ_run defs (onTc (τ := τ) (main (F := F))) ⟨m, fun _ => 0, ρ⟩ (fun r => ∀ c : Dev nD,
      r.2.mem ((c.tc : Thread nD τ).loc main_v0) = result m c) :=
    (θ_run defs _ _).mono (fun _ h c => ((h.1 c).1 2).trans (final m c)) (run_end m ρ)
  (θ_run defs _ _).mono (fun _ h c => ⟨h.2 c, h.1.1 c⟩) (θ_run_and (frame_all m ρ) hv)

end Cert.Proof.Scores

end
-- ==== Proof.Scores.Claims.lean ====
/-
  The normalize call's claims: the three frames and the equation.
-/
module

public import proofs.«01_k».proof.Defs
public import proofs.«01_k».proof.Proof.Scores.Call
public import proofs.«01_k».proof.Proof.Gen.Scores
public import proofs.«01_k».proof.Proof.Gen.ScoresReferenceIdeal
public import Idealize.ShloMosaic.Lib.StableHlo.RunRead

@[expose] public section

noncomputable section

namespace Cert.Proof

open Idealize.ShloMosaic Idealize.ShloMosaic.TcCoe Idealize.ShloMosaic.Tactic Idealize.SL.Sem
open Idealize.ShloMosaic.ValueIdx (ix2)

namespace Scores

variable {F : FTy → Type} [FloatOps F]

/-- The printed call's body is the idealized one's: nothing was rewritten. -/
theorem same_body : Cert.Scores.defs₀ (F := F) = Cert.ScoresIdeal.defs₀ (F := F) := by
  unfold Cert.Scores.defs₀ Cert.ScoresIdeal.defs₀
  refine congrArg Defs.onTc ?_
  funext l a
  match l, a with
  | 0, (t, s) => rfl

theorem same_defs : Cert.Scores.defs (F := F) = Cert.ScoresIdeal.defs (F := F) := by
  unfold Cert.Scores.defs Cert.ScoresIdeal.defs
  exact congrArg (Pipeline.defs _) same_body

end Scores

theorem frame_scores : Cert.quiescent_Scores := fun m g _ => by
  rw [Scores.same_defs]
  exact Scores.frame_all (F := Bits) m g

theorem frame_scores_ideal : Cert.quiescent_ScoresIdeal := fun m g _ => Scores.frame_all m g

namespace ScoresRef

open Cert.ScoresReferenceIdeal Cert.ScoresReferenceIdeal.Gen

variable {F : FTy → Type} [FloatOps F]

/-- The reference's four operations. -/
abbrev ops : List (HloOp τ sig (Elt F)) :=
  [StableHlo.unary main_arg0 main_v0 ((extf .f32 · bitsLt_bf16_f32) : (⟨S320x100000, .bf16⟩ : BufTy).Contents (Elt F) → (⟨S320x100000, .f32⟩ : BufTy).Contents (Elt F)),
    StableHlo.unary main_arg1 main_v1 ((extractStridedSlice S320x1 ![0, 0] · slices_S320x128_S320x1_0_0) : (⟨S320x128, .f32⟩ : BufTy).Contents (Elt F) → (⟨S320x1, .f32⟩ : BufTy).Contents (Elt F)),
    StableHlo.unary main_v1 main_v2 (broadcastInDim S320x100000 ![0, 1] bcast_S320x1_S320x100000_0_1 : (⟨S320x1, .f32⟩ : BufTy).Contents (Elt F) → (⟨S320x100000, .f32⟩ : BufTy).Contents (Elt F)),
    StableHlo.binary main_v0 main_v2 main_v3 (subf (F := F) (s := S320x100000) (φ := .f32) : (⟨S320x100000, .f32⟩ : BufTy).Contents (Elt F) → (⟨S320x100000, .f32⟩ : BufTy).Contents (Elt F) → (⟨S320x100000, .f32⟩ : BufTy).Contents (Elt F))]

theorem main_eq (d : Dev nD) : main (F := F) d = StableHlo.seq (ops (F := F)) := by
  simp only [main, ops, StableHlo.seq, bind_assoc, pure_bind]

theorem ops_sub : (ops (F := F)).Forall fun op => op.bufs ⊆ StableHlo.tcRefs τ sig :=
  ⟨StableHlo.unary_bufs_sub .., StableHlo.unary_bufs_sub .., StableHlo.unary_bufs_sub .., StableHlo.binary_bufs_sub ..⟩

theorem ops_fresh : ∀ op ∈ (ops (F := F)), op.fresh = ∅ :=
  List.forall_iff_forall_mem.mp (StableHlo.forall_fresh_of_map (ops := ops (F := F)) rfl)

/-- Where the reference ends: its result buffer and its two arguments. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = StableHlo.after ops (StableHlo.launchContents m d) (Proc.devRef .tc b))
      ∧ r.2.sem = fun _ => 0 :=
  (θ_run _ _ _).mono (fun r hr => ⟨hr, sem_eq_zero_of_no_sems rfl _⟩)
    (StableHlo.run_seq (by decide) (by decide) defs main (fun _ => ops) main_eq (fun _ => ops_sub) m ρ (fun _ => ops_fresh))

theorem keep0 (W : Valuation τ sig (Elt F)) : StableHlo.after ops W (Proc.devRef .tc main_arg0) = W (Proc.devRef .tc main_arg0) :=
  StableHlo.after_of_writes_sub ops W (W := [main_v0, main_v1, main_v2, main_v3]) (StableHlo.forall_writes_sub_of_map rfl) (by decide)

theorem keep1 (W : Valuation τ sig (Elt F)) : StableHlo.after ops W (Proc.devRef .tc main_arg1) = W (Proc.devRef .tc main_arg1) :=
  StableHlo.after_of_writes_sub ops W (W := [main_v0, main_v1, main_v2, main_v3]) (StableHlo.forall_writes_sub_of_map rfl) (by decide)

/-- The reference's result at a point. -/
theorem result_at (W : Valuation τ sig (Elt F)) (y : S320x100000.Idx) :
    (StableHlo.after ops W (Proc.devRef .tc main_v3) : Vec F S320x100000 .f32) y
      = FloatOps.subf (FloatOps.extf .f32 bitsLt_bf16_f32 ((W (Proc.devRef .tc main_arg0) : Vec F S320x100000 .bf16) y))
          ((W (Proc.devRef .tc main_arg1) : Vec F S320x128 .f32) (ix2 (y 0) (0 : Fin 128))) := by
  after_reads_simp
  unfold subf
  refine congrArg (FloatOps.subf (FloatOps.extf .f32 bitsLt_bf16_f32 ((W (Proc.devRef .tc main_arg0) : Vec F S320x100000 .bf16) y))) (congrArg (W (Proc.devRef .tc main_arg1) : Vec F S320x128 .f32) ?_)
  funext a
  fin_cases a
  · exact Fin.ext (Nat.zero_add _)
  · rfl

end ScoresRef

theorem frame_scores_ref : Cert.quiescent_ScoresReferenceIdeal := fun m g _ =>
  (θ_run _ _ _).mono (fun _ h => ⟨fun c => ⟨(h.1 c _).trans (ScoresRef.keep0 _), (h.1 c _).trans (ScoresRef.keep1 _)⟩, h.2⟩) (ScoresRef.run_main m g)

/-- The call's result is the reference's: each logit less its row's first entry. -/
theorem algebraic_scores : Cert.algebraic_ScoresIdeal_ScoresReferenceIdeal := fun m g m' g' _ hargs =>
  ⟨fun c => Scores.result m c, Scores.value m g,
    (θ_run _ _ _).mono (fun _ h c => ⟨(h.1 c _).trans (by
        funext y
        obtain ⟨h0, h1⟩ := hargs c
        refine (ScoresRef.result_at _ y).trans ?_
        have e0 : (StableHlo.launchContents m' c (Proc.devRef .tc Cert.ScoresReferenceIdeal.main_arg0)) = m ((c.tc : Thread Cert.ScoresIdeal.nD Cert.ScoresIdeal.τ).loc Cert.ScoresIdeal.main_arg0) := h0
        have e1 : (StableHlo.launchContents m' c (Proc.devRef .tc Cert.ScoresReferenceIdeal.main_arg1)) = m ((c.tc : Thread Cert.ScoresIdeal.nD Cert.ScoresIdeal.τ).loc Cert.ScoresIdeal.main_arg1) := h1
        rw [e0, e1]
        rfl), (h.1 c _).trans (ScoresRef.keep0 _), (h.1 c _).trans (ScoresRef.keep1 _)⟩) (ScoresRef.run_main m' g')⟩

end Cert.Proof

end
-- ==== Proof.Logits.Call.lean ====
/-
  The projection call as a whole: it runs to its end, keeps its arguments, and leaves each row's product with the
  vocabulary's weights, plus the bias. Its last block reaches over the arrays' end; what stands there in the buffers is
  left open, and so are the block maxima, sums and candidates that the call also keeps.
-/
module

public import proofs.«01_k».proof.Proof.Gen.LogitsIdeal.Frame
public import proofs.«01_k».proof.Proof.Gen.LogitsIdeal.Skeleton
public import Idealize.ShloMosaic.Lib.Claim
public import Idealize.ShloMosaic.Lib.Pipeline.Value
public import Idealize.ShloMosaic.Lib.Pipeline.ValueKit.Geometry
public import Idealize.ShloMosaic.Lib.Pointwise
public import Idealize.ShloMosaic.Lib.ValueIdx
public import Idealize.ShloMosaic.Lib.Writes
public import Idealize.ShloMosaic.Lib.StableHlo.RunRead

@[expose] public section

noncomputable section

namespace Cert.Proof.Logits

open Cert.LogitsIdeal Cert.LogitsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationLoose)

variable {F : FTy → Type} [FloatOps F]

local notation "𝕄" => MT nD τ sig Unit (Elt F) ℕ (UR sig nD τ) ℕ

/-! ## One block -/

/-- A load of a whole block reads what the buffer holds. -/
theorem load_all [∀ e, Nonempty (Elt F e)] {s : Shape} {e : EltTy} (v : View sig .tc .vmem s e) (f : v.ty.Contents (Elt F))
    {off : Fin s.rank → Nat} (h : off = fun _ => 0) (inb : ∀ a, off a + s.size a ≤ s.size a) :
    v.readAt (Elt F) (Rect.unit off s.size inb).toLoadRect f = v.read (Elt F) f :=
  View.ld_unit_zero h _ (v.read (Elt F) f)

/-- A store of a whole block leaves what was stored. -/
theorem read_all [∀ e, Nonempty (Elt F e)] {s : Shape} {e : EltTy} (v : View sig .tc .vmem s e) (f : v.ty.Contents (Elt F))
    {off : Fin s.rank → Nat} (h : off = fun _ => 0) (inb : ∀ a, off a + s.size a ≤ s.size a) (w : s.Idx → Elt F e) :
    v.read (Elt F) (v.writes (Elt F) f [⟨Rect.unit off s.size inb, w⟩]) = w := by
  subst h
  rw [View.read_writes_eq_canon _ _ _ (fun y => ⟨_, List.mem_singleton_self _, by
    show y ∈ (Rect.whole s).set
    rw [Rect.set_whole]; exact Finset.mem_univ y⟩), View.canon_unit_zero rfl]

/-- The body, on any whole buffers: the operands' buffers are kept, the logits' takes the product, and the other three
end at some contents. -/
theorem body (c : Dev nD) (i : grid0.Coords) (M1 : Memref sig .tc .vmem S320x512 .f32) (h1 : M1.IsWhole)
    (M2 : Memref sig .tc .vmem S2048x512 .f32) (h2 : M2.IsWhole) (M3 : Memref sig .tc .vmem S1x2048 .f32) (h3 : M3.IsWhole)
    (M4 : Memref sig .tc .vmem S320x2048 .bf16) (h4 : M4.IsWhole) (M5 : Memref sig .tc .vmem S320x128 .f32) (h5 : M5.IsWhole)
    (M6 : Memref sig .tc .vmem S320x128 .f32) (h6 : M6.IsWhole) (M7 : Memref sig .tc .vmem S1x320x16 .f32) (h7 : M7.IsWhole)
    (X1 : Vec F S320x512 .f32) (X2 : Vec F S2048x512 .f32) (X3 : Vec F S1x2048 .f32) (E : Set ℕ) (Q : PUnit → sProp 𝕄) :
    iprop(owns (c : Thread nD τ) M1 fullShare X1 ∗ owns (c : Thread nD τ) M2 fullShare X2 ∗ owns (c : Thread nD τ) M3 fullShare X3
        ∗ (∃ X, owns (c : Thread nD τ) M4 fullShare X) ∗ (∃ X, owns (c : Thread nD τ) M5 fullShare X)
        ∗ (∃ X, owns (c : Thread nD τ) M6 fullShare X) ∗ (∃ X, owns (c : Thread nD τ) M7 fullShare X)
        ∗ (iprop(owns (c : Thread nD τ) M1 fullShare X1 ∗ owns (c : Thread nD τ) M2 fullShare X2 ∗ owns (c : Thread nD τ) M3 fullShare X3
            ∗ owns (c : Thread nD τ) M4 fullShare (k0_pay5 X1 X2 X3) ∗ (∃ X, owns (c : Thread nD τ) M5 fullShare X)
            ∗ (∃ X, owns (c : Thread nD τ) M6 fullShare X) ∗ (∃ X, owns (c : Thread nD τ) M7 fullShare X)) -∗ Q ⟨⟩))
      ⊢ wp frame (wpE (defs₀ (F := F)) Variants.none (c : Thread nD τ) none) E (cc0__big_kernel i M1 h1 M2 h2 M3 h3 M4 h4 M5 h5 M6 h6 M7 h7) Q := by
  rw [cc0__big_kernel_eq_skeleton]
  unfold cc0__big_kernel_skel
  rw [k0_part1_eq_skeleton, k0_part2_eq_skeleton, k0_part3_eq_skeleton]
  unfold k0_part1_skel k0_part2_skel k0_part3_skel
  unfold owns
  rw [h1.set_eq_univ, h2.set_eq_univ, h3.set_eq_univ, h4.set_eq_univ, h5.set_eq_univ, h6.set_eq_univ, h7.set_eq_univ]
  iintro ⟨⟨%f1, %e1, H1⟩, ⟨%f2, %e2, H2⟩, ⟨%f3, %e3, H3⟩, ⟨%X4, %f4, -, H4⟩, ⟨%X5, %f5, -, H5⟩, ⟨%X6, %f6, -, H6⟩, ⟨%X7, %f7, -, H7⟩, Hk⟩
  subst e1 e2 e3
  by_cases hi : Scalar.cmpi .ne (Scalar.extui (Scalar.cmpi .eq (BitVec.ofNat 32 (i 0).val) 0#32) : BitVec 32) 0#32 = 1#1
  all_goals
    sl_exec
    sl_step
    iapply Hk
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]
    · iexists _; isplitr; swap; (· iexact H4)
      ipureintro
      refine (read_all _ _ (by funext a; fin_cases a <;> rfl) _ _).trans ?_
      rw [load_all _ _ (by funext a; fin_cases a <;> rfl), load_all _ _ (by funext a; fin_cases a <;> rfl), load_all _ _ (by funext a; fin_cases a <;> rfl)]
    isplitl [H5]; · iexists _; iexists _; isplitr; swap; (· iexact H5); ipureintro; rfl
    isplitl [H6]; · iexists _; iexists _; isplitr; swap; (· iexact H6); ipureintro; rfl
    iexists _; iexists _; isplitr; swap; (· iexact H7); ipureintro; rfl

/-! ## The call's data -/

variable (m : (ℓ : Loc nD τ sig) → Buf (Elt F) ℓ) (ρ : Dev nD → PrngReg)

/-- The weights' block on the rows inside the array, filled out past the end with a word that nothing claimed reads. -/
def weightBlk (c : Dev nD) (t : Fin cfg0.N) : Vec F S2048x512 .f32 :=
  win0_1.fill (grid0.coords t) (fun _ => Scalar.ofBits .f32 0#32) (iblk m c 1 t)

/-- The bias row's block, filled out the same way. -/
def biasBlk (c : Dev nD) (t : Fin cfg0.N) : Vec F S1x2048 .f32 :=
  win0_2.fill (grid0.coords t) (fun _ => Scalar.ofBits .f32 0#32) (iblk m c 2 t)

def data (_ : Fin 1) (c : Dev nD) : Dat τ (Elt F) Unit ℕ (UR sig nD τ) ℕ cfg0 c where
  A w := V m c (Pipeline.arrRef spec0 w)
  Φ _ := Pipeline.ΦA spec0 c
  q _ := fullShare
  owed _ := 0
  after w t := match w with
    | ⟨0, _⟩ => iblk m c 0 t
    | ⟨1, _⟩ => weightBlk m c t
    | ⟨2, _⟩ => biasBlk m c t
    | ⟨3, _⟩ => k0_pay5 (iblk m c 0 t) (weightBlk m c t) (biasBlk m c t)
    | ⟨4, _⟩ => fun _ => Scalar.ofBits .f32 0#32
    | ⟨5, _⟩ => fun _ => Scalar.ofBits .f32 0#32
    | ⟨6, _⟩ => fun _ => Scalar.ofBits .f32 0#32

/-- The windows left open: the three that gather, and the logits' where `b` says so. -/
def left (b : Bool) : Fin cfg0.W → Bool
  | ⟨0, _⟩ => false
  | ⟨1, _⟩ => false
  | ⟨2, _⟩ => false
  | ⟨3, _⟩ => b
  | ⟨_, _⟩ => true

/-- Where the logits are claimed: their part inside the array is the same whatever stands past the operands' end. -/
def Same (m : (ℓ : Loc nD τ sig) → Buf (Elt F) ℓ) : Prop := ∀ (c : Dev nD) (t : Fin cfg0.N) (X : Vec F S320x512 .f32) (d1 : Vec F S2048x512 .f32) (d2 : Vec F S1x2048 .f32),
  win0_3.cut (grid0.coords t) (k0_pay5 X (weightBlk m c t) (biasBlk m c t))
    = win0_3.cut (grid0.coords t) (k0_pay5 X (win0_1.fill (grid0.coords t) d1 (iblk m c 1 t)) (win0_2.fill (grid0.coords t) d2 (iblk m c 2 t)))

theorem data_A (c : Dev nD) (w : Fin cfg0.W) : (data m 0 c).A w = V m c (Pipeline.arrRef spec0 w) := by dsimp only [data]

theorem found0 (c : Dev nD) (t : Fin cfg0.N) (d) : (data m 0 c).before 0 t d = iblk m c 0 t :=
  before0_0_of m (data m 0 c) (data_A m c 0) (fun _ => by dsimp only [data]) t d
theorem found1 (c : Dev nD) (t : Fin cfg0.N) (d) : (data m 0 c).before 1 t d = win0_1.fill (grid0.coords t) d (iblk m c 1 t) := by
  unfold Dat.before; rw [if_pos (fetch0_1 t)]; rfl
theorem found2 (c : Dev nD) (t : Fin cfg0.N) (d) : (data m 0 c).before 2 t d = win0_2.fill (grid0.coords t) d (iblk m c 2 t) := by
  unfold Dat.before; rw [if_pos (fetch0_2 t)]; rfl

set_option maxHeartbeats 400000 in
theorem obligation (b : Bool) (hb : b = false → Same m) (c : Dev nD) :
    BodyObligationLoose (data (F := F) m 0 c) (defs₀ (F := F)) Variants.none () Set.univ (left b) := fun t => by
  rw [bigSep_W0, bigSep_W0]
  have e0 : left b 0 = false := rfl
  have e1 : left b 1 = false := rfl
  have e2 : left b 2 = false := rfl
  have e3 : left b 3 = b := rfl
  have e4 : left b 4 = true := rfl
  have e5 : left b 5 = true := rfl
  have e6 : left b 6 = true := rfl
  simp only [e0, e1, e2, e3, e4, e5, e6]
  rw [show (data m 0 c).Φ t.succ = (data m 0 c).Φ t.castSucc from rfl,
    show (data m 0 c).owesAt () t.succ = (data m 0 c).owesAt () t.castSucc from rfl]
  have hw : win0_1.cut (grid0.coords t) (weightBlk m c t) = iblk m c 1 t := win0_1.cut_fill _ _ _
  have hv : win0_2.cut (grid0.coords t) (biasBlk m c t) = iblk m c 2 t := win0_2.cut_fill _ _ _
  have run := fun d1 d2 => body c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (iblk m c 0 t)
    (win0_1.fill (grid0.coords t) d1 (iblk m c 1 t)) (win0_2.fill (grid0.coords t) d2 (iblk m c 2 t)) Set.univ
  iintro ⟨HΦ, Ho, ⟨%d0, H0⟩, ⟨%d1, H1⟩, ⟨%d2, H2⟩, H3, H4, H5, H6⟩
  rw [found0, found1, found2]
  obtain ⟨P, hP⟩ : ∃ P, P = k0_pay5 (iblk m c 0 t) (win0_1.fill (grid0.coords t) d1 (iblk m c 1 t)) (win0_2.fill (grid0.coords t) d2 (iblk m c 2 t)) := ⟨_, rfl⟩
  have hf : b = false → (win0 3).fill (grid0.coords t) P ((win0 3).cut (grid0.coords t) ((data m 0 c).after 3 t)) = P := fun h => by
    have hs : win0_3.cut (grid0.coords t) ((data m 0 c).after 3 t) = win0_3.cut (grid0.coords t) P := by
      rw [hP]; exact hb h c t (iblk m c 0 t) d1 d2
    generalize (data m 0 c).after 3 t = A at hs
    exact (congrArg (win0_3.fill (grid0.coords t) P) hs).trans (win0_3.fill_cut _ _)
  have run' := run d1 d2
  rw [← hP] at run'
  iapply (run' _)
  isplitl [H0]; · iexact H0
  isplitl [H1]; · iexact H1
  isplitl [H2]; · iexact H2
  isplitl [H3]
  · cases b
    · icases H3 with ⟨%d3, H3⟩; iexists _; iexact H3
    · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (weightBlk m c t)))
    rw [hw]; try iexact H1
  isplitl [H2]
  · iexists d2
    change _ ⊢ owns (c : Thread nD τ) (st0_2 t) fullShare (win0_2.fill (grid0.coords t) d2 (win0_2.cut (grid0.coords t) (biasBlk m c t)))
    rw [hv]; try iexact H2
  isplitl [H3]
  · cases b
    · iexists P; rw [hf rfl]; try iexact H3
    · iexists P; iexact H3
  isplitl [H4]; · iexact H4
  isplitl [H5]; · iexact H5
  iexact H6

set_option backward.isDefEq.respectTransparency.types false in
/-- The run: every array at what the call's data make of it, but those left open, and every counter at zero. -/
theorem run_end (b : Bool) (hb : b = false → Same m) : θ_run defs (onTc (τ := τ) (main (F := F))) (s₀ m ρ)
    (fun r => (RDat.FramePost cfg0 (fun c => (data m 0 c).toRForget (left b)) (V m)) r ∧ r.2.sem = fun _ => 0) :=
  Pipeline.θ_run_frame_forget (Q' := _) cfgs (data m) (0 : Fin 1) launch0 defs₀ Variants.none (left b) m ρ main
    (hbody := fun c => obligation m b hb c) (hshare := fun c => (data m 0 c).share_full fun _ => rfl)
    (howed := fun _ _ => rfl) (V := V m) (hmain := hmain m Variants.none) (hA := data_A m) (hΦ := fun _ _ => rfl)

/-- The call runs to its end, its arguments end as they began, and every counter ends at zero. -/
theorem frame_at (b : Bool) (hb : b = false → Same m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      (((data m 0 c).toRForget_arrAt_iff (fgt := left b) (w := 0) rfl _ _).mp ((h.1 c).1 0)).trans
        (((data m 0 c).arrAt_in 0 rfl _).trans ((data_A m c 0).trans (V_main_arg0 m c))),
      (((data m 0 c).toRForget_arrAt_iff (fgt := left b) (w := 1) rfl _ _).mp ((h.1 c).1 1)).trans
        (((data m 0 c).arrAt_in 1 rfl _).trans ((data_A m c 1).trans (V_main_arg1 m c))),
      ((h.1 c).2 main_arg2 (Pipeline.mem_restRefs_of main_arg2 (by decide) (by decide))).trans (V_main_arg2 m c)⟩, h.2⟩) (run_end m ρ b hb)

theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := frame_at m ρ true (fun h => nomatch h)

/-! ## What the call leaves, of extended reals -/

/-- One logit: a row's product with one row of the weights, plus the bias. -/
def logit {n : ℕ} (X : Vec Ideal S320x512 .f32) (W : Fin n → Fin 512 → EReal) (b : Fin n → EReal) (p : Fin 320) (q : Fin n) : EReal :=
  (∑ x : Fin 512, X (ix2 p x) * W q x) + b q

set_option maxRecDepth 16384 in
theorem pay5_at (X : Vec Ideal S320x512 .f32) (W : Vec Ideal S2048x512 .f32) (b : Vec Ideal S1x2048 .f32) (p : Fin 320) (q : Fin 2048) :
    k0_pay5 (F := Ideal) X W b (ix2 p q) = logit X (fun q x => W (ix2 q x)) (fun q => b (ix2 (0 : Fin 1) q)) p q := by
  unfold logit
  pointwise [k0_pay5, k0_pay2]
  try rfl

theorem at0 : ∀ t : Fin cfg0.N, win0_0.index t = ![0, 0] := (by decide +kernel : ∀ t : Fin grid0.N, win0_0.index t = ![0, 0])
theorem at1 : ∀ t : Fin cfg0.N, win0_1.index t = ![t.val, 0] := (by decide +kernel : ∀ t : Fin grid0.N, win0_1.index t = ![t.val, 0])
theorem at2 : ∀ t : Fin cfg0.N, win0_2.index t = ![0, t.val] := (by decide +kernel : ∀ t : Fin grid0.N, win0_2.index t = ![0, t.val])
theorem at3 : ∀ t : Fin cfg0.N, win0_3.index t = ![0, t.val] := (by decide +kernel : ∀ t : Fin grid0.N, win0_3.index t = ![0, t.val])

/-- How many of a block's columns lie inside the array. -/
theorem inside : ∀ t : Fin cfg0.N, (win0_1.xsize (grid0.coords t) 0 = win0_3.xsize (grid0.coords t) 1 ∧ win0_1.xsize (grid0.coords t) 1 = 512)
    ∧ (win0_2.xsize (grid0.coords t) 1 = win0_3.xsize (grid0.coords t) 1 ∧ win0_2.xsize (grid0.coords t) 0 = 1)
    ∧ t.val * 2048 + win0_3.xsize (grid0.coords t) 1 ≤ 100000 :=
  (by decide +kernel : ∀ t : Fin grid0.N, (win0_1.xsize (grid0.coords t) 0 = win0_3.xsize (grid0.coords t) 1 ∧ win0_1.xsize (grid0.coords t) 1 = 512)
    ∧ (win0_2.xsize (grid0.coords t) 1 = win0_3.xsize (grid0.coords t) 1 ∧ win0_2.xsize (grid0.coords t) 0 = 1)
    ∧ t.val * 2048 + win0_3.xsize (grid0.coords t) 1 ≤ 100000)

/-- The vocabulary's entry of a block's column. -/
def entry (t : Fin cfg0.N) (q : Fin 2048) (hq : q.val < win0_3.xsize (grid0.coords t) 1) : Fin 100000 :=
  ⟨t.val * 2048 + q.val, by have := (inside t).2.2; omega⟩

theorem weight_at (c : Dev nD) (t : Fin cfg0.N) (d : Vec F S2048x512 .f32) (q : Fin 2048) (x : Fin 512) (hq : q.val < win0_3.xsize (grid0.coords t) 1) :
    win0_1.fill (grid0.coords t) d (iblk m c 1 t) (ix2 q x) = (m ((c.tc : Thread nD τ).loc main_arg1) : Vec F S100000x512 .f32) (ix2 (entry t q hq) x) := by
  have hi := (inside t).1
  let j : (win0_1.xblock (grid0.coords t)).Idx := fun a => match a with
    | ⟨0, _⟩ => ⟨q.val, by show q.val < win0_1.xsize (grid0.coords t) 0; rw [hi.1]; exact hq⟩
    | ⟨1, _⟩ => ⟨x.val, by show x.val < win0_1.xsize (grid0.coords t) 1; rw [hi.2]; exact x.isLt⟩
  have e : ix2 q x = win0_1.xinj (grid0.coords t) j := by
    funext a; fin_cases a <;> rfl
  rw [e]
  refine (congrFun (win0_1.cut_fill (grid0.coords t) d (iblk m c 1 t)) j).trans ?_
  show V m c main_arg1 _ = _
  rw [V_main_arg1]
  refine congrArg (m ((c.tc : Thread nD τ).loc main_arg1) : Vec F S100000x512 .f32) ?_
  blk_ext [at1]
  all_goals try rfl

theorem row_eq (c : Dev nD) (k : Fin 100000) : (V m c main_v0 : Vec F S1x100000 .f32) (ix2 (0 : Fin 1) k) = (m ((c.tc : Thread nD τ).loc main_arg2) : Vec F S100000 .f32) (ix1 k) := by
  unfold V hostOps0
  after_reads_simp
  pointwise []
  try rfl

theorem bias_at (c : Dev nD) (t : Fin cfg0.N) (d : Vec F S1x2048 .f32) (q : Fin 2048) (hq : q.val < win0_3.xsize (grid0.coords t) 1) :
    win0_2.fill (grid0.coords t) d (iblk m c 2 t) (ix2 (0 : Fin 1) q) = (m ((c.tc : Thread nD τ).loc main_arg2) : Vec F S100000 .f32) (ix1 (entry t q hq)) := by
  have hi := (inside t).2.1
  let j : (win0_2.xblock (grid0.coords t)).Idx := fun a => match a with
    | ⟨0, _⟩ => ⟨0, by show 0 < win0_2.xsize (grid0.coords t) 0; rw [hi.2]; exact Nat.one_pos⟩
    | ⟨1, _⟩ => ⟨q.val, by show q.val < win0_2.xsize (grid0.coords t) 1; rw [hi.1]; exact hq⟩
  have e : ix2 (0 : Fin 1) q = win0_2.xinj (grid0.coords t) j := by
    funext a; fin_cases a <;> rfl
  rw [e]
  refine (congrFun (win0_2.cut_fill (grid0.coords t) d (iblk m c 2 t)) j).trans ?_
  refine Eq.trans ?_ (row_eq m c (entry t q hq))
  show V m c main_v0 _ = V m c main_v0 _
  refine congrArg (V m c main_v0 : Vec F S1x100000 .f32) ?_
  blk_ext [at2]
  all_goals try rfl

variable (n : (ℓ : Loc nD τ sig) → Buf (Elt Idealize.ShloMosaic.Ideal) ℓ)

/-- A block's logit inside the array is the vocabulary's, whatever stands past the operands' end. -/
theorem pay_at (c : Dev nD) (t : Fin cfg0.N) (X : Vec Idealize.ShloMosaic.Ideal S320x512 .f32) (d1 : Vec Idealize.ShloMosaic.Ideal S2048x512 .f32)
    (d2 : Vec Idealize.ShloMosaic.Ideal S1x2048 .f32) (p : Fin 320) (q : Fin 2048) (hq : q.val < win0_3.xsize (grid0.coords t) 1) :
    k0_pay5 X (win0_1.fill (grid0.coords t) d1 (iblk n c 1 t)) (win0_2.fill (grid0.coords t) d2 (iblk n c 2 t)) (ix2 p q)
      = logit X (fun q x => (n ((c.tc : Thread nD τ).loc main_arg1) : Vec Idealize.ShloMosaic.Ideal S100000x512 .f32) (ix2 q x))
          (fun q => (n ((c.tc : Thread nD τ).loc main_arg2) : Vec Idealize.ShloMosaic.Ideal S100000 .f32) (ix1 q)) p (entry t q hq) := by
  rw [pay5_at]
  unfold logit
  beta_reduce
  rw [bias_at n c t d2 q hq]
  exact congrArg (· + _) (Finset.sum_congr rfl fun x _ => by rw [weight_at n c t d1 q x hq])

/-- A place of the logits' moved block: its row and its column. -/
theorem place (t : Fin cfg0.N) (y : (win0_3.xblock (grid0.coords t)).Idx) :
    win0_3.xinj (grid0.coords t) y = ix2 (win0_3.xinj (grid0.coords t) y 0) (win0_3.xinj (grid0.coords t) y 1) := by
  funext a; fin_cases a <;> rfl

theorem same : Same n := fun c t X d1 d2 => by
  funext y
  show k0_pay5 X _ _ (win0_3.xinj (grid0.coords t) y) = k0_pay5 X _ _ (win0_3.xinj (grid0.coords t) y)
  rw [place]
  exact (pay_at n c t X _ _ _ _ (y 1).isLt).trans (pay_at n c t X d1 d2 _ _ (y 1).isLt).symm

/-- The logits: each row's product with the vocabulary's weights, plus the bias. -/
def result (c : Dev nD) : Vec Idealize.ShloMosaic.Ideal S320x100000 .bf16 := fun z =>
  logit (n ((c.tc : Thread nD τ).loc main_arg0)) (fun q x => (n ((c.tc : Thread nD τ).loc main_arg1) : Vec Idealize.ShloMosaic.Ideal S100000x512 .f32) (ix2 q x))
    (fun q => (n ((c.tc : Thread nD τ).loc main_arg2) : Vec Idealize.ShloMosaic.Ideal S100000 .f32) (ix1 q)) (z 0) (z 1)

theorem task_eq (c : Dev nD) (t : Fin cfg0.N) : iblk n c 0 t = n ((c.tc : Thread nD τ).loc main_arg0) := by
  funext z
  show V n c main_arg0 _ = _
  rw [V_main_arg0]
  refine congrArg (n ((c.tc : Thread nD τ).loc main_arg0) : Vec Idealize.ShloMosaic.Ideal S320x512 .f32) ?_
  blk_ext [at0]

theorem final (c : Dev nD) : (data n 0 c).arrAt 3 cfg0.N = result n c := by
  refine (data n 0 c).arrAt_eq_of_covers 3 _ (by decide +kernel) fun t hf y => ?_
  blk_simp
  rw [show (data n 0 c).after 3 t = k0_pay5 (iblk n c 0 t) (weightBlk n c t) (biasBlk n c t) from rfl, task_eq, place]
  refine (pay_at n c t _ _ _ _ _ (y 1).isLt).trans ?_
  have h0 : (((win0_3.blk t).view.emb y) 0).val = (y 0).val := by blk_simp [at3]
  have h1 : (((win0_3.blk t).view.emb y) 1).val = t.val * 2048 + (y 1).val := by blk_simp [at3]
  have e0 : win0_3.xinj (grid0.coords t) y 0 = (win0_3.blk t).view.emb y 0 := Fin.ext h0.symm
  have e1 : entry t (win0_3.xinj (grid0.coords t) y 1) (y 1).isLt = (win0_3.blk t).view.emb y 1 := Fin.ext h1.symm
  unfold result
  rw [e0, e1]

/-- The call leaves its result and keeps its arguments. -/
theorem value : θ_run defs (onTc (τ := τ) (main (F := Idealize.ShloMosaic.Ideal))) ⟨n, fun _ => 0, ρ⟩ (fun r => ∀ c : Dev nD,
      r.2.mem ((c.tc : Thread nD τ).loc main_v1_0) = result n c
      ∧ r.2.mem ((c.tc : Thread nD τ).loc main_arg0) = n ((c.tc : Thread nD τ).loc main_arg0)
      ∧ r.2.mem ((c.tc : Thread nD τ).loc main_arg1) = n ((c.tc : Thread nD τ).loc main_arg1)
      ∧ r.2.mem ((c.tc : Thread nD τ).loc main_arg2) = n ((c.tc : Thread nD τ).loc main_arg2)) :=
  have hv : θ_run defs (onTc (τ := τ) (main (F := Idealize.ShloMosaic.Ideal))) ⟨n, fun _ => 0, ρ⟩ (fun r => ∀ c : Dev nD,
      r.2.mem ((c.tc : Thread nD τ).loc main_v1_0) = result n c) :=
    (θ_run defs _ _).mono (fun _ h c => (((data n 0 c).toRForget_arrAt_iff (fgt := left false) (w := 3) rfl _ _).mp ((h.1 c).1 3)).trans (final n c))
      (run_end n ρ false fun _ => same n)
  (θ_run defs _ _).mono (fun _ h c => ⟨h.2 c, h.1.1 c⟩) (θ_run_and (frame_all n ρ) hv)

end Cert.Proof.Logits

end
-- ==== Proof.Logits.Claims.lean ====
/-
  The projection call's claims: the three frames and the equation.
-/
module

public import proofs.«01_k».proof.Defs
public import proofs.«01_k».proof.Proof.Logits.Call
public import proofs.«01_k».proof.Proof.Gen.Logits
public import proofs.«01_k».proof.Proof.Gen.LogitsReferenceIdeal
public import Idealize.ShloMosaic.Lib.StableHlo.RunRead

@[expose] public section

noncomputable section

namespace Cert.Proof

open Idealize.ShloMosaic Idealize.ShloMosaic.TcCoe Idealize.ShloMosaic.Tactic Idealize.SL.Sem

namespace Logits

variable {F : FTy → Type} [FloatOps F]

/-- The printed call's body is the idealized one's: nothing was rewritten. -/
theorem same_body : Cert.Logits.defs₀ (F := F) = Cert.LogitsIdeal.defs₀ (F := F) := by
  unfold Cert.Logits.defs₀ Cert.LogitsIdeal.defs₀
  refine congrArg Defs.onTc ?_
  funext l a
  match l, a with
  | 0, (t, s) => rfl

theorem same_defs : Cert.Logits.defs (F := F) = Cert.LogitsIdeal.defs (F := F) := by
  unfold Cert.Logits.defs Cert.LogitsIdeal.defs
  exact congrArg (Pipeline.defs _) same_body

end Logits

theorem frame_logits : Cert.quiescent_Logits := fun m g _ => by
  rw [Logits.same_defs]
  exact Logits.frame_all (F := Bits) m g

theorem frame_logits_ideal : Cert.quiescent_LogitsIdeal := fun m g _ => Logits.frame_all m g

namespace LogitsRef

open Cert.LogitsReferenceIdeal Cert.LogitsReferenceIdeal.Gen

variable {F : FTy → Type} [FloatOps F]

/-- The reference's six operations. -/
abbrev ops : List (HloOp τ sig (Elt F)) :=
  [StableHlo.unary main_arg1 main_v0 ((transpose S512x100000 [1, 0] · transposes_S100000x512_S512x100000_1_0) : (⟨S100000x512, .f32⟩ : BufTy).Contents (Elt F) → (⟨S512x100000, .f32⟩ : BufTy).Contents (Elt F)),
    StableHlo.binary main_arg0 main_v0 main_v1 ((fun l r => Host.dotGeneral dot_S320x512_S512x100000_S320x100000_1_0_0_1_n_n none l r) : (⟨S320x512, .f32⟩ : BufTy).Contents (Elt F) → (⟨S512x100000, .f32⟩ : BufTy).Contents (Elt F) → (⟨S320x100000, .f32⟩ : BufTy).Contents (Elt F)),
    StableHlo.unary main_arg2 main_v2 (broadcastInDim S1x100000 ![1] bcast_S100000_S1x100000_1 : (⟨S100000, .f32⟩ : BufTy).Contents (Elt F) → (⟨S1x100000, .f32⟩ : BufTy).Contents (Elt F)),
    StableHlo.unary main_v2 main_v3 (broadcastInDim S320x100000 ![0, 1] bcast_S1x100000_S320x100000_0_1 : (⟨S1x100000, .f32⟩ : BufTy).Contents (Elt F) → (⟨S320x100000, .f32⟩ : BufTy).Contents (Elt F)),
    StableHlo.binary main_v1 main_v3 main_v4 (addf : (⟨S320x100000, .f32⟩ : BufTy).Contents (Elt F) → (⟨S320x100000, .f32⟩ : BufTy).Contents (Elt F) → (⟨S320x100000, .f32⟩ : BufTy).Contents (Elt F)),
    StableHlo.unary main_v4 main_v5 ((truncf .bf16 · bitsLt_bf16_f32) : (⟨S320x100000, .f32⟩ : BufTy).Contents (Elt F) → (⟨S320x100000, .bf16⟩ : BufTy).Contents (Elt F))]

theorem main_eq (d : Dev nD) : main (F := F) d = StableHlo.seq (ops (F := F)) := by
  simp only [main, ops, StableHlo.seq, bind_assoc, pure_bind]

theorem ops_sub : (ops (F := F)).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..,
    StableHlo.unary_bufs_sub ..⟩

theorem ops_fresh : ∀ op ∈ (ops (F := F)), op.fresh = ∅ :=
  List.forall_iff_forall_mem.mp (StableHlo.forall_fresh_of_map (ops := ops (F := F)) rfl)

/-- Where the reference ends. -/
theorem run_main (m : (ℓ : Loc nD τ sig) → Buf (Elt F) ℓ) (ρ : Dev nD → PrngReg) :
    θ_run (defs (F := F)) (onTc (τ := τ) (main (F := F))) ⟨m, fun _ => 0, ρ⟩ fun r =>
      (∀ (d : Dev nD) (b : Ref sig .tc), r.2.mem ((d.tc : Thread nD τ).loc b) = StableHlo.after ops (StableHlo.launchContents m d) (Proc.devRef .tc b))
      ∧ r.2.sem = fun _ => 0 :=
  (θ_run _ _ _).mono (fun r hr => ⟨hr, sem_eq_zero_of_no_sems rfl _⟩)
    (StableHlo.run_seq (by decide) (by decide) defs main (fun _ => ops) main_eq (fun _ => ops_sub) m ρ (fun _ => ops_fresh))

theorem keep0 (W : Valuation τ sig (Elt F)) : StableHlo.after ops W (Proc.devRef .tc main_arg0) = W (Proc.devRef .tc main_arg0) :=
  StableHlo.after_of_writes_sub ops W (W := [main_v0, main_v1, main_v2, main_v3, main_v4, main_v5]) (StableHlo.forall_writes_sub_of_map rfl) (by decide)

theorem keep1 (W : Valuation τ sig (Elt F)) : StableHlo.after ops W (Proc.devRef .tc main_arg1) = W (Proc.devRef .tc main_arg1) :=
  StableHlo.after_of_writes_sub ops W (W := [main_v0, main_v1, main_v2, main_v3, main_v4, main_v5]) (StableHlo.forall_writes_sub_of_map rfl) (by decide)

theorem keep2 (W : Valuation τ sig (Elt F)) : StableHlo.after ops W (Proc.devRef .tc main_arg2) = W (Proc.devRef .tc main_arg2) :=
  StableHlo.after_of_writes_sub ops W (W := [main_v0, main_v1, main_v2, main_v3, main_v4, main_v5]) (StableHlo.forall_writes_sub_of_map rfl) (by decide)

set_option maxRecDepth 16384 in
/-- The reference's result at a point. -/
theorem result_at (W : Valuation τ sig (Elt Idealize.ShloMosaic.Ideal)) (p : Fin 320) (q : Fin 100000) :
    (StableHlo.after ops W (Proc.devRef .tc main_v5) : Vec Idealize.ShloMosaic.Ideal S320x100000 .bf16) (ix2 p q)
      = Logits.logit (W (Proc.devRef .tc main_arg0)) (fun q x => (W (Proc.devRef .tc main_arg1) : Vec Idealize.ShloMosaic.Ideal S100000x512 .f32) (ix2 q x))
          (fun q => (W (Proc.devRef .tc main_arg2) : Vec Idealize.ShloMosaic.Ideal S100000 .f32) (ix1 q)) p q := by
  after_reads_simp
  unfold Logits.logit
  pointwise []
  try rfl

end LogitsRef

theorem frame_logits_ref : Cert.quiescent_LogitsReferenceIdeal := fun m g _ =>
  (θ_run _ _ _).mono (fun _ h => ⟨fun c => ⟨(h.1 c _).trans (LogitsRef.keep0 _), (h.1 c _).trans (LogitsRef.keep1 _), (h.1 c _).trans (LogitsRef.keep2 _)⟩, h.2⟩)
    (LogitsRef.run_main m g)

/-- The call's first result is the reference's: the projected hidden states. -/
theorem algebraic_logits : Cert.algebraic_LogitsIdeal_LogitsReferenceIdeal := fun m g m' g' _ hargs =>
  ⟨fun c => Logits.result m c, Logits.value g m,
    (θ_run _ _ _).mono (fun _ h c => ⟨(h.1 c _).trans (by
        funext y
        obtain ⟨h0, h1, h2⟩ := hargs c
        obtain ⟨p, q, rfl⟩ : ∃ p q, y = ix2 p q := ⟨y 0, y 1, by funext a; fin_cases a <;> rfl⟩
        refine (LogitsRef.result_at _ p q).trans ?_
        have e0 : (StableHlo.launchContents m' c (Proc.devRef .tc Cert.LogitsReferenceIdeal.main_arg0)) = m ((c.tc : Thread Cert.LogitsIdeal.nD Cert.LogitsIdeal.τ).loc Cert.LogitsIdeal.main_arg0) := h0
        have e1 : (StableHlo.launchContents m' c (Proc.devRef .tc Cert.LogitsReferenceIdeal.main_arg1)) = m ((c.tc : Thread Cert.LogitsIdeal.nD Cert.LogitsIdeal.τ).loc Cert.LogitsIdeal.main_arg1) := h1
        have e2 : (StableHlo.launchContents m' c (Proc.devRef .tc Cert.LogitsReferenceIdeal.main_arg2)) = m ((c.tc : Thread Cert.LogitsIdeal.nD Cert.LogitsIdeal.τ).loc Cert.LogitsIdeal.main_arg2) := h2
        rw [e0, e1, e2]
        rfl), (h.1 c _).trans (LogitsRef.keep0 _), (h.1 c _).trans (LogitsRef.keep1 _), (h.1 c _).trans (LogitsRef.keep2 _)⟩) (LogitsRef.run_main m' g')⟩

end Cert.Proof

end
-- ==== Proof.lean ====
/-
  The proof of the claims: of the sense branch, of the recurrent call, of the projection call and of the normalize call, the three frames, the idealization and the equation.
-/
module

public import proofs.«01_k».proof.Defs
public import proofs.«01_k».proof.Proof.Frames
public import proofs.«01_k».proof.Proof.RefFrame
public import proofs.«01_k».proof.Proof.Equation
public import proofs.«01_k».proof.Proof.States.Claims
public import proofs.«01_k».proof.Proof.Scores.Claims
public import proofs.«01_k».proof.Proof.Logits.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Hidden.Gen.facts, Cert.HiddenIdeal.Gen.facts,
    Cert.HiddenReferenceIdeal.Gen.facts, Cert.Scores.Gen.facts, Cert.ScoresIdeal.Gen.facts, Cert.ScoresReferenceIdeal.Gen.facts, Cert.Logits.Gen.facts, Cert.LogitsIdeal.Gen.facts,
    Cert.LogitsReferenceIdeal.Gen.facts, Cert.Pre_in_range.Gen.facts,
    frame_bits, frame_ideal, frame_ref, frame_hidden, frame_hidden_ideal, frame_hidden_ref,
    frame_scores, frame_scores_ideal, frame_scores_ref, frame_logits, frame_logits_ideal, frame_logits_ref,
    constants, algebraic, trivial, algebraic_hidden, trivial, algebraic_scores, trivial, algebraic_logits⟩

end Cert.Proof

end
